-- ==== Defs.lean ====
def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_CombineP (m : (ℓ : Loc Cert.CombineP.nD Cert.CombineP.τ Cert.CombineP.sig) → Buf (Elt Bits) ℓ) : Prop :=
  True

def Pre_CombinePIdeal (m : (ℓ : Loc Cert.CombinePIdeal.nD Cert.CombinePIdeal.τ Cert.CombinePIdeal.sig) → Buf (Elt Ideal) ℓ) : Prop :=
  True

def Pre_CombinePRefIdeal (m : (ℓ : Loc Cert.CombinePRefIdeal.nD Cert.CombinePRefIdeal.τ Cert.CombinePRefIdeal.sig) → Buf (Elt Ideal) ℓ) : Prop :=
  True

def Pre_CombineS (m : (ℓ : Loc Cert.CombineS.nD Cert.CombineS.τ Cert.CombineS.sig) → Buf (Elt Bits) ℓ) : Prop :=
  True

def Pre_CombineSIdeal (m : (ℓ : Loc Cert.CombineSIdeal.nD Cert.CombineSIdeal.τ Cert.CombineSIdeal.sig) → Buf (Elt Ideal) ℓ) : Prop :=
  True

def Pre_CombineSRefIdeal (m : (ℓ : Loc Cert.CombineSRefIdeal.nD Cert.CombineSRefIdeal.τ Cert.CombineSRefIdeal.sig) → Buf (Elt Ideal) ℓ) : Prop :=
  True

def Pre_PoolP (m : (ℓ : Loc Cert.PoolP.nD Cert.PoolP.τ Cert.PoolP.sig) → Buf (Elt Bits) ℓ) : Prop :=
  True

def Pre_PoolPIdeal (m : (ℓ : Loc Cert.PoolPIdeal.nD Cert.PoolPIdeal.τ Cert.PoolPIdeal.sig) → Buf (Elt Ideal) ℓ) : Prop :=
  True

def Pre_PoolPIdeal_finite_pool_prompt [hPre_finite_pool_prompt : Cert.Pre_finite_pool_prompt.Facts] (m : (ℓ : Loc Cert.PoolPIdeal.nD Cert.PoolPIdeal.τ Cert.PoolPIdeal.sig) → Buf (Elt Ideal) ℓ) : Prop :=
  ∀ c : Dev Cert.PoolPIdeal.nD,
    (Cert.Pre_finite_pool_prompt.fn (F := Ideal) (m ((c.tc : Thread Cert.PoolPIdeal.nD Cert.PoolPIdeal.τ).loc Cert.PoolPIdeal.main_arg0)) (m ((c.tc : Thread Cert.PoolPIdeal.nD Cert.PoolPIdeal.τ).loc Cert.PoolPIdeal.main_arg1)) (m ((c.tc : Thread Cert.PoolPIdeal.nD Cert.PoolPIdeal.τ).loc Cert.PoolPIdeal.main_arg2))) = (fun _ => 1#1)

def Pre_PoolPRefIdeal (m : (ℓ : Loc Cert.PoolPRefIdeal.nD Cert.PoolPRefIdeal.τ Cert.PoolPRefIdeal.sig) → Buf (Elt Ideal) ℓ) : Prop :=
  True

def Pre_PoolPRefIdeal_finite_pool_prompt [hPre_finite_pool_prompt : Cert.Pre_finite_pool_prompt.Facts] (m : (ℓ : Loc Cert.PoolPRefIdeal.nD Cert.PoolPRefIdeal.τ Cert.PoolPRefIdeal.sig) → Buf (Elt Ideal) ℓ) : Prop :=
  ∀ c : Dev Cert.PoolPRefIdeal.nD,
    (Cert.Pre_finite_pool_prompt.fn (F := Ideal) (m ((c.tc : Thread Cert.PoolPRefIdeal.nD Cert.PoolPRefIdeal.τ).loc Cert.PoolPRefIdeal.main_arg0)) (m ((c.tc : Thread Cert.PoolPRefIdeal.nD Cert.PoolPRefIdeal.τ).loc Cert.PoolPRefIdeal.main_arg1)) (m ((c.tc : Thread Cert.PoolPRefIdeal.nD Cert.PoolPRefIdeal.τ).loc Cert.PoolPRefIdeal.main_arg2))) = (fun _ => 1#1)

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSIdeal_finite_pool_sample [hPre_finite_pool_sample : Cert.Pre_finite_pool_sample.Facts] (m : (ℓ : Loc Cert.PoolSIdeal.nD Cert.PoolSIdeal.τ Cert.PoolSIdeal.sig) → Buf (Elt Ideal) ℓ) : Prop :=
  ∀ c : Dev Cert.PoolSIdeal.nD,
    (Cert.Pre_finite_pool_sample.fn (F := Ideal) (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1)) (m ((c.tc : Thread Cert.PoolSIdeal.nD Cert.PoolSIdeal.τ).loc Cert.PoolSIdeal.main_arg2)) (m ((c.tc : Thread Cert.PoolSIdeal.nD Cert.PoolSIdeal.τ).loc Cert.PoolSIdeal.main_arg3))) = (fun _ => 1#1)

def Pre_PoolSRefIdeal (m : (ℓ : Loc Cert.PoolSRefIdeal.nD Cert.PoolSRefIdeal.τ Cert.PoolSRefIdeal.sig) → Buf (Elt Ideal) ℓ) : Prop :=
  True

def Pre_PoolSRefIdeal_finite_pool_sample [hPre_finite_pool_sample : Cert.Pre_finite_pool_sample.Facts] (m : (ℓ : Loc Cert.PoolSRefIdeal.nD Cert.PoolSRefIdeal.τ Cert.PoolSRefIdeal.sig) → Buf (Elt Ideal) ℓ) : Prop :=
  ∀ c : Dev Cert.PoolSRefIdeal.nD,
    (Cert.Pre_finite_pool_sample.fn (F := Ideal) (m ((c.tc : Thread Cert.PoolSRefIdeal.nD Cert.PoolSRefIdeal.τ).loc Cert.PoolSRefIdeal.main_arg0)) (m ((c.tc : Thread Cert.PoolSRefIdeal.nD Cert.PoolSRefIdeal.τ).loc Cert.PoolSRefIdeal.main_arg1)) (m ((c.tc : Thread Cert.PoolSRefIdeal.nD Cert.PoolSRefIdeal.τ).loc Cert.PoolSRefIdeal.main_arg2)) (m ((c.tc : Thread Cert.PoolSRefIdeal.nD Cert.PoolSRefIdeal.τ).loc Cert.PoolSRefIdeal.main_arg3))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishIdeal_finite_recurrence [hPre_finite_recurrence : Cert.Pre_finite_recurrence.Facts] (m : (ℓ : Loc Cert.FinishIdeal.nD Cert.FinishIdeal.τ Cert.FinishIdeal.sig) → Buf (Elt Ideal) ℓ) : Prop :=
  ∀ c : Dev Cert.FinishIdeal.nD,
    (Cert.Pre_finite_recurrence.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4))) = (fun _ => 1#1)

def Pre_FinishRefIdeal (m : (ℓ : Loc Cert.FinishRefIdeal.nD Cert.FinishRefIdeal.τ Cert.FinishRefIdeal.sig) → Buf (Elt Ideal) ℓ) : Prop :=
  True

def Pre_FinishRefIdeal_finite_recurrence [hPre_finite_recurrence : Cert.Pre_finite_recurrence.Facts] (m : (ℓ : Loc Cert.FinishRefIdeal.nD Cert.FinishRefIdeal.τ Cert.FinishRefIdeal.sig) → Buf (Elt Ideal) ℓ) : Prop :=
  ∀ c : Dev Cert.FinishRefIdeal.nD,
    (Cert.Pre_finite_recurrence.fn (F := Ideal) (m ((c.tc : Thread Cert.FinishRefIdeal.nD Cert.FinishRefIdeal.τ).loc Cert.FinishRefIdeal.main_arg0)) (m ((c.tc : Thread Cert.FinishRefIdeal.nD Cert.FinishRefIdeal.τ).loc Cert.FinishRefIdeal.main_arg1)) (m ((c.tc : Thread Cert.FinishRefIdeal.nD Cert.FinishRefIdeal.τ).loc Cert.FinishRefIdeal.main_arg2)) (m ((c.tc : Thread Cert.FinishRefIdeal.nD Cert.FinishRefIdeal.τ).loc Cert.FinishRefIdeal.main_arg3)) (m ((c.tc : Thread Cert.FinishRefIdeal.nD Cert.FinishRefIdeal.τ).loc Cert.FinishRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_CombineP [hCombineP : Cert.CombineP.Facts] : Prop :=
  ∀ (m : (ℓ : Loc Cert.CombineP.nD Cert.CombineP.τ Cert.CombineP.sig) → Buf (Elt Bits) ℓ) (g : Dev Cert.CombineP.nD → PrngReg), Pre_CombineP m →
    θ_run (Cert.CombineP.defs (F := Bits)) (onTc (τ := Cert.CombineP.τ) (Cert.CombineP.main (F := Bits))) ⟨m, fun _ => 0, g⟩ (fun r => (∀ c : Dev Cert.CombineP.nD,
      r.2.mem ((c.tc : Thread Cert.CombineP.nD Cert.CombineP.τ).loc Cert.CombineP.main_arg0) = m ((c.tc : Thread Cert.CombineP.nD Cert.CombineP.τ).loc Cert.CombineP.main_arg0)
      ∧ r.2.mem ((c.tc : Thread Cert.CombineP.nD Cert.CombineP.τ).loc Cert.CombineP.main_arg1) = m ((c.tc : Thread Cert.CombineP.nD Cert.CombineP.τ).loc Cert.CombineP.main_arg1)
      ∧ r.2.mem ((c.tc : Thread Cert.CombineP.nD Cert.CombineP.τ).loc Cert.CombineP.main_arg2) = m ((c.tc : Thread Cert.CombineP.nD Cert.CombineP.τ).loc Cert.CombineP.main_arg2)
      ∧ r.2.mem ((c.tc : Thread Cert.CombineP.nD Cert.CombineP.τ).loc Cert.CombineP.main_arg3) = m ((c.tc : Thread Cert.CombineP.nD Cert.CombineP.τ).loc Cert.CombineP.main_arg3))
      ∧ r.2.sem = fun _ => 0)

def quiescent_CombinePIdeal [hCombinePIdeal : Cert.CombinePIdeal.Facts] : Prop :=
  ∀ (m : (ℓ : Loc Cert.CombinePIdeal.nD Cert.CombinePIdeal.τ Cert.CombinePIdeal.sig) → Buf (Elt Ideal) ℓ) (g : Dev Cert.CombinePIdeal.nD → PrngReg), Pre_CombinePIdeal m →
    θ_run (Cert.CombinePIdeal.defs (F := Ideal)) (onTc (τ := Cert.CombinePIdeal.τ) (Cert.CombinePIdeal.main (F := Ideal))) ⟨m, fun _ => 0, g⟩ (fun r => (∀ c : Dev Cert.CombinePIdeal.nD,
      r.2.mem ((c.tc : Thread Cert.CombinePIdeal.nD Cert.CombinePIdeal.τ).loc Cert.CombinePIdeal.main_arg0) = m ((c.tc : Thread Cert.CombinePIdeal.nD Cert.CombinePIdeal.τ).loc Cert.CombinePIdeal.main_arg0)
      ∧ r.2.mem ((c.tc : Thread Cert.CombinePIdeal.nD Cert.CombinePIdeal.τ).loc Cert.CombinePIdeal.main_arg1) = m ((c.tc : Thread Cert.CombinePIdeal.nD Cert.CombinePIdeal.τ).loc Cert.CombinePIdeal.main_arg1)
      ∧ r.2.mem ((c.tc : Thread Cert.CombinePIdeal.nD Cert.CombinePIdeal.τ).loc Cert.CombinePIdeal.main_arg2) = m ((c.tc : Thread Cert.CombinePIdeal.nD Cert.CombinePIdeal.τ).loc Cert.CombinePIdeal.main_arg2)
      ∧ r.2.mem ((c.tc : Thread Cert.CombinePIdeal.nD Cert.CombinePIdeal.τ).loc Cert.CombinePIdeal.main_arg3) = m ((c.tc : Thread Cert.CombinePIdeal.nD Cert.CombinePIdeal.τ).loc Cert.CombinePIdeal.main_arg3))
      ∧ r.2.sem = fun _ => 0)

def quiescent_CombinePRefIdeal [hCombinePRefIdeal : Cert.CombinePRefIdeal.Facts] : Prop :=
  ∀ (m : (ℓ : Loc Cert.CombinePRefIdeal.nD Cert.CombinePRefIdeal.τ Cert.CombinePRefIdeal.sig) → Buf (Elt Ideal) ℓ) (g : Dev Cert.CombinePRefIdeal.nD → PrngReg), Pre_CombinePRefIdeal m →
    θ_run (Cert.CombinePRefIdeal.defs (F := Ideal)) (onTc (τ := Cert.CombinePRefIdeal.τ) (Cert.CombinePRefIdeal.main (F := Ideal))) ⟨m, fun _ => 0, g⟩ (fun r => (∀ c : Dev Cert.CombinePRefIdeal.nD,
      r.2.mem ((c.tc : Thread Cert.CombinePRefIdeal.nD Cert.CombinePRefIdeal.τ).loc Cert.CombinePRefIdeal.main_arg0) = m ((c.tc : Thread Cert.CombinePRefIdeal.nD Cert.CombinePRefIdeal.τ).loc Cert.CombinePRefIdeal.main_arg0)
      ∧ r.2.mem ((c.tc : Thread Cert.CombinePRefIdeal.nD Cert.CombinePRefIdeal.τ).loc Cert.CombinePRefIdeal.main_arg1) = m ((c.tc : Thread Cert.CombinePRefIdeal.nD Cert.CombinePRefIdeal.τ).loc Cert.CombinePRefIdeal.main_arg1)
      ∧ r.2.mem ((c.tc : Thread Cert.CombinePRefIdeal.nD Cert.CombinePRefIdeal.τ).loc Cert.CombinePRefIdeal.main_arg2) = m ((c.tc : Thread Cert.CombinePRefIdeal.nD Cert.CombinePRefIdeal.τ).loc Cert.CombinePRefIdeal.main_arg2)
      ∧ r.2.mem ((c.tc : Thread Cert.CombinePRefIdeal.nD Cert.CombinePRefIdeal.τ).loc Cert.CombinePRefIdeal.main_arg3) = m ((c.tc : Thread Cert.CombinePRefIdeal.nD Cert.CombinePRefIdeal.τ).loc Cert.CombinePRefIdeal.main_arg3))
      ∧ r.2.sem = fun _ => 0)

def quiescent_CombineS [hCombineS : Cert.CombineS.Facts] : Prop :=
  ∀ (m : (ℓ : Loc Cert.CombineS.nD Cert.CombineS.τ Cert.CombineS.sig) → Buf (Elt Bits) ℓ) (g : Dev Cert.CombineS.nD → PrngReg), Pre_CombineS m →
    θ_run (Cert.CombineS.defs (F := Bits)) (onTc (τ := Cert.CombineS.τ) (Cert.CombineS.main (F := Bits))) ⟨m, fun _ => 0, g⟩ (fun r => (∀ c : Dev Cert.CombineS.nD,
      r.2.mem ((c.tc : Thread Cert.CombineS.nD Cert.CombineS.τ).loc Cert.CombineS.main_arg0) = m ((c.tc : Thread Cert.CombineS.nD Cert.CombineS.τ).loc Cert.CombineS.main_arg0)
      ∧ r.2.mem ((c.tc : Thread Cert.CombineS.nD Cert.CombineS.τ).loc Cert.CombineS.main_arg1) = m ((c.tc : Thread Cert.CombineS.nD Cert.CombineS.τ).loc Cert.CombineS.main_arg1)
      ∧ r.2.mem ((c.tc : Thread Cert.CombineS.nD Cert.CombineS.τ).loc Cert.CombineS.main_arg2) = m ((c.tc : Thread Cert.CombineS.nD Cert.CombineS.τ).loc Cert.CombineS.main_arg2)
      ∧ r.2.mem ((c.tc : Thread Cert.CombineS.nD Cert.CombineS.τ).loc Cert.CombineS.main_arg3) = m ((c.tc : Thread Cert.CombineS.nD Cert.CombineS.τ).loc Cert.CombineS.main_arg3))
      ∧ r.2.sem = fun _ => 0)

def quiescent_CombineSIdeal [hCombineSIdeal : Cert.CombineSIdeal.Facts] : Prop :=
  ∀ (m : (ℓ : Loc Cert.CombineSIdeal.nD Cert.CombineSIdeal.τ Cert.CombineSIdeal.sig) → Buf (Elt Ideal) ℓ) (g : Dev Cert.CombineSIdeal.nD → PrngReg), Pre_CombineSIdeal m →
    θ_run (Cert.CombineSIdeal.defs (F := Ideal)) (onTc (τ := Cert.CombineSIdeal.τ) (Cert.CombineSIdeal.main (F := Ideal))) ⟨m, fun _ => 0, g⟩ (fun r => (∀ c : Dev Cert.CombineSIdeal.nD,
      r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
      ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
      ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
      ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3))
      ∧ r.2.sem = fun _ => 0)

def quiescent_CombineSRefIdeal [hCombineSRefIdeal : Cert.CombineSRefIdeal.Facts] : Prop :=
  ∀ (m : (ℓ : Loc Cert.CombineSRefIdeal.nD Cert.CombineSRefIdeal.τ Cert.CombineSRefIdeal.sig) → Buf (Elt Ideal) ℓ) (g : Dev Cert.CombineSRefIdeal.nD → PrngReg), Pre_CombineSRefIdeal m →
    θ_run (Cert.CombineSRefIdeal.defs (F := Ideal)) (onTc (τ := Cert.CombineSRefIdeal.τ) (Cert.CombineSRefIdeal.main (F := Ideal))) ⟨m, fun _ => 0, g⟩ (fun r => (∀ c : Dev Cert.CombineSRefIdeal.nD,
      r.2.mem ((c.tc : Thread Cert.CombineSRefIdeal.nD Cert.CombineSRefIdeal.τ).loc Cert.CombineSRefIdeal.main_arg0) = m ((c.tc : Thread Cert.CombineSRefIdeal.nD Cert.CombineSRefIdeal.τ).loc Cert.CombineSRefIdeal.main_arg0)
      ∧ r.2.mem ((c.tc : Thread Cert.CombineSRefIdeal.nD Cert.CombineSRefIdeal.τ).loc Cert.CombineSRefIdeal.main_arg1) = m ((c.tc : Thread Cert.CombineSRefIdeal.nD Cert.CombineSRefIdeal.τ).loc Cert.CombineSRefIdeal.main_arg1)
      ∧ r.2.mem ((c.tc : Thread Cert.CombineSRefIdeal.nD Cert.CombineSRefIdeal.τ).loc Cert.CombineSRefIdeal.main_arg2) = m ((c.tc : Thread Cert.CombineSRefIdeal.nD Cert.CombineSRefIdeal.τ).loc Cert.CombineSRefIdeal.main_arg2)
      ∧ r.2.mem ((c.tc : Thread Cert.CombineSRefIdeal.nD Cert.CombineSRefIdeal.τ).loc Cert.CombineSRefIdeal.main_arg3) = m ((c.tc : Thread Cert.CombineSRefIdeal.nD Cert.CombineSRefIdeal.τ).loc Cert.CombineSRefIdeal.main_arg3))
      ∧ r.2.sem = fun _ => 0)

def quiescent_PoolP [hPoolP : Cert.PoolP.Facts] : Prop :=
  ∀ (m : (ℓ : Loc Cert.PoolP.nD Cert.PoolP.τ Cert.PoolP.sig) → Buf (Elt Bits) ℓ) (g : Dev Cert.PoolP.nD → PrngReg), Pre_PoolP m →
    θ_run (Cert.PoolP.defs (F := Bits)) (onTc (τ := Cert.PoolP.τ) (Cert.PoolP.main (F := Bits))) ⟨m, fun _ => 0, g⟩ (fun r => (∀ c : Dev Cert.PoolP.nD,
      r.2.mem ((c.tc : Thread Cert.PoolP.nD Cert.PoolP.τ).loc Cert.PoolP.main_arg0) = m ((c.tc : Thread Cert.PoolP.nD Cert.PoolP.τ).loc Cert.PoolP.main_arg0)
      ∧ r.2.mem ((c.tc : Thread Cert.PoolP.nD Cert.PoolP.τ).loc Cert.PoolP.main_arg1) = m ((c.tc : Thread Cert.PoolP.nD Cert.PoolP.τ).loc Cert.PoolP.main_arg1)
      ∧ r.2.mem ((c.tc : Thread Cert.PoolP.nD Cert.PoolP.τ).loc Cert.PoolP.main_arg2) = m ((c.tc : Thread Cert.PoolP.nD Cert.PoolP.τ).loc Cert.PoolP.main_arg2))
      ∧ r.2.sem = fun _ => 0)

def quiescent_PoolPIdeal [hPoolPIdeal : Cert.PoolPIdeal.Facts] : Prop :=
  ∀ (m : (ℓ : Loc Cert.PoolPIdeal.nD Cert.PoolPIdeal.τ Cert.PoolPIdeal.sig) → Buf (Elt Ideal) ℓ) (g : Dev Cert.PoolPIdeal.nD → PrngReg), Pre_PoolPIdeal m →
    θ_run (Cert.PoolPIdeal.defs (F := Ideal)) (onTc (τ := Cert.PoolPIdeal.τ) (Cert.PoolPIdeal.main (F := Ideal))) ⟨m, fun _ => 0, g⟩ (fun r => (∀ c : Dev Cert.PoolPIdeal.nD,
      r.2.mem ((c.tc : Thread Cert.PoolPIdeal.nD Cert.PoolPIdeal.τ).loc Cert.PoolPIdeal.main_arg0) = m ((c.tc : Thread Cert.PoolPIdeal.nD Cert.PoolPIdeal.τ).loc Cert.PoolPIdeal.main_arg0)
      ∧ r.2.mem ((c.tc : Thread Cert.PoolPIdeal.nD Cert.PoolPIdeal.τ).loc Cert.PoolPIdeal.main_arg1) = m ((c.tc : Thread Cert.PoolPIdeal.nD Cert.PoolPIdeal.τ).loc Cert.PoolPIdeal.main_arg1)
      ∧ r.2.mem ((c.tc : Thread Cert.PoolPIdeal.nD Cert.PoolPIdeal.τ).loc Cert.PoolPIdeal.main_arg2) = m ((c.tc : Thread Cert.PoolPIdeal.nD Cert.PoolPIdeal.τ).loc Cert.PoolPIdeal.main_arg2))
      ∧ r.2.sem = fun _ => 0)

def quiescent_PoolPIdeal_pre_finite_pool_prompt [hPoolPIdeal : Cert.PoolPIdeal.Facts] [hPre_finite_pool_prompt : Cert.Pre_finite_pool_prompt.Facts] : Prop :=
  ∀ (m : (ℓ : Loc Cert.PoolPIdeal.nD Cert.PoolPIdeal.τ Cert.PoolPIdeal.sig) → Buf (Elt Ideal) ℓ) (g : Dev Cert.PoolPIdeal.nD → PrngReg), Pre_PoolPIdeal_finite_pool_prompt m →
    θ_run (Cert.PoolPIdeal.defs (F := Ideal)) (onTc (τ := Cert.PoolPIdeal.τ) (Cert.PoolPIdeal.main (F := Ideal))) ⟨m, fun _ => 0, g⟩ (fun r => (∀ c : Dev Cert.PoolPIdeal.nD,
      r.2.mem ((c.tc : Thread Cert.PoolPIdeal.nD Cert.PoolPIdeal.τ).loc Cert.PoolPIdeal.main_arg0) = m ((c.tc : Thread Cert.PoolPIdeal.nD Cert.PoolPIdeal.τ).loc Cert.PoolPIdeal.main_arg0)
      ∧ r.2.mem ((c.tc : Thread Cert.PoolPIdeal.nD Cert.PoolPIdeal.τ).loc Cert.PoolPIdeal.main_arg1) = m ((c.tc : Thread Cert.PoolPIdeal.nD Cert.PoolPIdeal.τ).loc Cert.PoolPIdeal.main_arg1)
      ∧ r.2.mem ((c.tc : Thread Cert.PoolPIdeal.nD Cert.PoolPIdeal.τ).loc Cert.PoolPIdeal.main_arg2) = m ((c.tc : Thread Cert.PoolPIdeal.nD Cert.PoolPIdeal.τ).loc Cert.PoolPIdeal.main_arg2))
      ∧ r.2.sem = fun _ => 0)

def quiescent_PoolPRefIdeal [hPoolPRefIdeal : Cert.PoolPRefIdeal.Facts] : Prop :=
  ∀ (m : (ℓ : Loc Cert.PoolPRefIdeal.nD Cert.PoolPRefIdeal.τ Cert.PoolPRefIdeal.sig) → Buf (Elt Ideal) ℓ) (g : Dev Cert.PoolPRefIdeal.nD → PrngReg), Pre_PoolPRefIdeal m →
    θ_run (Cert.PoolPRefIdeal.defs (F := Ideal)) (onTc (τ := Cert.PoolPRefIdeal.τ) (Cert.PoolPRefIdeal.main (F := Ideal))) ⟨m, fun _ => 0, g⟩ (fun r => (∀ c : Dev Cert.PoolPRefIdeal.nD,
      r.2.mem ((c.tc : Thread Cert.PoolPRefIdeal.nD Cert.PoolPRefIdeal.τ).loc Cert.PoolPRefIdeal.main_arg0) = m ((c.tc : Thread Cert.PoolPRefIdeal.nD Cert.PoolPRefIdeal.τ).loc Cert.PoolPRefIdeal.main_arg0)
      ∧ r.2.mem ((c.tc : Thread Cert.PoolPRefIdeal.nD Cert.PoolPRefIdeal.τ).loc Cert.PoolPRefIdeal.main_arg1) = m ((c.tc : Thread Cert.PoolPRefIdeal.nD Cert.PoolPRefIdeal.τ).loc Cert.PoolPRefIdeal.main_arg1)
      ∧ r.2.mem ((c.tc : Thread Cert.PoolPRefIdeal.nD Cert.PoolPRefIdeal.τ).loc Cert.PoolPRefIdeal.main_arg2) = m ((c.tc : Thread Cert.PoolPRefIdeal.nD Cert.PoolPRefIdeal.τ).loc Cert.PoolPRefIdeal.main_arg2))
      ∧ r.2.sem = fun _ => 0)

def quiescent_PoolPRefIdeal_pre_finite_pool_prompt [hPoolPRefIdeal : Cert.PoolPRefIdeal.Facts] [hPre_finite_pool_prompt : Cert.Pre_finite_pool_prompt.Facts] : Prop :=
  ∀ (m : (ℓ : Loc Cert.PoolPRefIdeal.nD Cert.PoolPRefIdeal.τ Cert.PoolPRefIdeal.sig) → Buf (Elt Ideal) ℓ) (g : Dev Cert.PoolPRefIdeal.nD → PrngReg), Pre_PoolPRefIdeal_finite_pool_prompt m →
    θ_run (Cert.PoolPRefIdeal.defs (F := Ideal)) (onTc (τ := Cert.PoolPRefIdeal.τ) (Cert.PoolPRefIdeal.main (F := Ideal))) ⟨m, fun _ => 0, g⟩ (fun r => (∀ c : Dev Cert.PoolPRefIdeal.nD,
      r.2.mem ((c.tc : Thread Cert.PoolPRefIdeal.nD Cert.PoolPRefIdeal.τ).loc Cert.PoolPRefIdeal.main_arg0) = m ((c.tc : Thread Cert.PoolPRefIdeal.nD Cert.PoolPRefIdeal.τ).loc Cert.PoolPRefIdeal.main_arg0)
      ∧ r.2.mem ((c.tc : Thread Cert.PoolPRefIdeal.nD Cert.PoolPRefIdeal.τ).loc Cert.PoolPRefIdeal.main_arg1) = m ((c.tc : Thread Cert.PoolPRefIdeal.nD Cert.PoolPRefIdeal.τ).loc Cert.PoolPRefIdeal.main_arg1)
      ∧ r.2.mem ((c.tc : Thread Cert.PoolPRefIdeal.nD Cert.PoolPRefIdeal.τ).loc Cert.PoolPRefIdeal.main_arg2) = m ((c.tc : Thread Cert.PoolPRefIdeal.nD Cert.PoolPRefIdeal.τ).loc Cert.PoolPRefIdeal.main_arg2))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_PoolSIdeal_pre_finite_pool_sample [hPoolSIdeal : Cert.PoolSIdeal.Facts] [hPre_finite_pool_sample : Cert.Pre_finite_pool_sample.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal_finite_pool_sample m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3))
      ∧ r.2.sem = fun _ => 0)

def quiescent_PoolSRefIdeal_pre_finite_pool_sample [hPoolSRefIdeal : Cert.PoolSRefIdeal.Facts] [hPre_finite_pool_sample : Cert.Pre_finite_pool_sample.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal_finite_pool_sample m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishIdeal_pre_finite_recurrence [hFinishIdeal : Cert.FinishIdeal.Facts] [hPre_finite_recurrence : Cert.Pre_finite_recurrence.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal_finite_recurrence m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4))
      ∧ r.2.sem = fun _ => 0)

def quiescent_FinishRefIdeal_pre_finite_recurrence [hFinishRefIdeal : Cert.FinishRefIdeal.Facts] [hPre_finite_recurrence : Cert.Pre_finite_recurrence.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal_finite_recurrence m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v18)) (v1 : (c : Dev Cert.StepIdeal.nD) → Buf (Elt Ideal) ((c.tc : Thread Cert.StepIdeal.nD Cert.StepIdeal.τ).loc Cert.StepIdeal.main_v16_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v18) = v0 c
          ∧ r.2.mem ((c.tc : Thread Cert.StepIdeal.nD Cert.StepIdeal.τ).loc Cert.StepIdeal.main_v16_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v26) = v0 c
          ∧ r.2.mem ((c.tc : Thread Cert.StepRefIdeal.nD Cert.StepRefIdeal.τ).loc Cert.StepRefIdeal.main_v28) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)) →
    ∃ (v0 : (c : Dev Cert.HeadIdeal.nD) → Buf (Elt Ideal) ((c.tc : Thread Cert.HeadIdeal.nD Cert.HeadIdeal.τ).loc Cert.HeadIdeal.main_v2)) (v1 : (c : Dev Cert.HeadIdeal.nD) → Buf (Elt Ideal) ((c.tc : Thread Cert.HeadIdeal.nD Cert.HeadIdeal.τ).loc Cert.HeadIdeal.main_v17)) (v2 : (c : Dev Cert.HeadIdeal.nD) → Buf (Elt Ideal) ((c.tc : Thread Cert.HeadIdeal.nD Cert.HeadIdeal.τ).loc Cert.HeadIdeal.main_v18)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2) = v0 c
          ∧ r.2.mem ((c.tc : Thread Cert.HeadIdeal.nD Cert.HeadIdeal.τ).loc Cert.HeadIdeal.main_v17) = v1 c
          ∧ r.2.mem ((c.tc : Thread Cert.HeadIdeal.nD Cert.HeadIdeal.τ).loc Cert.HeadIdeal.main_v18) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v11) = v0 c
          ∧ r.2.mem ((c.tc : Thread Cert.HeadRefIdeal.nD Cert.HeadRefIdeal.τ).loc Cert.HeadRefIdeal.main_v12) = v1 c
          ∧ r.2.mem ((c.tc : Thread Cert.HeadRefIdeal.nD Cert.HeadRefIdeal.τ).loc Cert.HeadRefIdeal.main_v13) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v2)) (v1 : (c : Dev Cert.TailIdeal.nD) → Buf (Elt Ideal) ((c.tc : Thread Cert.TailIdeal.nD Cert.TailIdeal.τ).loc Cert.TailIdeal.main_v17)) (v2 : (c : Dev Cert.TailIdeal.nD) → Buf (Elt Ideal) ((c.tc : Thread Cert.TailIdeal.nD Cert.TailIdeal.τ).loc Cert.TailIdeal.main_v18)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v2) = v0 c
          ∧ r.2.mem ((c.tc : Thread Cert.TailIdeal.nD Cert.TailIdeal.τ).loc Cert.TailIdeal.main_v17) = v1 c
          ∧ r.2.mem ((c.tc : Thread Cert.TailIdeal.nD Cert.TailIdeal.τ).loc Cert.TailIdeal.main_v18) = v2 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v12) = v0 c
          ∧ r.2.mem ((c.tc : Thread Cert.TailRefIdeal.nD Cert.TailRefIdeal.τ).loc Cert.TailRefIdeal.main_v14) = v1 c
          ∧ r.2.mem ((c.tc : Thread Cert.TailRefIdeal.nD Cert.TailRefIdeal.τ).loc Cert.TailRefIdeal.main_v16) = v2 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)) →
    ∃ (v0 : (c : Dev Cert.Norm1Ideal.nD) → Buf (Elt Ideal) ((c.tc : Thread Cert.Norm1Ideal.nD Cert.Norm1Ideal.τ).loc Cert.Norm1Ideal.main_v4)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v4) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v31) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_CombineP_CombinePIdeal : Prop :=
  True

def algebraic_CombinePIdeal_CombinePRefIdeal [hCombinePIdeal : Cert.CombinePIdeal.Facts] [hCombinePRefIdeal : Cert.CombinePRefIdeal.Facts] : Prop :=
  ∀ (m : (ℓ : Loc Cert.CombinePIdeal.nD Cert.CombinePIdeal.τ Cert.CombinePIdeal.sig) → Buf (Elt Ideal) ℓ) (g : Dev Cert.CombinePIdeal.nD → PrngReg)
    (m' : (ℓ : Loc Cert.CombinePRefIdeal.nD Cert.CombinePRefIdeal.τ Cert.CombinePRefIdeal.sig) → Buf (Elt Ideal) ℓ) (g' : Dev Cert.CombinePRefIdeal.nD → PrngReg), Pre_CombinePIdeal m →
    (∀ c : Dev Cert.CombinePIdeal.nD,
      m' ((c.tc : Thread Cert.CombinePRefIdeal.nD Cert.CombinePRefIdeal.τ).loc Cert.CombinePRefIdeal.main_arg0) = m ((c.tc : Thread Cert.CombinePIdeal.nD Cert.CombinePIdeal.τ).loc Cert.CombinePIdeal.main_arg0)
      ∧ m' ((c.tc : Thread Cert.CombinePRefIdeal.nD Cert.CombinePRefIdeal.τ).loc Cert.CombinePRefIdeal.main_arg1) = m ((c.tc : Thread Cert.CombinePIdeal.nD Cert.CombinePIdeal.τ).loc Cert.CombinePIdeal.main_arg1)
      ∧ m' ((c.tc : Thread Cert.CombinePRefIdeal.nD Cert.CombinePRefIdeal.τ).loc Cert.CombinePRefIdeal.main_arg2) = m ((c.tc : Thread Cert.CombinePIdeal.nD Cert.CombinePIdeal.τ).loc Cert.CombinePIdeal.main_arg2)
      ∧ m' ((c.tc : Thread Cert.CombinePRefIdeal.nD Cert.CombinePRefIdeal.τ).loc Cert.CombinePRefIdeal.main_arg3) = m ((c.tc : Thread Cert.CombinePIdeal.nD Cert.CombinePIdeal.τ).loc Cert.CombinePIdeal.main_arg3)) →
    ∃ (v0 : (c : Dev Cert.CombinePIdeal.nD) → Buf (Elt Ideal) ((c.tc : Thread Cert.CombinePIdeal.nD Cert.CombinePIdeal.τ).loc Cert.CombinePIdeal.main_v1)),
      θ_run (Cert.CombinePIdeal.defs (F := Ideal)) (onTc (τ := Cert.CombinePIdeal.τ) (Cert.CombinePIdeal.main (F := Ideal))) ⟨m, fun _ => 0, g⟩ (fun r => ∀ c : Dev Cert.CombinePIdeal.nD,
          r.2.mem ((c.tc : Thread Cert.CombinePIdeal.nD Cert.CombinePIdeal.τ).loc Cert.CombinePIdeal.main_v1) = v0 c
          ∧ r.2.mem ((c.tc : Thread Cert.CombinePIdeal.nD Cert.CombinePIdeal.τ).loc Cert.CombinePIdeal.main_arg0) = m ((c.tc : Thread Cert.CombinePIdeal.nD Cert.CombinePIdeal.τ).loc Cert.CombinePIdeal.main_arg0)
          ∧ r.2.mem ((c.tc : Thread Cert.CombinePIdeal.nD Cert.CombinePIdeal.τ).loc Cert.CombinePIdeal.main_arg1) = m ((c.tc : Thread Cert.CombinePIdeal.nD Cert.CombinePIdeal.τ).loc Cert.CombinePIdeal.main_arg1)
          ∧ r.2.mem ((c.tc : Thread Cert.CombinePIdeal.nD Cert.CombinePIdeal.τ).loc Cert.CombinePIdeal.main_arg2) = m ((c.tc : Thread Cert.CombinePIdeal.nD Cert.CombinePIdeal.τ).loc Cert.CombinePIdeal.main_arg2)
          ∧ r.2.mem ((c.tc : Thread Cert.CombinePIdeal.nD Cert.CombinePIdeal.τ).loc Cert.CombinePIdeal.main_arg3) = m ((c.tc : Thread Cert.CombinePIdeal.nD Cert.CombinePIdeal.τ).loc Cert.CombinePIdeal.main_arg3))
      ∧ θ_run (Cert.CombinePRefIdeal.defs (F := Ideal)) (onTc (τ := Cert.CombinePRefIdeal.τ) (Cert.CombinePRefIdeal.main (F := Ideal))) ⟨m', fun _ => 0, g'⟩ (fun r => ∀ c : Dev Cert.CombinePRefIdeal.nD,
          r.2.mem ((c.tc : Thread Cert.CombinePRefIdeal.nD Cert.CombinePRefIdeal.τ).loc Cert.CombinePRefIdeal.main_v28) = v0 c
          ∧ r.2.mem ((c.tc : Thread Cert.CombinePRefIdeal.nD Cert.CombinePRefIdeal.τ).loc Cert.CombinePRefIdeal.main_arg0) = m' ((c.tc : Thread Cert.CombinePRefIdeal.nD Cert.CombinePRefIdeal.τ).loc Cert.CombinePRefIdeal.main_arg0)
          ∧ r.2.mem ((c.tc : Thread Cert.CombinePRefIdeal.nD Cert.CombinePRefIdeal.τ).loc Cert.CombinePRefIdeal.main_arg1) = m' ((c.tc : Thread Cert.CombinePRefIdeal.nD Cert.CombinePRefIdeal.τ).loc Cert.CombinePRefIdeal.main_arg1)
          ∧ r.2.mem ((c.tc : Thread Cert.CombinePRefIdeal.nD Cert.CombinePRefIdeal.τ).loc Cert.CombinePRefIdeal.main_arg2) = m' ((c.tc : Thread Cert.CombinePRefIdeal.nD Cert.CombinePRefIdeal.τ).loc Cert.CombinePRefIdeal.main_arg2)
          ∧ r.2.mem ((c.tc : Thread Cert.CombinePRefIdeal.nD Cert.CombinePRefIdeal.τ).loc Cert.CombinePRefIdeal.main_arg3) = m' ((c.tc : Thread Cert.CombinePRefIdeal.nD Cert.CombinePRefIdeal.τ).loc Cert.CombinePRefIdeal.main_arg3))

def preserves_CombineS_CombineSIdeal : Prop :=
  True

def algebraic_CombineSIdeal_CombineSRefIdeal [hCombineSIdeal : Cert.CombineSIdeal.Facts] [hCombineSRefIdeal : Cert.CombineSRefIdeal.Facts] : Prop :=
  ∀ (m : (ℓ : Loc Cert.CombineSIdeal.nD Cert.CombineSIdeal.τ Cert.CombineSIdeal.sig) → Buf (Elt Ideal) ℓ) (g : Dev Cert.CombineSIdeal.nD → PrngReg)
    (m' : (ℓ : Loc Cert.CombineSRefIdeal.nD Cert.CombineSRefIdeal.τ Cert.CombineSRefIdeal.sig) → Buf (Elt Ideal) ℓ) (g' : Dev Cert.CombineSRefIdeal.nD → PrngReg), Pre_CombineSIdeal m →
    (∀ c : Dev Cert.CombineSIdeal.nD,
      m' ((c.tc : Thread Cert.CombineSRefIdeal.nD Cert.CombineSRefIdeal.τ).loc Cert.CombineSRefIdeal.main_arg0) = m ((c.tc : Thread Cert.CombineSIdeal.nD Cert.CombineSIdeal.τ).loc Cert.CombineSIdeal.main_arg0)
      ∧ m' ((c.tc : Thread Cert.CombineSRefIdeal.nD Cert.CombineSRefIdeal.τ).loc Cert.CombineSRefIdeal.main_arg1) = m ((c.tc : Thread Cert.CombineSIdeal.nD Cert.CombineSIdeal.τ).loc Cert.CombineSIdeal.main_arg1)
      ∧ m' ((c.tc : Thread Cert.CombineSRefIdeal.nD Cert.CombineSRefIdeal.τ).loc Cert.CombineSRefIdeal.main_arg2) = m ((c.tc : Thread Cert.CombineSIdeal.nD Cert.CombineSIdeal.τ).loc Cert.CombineSIdeal.main_arg2)
      ∧ m' ((c.tc : Thread Cert.CombineSRefIdeal.nD Cert.CombineSRefIdeal.τ).loc Cert.CombineSRefIdeal.main_arg3) = m ((c.tc : Thread Cert.CombineSIdeal.nD Cert.CombineSIdeal.τ).loc Cert.CombineSIdeal.main_arg3)) →
    ∃ (v0 : (c : Dev Cert.CombineSIdeal.nD) → Buf (Elt Ideal) ((c.tc : Thread Cert.CombineSIdeal.nD Cert.CombineSIdeal.τ).loc Cert.CombineSIdeal.main_v1)),
      θ_run (Cert.CombineSIdeal.defs (F := Ideal)) (onTc (τ := Cert.CombineSIdeal.τ) (Cert.CombineSIdeal.main (F := Ideal))) ⟨m, fun _ => 0, g⟩ (fun r => ∀ c : Dev Cert.CombineSIdeal.nD,
          r.2.mem ((c.tc : Thread Cert.CombineSIdeal.nD Cert.CombineSIdeal.τ).loc Cert.CombineSIdeal.main_v1) = v0 c
          ∧ r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
          ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
          ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
          ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3))
      ∧ θ_run (Cert.CombineSRefIdeal.defs (F := Ideal)) (onTc (τ := Cert.CombineSRefIdeal.τ) (Cert.CombineSRefIdeal.main (F := Ideal))) ⟨m', fun _ => 0, g'⟩ (fun r => ∀ c : Dev Cert.CombineSRefIdeal.nD,
          r.2.mem ((c.tc : Thread Cert.CombineSRefIdeal.nD Cert.CombineSRefIdeal.τ).loc Cert.CombineSRefIdeal.main_v28) = v0 c
          ∧ r.2.mem ((c.tc : Thread Cert.CombineSRefIdeal.nD Cert.CombineSRefIdeal.τ).loc Cert.CombineSRefIdeal.main_arg0) = m' ((c.tc : Thread Cert.CombineSRefIdeal.nD Cert.CombineSRefIdeal.τ).loc Cert.CombineSRefIdeal.main_arg0)
          ∧ r.2.mem ((c.tc : Thread Cert.CombineSRefIdeal.nD Cert.CombineSRefIdeal.τ).loc Cert.CombineSRefIdeal.main_arg1) = m' ((c.tc : Thread Cert.CombineSRefIdeal.nD Cert.CombineSRefIdeal.τ).loc Cert.CombineSRefIdeal.main_arg1)
          ∧ r.2.mem ((c.tc : Thread Cert.CombineSRefIdeal.nD Cert.CombineSRefIdeal.τ).loc Cert.CombineSRefIdeal.main_arg2) = m' ((c.tc : Thread Cert.CombineSRefIdeal.nD Cert.CombineSRefIdeal.τ).loc Cert.CombineSRefIdeal.main_arg2)
          ∧ r.2.mem ((c.tc : Thread Cert.CombineSRefIdeal.nD Cert.CombineSRefIdeal.τ).loc Cert.CombineSRefIdeal.main_arg3) = m' ((c.tc : Thread Cert.CombineSRefIdeal.nD Cert.CombineSRefIdeal.τ).loc Cert.CombineSRefIdeal.main_arg3))

def preserves_PoolP_PoolPIdeal : Prop :=
  True

def algebraic_PoolPIdeal_PoolPRefIdeal_pre_finite_pool_prompt [hPoolPIdeal : Cert.PoolPIdeal.Facts] [hPoolPRefIdeal : Cert.PoolPRefIdeal.Facts] [hPre_finite_pool_prompt : Cert.Pre_finite_pool_prompt.Facts] : Prop :=
  ∀ (m : (ℓ : Loc Cert.PoolPIdeal.nD Cert.PoolPIdeal.τ Cert.PoolPIdeal.sig) → Buf (Elt Ideal) ℓ) (g : Dev Cert.PoolPIdeal.nD → PrngReg)
    (m' : (ℓ : Loc Cert.PoolPRefIdeal.nD Cert.PoolPRefIdeal.τ Cert.PoolPRefIdeal.sig) → Buf (Elt Ideal) ℓ) (g' : Dev Cert.PoolPRefIdeal.nD → PrngReg), Pre_PoolPIdeal_finite_pool_prompt m →
    (∀ c : Dev Cert.PoolPIdeal.nD,
      m' ((c.tc : Thread Cert.PoolPRefIdeal.nD Cert.PoolPRefIdeal.τ).loc Cert.PoolPRefIdeal.main_arg0) = m ((c.tc : Thread Cert.PoolPIdeal.nD Cert.PoolPIdeal.τ).loc Cert.PoolPIdeal.main_arg0)
      ∧ m' ((c.tc : Thread Cert.PoolPRefIdeal.nD Cert.PoolPRefIdeal.τ).loc Cert.PoolPRefIdeal.main_arg1) = m ((c.tc : Thread Cert.PoolPIdeal.nD Cert.PoolPIdeal.τ).loc Cert.PoolPIdeal.main_arg1)
      ∧ m' ((c.tc : Thread Cert.PoolPRefIdeal.nD Cert.PoolPRefIdeal.τ).loc Cert.PoolPRefIdeal.main_arg2) = m ((c.tc : Thread Cert.PoolPIdeal.nD Cert.PoolPIdeal.τ).loc Cert.PoolPIdeal.main_arg2)) →
    ∃ (v0 : (c : Dev Cert.PoolPIdeal.nD) → Buf (Elt Ideal) ((c.tc : Thread Cert.PoolPIdeal.nD Cert.PoolPIdeal.τ).loc Cert.PoolPIdeal.main_v3)),
      θ_run (Cert.PoolPIdeal.defs (F := Ideal)) (onTc (τ := Cert.PoolPIdeal.τ) (Cert.PoolPIdeal.main (F := Ideal))) ⟨m, fun _ => 0, g⟩ (fun r => ∀ c : Dev Cert.PoolPIdeal.nD,
          r.2.mem ((c.tc : Thread Cert.PoolPIdeal.nD Cert.PoolPIdeal.τ).loc Cert.PoolPIdeal.main_v3) = v0 c
          ∧ r.2.mem ((c.tc : Thread Cert.PoolPIdeal.nD Cert.PoolPIdeal.τ).loc Cert.PoolPIdeal.main_arg0) = m ((c.tc : Thread Cert.PoolPIdeal.nD Cert.PoolPIdeal.τ).loc Cert.PoolPIdeal.main_arg0)
          ∧ r.2.mem ((c.tc : Thread Cert.PoolPIdeal.nD Cert.PoolPIdeal.τ).loc Cert.PoolPIdeal.main_arg1) = m ((c.tc : Thread Cert.PoolPIdeal.nD Cert.PoolPIdeal.τ).loc Cert.PoolPIdeal.main_arg1)
          ∧ r.2.mem ((c.tc : Thread Cert.PoolPIdeal.nD Cert.PoolPIdeal.τ).loc Cert.PoolPIdeal.main_arg2) = m ((c.tc : Thread Cert.PoolPIdeal.nD Cert.PoolPIdeal.τ).loc Cert.PoolPIdeal.main_arg2))
      ∧ θ_run (Cert.PoolPRefIdeal.defs (F := Ideal)) (onTc (τ := Cert.PoolPRefIdeal.τ) (Cert.PoolPRefIdeal.main (F := Ideal))) ⟨m', fun _ => 0, g'⟩ (fun r => ∀ c : Dev Cert.PoolPRefIdeal.nD,
          r.2.mem ((c.tc : Thread Cert.PoolPRefIdeal.nD Cert.PoolPRefIdeal.τ).loc Cert.PoolPRefIdeal.main_v68) = v0 c
          ∧ r.2.mem ((c.tc : Thread Cert.PoolPRefIdeal.nD Cert.PoolPRefIdeal.τ).loc Cert.PoolPRefIdeal.main_arg0) = m' ((c.tc : Thread Cert.PoolPRefIdeal.nD Cert.PoolPRefIdeal.τ).loc Cert.PoolPRefIdeal.main_arg0)
          ∧ r.2.mem ((c.tc : Thread Cert.PoolPRefIdeal.nD Cert.PoolPRefIdeal.τ).loc Cert.PoolPRefIdeal.main_arg1) = m' ((c.tc : Thread Cert.PoolPRefIdeal.nD Cert.PoolPRefIdeal.τ).loc Cert.PoolPRefIdeal.main_arg1)
          ∧ r.2.mem ((c.tc : Thread Cert.PoolPRefIdeal.nD Cert.PoolPRefIdeal.τ).loc Cert.PoolPRefIdeal.main_arg2) = m' ((c.tc : Thread Cert.PoolPRefIdeal.nD Cert.PoolPRefIdeal.τ).loc Cert.PoolPRefIdeal.main_arg2))

def preserves_PoolS_PoolSIdeal : Prop :=
  True

def algebraic_PoolSIdeal_PoolSRefIdeal_pre_finite_pool_sample [hPoolSIdeal : Cert.PoolSIdeal.Facts] [hPoolSRefIdeal : Cert.PoolSRefIdeal.Facts] [hPre_finite_pool_sample : Cert.Pre_finite_pool_sample.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal_finite_pool_sample m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)) →
    ∃ (v0 : (c : Dev Cert.PoolSIdeal.nD) → Buf (Elt Ideal) ((c.tc : Thread Cert.PoolSIdeal.nD Cert.PoolSIdeal.τ).loc Cert.PoolSIdeal.main_v5)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v5) = v0 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v68) = v0 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3))

def preserves_Finish_FinishIdeal : Prop :=
  True

def algebraic_FinishIdeal_FinishRefIdeal_pre_finite_recurrence [hFinishIdeal : Cert.FinishIdeal.Facts] [hFinishRefIdeal : Cert.FinishRefIdeal.Facts] [hPre_finite_recurrence : Cert.Pre_finite_recurrence.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal_finite_recurrence m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)) →
    ∃ (v0 : (c : Dev Cert.FinishIdeal.nD) → Buf (Elt Ideal) ((c.tc : Thread Cert.FinishIdeal.nD Cert.FinishIdeal.τ).loc Cert.FinishIdeal.main_v4)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v4) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v31) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)) →
    ∃ (v0 : (c : Dev Cert.PrepIdeal.nD) → Buf (Elt Ideal) ((c.tc : Thread Cert.PrepIdeal.nD Cert.PrepIdeal.τ).loc Cert.PrepIdeal.main_v38_3)) (v1 : (c : Dev Cert.PrepIdeal.nD) → Buf (Elt Ideal) ((c.tc : Thread Cert.PrepIdeal.nD Cert.PrepIdeal.τ).loc Cert.PrepIdeal.main_v38_4)) (v2 : (c : Dev Cert.PrepIdeal.nD) → Buf (Elt Ideal) ((c.tc : Thread Cert.PrepIdeal.nD Cert.PrepIdeal.τ).loc Cert.PrepIdeal.main_v38_5)) (v3 : (c : Dev Cert.PrepIdeal.nD) → Buf (Elt Ideal) ((c.tc : Thread Cert.PrepIdeal.nD Cert.PrepIdeal.τ).loc Cert.PrepIdeal.main_v38_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v38_3) = v0 c
          ∧ r.2.mem ((c.tc : Thread Cert.PrepIdeal.nD Cert.PrepIdeal.τ).loc Cert.PrepIdeal.main_v38_4) = v1 c
          ∧ r.2.mem ((c.tc : Thread Cert.PrepIdeal.nD Cert.PrepIdeal.τ).loc Cert.PrepIdeal.main_v38_5) = v2 c
          ∧ r.2.mem ((c.tc : Thread Cert.PrepIdeal.nD Cert.PrepIdeal.τ).loc Cert.PrepIdeal.main_v38_7) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v43) = v0 c
          ∧ r.2.mem ((c.tc : Thread Cert.PrepRefIdeal.nD Cert.PrepRefIdeal.τ).loc Cert.PrepRefIdeal.main_v44) = v1 c
          ∧ r.2.mem ((c.tc : Thread Cert.PrepRefIdeal.nD Cert.PrepRefIdeal.τ).loc Cert.PrepRefIdeal.main_v45) = v2 c
          ∧ r.2.mem ((c.tc : Thread Cert.PrepRefIdeal.nD Cert.PrepRefIdeal.τ).loc Cert.PrepRefIdeal.main_v33) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10))

def Claim : Prop :=
  ∃ (hStep : Cert.Step.Facts) (hStepIdeal : Cert.StepIdeal.Facts) (hStepRefIdeal : Cert.StepRefIdeal.Facts) (hHead : Cert.Head.Facts) (hHeadIdeal : Cert.HeadIdeal.Facts) (hHeadRefIdeal : Cert.HeadRefIdeal.Facts) (hTail : Cert.Tail.Facts) (hTailIdeal : Cert.TailIdeal.Facts) (hTailRefIdeal : Cert.TailRefIdeal.Facts) (hNorm1 : Cert.Norm1.Facts) (hNorm1Ideal : Cert.Norm1Ideal.Facts) (hNorm1RefIdeal : Cert.Norm1RefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hCombineP : Cert.CombineP.Facts) (hCombinePIdeal : Cert.CombinePIdeal.Facts) (hCombinePRefIdeal : Cert.CombinePRefIdeal.Facts) (hCombineS : Cert.CombineS.Facts) (hCombineSIdeal : Cert.CombineSIdeal.Facts) (hCombineSRefIdeal : Cert.CombineSRefIdeal.Facts) (hPoolP : Cert.PoolP.Facts) (hPoolPIdeal : Cert.PoolPIdeal.Facts) (hPoolPRefIdeal : Cert.PoolPRefIdeal.Facts) (hPoolS : Cert.PoolS.Facts) (hPoolSIdeal : Cert.PoolSIdeal.Facts) (hPoolSRefIdeal : Cert.PoolSRefIdeal.Facts) (hFinish : Cert.Finish.Facts) (hFinishIdeal : Cert.FinishIdeal.Facts) (hFinishRefIdeal : Cert.FinishRefIdeal.Facts) (hPrep : Cert.Prep.Facts) (hPrepIdeal : Cert.PrepIdeal.Facts) (hPrepRefIdeal : Cert.PrepRefIdeal.Facts) (hPre_finite_pool_prompt : Cert.Pre_finite_pool_prompt.Facts) (hPre_finite_pool_sample : Cert.Pre_finite_pool_sample.Facts) (hPre_finite_recurrence : Cert.Pre_finite_recurrence.Facts),
    quiescent_Step (hStep := hStep)
    ∧ quiescent_StepIdeal (hStepIdeal := hStepIdeal)
    ∧ quiescent_StepRefIdeal (hStepRefIdeal := hStepRefIdeal)
    ∧ quiescent_Head (hHead := hHead)
    ∧ quiescent_HeadIdeal (hHeadIdeal := hHeadIdeal)
    ∧ quiescent_HeadRefIdeal (hHeadRefIdeal := hHeadRefIdeal)
    ∧ quiescent_Tail (hTail := hTail)
    ∧ quiescent_TailIdeal (hTailIdeal := hTailIdeal)
    ∧ quiescent_TailRefIdeal (hTailRefIdeal := hTailRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_CombineP (hCombineP := hCombineP)
    ∧ quiescent_CombinePIdeal (hCombinePIdeal := hCombinePIdeal)
    ∧ quiescent_CombinePRefIdeal (hCombinePRefIdeal := hCombinePRefIdeal)
    ∧ quiescent_CombineS (hCombineS := hCombineS)
    ∧ quiescent_CombineSIdeal (hCombineSIdeal := hCombineSIdeal)
    ∧ quiescent_CombineSRefIdeal (hCombineSRefIdeal := hCombineSRefIdeal)
    ∧ quiescent_PoolP (hPoolP := hPoolP)
    ∧ quiescent_PoolPIdeal (hPoolPIdeal := hPoolPIdeal)
    ∧ quiescent_PoolPIdeal_pre_finite_pool_prompt (hPoolPIdeal := hPoolPIdeal) (hPre_finite_pool_prompt := hPre_finite_pool_prompt)
    ∧ quiescent_PoolPRefIdeal (hPoolPRefIdeal := hPoolPRefIdeal)
    ∧ quiescent_PoolPRefIdeal_pre_finite_pool_prompt (hPoolPRefIdeal := hPoolPRefIdeal) (hPre_finite_pool_prompt := hPre_finite_pool_prompt)
    ∧ quiescent_PoolS (hPoolS := hPoolS)
    ∧ quiescent_PoolSIdeal (hPoolSIdeal := hPoolSIdeal)
    ∧ quiescent_PoolSIdeal_pre_finite_pool_sample (hPoolSIdeal := hPoolSIdeal) (hPre_finite_pool_sample := hPre_finite_pool_sample)
    ∧ quiescent_PoolSRefIdeal (hPoolSRefIdeal := hPoolSRefIdeal)
    ∧ quiescent_PoolSRefIdeal_pre_finite_pool_sample (hPoolSRefIdeal := hPoolSRefIdeal) (hPre_finite_pool_sample := hPre_finite_pool_sample)
    ∧ quiescent_Finish (hFinish := hFinish)
    ∧ quiescent_FinishIdeal (hFinishIdeal := hFinishIdeal)
    ∧ quiescent_FinishIdeal_pre_finite_recurrence (hFinishIdeal := hFinishIdeal) (hPre_finite_recurrence := hPre_finite_recurrence)
    ∧ quiescent_FinishRefIdeal (hFinishRefIdeal := hFinishRefIdeal)
    ∧ quiescent_FinishRefIdeal_pre_finite_recurrence (hFinishRefIdeal := hFinishRefIdeal) (hPre_finite_recurrence := hPre_finite_recurrence)
    ∧ quiescent_Prep (hPrep := hPrep)
    ∧ quiescent_PrepIdeal (hPrepIdeal := hPrepIdeal)
    ∧ quiescent_PrepRefIdeal (hPrepRefIdeal := hPrepRefIdeal)
    ∧ preserves_Step_StepIdeal
    ∧ algebraic_StepIdeal_StepRefIdeal (hStepIdeal := hStepIdeal) (hStepRefIdeal := hStepRefIdeal)
    ∧ preserves_Head_HeadIdeal
    ∧ algebraic_HeadIdeal_HeadRefIdeal (hHeadIdeal := hHeadIdeal) (hHeadRefIdeal := hHeadRefIdeal)
    ∧ preserves_Tail_TailIdeal
    ∧ algebraic_TailIdeal_TailRefIdeal (hTailIdeal := hTailIdeal) (hTailRefIdeal := hTailRefIdeal)
    ∧ preserves_Norm1_Norm1Ideal
    ∧ algebraic_Norm1Ideal_Norm1RefIdeal (hNorm1Ideal := hNorm1Ideal) (hNorm1RefIdeal := hNorm1RefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_CombineP_CombinePIdeal
    ∧ algebraic_CombinePIdeal_CombinePRefIdeal (hCombinePIdeal := hCombinePIdeal) (hCombinePRefIdeal := hCombinePRefIdeal)
    ∧ preserves_CombineS_CombineSIdeal
    ∧ algebraic_CombineSIdeal_CombineSRefIdeal (hCombineSIdeal := hCombineSIdeal) (hCombineSRefIdeal := hCombineSRefIdeal)
    ∧ preserves_PoolP_PoolPIdeal
    ∧ algebraic_PoolPIdeal_PoolPRefIdeal_pre_finite_pool_prompt (hPoolPIdeal := hPoolPIdeal) (hPoolPRefIdeal := hPoolPRefIdeal) (hPre_finite_pool_prompt := hPre_finite_pool_prompt)
    ∧ preserves_PoolS_PoolSIdeal
    ∧ algebraic_PoolSIdeal_PoolSRefIdeal_pre_finite_pool_sample (hPoolSIdeal := hPoolSIdeal) (hPoolSRefIdeal := hPoolSRefIdeal) (hPre_finite_pool_sample := hPre_finite_pool_sample)
    ∧ preserves_Finish_FinishIdeal
    ∧ algebraic_FinishIdeal_FinishRefIdeal_pre_finite_recurrence (hFinishIdeal := hFinishIdeal) (hFinishRefIdeal := hFinishRefIdeal) (hPre_finite_recurrence := hPre_finite_recurrence)
    ∧ preserves_Prep_PrepIdeal
    ∧ algebraic_PrepIdeal_PrepRefIdeal (hPrepIdeal := hPrepIdeal) (hPrepRefIdeal := hPrepRefIdeal)
-- ==== Pre_finite_pool_prompt.lean ====
abbrev S8320x10240 : Shape := ⟨2, ![8320, 10240]⟩
abbrev S1x4x512x512 : Shape := ⟨4, ![1, 4, 512, 512]⟩
abbrev S1x2048 : Shape := ⟨2, ![1, 2048]⟩
abbrev S8192x2048 : Shape := ⟨2, ![8192, 2048]⟩
abbrev S_ : Shape := ⟨0, ![]⟩

class Facts : Prop where
  slices_S8320x10240_S8192x2048_0_0 : S8320x10240.Slices ![0, 0] S8192x2048
  bcast_S_S8192x2048 : S_.BroadcastsInDim S8192x2048 (![] : Fin 0 → Fin S8192x2048.rank)

variable [Facts]

def fn {F : FTy → Type} [FloatOps F] (main_arg0 : FVec F S8320x10240 .f32) (main_arg1 : FVec F S1x4x512x512 .f32) (main_arg2 : FVec F S1x2048 .f32) : IVec S8192x2048 1 :=
  let main_v0 : FVec F S8192x2048 .f32 := (extractStridedSlice S8192x2048 ![0, 0] · slices_S8320x10240_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  main_v3
-- ==== Pre_finite_pool_sample.lean ====
abbrev S8320x10240 : Shape := ⟨2, ![8320, 10240]⟩
abbrev S1x128x15x2048 : Shape := ⟨4, ![1, 128, 15, 2048]⟩
abbrev S1x4x512x512 : Shape := ⟨4, ![1, 4, 512, 512]⟩
abbrev S1x2048 : Shape := ⟨2, ![1, 2048]⟩
abbrev S_ : Shape := ⟨0, ![]⟩

class Facts : Prop where
  bcast_S_S1x128x15x2048 : S_.BroadcastsInDim S1x128x15x2048 (![] : Fin 0 → Fin S1x128x15x2048.rank)

variable [Facts]

def fn {F : FTy → Type} [FloatOps F] (main_arg0 : FVec F S8320x10240 .f32) (main_arg1 : FVec F S1x128x15x2048 .f32) (main_arg2 : FVec F S1x4x512x512 .f32) (main_arg3 : FVec F S1x2048 .f32) : IVec S1x128x15x2048 1 :=
  let main_v0 : FVec F S1x128x15x2048 .f32 := Host.absf main_arg1
  let main_cst : FVec F S_ .f32 := constant S_ .f32 0x7F800000#32
  let main_v1 : FVec F S1x128x15x2048 .f32 := broadcastInDim S1x128x15x2048 ![] bcast_S_S1x128x15x2048 main_cst
  let main_v2 : IVec S1x128x15x2048 1 := cmpf .olt main_v0 main_v1
  main_v2
-- ==== Pre_finite_recurrence.lean ====
abbrev S2048x128 : Shape := ⟨2, ![2048, 128]⟩
abbrev S128x2048 : Shape := ⟨2, ![128, 2048]⟩
abbrev S1x2048 : Shape := ⟨2, ![1, 2048]⟩
abbrev S_ : Shape := ⟨0, ![]⟩

class Facts : Prop where
  bcast_S_S2048x128 : S_.BroadcastsInDim S2048x128 (![] : Fin 0 → Fin S2048x128.rank)

variable [Facts]

def fn {F : FTy → Type} [FloatOps F] (main_arg0 : FVec F S2048x128 .f32) (main_arg1 : FVec F S128x2048 .f32) (main_arg2 : FVec F S128x2048 .f32) (main_arg3 : FVec F S1x2048 .f32) (main_arg4 : FVec F S1x2048 .f32) : IVec S2048x128 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  main_v2
-- ==== Step.lean ====
abbrev S1x128x32x64x64 : Shape := ⟨5, ![1, 128, 32, 64, 64]⟩
abbrev S128x1x32x64 : Shape := ⟨4, ![128, 1, 32, 64]⟩
abbrev S128x32x64x64 : Shape := ⟨4, ![128, 32, 64, 64]⟩
abbrev S32x64x64x128 : Shape := ⟨4, ![32, 64, 64, 128]⟩
abbrev S128x2048 : Shape := ⟨2, ![128, 2048]⟩
abbrev S2048x128 : Shape := ⟨2, ![2048, 128]⟩
abbrev S1x64x64x128 : Shape := ⟨4, ![1, 64, 64, 128]⟩
abbrev S64x128 : Shape := ⟨2, ![64, 128]⟩
abbrev S1x1x64x128 : Shape := ⟨4, ![1, 1, 64, 128]⟩
abbrev S128 : Shape := ⟨1, ![128]⟩
abbrev S1x128 : Shape := ⟨2, ![1, 128]⟩

abbrev nBuf : Space → Nat
  | .hbm => 27
  | .vmem => 18
  | .smem => 0
  | _ => 0

abbrev bufTy : (tb : Table) → Fin (tcTables nBuf tb) → BufTy
  | .hbm, ⟨0, _⟩ => ⟨S1x128x32x64x64, .f32⟩
  | .hbm, ⟨1, _⟩ => ⟨S128x1x32x64, .f32⟩
  | .hbm, ⟨2, _⟩ => ⟨S128x1x32x64, .f32⟩
  | .hbm, ⟨3, _⟩ => ⟨S128x1x32x64, .f32⟩
  | .hbm, ⟨4, _⟩ => ⟨S128x1x32x64, .f32⟩
  | .hbm, ⟨5, _⟩ => ⟨S128x1x32x64, .f32⟩
  | .hbm, ⟨6, _⟩ => ⟨S128x1x32x64, .f32⟩
  | .hbm, ⟨7, _⟩ => ⟨S128x32x64x64, .f32⟩
  | .hbm, ⟨8, _⟩ => ⟨S32x64x64x128, .f32⟩
  | .hbm, ⟨9, _⟩ => ⟨S128x2048, .f32⟩
  | .hbm, ⟨10, _⟩ => ⟨S2048x128, .f32⟩
  | .hbm, ⟨11, _⟩ => ⟨S128x1x32x64, .f32⟩
  | .hbm, ⟨12, _⟩ => ⟨S128x2048, .f32⟩
  | .hbm, ⟨13, _⟩ => ⟨S2048x128, .f32⟩
  | .hbm, ⟨14, _⟩ => ⟨S128x1x32x64, .f32⟩
  | .hbm, ⟨15, _⟩ => ⟨S128x2048, .f32⟩
  | .hbm, ⟨16, _⟩ => ⟨S2048x128, .f32⟩
  | .hbm, ⟨17, _⟩ => ⟨S128x2048, .f32⟩
  | .hbm, ⟨18, _⟩ => ⟨S2048x128, .f32⟩
  | .hbm, ⟨19, _⟩ => ⟨S128x2048, .f32⟩
  | .hbm, ⟨20, _⟩ => ⟨S2048x128, .f32⟩
  | .hbm, ⟨21, _⟩ => ⟨S128x2048, .f32⟩
  | .hbm, ⟨22, _⟩ => ⟨S2048x128, .f32⟩
  | .hbm, ⟨23, _⟩ => ⟨S32x64x64x128, .f32⟩
  | .hbm, ⟨24, _⟩ => ⟨S2048x128, .f32⟩
  | .hbm, ⟨25, _⟩ => ⟨S128x32x64x64, .f32⟩
  | .hbm, ⟨26, _⟩ => ⟨S1x128x32x64x64, .f32⟩
  | .local _ .vmem, ⟨0, _⟩ => ⟨S1x64x64x128, .f32⟩
  | .local _ .vmem, ⟨1, _⟩ => ⟨S1x64x64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S1x64x64x128, .f32⟩
  | .local _ .vmem, ⟨15, _⟩ => ⟨S1x64x64x128, .f32⟩
  | .local _ .vmem, ⟨16, _⟩ => ⟨S64x128, .f32⟩
  | .local _ .vmem, ⟨17, _⟩ => ⟨S64x128, .f32⟩
  | _, _ => ⟨S1x128x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg10 : BitVec 32 := Scf.iv c0_i32 c1_i32 k0_t1
  let v1 : Index := Scalar.indexCast arg10
  let c0_1 : Index := 0#32
  let c0_2 : Index := 0#32
  ![0, v1.toNat, 0, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let v17 : Index := Scalar.indexCast arg10
  let c0_9 : Index := 0#32
  ![v17.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepRefIdeal.lean ====
abbrev S1x128x32x64x64 : Shape := ⟨5, ![1, 128, 32, 64, 64]⟩
abbrev S128x1x32x64 : Shape := ⟨4, ![128, 1, 32, 64]⟩
abbrev S128x32x64x64 : Shape := ⟨4, ![128, 32, 64, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩
abbrev S32x64x128 : Shape := ⟨3, ![32, 64, 128]⟩
abbrev S2048x128 : Shape := ⟨2, ![2048, 128]⟩

abbrev nBuf : Space → Nat
  | .hbm => 36
  | .vmem => 0
  | .smem => 0
  | _ => 0

abbrev bufTy : (tb : Table) → Fin (tcTables nBuf tb) → BufTy
  | .hbm, ⟨0, _⟩ => ⟨S1x128x32x64x64, .f32⟩
  | .hbm, ⟨1, _⟩ => ⟨S128x1x32x64, .f32⟩
  | .hbm, ⟨2, _⟩ => ⟨S128x1x32x64, .f32⟩
  | .hbm, ⟨3, _⟩ => ⟨S128x1x32x64, .f32⟩
  | .hbm, ⟨4, _⟩ => ⟨S128x1x32x64, .f32⟩
  | .hbm, ⟨5, _⟩ => ⟨S128x1x32x64, .f32⟩
  | .hbm, ⟨6, _⟩ => ⟨S128x1x32x64, .f32⟩
  | .hbm, ⟨7, _⟩ => ⟨S128x32x64x64, .f32⟩
  | .hbm, ⟨8, _⟩ => ⟨S128x32x64, .f32⟩
  | .hbm, ⟨9, _⟩ => ⟨S128x32x64, .f32⟩
  | .hbm, ⟨10, _⟩ => ⟨S128x32x64, .f32⟩
  | .hbm, ⟨11, _⟩ => ⟨S128x32x64, .f32⟩
  | .hbm, ⟨12, _⟩ => ⟨S128x32x64, .f32⟩
  | .hbm, ⟨13, _⟩ => ⟨S128x32x64, .f32⟩
  | .hbm, ⟨14, _⟩ => ⟨S128x32x64, .f32⟩
  | .hbm, ⟨15, _⟩ => ⟨S128x32x64, .f32⟩
  | .hbm, ⟨16, _⟩ => ⟨S128x32x1x64, .f32⟩
  | .hbm, ⟨17, _⟩ => ⟨S128x32x64x64, .f32⟩
  | .hbm, ⟨18, _⟩ => ⟨S128x32x64x64, .f32⟩
  | .hbm, ⟨19, _⟩ => ⟨S128x32x64x1, .f32⟩
  | .hbm, ⟨20, _⟩ => ⟨S128x32x64, .f32⟩
  | .hbm, ⟨21, _⟩ => ⟨S128x32x1x64, .f32⟩
  | .hbm, ⟨22, _⟩ => ⟨S128x32x64x64, .f32⟩
  | .hbm, ⟨23, _⟩ => ⟨S128x32x64x64, .f32⟩
  | .hbm, ⟨24, _⟩ => ⟨S128x32x64x64, .f32⟩
  | .hbm, ⟨25, _⟩ => ⟨S128x32x64x64, .f32⟩
  | .hbm, ⟨26, _⟩ => ⟨S128x32x64x1, .f32⟩
  | .hbm, ⟨27, _⟩ => ⟨S128x32x1x64, .f32⟩
  | .hbm, ⟨28, _⟩ => ⟨S128x32x64x64, .f32⟩
  | .hbm, ⟨29, _⟩ => ⟨S128x32x64x64, .f32⟩
  | .hbm, ⟨30, _⟩ => ⟨S128x32x64x64, .f32⟩
  | .hbm, ⟨31, _⟩ => ⟨S128x32x64x64, .f32⟩
  | .hbm, ⟨32, _⟩ => ⟨S128x32x64, .f32⟩
  | .hbm, ⟨33, _⟩ => ⟨S1x128x32x64x64, .f32⟩
  | .hbm, ⟨34, _⟩ => ⟨S32x64x128, .f32⟩
  | .hbm, ⟨35, _⟩ => ⟨S2048x128, .f32⟩
  | _, _ => ⟨S1x128x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Head.lean ====
abbrev S8320x4096 : Shape := ⟨2, ![8320, 4096]⟩
abbrev S1x4096x16832 : Shape := ⟨3, ![1, 4096, 16832]⟩
abbrev S4096x16832 : Shape := ⟨2, ![4096, 16832]⟩
abbrev S16832x4096 : Shape := ⟨2, ![16832, 4096]⟩
abbrev S8320x6656 : Shape := ⟨2, ![8320, 6656]⟩
abbrev S1664x4096 : Shape := ⟨2, ![1664, 4096]⟩
abbrev S256x4096 : Shape := ⟨2, ![256, 4096]⟩
abbrev S1664x256 : Shape := ⟨2, ![1664, 256]⟩
abbrev S1x6592 : Shape := ⟨2, ![1, 6592]⟩
abbrev S6592 : Shape := ⟨1, ![6592]⟩
abbrev S4x6592 : Shape := ⟨2, ![4, 6592]⟩
abbrev S128x6592 : Shape := ⟨2, ![128, 6592]⟩
abbrev S1x4x6592 : Shape := ⟨3, ![1, 4, 6592]⟩
abbrev S1x128x6592 : Shape := ⟨3, ![1, 128, 6592]⟩

abbrev nBuf : Space → Nat
  | .hbm => 21
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x16832, .f32⟩
  | .hbm, ⟨2, _⟩ => ⟨S4096x16832, .f32⟩
  | .hbm, ⟨3, _⟩ => ⟨S16832x4096, .f32⟩
  | .hbm, ⟨4, _⟩ => ⟨S8320x6656, .f32⟩
  | .hbm, ⟨5, _⟩ => ⟨S1x6592, .f32⟩
  | .hbm, ⟨6, _⟩ => ⟨S6592, .f32⟩
  | .hbm, ⟨7, _⟩ => ⟨S1x6592, .f32⟩
  | .hbm, ⟨8, _⟩ => ⟨S6592, .f32⟩
  | .hbm, ⟨9, _⟩ => ⟨S1x6592, .f32⟩
  | .hbm, ⟨10, _⟩ => ⟨S6592, .f32⟩
  | .hbm, ⟨11, _⟩ => ⟨S1x6592, .f32⟩
  | .hbm, ⟨12, _⟩ => ⟨S6592, .f32⟩
  | .hbm, ⟨13, _⟩ => ⟨S1x6592, .f32⟩
  | .hbm, ⟨14, _⟩ => ⟨S1x6592, .f32⟩
  | .hbm, ⟨15, _⟩ => ⟨S1x6592, .f32⟩
  | .hbm, ⟨16, _⟩ => ⟨S1x6592, .f32⟩
  | .hbm, ⟨17, _⟩ => ⟨S4x6592, .f32⟩
  | .hbm, ⟨18, _⟩ => ⟨S128x6592, .f32⟩
  | .hbm, ⟨19, _⟩ => ⟨S1x4x6592, .f32⟩
  | .hbm, ⟨20, _⟩ => ⟨S1x128x6592, .f32⟩
  | .local _ .vmem, ⟨0, _⟩ => ⟨S1664x4096, .bf16⟩
  | .local _ .vmem, ⟨1, _⟩ => ⟨S1664x4096, .bf16⟩
  | .local _ .vmem, ⟨2, _⟩ => ⟨S256x4096, .f32⟩
  | .local _ .vmem, ⟨3, _⟩ => ⟨S256x4096, .f32⟩
  | .local _ .vmem, ⟨4, _⟩ => ⟨S1664x256, .f32⟩
  | .local _ .vmem, ⟨5, _⟩ => ⟨S1664x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 26], ![false, false]⟩

def k0_mult1 (i : grid0.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadRefIdeal.lean ====
abbrev S8320x4096 : Shape := ⟨2, ![8320, 4096]⟩
abbrev S1x4096x16832 : Shape := ⟨3, ![1, 4096, 16832]⟩
abbrev S4096x16832 : Shape := ⟨2, ![4096, 16832]⟩
abbrev S8320x16832 : Shape := ⟨2, ![8320, 16832]⟩
abbrev S8320x6592 : Shape := ⟨2, ![8320, 6592]⟩
abbrev S8192x6592 : Shape := ⟨2, ![8192, 6592]⟩
abbrev S4x2048x6592 : Shape := ⟨3, ![4, 2048, 6592]⟩
abbrev S4x1x6592 : Shape := ⟨3, ![4, 1, 6592]⟩
abbrev S4x6592 : Shape := ⟨2, ![4, 6592]⟩
abbrev S128x6592 : Shape := ⟨2, ![128, 6592]⟩
abbrev S128x1x6592 : Shape := ⟨3, ![128, 1, 6592]⟩
abbrev S8320x6656 : Shape := ⟨2, ![8320, 6656]⟩
abbrev S1x4x6592 : Shape := ⟨3, ![1, 4, 6592]⟩
abbrev S1x128x6592 : Shape := ⟨3, ![1, 128, 6592]⟩

abbrev nBuf : Space → Nat
  | .hbm => 16
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x16832, .f32⟩
  | .hbm, ⟨2, _⟩ => ⟨S8320x4096, .f32⟩
  | .hbm, ⟨3, _⟩ => ⟨S4096x16832, .f32⟩
  | .hbm, ⟨4, _⟩ => ⟨S8320x16832, .f32⟩
  | .hbm, ⟨5, _⟩ => ⟨S8320x6592, .f32⟩
  | .hbm, ⟨6, _⟩ => ⟨S8192x6592, .f32⟩
  | .hbm, ⟨7, _⟩ => ⟨S4x2048x6592, .f32⟩
  | .hbm, ⟨8, _⟩ => ⟨S4x1x6592, .f32⟩
  | .hbm, ⟨9, _⟩ => ⟨S4x6592, .f32⟩
  | .hbm, ⟨10, _⟩ => ⟨S128x6592, .f32⟩
  | .hbm, ⟨11, _⟩ => ⟨S128x1x6592, .f32⟩
  | .hbm, ⟨12, _⟩ => ⟨S128x6592, .f32⟩
  | .hbm, ⟨13, _⟩ => ⟨S8320x6656, .f32⟩
  | .hbm, ⟨14, _⟩ => ⟨S1x4x6592, .f32⟩
  | .hbm, ⟨15, _⟩ => ⟨S1x128x6592, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Tail.lean ====
abbrev S8320x4096 : Shape := ⟨2, ![8320, 4096]⟩
abbrev S1x4096x16832 : Shape := ⟨3, ![1, 4096, 16832]⟩
abbrev S1x128x15x2048 : Shape := ⟨4, ![1, 128, 15, 2048]⟩
abbrev S4096x16832 : Shape := ⟨2, ![4096, 16832]⟩
abbrev S16832x4096 : Shape := ⟨2, ![16832, 4096]⟩
abbrev S8320x10240 : Shape := ⟨2, ![8320, 10240]⟩
abbrev S1664x4096 : Shape := ⟨2, ![1664, 4096]⟩
abbrev S256x4096 : Shape := ⟨2, ![256, 4096]⟩
abbrev S1664x256 : Shape := ⟨2, ![1664, 256]⟩
abbrev S15x2048 : Shape := ⟨2, ![15, 2048]⟩
abbrev S1x15x2048 : Shape := ⟨3, ![1, 15, 2048]⟩
abbrev S4x15x2048 : Shape := ⟨3, ![4, 15, 2048]⟩
abbrev S128x15x2048 : Shape := ⟨3, ![128, 15, 2048]⟩
abbrev S128x14x2048 : Shape := ⟨3, ![128, 14, 2048]⟩
abbrev S128x2048 : Shape := ⟨2, ![128, 2048]⟩
abbrev S128x1x2048 : Shape := ⟨3, ![128, 1, 2048]⟩
abbrev S1x4x15x2048 : Shape := ⟨4, ![1, 4, 15, 2048]⟩

abbrev nBuf : Space → Nat
  | .hbm => 22
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x16832, .f32⟩
  | .hbm, ⟨2, _⟩ => ⟨S1x128x15x2048, .f32⟩
  | .hbm, ⟨3, _⟩ => ⟨S4096x16832, .f32⟩
  | .hbm, ⟨4, _⟩ => ⟨S16832x4096, .f32⟩
  | .hbm, ⟨5, _⟩ => ⟨S8320x10240, .f32⟩
  | .hbm, ⟨6, _⟩ => ⟨S15x2048, .f32⟩
  | .hbm, ⟨7, _⟩ => ⟨S15x2048, .f32⟩
  | .hbm, ⟨8, _⟩ => ⟨S15x2048, .f32⟩
  | .hbm, ⟨9, _⟩ => ⟨S15x2048, .f32⟩
  | .hbm, ⟨10, _⟩ => ⟨S1x15x2048, .f32⟩
  | .hbm, ⟨11, _⟩ => ⟨S1x15x2048, .f32⟩
  | .hbm, ⟨12, _⟩ => ⟨S1x15x2048, .f32⟩
  | .hbm, ⟨13, _⟩ => ⟨S1x15x2048, .f32⟩
  | .hbm, ⟨14, _⟩ => ⟨S4x15x2048, .f32⟩
  | .hbm, ⟨15, _⟩ => ⟨S128x15x2048, .f32⟩
  | .hbm, ⟨16, _⟩ => ⟨S128x14x2048, .f32⟩
  | .hbm, ⟨17, _⟩ => ⟨S128x2048, .f32⟩
  | .hbm, ⟨18, _⟩ => ⟨S128x1x2048, .f32⟩
  | .hbm, ⟨19, _⟩ => ⟨S128x15x2048, .f32⟩
  | .hbm, ⟨20, _⟩ => ⟨S1x4x15x2048, .f32⟩
  | .hbm, ⟨21, _⟩ => ⟨S1x128x15x2048, .f32⟩
  | .local _ .vmem, ⟨0, _⟩ => ⟨S1664x4096, .bf16⟩
  | .local _ .vmem, ⟨1, _⟩ => ⟨S1664x4096, .bf16⟩
  | .local _ .vmem, ⟨2, _⟩ => ⟨S256x4096, .f32⟩
  | .local _ .vmem, ⟨3, _⟩ => ⟨S256x4096, .f32⟩
  | .local _ .vmem, ⟨4, _⟩ => ⟨S1664x256, .f32⟩
  | .local _ .vmem, ⟨5, _⟩ => ⟨S1664x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 40], ![false, false]⟩

def k0_mult1 (i : grid0.Coords) : BitVec 32 :=
  let c6592_i32 : BitVec 32 := 6592#32
  let arg1 : BitVec 32 := BitVec.ofNat 32 (i 1).val
  let c256_i32 : BitVec 32 := 256#32
  let v0 : BitVec 32 := Scalar.muli arg1 c256_i32
  let v1 : BitVec 32 := Scalar.addi c6592_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c6592_i32 : BitVec 32 := 6592#32
  let v1 : BitVec 32 := Scalar.addi c6592_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TailRefIdeal.lean ====
abbrev S8320x4096 : Shape := ⟨2, ![8320, 4096]⟩
abbrev S1x4096x16832 : Shape := ⟨3, ![1, 4096, 16832]⟩
abbrev S1x128x15x2048 : Shape := ⟨4, ![1, 128, 15, 2048]⟩
abbrev S4096x16832 : Shape := ⟨2, ![4096, 16832]⟩
abbrev S8320x16832 : Shape := ⟨2, ![8320, 16832]⟩
abbrev S8320x2048 : Shape := ⟨2, ![8320, 2048]⟩
abbrev S_ : Shape := ⟨0, ![]⟩
abbrev S4x15x2048 : Shape := ⟨3, ![4, 15, 2048]⟩
abbrev S8192x2048 : Shape := ⟨2, ![8192, 2048]⟩
abbrev S4x2048x2048 : Shape := ⟨3, ![4, 2048, 2048]⟩
abbrev S4x2063x2048 : Shape := ⟨3, ![4, 2063, 2048]⟩
abbrev S128x15x2048 : Shape := ⟨3, ![128, 15, 2048]⟩
abbrev S128x2048 : Shape := ⟨2, ![128, 2048]⟩
abbrev S128x1x2048 : Shape := ⟨3, ![128, 1, 2048]⟩
abbrev S128x16x2048 : Shape := ⟨3, ![128, 16, 2048]⟩
abbrev S8320x10240 : Shape := ⟨2, ![8320, 10240]⟩
abbrev S1x4x15x2048 : Shape := ⟨4, ![1, 4, 15, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x16832, .f32⟩
  | .hbm, ⟨2, _⟩ => ⟨S1x128x15x2048, .f32⟩
  | .hbm, ⟨3, _⟩ => ⟨S8320x4096, .f32⟩
  | .hbm, ⟨4, _⟩ => ⟨S4096x16832, .f32⟩
  | .hbm, ⟨5, _⟩ => ⟨S8320x16832, .f32⟩
  | .hbm, ⟨6, _⟩ => ⟨S8320x2048, .f32⟩
  | .hbm, ⟨7, _⟩ => ⟨S_, .f32⟩
  | .hbm, ⟨8, _⟩ => ⟨S4x15x2048, .f32⟩
  | .hbm, ⟨9, _⟩ => ⟨S8192x2048, .f32⟩
  | .hbm, ⟨10, _⟩ => ⟨S4x2048x2048, .f32⟩
  | .hbm, ⟨11, _⟩ => ⟨S4x2063x2048, .f32⟩
  | .hbm, ⟨12, _⟩ => ⟨S128x15x2048, .f32⟩
  | .hbm, ⟨13, _⟩ => ⟨S128x2048, .f32⟩
  | .hbm, ⟨14, _⟩ => ⟨S128x1x2048, .f32⟩
  | .hbm, ⟨15, _⟩ => ⟨S128x16x2048, .f32⟩
  | .hbm, ⟨16, _⟩ => ⟨S8320x10240, .f32⟩
  | .hbm, ⟨17, _⟩ => ⟨S4x15x2048, .f32⟩
  | .hbm, ⟨18, _⟩ => ⟨S1x4x15x2048, .f32⟩
  | .hbm, ⟨19, _⟩ => ⟨S128x15x2048, .f32⟩
  | .hbm, ⟨20, _⟩ => ⟨S1x128x15x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Norm1.lean ====
abbrev S4x2048x4096 : Shape := ⟨3, ![4, 2048, 4096]⟩
abbrev S128x1x4096 : Shape := ⟨3, ![128, 1, 4096]⟩
abbrev S1x4096 : Shape := ⟨2, ![1, 4096]⟩
abbrev S8192x4096 : Shape := ⟨2, ![8192, 4096]⟩
abbrev S128x4096 : Shape := ⟨2, ![128, 4096]⟩
abbrev S4096 : Shape := ⟨1, ![4096]⟩
abbrev S8320x4096 : Shape := ⟨2, ![8320, 4096]⟩
abbrev S128 : Shape := ⟨1, ![128]⟩
abbrev S128x1 : Shape := ⟨2, ![128, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S128x1x4096, .f32⟩
  | .hbm, ⟨2, _⟩ => ⟨S1x4096, .f32⟩
  | .hbm, ⟨3, _⟩ => ⟨S8192x4096, .f32⟩
  | .hbm, ⟨4, _⟩ => ⟨S128x4096, .f32⟩
  | .hbm, ⟨5, _⟩ => ⟨S4096, .f32⟩
  | .hbm, ⟨6, _⟩ => ⟨S1x4096, .f32⟩
  | .hbm, ⟨7, _⟩ => ⟨S8320x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .bf16⟩
  | .local _ .vmem, ⟨6, _⟩ => ⟨S128x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Norm1RefIdeal.lean ====
abbrev S4x2048x4096 : Shape := ⟨3, ![4, 2048, 4096]⟩
abbrev S128x1x4096 : Shape := ⟨3, ![128, 1, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S128x1 : Shape := ⟨2, ![128, 1]⟩
abbrev S128x1x1 : Shape := ⟨3, ![128, 1, 1]⟩
abbrev S8192x4096 : Shape := ⟨2, ![8192, 4096]⟩
abbrev S128x4096 : Shape := ⟨2, ![128, 4096]⟩
abbrev S8320x4096 : Shape := ⟨2, ![8320, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x1x4096, .f32⟩
  | .hbm, ⟨2, _⟩ => ⟨S1x4096, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4096, .f32⟩
  | .hbm, ⟨21, _⟩ => ⟨S128x1x4096, .f32⟩
  | .hbm, ⟨22, _⟩ => ⟨S_, .f32⟩
  | .hbm, ⟨23, _⟩ => ⟨S128x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S_, .f32⟩
  | .hbm, ⟨29, _⟩ => ⟨S128x1x1, .f32⟩
  | .hbm, ⟨30, _⟩ => ⟨S128x1x1, .f32⟩
  | .hbm, ⟨31, _⟩ => ⟨S128x1x1, .f32⟩
  | .hbm, ⟨32, _⟩ => ⟨S128x1x4096, .f32⟩
  | .hbm, ⟨33, _⟩ => ⟨S128x1x4096, .f32⟩
  | .hbm, ⟨34, _⟩ => ⟨S1x1x4096, .f32⟩
  | .hbm, ⟨35, _⟩ => ⟨S128x1x4096, .f32⟩
  | .hbm, ⟨36, _⟩ => ⟨S128x1x4096, .f32⟩
  | .hbm, ⟨37, _⟩ => ⟨S8192x4096, .f32⟩
  | .hbm, ⟨38, _⟩ => ⟨S128x4096, .f32⟩
  | .hbm, ⟨39, _⟩ => ⟨S8320x4096, .f32⟩
  | .hbm, ⟨40, _⟩ => ⟨S8320x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Merge.lean ====
abbrev S8192x2048 : Shape := ⟨2, ![8192, 2048]⟩
abbrev S128x2048 : Shape := ⟨2, ![128, 2048]⟩
abbrev S1x2048x4096 : Shape := ⟨3, ![1, 2048, 4096]⟩
abbrev S8320x10240 : Shape := ⟨2, ![8320, 10240]⟩
abbrev S2048x4096 : Shape := ⟨2, ![2048, 4096]⟩
abbrev S8320x4096 : Shape := ⟨2, ![8320, 4096]⟩
abbrev S1664x2048 : Shape := ⟨2, ![1664, 2048]⟩
abbrev S2048x256 : Shape := ⟨2, ![2048, 256]⟩
abbrev S1664x256 : Shape := ⟨2, ![1664, 256]⟩
abbrev S1536x2048 : Shape := ⟨2, ![1536, 2048]⟩
abbrev S1536x256 : Shape := ⟨2, ![1536, 256]⟩
abbrev S128x256 : Shape := ⟨2, ![128, 256]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .bf16⟩
  | .hbm, ⟨3, _⟩ => ⟨S128x2048, .bf16⟩
  | .hbm, ⟨4, _⟩ => ⟨S1x2048x4096, .f32⟩
  | .hbm, ⟨5, _⟩ => ⟨S1x2048x4096, .f32⟩
  | .hbm, ⟨6, _⟩ => ⟨S8320x10240, .f32⟩
  | .hbm, ⟨7, _⟩ => ⟨S2048x4096, .f32⟩
  | .hbm, ⟨8, _⟩ => ⟨S2048x4096, .f32⟩
  | .hbm, ⟨9, _⟩ => ⟨S8320x4096, .bf16⟩
  | .local _ .vmem, ⟨0, _⟩ => ⟨S1664x2048, .bf16⟩
  | .local _ .vmem, ⟨1, _⟩ => ⟨S1664x2048, .bf16⟩
  | .local _ .vmem, ⟨2, _⟩ => ⟨S128x2048, .bf16⟩
  | .local _ .vmem, ⟨3, _⟩ => ⟨S1664x2048, .bf16⟩
  | .local _ .vmem, ⟨4, _⟩ => ⟨S1664x2048, .bf16⟩
  | .local _ .vmem, ⟨5, _⟩ => ⟨S128x2048, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S1664x256, .f32⟩
  | .local _ .vmem, ⟨11, _⟩ => ⟨S1664x256, .f32⟩
  | .local _ .vmem, ⟨12, _⟩ => ⟨S1664x256, .f32⟩
  | .local _ .vmem, ⟨13, _⟩ => ⟨S1664x256, .f32⟩
  | .local _ .vmem, ⟨14, _⟩ => ⟨S1664x256, .bf16⟩
  | .local _ .vmem, ⟨15, _⟩ => ⟨S1664x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v6 : BitVec 1 := Scalar.cmpi .slt arg0 c4_i32
  let v7 : BitVec 32 := Scalar.extui v6
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let c4_i32_3 : BitVec 32 := 4#32
  let v9 : BitVec 1 := Scalar.cmpi .eq arg0 c4_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1664x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1664x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1664x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1664x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8192x2048 : Shape := ⟨2, ![8192, 2048]⟩
abbrev S128x2048 : Shape := ⟨2, ![128, 2048]⟩
abbrev S1x2048x4096 : Shape := ⟨3, ![1, 2048, 4096]⟩
abbrev S8320x10240 : Shape := ⟨2, ![8320, 10240]⟩
abbrev S8320x2048 : Shape := ⟨2, ![8320, 2048]⟩
abbrev S8320x4096 : Shape := ⟨2, ![8320, 4096]⟩
abbrev S_ : Shape := ⟨0, ![]⟩
abbrev S2048x4096 : Shape := ⟨2, ![2048, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .bf16⟩
  | .hbm, ⟨3, _⟩ => ⟨S128x2048, .bf16⟩
  | .hbm, ⟨4, _⟩ => ⟨S1x2048x4096, .f32⟩
  | .hbm, ⟨5, _⟩ => ⟨S1x2048x4096, .f32⟩
  | .hbm, ⟨6, _⟩ => ⟨S8320x10240, .f32⟩
  | .hbm, ⟨7, _⟩ => ⟨S8320x2048, .bf16⟩
  | .hbm, ⟨8, _⟩ => ⟨S8320x2048, .f32⟩
  | .hbm, ⟨9, _⟩ => ⟨S8320x2048, .bf16⟩
  | .hbm, ⟨10, _⟩ => ⟨S8320x2048, .f32⟩
  | .hbm, ⟨11, _⟩ => ⟨S8320x4096, .f32⟩
  | .hbm, ⟨12, _⟩ => ⟨S8320x4096, .f32⟩
  | .hbm, ⟨13, _⟩ => ⟨S8320x4096, .f32⟩
  | .hbm, ⟨14, _⟩ => ⟨S8320x4096, .f32⟩
  | .hbm, ⟨15, _⟩ => ⟨S_, .f32⟩
  | .hbm, ⟨16, _⟩ => ⟨S8320x4096, .f32⟩
  | .hbm, ⟨17, _⟩ => ⟨S8320x4096, .f32⟩
  | .hbm, ⟨18, _⟩ => ⟨S_, .f32⟩
  | .hbm, ⟨19, _⟩ => ⟨S8320x4096, .f32⟩
  | .hbm, ⟨20, _⟩ => ⟨S8320x4096, .f32⟩
  | .hbm, ⟨21, _⟩ => ⟨S2048x4096, .f32⟩
  | .hbm, ⟨22, _⟩ => ⟨S8320x4096, .f32⟩
  | .hbm, ⟨23, _⟩ => ⟨S8320x4096, .f32⟩
  | .hbm, ⟨24, _⟩ => ⟨S8320x4096, .f32⟩
  | .hbm, ⟨25, _⟩ => ⟨S8320x4096, .f32⟩
  | .hbm, ⟨26, _⟩ => ⟨S_, .f32⟩
  | .hbm, ⟨27, _⟩ => ⟨S8320x4096, .f32⟩
  | .hbm, ⟨28, _⟩ => ⟨S8320x4096, .f32⟩
  | .hbm, ⟨29, _⟩ => ⟨S_, .f32⟩
  | .hbm, ⟨30, _⟩ => ⟨S8320x4096, .f32⟩
  | .hbm, ⟨31, _⟩ => ⟨S8320x4096, .f32⟩
  | .hbm, ⟨32, _⟩ => ⟨S2048x4096, .f32⟩
  | .hbm, ⟨33, _⟩ => ⟨S8320x4096, .f32⟩
  | .hbm, ⟨34, _⟩ => ⟨S8320x4096, .f32⟩
  | .hbm, ⟨35, _⟩ => ⟨S8320x4096, .f32⟩
  | .hbm, ⟨36, _⟩ => ⟨S8320x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== OutProj.lean ====
abbrev S8320x4096 : Shape := ⟨2, ![8320, 4096]⟩
abbrev S1x4096x4096 : Shape := ⟨3, ![1, 4096, 4096]⟩
abbrev S4x2048x4096 : Shape := ⟨3, ![4, 2048, 4096]⟩
abbrev S128x1x4096 : Shape := ⟨3, ![128, 1, 4096]⟩
abbrev S4096x4096 : Shape := ⟨2, ![4096, 4096]⟩
abbrev S8192x4096 : Shape := ⟨2, ![8192, 4096]⟩
abbrev S128x4096 : Shape := ⟨2, ![128, 4096]⟩
abbrev S1664x4096 : Shape := ⟨2, ![1664, 4096]⟩
abbrev S4096x256 : Shape := ⟨2, ![4096, 256]⟩
abbrev S1664x256 : Shape := ⟨2, ![1664, 256]⟩
abbrev S128x256 : Shape := ⟨2, ![128, 256]⟩
abbrev S1536x256 : Shape := ⟨2, ![1536, 256]⟩

abbrev nBuf : Space → Nat
  | .hbm => 8
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S4x2048x4096, .f32⟩
  | .hbm, ⟨3, _⟩ => ⟨S128x1x4096, .f32⟩
  | .hbm, ⟨4, _⟩ => ⟨S4096x4096, .f32⟩
  | .hbm, ⟨5, _⟩ => ⟨S8192x4096, .f32⟩
  | .hbm, ⟨6, _⟩ => ⟨S128x4096, .f32⟩
  | .hbm, ⟨7, _⟩ => ⟨S8320x4096, .f32⟩
  | .local _ .vmem, ⟨0, _⟩ => ⟨S1664x4096, .bf16⟩
  | .local _ .vmem, ⟨1, _⟩ => ⟨S1664x4096, .bf16⟩
  | .local _ .vmem, ⟨2, _⟩ => ⟨S4096x256, .f32⟩
  | .local _ .vmem, ⟨3, _⟩ => ⟨S4096x256, .f32⟩
  | .local _ .vmem, ⟨4, _⟩ => ⟨S1664x256, .f32⟩
  | .local _ .vmem, ⟨5, _⟩ => ⟨S1664x256, .f32⟩
  | .local _ .vmem, ⟨6, _⟩ => ⟨S128x256, .f32⟩
  | .local _ .vmem, ⟨7, _⟩ => ⟨S128x256, .f32⟩
  | .local _ .vmem, ⟨8, _⟩ => ⟨S1664x256, .f32⟩
  | .local _ .vmem, ⟨9, _⟩ => ⟨S1664x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v5 : BitVec 1 := Scalar.cmpi .slt arg0 c4_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c4_i32_3 : BitVec 32 := 4#32
  let v8 : BitVec 1 := Scalar.cmpi .eq arg0 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1664x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8320x4096 : Shape := ⟨2, ![8320, 4096]⟩
abbrev S1x4096x4096 : Shape := ⟨3, ![1, 4096, 4096]⟩
abbrev S4x2048x4096 : Shape := ⟨3, ![4, 2048, 4096]⟩
abbrev S128x1x4096 : Shape := ⟨3, ![128, 1, 4096]⟩
abbrev S8192x4096 : Shape := ⟨2, ![8192, 4096]⟩
abbrev S128x4096 : Shape := ⟨2, ![128, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S4x2048x4096, .f32⟩
  | .hbm, ⟨3, _⟩ => ⟨S128x1x4096, .f32⟩
  | .hbm, ⟨4, _⟩ => ⟨S8192x4096, .f32⟩
  | .hbm, ⟨5, _⟩ => ⟨S128x4096, .f32⟩
  | .hbm, ⟨6, _⟩ => ⟨S8320x4096, .f32⟩
  | .hbm, ⟨7, _⟩ => ⟨S8320x4096, .f32⟩
  | .hbm, ⟨8, _⟩ => ⟨S4096x4096, .f32⟩
  | .hbm, ⟨9, _⟩ => ⟨S8320x4096, .f32⟩
  | .hbm, ⟨10, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== CombineP.lean ====
abbrev S8320x4096 : Shape := ⟨2, ![8320, 4096]⟩
abbrev S16640x4096 : Shape := ⟨2, ![16640, 4096]⟩
abbrev S8320x128 : Shape := ⟨2, ![8320, 128]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256x128 : Shape := ⟨2, ![256, 128]⟩
abbrev S256x1 : Shape := ⟨2, ![256, 1]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S8320x4096, .f32⟩
  | .hbm, ⟨1, _⟩ => ⟨S16640x4096, .f32⟩
  | .hbm, ⟨2, _⟩ => ⟨S8320x128, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x128, .f32⟩
  | .local _ .vmem, ⟨7, _⟩ => ⟨S256x128, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombinePRefIdeal.lean ====
abbrev S8320x4096 : Shape := ⟨2, ![8320, 4096]⟩
abbrev S16640x4096 : Shape := ⟨2, ![16640, 4096]⟩
abbrev S8320x128 : Shape := ⟨2, ![8320, 128]⟩
abbrev S4096 : Shape := ⟨1, ![4096]⟩
abbrev S16384x4096 : Shape := ⟨2, ![16384, 4096]⟩
abbrev S2x8192x4096 : Shape := ⟨3, ![2, 8192, 4096]⟩
abbrev S8192x2 : Shape := ⟨2, ![8192, 2]⟩
abbrev S8192x4096 : Shape := ⟨2, ![8192, 4096]⟩
abbrev S1x8192x4096 : Shape := ⟨3, ![1, 8192, 4096]⟩
abbrev S8192x1 : Shape := ⟨2, ![8192, 1]⟩
abbrev S_ : Shape := ⟨0, ![]⟩
abbrev S8192 : Shape := ⟨1, ![8192]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S16640x4096, .f32⟩
  | .hbm, ⟨2, _⟩ => ⟨S8320x128, .f32⟩
  | .hbm, ⟨3, _⟩ => ⟨S4096, .f32⟩
  | .hbm, ⟨4, _⟩ => ⟨S16384x4096, .f32⟩
  | .hbm, ⟨5, _⟩ => ⟨S2x8192x4096, .f32⟩
  | .hbm, ⟨6, _⟩ => ⟨S8192x2, .f32⟩
  | .hbm, ⟨7, _⟩ => ⟨S8192x4096, .f32⟩
  | .hbm, ⟨8, _⟩ => ⟨S1x8192x4096, .f32⟩
  | .hbm, ⟨9, _⟩ => ⟨S8192x4096, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S1x8192x4096, .f32⟩
  | .hbm, ⟨14, _⟩ => ⟨S8192x4096, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== CombineS.lean ====
abbrev S8320x4096 : Shape := ⟨2, ![8320, 4096]⟩
abbrev S16640x4096 : Shape := ⟨2, ![16640, 4096]⟩
abbrev S8320x128 : Shape := ⟨2, ![8320, 128]⟩
abbrev S4096 : Shape := ⟨1, ![4096]⟩
abbrev S1x4096 : Shape := ⟨2, ![1, 4096]⟩
abbrev S128x4096 : Shape := ⟨2, ![128, 4096]⟩
abbrev S128x128 : Shape := ⟨2, ![128, 128]⟩
abbrev S128x1 : Shape := ⟨2, ![128, 1]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S8320x4096, .f32⟩
  | .hbm, ⟨1, _⟩ => ⟨S16640x4096, .f32⟩
  | .hbm, ⟨2, _⟩ => ⟨S8320x128, .f32⟩
  | .hbm, ⟨3, _⟩ => ⟨S4096, .f32⟩
  | .hbm, ⟨4, _⟩ => ⟨S1x4096, .f32⟩
  | .hbm, ⟨5, _⟩ => ⟨S128x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x128, .f32⟩
  | .local _ .vmem, ⟨4, _⟩ => ⟨S1x4096, .f32⟩
  | .local _ .vmem, ⟨5, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c129_i32 : BitVec 32 := 129#32
  let v0 : BitVec 32 := Scalar.addi c129_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== CombineSRefIdeal.lean ====
abbrev S8320x4096 : Shape := ⟨2, ![8320, 4096]⟩
abbrev S16640x4096 : Shape := ⟨2, ![16640, 4096]⟩
abbrev S8320x128 : Shape := ⟨2, ![8320, 128]⟩
abbrev S4096 : Shape := ⟨1, ![4096]⟩
abbrev S256x4096 : Shape := ⟨2, ![256, 4096]⟩
abbrev S2x128x4096 : Shape := ⟨3, ![2, 128, 4096]⟩
abbrev S128x2 : Shape := ⟨2, ![128, 2]⟩
abbrev S128x4096 : Shape := ⟨2, ![128, 4096]⟩
abbrev S1x128x4096 : Shape := ⟨3, ![1, 128, 4096]⟩
abbrev S128x1 : Shape := ⟨2, ![128, 1]⟩
abbrev S_ : Shape := ⟨0, ![]⟩
abbrev S128 : Shape := ⟨1, ![128]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S16640x4096, .f32⟩
  | .hbm, ⟨2, _⟩ => ⟨S8320x128, .f32⟩
  | .hbm, ⟨3, _⟩ => ⟨S4096, .f32⟩
  | .hbm, ⟨4, _⟩ => ⟨S256x4096, .f32⟩
  | .hbm, ⟨5, _⟩ => ⟨S2x128x4096, .f32⟩
  | .hbm, ⟨6, _⟩ => ⟨S128x2, .f32⟩
  | .hbm, ⟨7, _⟩ => ⟨S128x4096, .f32⟩
  | .hbm, ⟨8, _⟩ => ⟨S1x128x4096, .f32⟩
  | .hbm, ⟨9, _⟩ => ⟨S128x4096, .f32⟩
  | .hbm, ⟨10, _⟩ => ⟨S128x1, .f32⟩
  | .hbm, ⟨11, _⟩ => ⟨S128x4096, .f32⟩
  | .hbm, ⟨12, _⟩ => ⟨S128x4096, .f32⟩
  | .hbm, ⟨13, _⟩ => ⟨S1x128x4096, .f32⟩
  | .hbm, ⟨14, _⟩ => ⟨S128x4096, .f32⟩
  | .hbm, ⟨15, _⟩ => ⟨S128x1, .f32⟩
  | .hbm, ⟨16, _⟩ => ⟨S128x4096, .f32⟩
  | .hbm, ⟨17, _⟩ => ⟨S128x4096, .f32⟩
  | .hbm, ⟨18, _⟩ => ⟨S128x4096, .f32⟩
  | .hbm, ⟨19, _⟩ => ⟨S128x4096, .f32⟩
  | .hbm, ⟨20, _⟩ => ⟨S128x4096, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S128x1, .f32⟩
  | .hbm, ⟨31, _⟩ => ⟨S128x4096, .f32⟩
  | .hbm, ⟨32, _⟩ => ⟨S128x4096, .f32⟩
  | .hbm, ⟨33, _⟩ => ⟨S1x4096, .f32⟩
  | .hbm, ⟨34, _⟩ => ⟨S128x4096, .f32⟩
  | .hbm, ⟨35, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== PoolP.lean ====
abbrev S8320x10240 : Shape := ⟨2, ![8320, 10240]⟩
abbrev S1x4x512x512 : Shape := ⟨4, ![1, 4, 512, 512]⟩
abbrev S1x2048 : Shape := ⟨2, ![1, 2048]⟩
abbrev S4x512x512 : Shape := ⟨3, ![4, 512, 512]⟩
abbrev S2048 : Shape := ⟨1, ![2048]⟩
abbrev S8192x2048 : Shape := ⟨2, ![8192, 2048]⟩
abbrev S512x2048 : Shape := ⟨2, ![512, 2048]⟩
abbrev S16x2048 : Shape := ⟨2, ![16, 2048]⟩
abbrev S512x512 : Shape := ⟨2, ![512, 512]⟩
abbrev S16x512 : Shape := ⟨2, ![16, 512]⟩
abbrev S528x512 : Shape := ⟨2, ![528, 512]⟩
abbrev S527x512 : Shape := ⟨2, ![527, 512]⟩
abbrev S1x512x512 : Shape := ⟨3, ![1, 512, 512]⟩
abbrev S1x512 : Shape := ⟨2, ![1, 512]⟩
abbrev S525x512 : Shape := ⟨2, ![525, 512]⟩
abbrev S521x512 : Shape := ⟨2, ![521, 512]⟩
abbrev S513x512 : Shape := ⟨2, ![513, 512]⟩

abbrev nBuf : Space → Nat
  | .hbm => 7
  | .vmem => 7
  | .smem => 0
  | _ => 0

abbrev bufTy : (tb : Table) → Fin (tcTables nBuf tb) → BufTy
  | .hbm, ⟨0, _⟩ => ⟨S8320x10240, .f32⟩
  | .hbm, ⟨1, _⟩ => ⟨S1x4x512x512, .f32⟩
  | .hbm, ⟨2, _⟩ => ⟨S1x2048, .f32⟩
  | .hbm, ⟨3, _⟩ => ⟨S4x512x512, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S4x512x512, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S16x2048, .f32⟩
  | _, _ => ⟨S8320x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolPRefIdeal.lean ====
abbrev S8320x10240 : Shape := ⟨2, ![8320, 10240]⟩
abbrev S1x4x512x512 : Shape := ⟨4, ![1, 4, 512, 512]⟩
abbrev S1x2048 : Shape := ⟨2, ![1, 2048]⟩
abbrev S8192x2048 : Shape := ⟨2, ![8192, 2048]⟩
abbrev S4x2048x2048 : Shape := ⟨3, ![4, 2048, 2048]⟩
abbrev S_ : Shape := ⟨0, ![]⟩
abbrev S4x15x2048 : Shape := ⟨3, ![4, 15, 2048]⟩
abbrev S4x512x512 : Shape := ⟨3, ![4, 512, 512]⟩
abbrev S2048 : Shape := ⟨1, ![2048]⟩
abbrev S4x2063x2048 : Shape := ⟨3, ![4, 2063, 2048]⟩
abbrev S4x1x2048 : Shape := ⟨3, ![4, 1, 2048]⟩
abbrev S4x2064x2048 : Shape := ⟨3, ![4, 2064, 2048]⟩
abbrev S4x2048x512 : Shape := ⟨3, ![4, 2048, 512]⟩
abbrev S1x2048x1 : Shape := ⟨3, ![1, 2048, 1]⟩
abbrev S4x2048x4x512 : Shape := ⟨4, ![4, 2048, 4, 512]⟩
abbrev S4x512x4x2048 : Shape := ⟨4, ![4, 512, 4, 2048]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S8320x10240, .f32⟩
  | .hbm, ⟨1, _⟩ => ⟨S1x4x512x512, .f32⟩
  | .hbm, ⟨2, _⟩ => ⟨S1x2048, .f32⟩
  | .hbm, ⟨3, _⟩ => ⟨S8192x2048, .f32⟩
  | .hbm, ⟨4, _⟩ => ⟨S4x2048x2048, .f32⟩
  | .hbm, ⟨5, _⟩ => ⟨S_, .f32⟩
  | .hbm, ⟨6, _⟩ => ⟨S4x15x2048, .f32⟩
  | .hbm, ⟨7, _⟩ => ⟨S4x512x512, .f32⟩
  | .hbm, ⟨8, _⟩ => ⟨S2048, .f32⟩
  | .hbm, ⟨9, _⟩ => ⟨S4x2063x2048, .f32⟩
  | .hbm, ⟨10, _⟩ => ⟨S_, .f32⟩
  | .hbm, ⟨11, _⟩ => ⟨S4x1x2048, .f32⟩
  | .hbm, ⟨12, _⟩ => ⟨S_, .f32⟩
  | .hbm, ⟨13, _⟩ => ⟨S_, .f32⟩
  | .hbm, ⟨14, _⟩ => ⟨S4x2063x2048, .f32⟩
  | .hbm, ⟨15, _⟩ => ⟨S4x2064x2048, .f32⟩
  | .hbm, ⟨16, _⟩ => ⟨S4x2048x2048, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S4x2048x512, .f32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .f32⟩
  | .hbm, ⟨29, _⟩ => ⟨S1x2048x1, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S4x2048x512, .f32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .f32⟩
  | .hbm, ⟨42, _⟩ => ⟨S1x2048x1, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .f32⟩
  | .hbm, ⟨55, _⟩ => ⟨S1x2048x1, .f32⟩
  | .hbm, ⟨56, _⟩ => ⟨S4x2048x512, .f32⟩
  | .hbm, ⟨57, _⟩ => ⟨S4x2048x512, .f32⟩
  | .hbm, ⟨58, _⟩ => ⟨S4x2048x512, .f32⟩
  | .hbm, ⟨59, _⟩ => ⟨S4x2048x512, .f32⟩
  | .hbm, ⟨60, _⟩ => ⟨S4x2048x512, .f32⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .f32⟩
  | .hbm, ⟨68, _⟩ => ⟨S1x2048x1, .f32⟩
  | .hbm, ⟨69, _⟩ => ⟨S4x2048x512, .f32⟩
  | .hbm, ⟨70, _⟩ => ⟨S4x2048x512, .f32⟩
  | .hbm, ⟨71, _⟩ => ⟨S4x2048x512, .f32⟩
  | .hbm, ⟨72, _⟩ => ⟨S4x2048x512, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x4x512, .f32⟩
  | .hbm, ⟨77, _⟩ => ⟨S4x512x4x2048, .f32⟩
  | .hbm, ⟨78, _⟩ => ⟨S4x2048x4x512, .f32⟩
  | .hbm, ⟨79, _⟩ => ⟨S4x2048x2048, .f32⟩
  | .hbm, ⟨80, _⟩ => ⟨S1x1x2048, .f32⟩
  | .hbm, ⟨81, _⟩ => ⟨S4x2048x2048, .f32⟩
  | .hbm, ⟨82, _⟩ => ⟨S4x2048x2048, .f32⟩
  | .hbm, ⟨83, _⟩ => ⟨S4x2048x2048, .bf16⟩
  | .hbm, ⟨84, _⟩ => ⟨S8192x2048, .bf16⟩
  | _, _ => ⟨S8320x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== PoolS.lean ====
abbrev S8320x10240 : Shape := ⟨2, ![8320, 10240]⟩
abbrev S1x128x15x2048 : Shape := ⟨4, ![1, 128, 15, 2048]⟩
abbrev S1x4x512x512 : Shape := ⟨4, ![1, 4, 512, 512]⟩
abbrev S1x2048 : Shape := ⟨2, ![1, 2048]⟩
abbrev S128x15x2048 : Shape := ⟨3, ![128, 15, 2048]⟩
abbrev S15x128x2048 : Shape := ⟨3, ![15, 128, 2048]⟩
abbrev S4x512x512 : Shape := ⟨3, ![4, 512, 512]⟩
abbrev S2048 : Shape := ⟨1, ![2048]⟩
abbrev S128x2048 : Shape := ⟨2, ![128, 2048]⟩
abbrev S128x512 : Shape := ⟨2, ![128, 512]⟩
abbrev S1x128x512 : Shape := ⟨3, ![1, 128, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 10
  | .vmem => 5
  | .smem => 0
  | _ => 0

abbrev bufTy : (tb : Table) → Fin (tcTables nBuf tb) → BufTy
  | .hbm, ⟨0, _⟩ => ⟨S8320x10240, .f32⟩
  | .hbm, ⟨1, _⟩ => ⟨S1x128x15x2048, .f32⟩
  | .hbm, ⟨2, _⟩ => ⟨S1x4x512x512, .f32⟩
  | .hbm, ⟨3, _⟩ => ⟨S1x2048, .f32⟩
  | .hbm, ⟨4, _⟩ => ⟨S128x15x2048, .f32⟩
  | .hbm, ⟨5, _⟩ => ⟨S15x128x2048, .f32⟩
  | .hbm, ⟨6, _⟩ => ⟨S4x512x512, .f32⟩
  | .hbm, ⟨7, _⟩ => ⟨S2048, .f32⟩
  | .hbm, ⟨8, _⟩ => ⟨S1x2048, .f32⟩
  | .hbm, ⟨9, _⟩ => ⟨S128x2048, .bf16⟩
  | .local _ .vmem, ⟨0, _⟩ => ⟨S128x2048, .f32⟩
  | .local _ .vmem, ⟨1, _⟩ => ⟨S15x128x2048, .f32⟩
  | .local _ .vmem, ⟨2, _⟩ => ⟨S4x512x512, .f32⟩
  | .local _ .vmem, ⟨3, _⟩ => ⟨S1x2048, .f32⟩
  | .local _ .vmem, ⟨4, _⟩ => ⟨S128x2048, .bf16⟩
  | _, _ => ⟨S8320x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolSRefIdeal.lean ====
abbrev S8320x10240 : Shape := ⟨2, ![8320, 10240]⟩
abbrev S1x128x15x2048 : Shape := ⟨4, ![1, 128, 15, 2048]⟩
abbrev S1x4x512x512 : Shape := ⟨4, ![1, 4, 512, 512]⟩
abbrev S1x2048 : Shape := ⟨2, ![1, 2048]⟩
abbrev S128x2048 : Shape := ⟨2, ![128, 2048]⟩
abbrev S128x1x2048 : Shape := ⟨3, ![128, 1, 2048]⟩
abbrev S128x15x2048 : Shape := ⟨3, ![128, 15, 2048]⟩
abbrev S4x512x512 : Shape := ⟨3, ![4, 512, 512]⟩
abbrev S2048 : Shape := ⟨1, ![2048]⟩
abbrev S128x16x2048 : Shape := ⟨3, ![128, 16, 2048]⟩
abbrev S_ : Shape := ⟨0, ![]⟩
abbrev S128x17x2048 : Shape := ⟨3, ![128, 17, 2048]⟩
abbrev S1 : Shape := ⟨1, ![1]⟩
abbrev S128x1x512 : Shape := ⟨3, ![128, 1, 512]⟩
abbrev S1x1x1 : Shape := ⟨3, ![1, 1, 1]⟩
abbrev S128x1x4x512 : Shape := ⟨4, ![128, 1, 4, 512]⟩
abbrev S4x512x128x1 : Shape := ⟨4, ![4, 512, 128, 1]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S8320x10240, .f32⟩
  | .hbm, ⟨1, _⟩ => ⟨S1x128x15x2048, .f32⟩
  | .hbm, ⟨2, _⟩ => ⟨S1x4x512x512, .f32⟩
  | .hbm, ⟨3, _⟩ => ⟨S1x2048, .f32⟩
  | .hbm, ⟨4, _⟩ => ⟨S128x2048, .f32⟩
  | .hbm, ⟨5, _⟩ => ⟨S128x1x2048, .f32⟩
  | .hbm, ⟨6, _⟩ => ⟨S128x15x2048, .f32⟩
  | .hbm, ⟨7, _⟩ => ⟨S4x512x512, .f32⟩
  | .hbm, ⟨8, _⟩ => ⟨S2048, .f32⟩
  | .hbm, ⟨9, _⟩ => ⟨S128x16x2048, .f32⟩
  | .hbm, ⟨10, _⟩ => ⟨S_, .f32⟩
  | .hbm, ⟨11, _⟩ => ⟨S128x1x2048, .f32⟩
  | .hbm, ⟨12, _⟩ => ⟨S_, .f32⟩
  | .hbm, ⟨13, _⟩ => ⟨S_, .f32⟩
  | .hbm, ⟨14, _⟩ => ⟨S128x16x2048, .f32⟩
  | .hbm, ⟨15, _⟩ => ⟨S128x17x2048, .f32⟩
  | .hbm, ⟨16, _⟩ => ⟨S128x1x2048, .f32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S128x1x512, .f32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S1, .f32⟩
  | .hbm, ⟨29, _⟩ => ⟨S1x1x1, .f32⟩
  | .hbm, ⟨30, _⟩ => ⟨S128x1x512, .f32⟩
  | .hbm, ⟨31, _⟩ => ⟨S128x1x512, .f32⟩
  | .hbm, ⟨32, _⟩ => ⟨S128x1x512, .f32⟩
  | .hbm, ⟨33, _⟩ => ⟨S128x1x512, .f32⟩
  | .hbm, ⟨34, _⟩ => ⟨S128x1x512, .f32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1, .f32⟩
  | .hbm, ⟨42, _⟩ => ⟨S1x1x1, .f32⟩
  | .hbm, ⟨43, _⟩ => ⟨S128x1x512, .f32⟩
  | .hbm, ⟨44, _⟩ => ⟨S128x1x512, .f32⟩
  | .hbm, ⟨45, _⟩ => ⟨S128x1x512, .f32⟩
  | .hbm, ⟨46, _⟩ => ⟨S128x1x512, .f32⟩
  | .hbm, ⟨47, _⟩ => ⟨S128x1x512, .f32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .f32⟩
  | .hbm, ⟨55, _⟩ => ⟨S1x1x1, .f32⟩
  | .hbm, ⟨56, _⟩ => ⟨S128x1x512, .f32⟩
  | .hbm, ⟨57, _⟩ => ⟨S128x1x512, .f32⟩
  | .hbm, ⟨58, _⟩ => ⟨S128x1x512, .f32⟩
  | .hbm, ⟨59, _⟩ => ⟨S128x1x512, .f32⟩
  | .hbm, ⟨60, _⟩ => ⟨S128x1x512, .f32⟩
  | .hbm, ⟨61, _⟩ => ⟨S_, .i32⟩
  | .hbm, ⟨62, _⟩ => ⟨S1, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S1, .f32⟩
  | .hbm, ⟨68, _⟩ => ⟨S1x1x1, .f32⟩
  | .hbm, ⟨69, _⟩ => ⟨S128x1x512, .f32⟩
  | .hbm, ⟨70, _⟩ => ⟨S128x1x512, .f32⟩
  | .hbm, ⟨71, _⟩ => ⟨S128x1x512, .f32⟩
  | .hbm, ⟨72, _⟩ => ⟨S128x1x512, .f32⟩
  | .hbm, ⟨73, _⟩ => ⟨S128x1x2048, .f32⟩
  | .hbm, ⟨74, _⟩ => ⟨S128x1x2048, .f32⟩
  | .hbm, ⟨75, _⟩ => ⟨S128x1x2048, .f32⟩
  | .hbm, ⟨76, _⟩ => ⟨S128x1x4x512, .f32⟩
  | .hbm, ⟨77, _⟩ => ⟨S4x512x128x1, .f32⟩
  | .hbm, ⟨78, _⟩ => ⟨S128x1x4x512, .f32⟩
  | .hbm, ⟨79, _⟩ => ⟨S128x1x2048, .f32⟩
  | .hbm, ⟨80, _⟩ => ⟨S1x1x2048, .f32⟩
  | .hbm, ⟨81, _⟩ => ⟨S128x1x2048, .f32⟩
  | .hbm, ⟨82, _⟩ => ⟨S128x1x2048, .f32⟩
  | .hbm, ⟨83, _⟩ => ⟨S128x1x2048, .bf16⟩
  | .hbm, ⟨84, _⟩ => ⟨S128x2048, .bf16⟩
  | _, _ => ⟨S8320x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Finish.lean ====
abbrev S2048x128 : Shape := ⟨2, ![2048, 128]⟩
abbrev S128x2048 : Shape := ⟨2, ![128, 2048]⟩
abbrev S1x2048 : Shape := ⟨2, ![1, 2048]⟩
abbrev S256x128 : Shape := ⟨2, ![256, 128]⟩
abbrev S2048 : Shape := ⟨1, ![2048]⟩
abbrev S128x128 : Shape := ⟨2, ![128, 128]⟩
abbrev S2048x256 : Shape := ⟨2, ![2048, 256]⟩

abbrev nBuf : Space → Nat
  | .hbm => 11
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S128x2048, .f32⟩
  | .hbm, ⟨3, _⟩ => ⟨S1x2048, .f32⟩
  | .hbm, ⟨4, _⟩ => ⟨S1x2048, .f32⟩
  | .hbm, ⟨5, _⟩ => ⟨S256x128, .bf16⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S128x2048, .bf16⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S256x128, .bf16⟩
  | .local _ .vmem, ⟨6, _⟩ => ⟨S128x2048, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinishRefIdeal.lean ====
abbrev S2048x128 : Shape := ⟨2, ![2048, 128]⟩
abbrev S128x2048 : Shape := ⟨2, ![128, 2048]⟩
abbrev S1x2048 : Shape := ⟨2, ![1, 2048]⟩
abbrev S128x32x64 : Shape := ⟨3, ![128, 32, 64]⟩
abbrev S_ : Shape := ⟨0, ![]⟩
abbrev S128x32 : Shape := ⟨2, ![128, 32]⟩
abbrev S128x32x1 : Shape := ⟨3, ![128, 32, 1]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S128x2048, .f32⟩
  | .hbm, ⟨3, _⟩ => ⟨S1x2048, .f32⟩
  | .hbm, ⟨4, _⟩ => ⟨S1x2048, .f32⟩
  | .hbm, ⟨5, _⟩ => ⟨S128x2048, .f32⟩
  | .hbm, ⟨6, _⟩ => ⟨S128x32x64, .f32⟩
  | .hbm, ⟨7, _⟩ => ⟨S_, .f32⟩
  | .hbm, ⟨8, _⟩ => ⟨S128x32, .f32⟩
  | .hbm, ⟨9, _⟩ => ⟨S128x32x1, .f32⟩
  | .hbm, ⟨10, _⟩ => ⟨S_, .f32⟩
  | .hbm, ⟨11, _⟩ => ⟨S128x32x1, .f32⟩
  | .hbm, ⟨12, _⟩ => ⟨S128x32x1, .f32⟩
  | .hbm, ⟨13, _⟩ => ⟨S128x32x64, .f32⟩
  | .hbm, ⟨14, _⟩ => ⟨S128x32x64, .f32⟩
  | .hbm, ⟨15, _⟩ => ⟨S128x32x64, .f32⟩
  | .hbm, ⟨16, _⟩ => ⟨S_, .f32⟩
  | .hbm, ⟨17, _⟩ => ⟨S128x32, .f32⟩
  | .hbm, ⟨18, _⟩ => ⟨S128x32x1, .f32⟩
  | .hbm, ⟨19, _⟩ => ⟨S_, .f32⟩
  | .hbm, ⟨20, _⟩ => ⟨S128x32x1, .f32⟩
  | .hbm, ⟨21, _⟩ => ⟨S128x32x1, .f32⟩
  | .hbm, ⟨22, _⟩ => ⟨S128x32x64, .f32⟩
  | .hbm, ⟨23, _⟩ => ⟨S128x32x64, .f32⟩
  | .hbm, ⟨24, _⟩ => ⟨S_, .f32⟩
  | .hbm, ⟨25, _⟩ => ⟨S128x32x1, .f32⟩
  | .hbm, ⟨26, _⟩ => ⟨S128x32x1, .f32⟩
  | .hbm, ⟨27, _⟩ => ⟨S128x32x1, .f32⟩
  | .hbm, ⟨28, _⟩ => ⟨S128x32x64, .f32⟩
  | .hbm, ⟨29, _⟩ => ⟨S128x32x64, .f32⟩
  | .hbm, ⟨30, _⟩ => ⟨S128x2048, .f32⟩
  | .hbm, ⟨31, _⟩ => ⟨S2048, .f32⟩
  | .hbm, ⟨32, _⟩ => ⟨S1x2048, .f32⟩
  | .hbm, ⟨33, _⟩ => ⟨S128x2048, .f32⟩
  | .hbm, ⟨34, _⟩ => ⟨S128x2048, .f32⟩
  | .hbm, ⟨35, _⟩ => ⟨S2048, .f32⟩
  | .hbm, ⟨36, _⟩ => ⟨S1x2048, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S128x2048, .bf16⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Prep.lean ====
abbrev S8320x6656 : Shape := ⟨2, ![8320, 6656]⟩
abbrev S1x128x6592 : Shape := ⟨3, ![1, 128, 6592]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S1x32x64 : Shape := ⟨3, ![1, 32, 64]⟩
abbrev S256x128 : Shape := ⟨2, ![256, 128]⟩
abbrev S6592 : Shape := ⟨1, ![6592]⟩
abbrev S1x448 : Shape := ⟨2, ![1, 448]⟩
abbrev S_ : Shape := ⟨0, ![]⟩
abbrev S1x512 : Shape := ⟨2, ![1, 512]⟩
abbrev S128x6592 : Shape := ⟨2, ![128, 6592]⟩
abbrev S128x2048 : Shape := ⟨2, ![128, 2048]⟩
abbrev S128x448 : Shape := ⟨2, ![128, 448]⟩
abbrev S128x512 : Shape := ⟨2, ![128, 512]⟩
abbrev S96x2048 : Shape := ⟨2, ![96, 2048]⟩
abbrev S512x2048 : Shape := ⟨2, ![512, 2048]⟩
abbrev S1 : Shape := ⟨1, ![1]⟩
abbrev S256x2048 : Shape := ⟨2, ![256, 2048]⟩
abbrev S2048 : Shape := ⟨1, ![2048]⟩
abbrev S32x64 : Shape := ⟨2, ![32, 64]⟩
abbrev S2048x128 : Shape := ⟨2, ![2048, 128]⟩
abbrev S128x128 : Shape := ⟨2, ![128, 128]⟩
abbrev S128x256 : Shape := ⟨2, ![128, 256]⟩
abbrev S128x384 : Shape := ⟨2, ![128, 384]⟩
abbrev S384x2048 : Shape := ⟨2, ![384, 2048]⟩
abbrev S2048x256 : Shape := ⟨2, ![2048, 256]⟩

abbrev nBuf : Space → Nat
  | .hbm => 68
  | .vmem => 29
  | .smem => 0
  | _ => 0

abbrev bufTy : (tb : Table) → Fin (tcTables nBuf tb) → BufTy
  | .hbm, ⟨0, _⟩ => ⟨S8320x6656, .f32⟩
  | .hbm, ⟨1, _⟩ => ⟨S1x128x6592, .f32⟩
  | .hbm, ⟨2, _⟩ => ⟨S1x6592, .f32⟩
  | .hbm, ⟨3, _⟩ => ⟨S1x2048, .f32⟩
  | .hbm, ⟨4, _⟩ => ⟨S1x96x2048, .f32⟩
  | .hbm, ⟨5, _⟩ => ⟨S1x2048, .f32⟩
  | .hbm, ⟨6, _⟩ => ⟨S1x96x2048, .f32⟩
  | .hbm, ⟨7, _⟩ => ⟨S1x256x2048, .f32⟩
  | .hbm, ⟨8, _⟩ => ⟨S1x2048, .f32⟩
  | .hbm, ⟨9, _⟩ => ⟨S1x2048, .f32⟩
  | .hbm, ⟨10, _⟩ => ⟨S1x32x64, .f32⟩
  | .hbm, ⟨11, _⟩ => ⟨S256x128, .bf16⟩
  | .hbm, ⟨12, _⟩ => ⟨S6592, .f32⟩
  | .hbm, ⟨13, _⟩ => ⟨S1x6592, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x448, .f32⟩
  | .hbm, ⟨18, _⟩ => ⟨S_, .i32⟩
  | .hbm, ⟨19, _⟩ => ⟨S_, .f32⟩
  | .hbm, ⟨20, _⟩ => ⟨S1x512, .f32⟩
  | .hbm, ⟨21, _⟩ => ⟨S128x6592, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S128x448, .f32⟩
  | .hbm, ⟨26, _⟩ => ⟨S_, .i32⟩
  | .hbm, ⟨27, _⟩ => ⟨S_, .f32⟩
  | .hbm, ⟨28, _⟩ => ⟨S128x512, .f32⟩
  | .hbm, ⟨29, _⟩ => ⟨S96x2048, .f32⟩
  | .hbm, ⟨30, _⟩ => ⟨S_, .f32⟩
  | .hbm, ⟨31, _⟩ => ⟨S512x2048, .f32⟩
  | .hbm, ⟨32, _⟩ => ⟨S_, .i32⟩
  | .hbm, ⟨33, _⟩ => ⟨S1, .i32⟩
  | .hbm, ⟨34, _⟩ => ⟨S512x2048, .f32⟩
  | .hbm, ⟨35, _⟩ => ⟨S512x2048, .bf16⟩
  | .hbm, ⟨36, _⟩ => ⟨S96x2048, .f32⟩
  | .hbm, ⟨37, _⟩ => ⟨S_, .f32⟩
  | .hbm, ⟨38, _⟩ => ⟨S512x2048, .f32⟩
  | .hbm, ⟨39, _⟩ => ⟨S_, .i32⟩
  | .hbm, ⟨40, _⟩ => ⟨S1, .i32⟩
  | .hbm, ⟨41, _⟩ => ⟨S512x2048, .f32⟩
  | .hbm, ⟨42, _⟩ => ⟨S512x2048, .bf16⟩
  | .hbm, ⟨43, _⟩ => ⟨S256x2048, .f32⟩
  | .hbm, ⟨44, _⟩ => ⟨S_, .f32⟩
  | .hbm, ⟨45, _⟩ => ⟨S512x2048, .f32⟩
  | .hbm, ⟨46, _⟩ => ⟨S_, .i32⟩
  | .hbm, ⟨47, _⟩ => ⟨S1, .i32⟩
  | .hbm, ⟨48, _⟩ => ⟨S512x2048, .f32⟩
  | .hbm, ⟨49, _⟩ => ⟨S512x2048, .bf16⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S1x2048, .f32⟩
  | .hbm, ⟨54, _⟩ => ⟨S2048, .f32⟩
  | .hbm, ⟨55, _⟩ => ⟨S1x2048, .f32⟩
  | .hbm, ⟨56, _⟩ => ⟨S2048, .f32⟩
  | .hbm, ⟨57, _⟩ => ⟨S1x2048, .f32⟩
  | .hbm, ⟨58, _⟩ => ⟨S32x64, .f32⟩
  | .hbm, ⟨59, _⟩ => ⟨S1x2048, .f32⟩
  | .hbm, ⟨60, _⟩ => ⟨S2048x128, .f32⟩
  | .hbm, ⟨61, _⟩ => ⟨S2048x128, .f32⟩
  | .hbm, ⟨62, _⟩ => ⟨S2048x128, .f32⟩
  | .hbm, ⟨63, _⟩ => ⟨S2048x128, .f32⟩
  | .hbm, ⟨64, _⟩ => ⟨S2048x128, .f32⟩
  | .hbm, ⟨65, _⟩ => ⟨S2048x128, .f32⟩
  | .hbm, ⟨66, _⟩ => ⟨S128x2048, .f32⟩
  | .hbm, ⟨67, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x512, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x512, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x512, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S256x128, .bf16⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S128x2048, .f32⟩
  | .local _ .vmem, ⟨28, _⟩ => ⟨S128x2048, .f32⟩
  | _, _ => ⟨S8320x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev main_v38_3 : Ref sig .tc := ⟨.hbm, 63, rfl⟩
abbrev main_v38_4 : Ref sig .tc := ⟨.hbm, 64, rfl⟩
abbrev main_v38_5 : Ref sig .tc := ⟨.hbm, 65, rfl⟩
abbrev main_v38_6 : Ref sig .tc := ⟨.hbm, 66, rfl⟩
abbrev main_v38_7 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_1 (i : grid0.Coords) : Fin 2 → Nat :=
  let arg0 : BitVec 32 := BitVec.ofNat 32 (i 0).val
  let c64_i32 : BitVec 32 := 64#32
  let c1_i32 : BitVec 32 := 1#32
  let c0_i32 : BitVec 32 := 0#32
  ![c64_i32.toNat, c1_i32.toNat]

def cc0_transform_2 (i : grid0.Coords) : Fin 2 → Nat :=
  let arg0 : BitVec 32 := BitVec.ofNat 32 (i 0).val
  let c64_i32 : BitVec 32 := 64#32
  let c2_i32 : BitVec 32 := 2#32
  let c0_i32 : BitVec 32 := 0#32
  ![c64_i32.toNat, c2_i32.toNat]

def cc0_transform_3 (i : grid0.Coords) : Fin 2 → Nat :=
  let arg0 : BitVec 32 := BitVec.ofNat 32 (i 0).val
  let c64_i32 : BitVec 32 := 64#32
  let c12_i32 : BitVec 32 := 12#32
  let c0_i32 : BitVec 32 := 0#32
  ![c64_i32.toNat, c12_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2048x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2048x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2048x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2048x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2048x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== PrepRefIdeal.lean ====
abbrev S8320x6656 : Shape := ⟨2, ![8320, 6656]⟩
abbrev S1x128x6592 : Shape := ⟨3, ![1, 128, 6592]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S1x32x64 : Shape := ⟨3, ![1, 32, 64]⟩
abbrev S128x6592 : Shape := ⟨2, ![128, 6592]⟩
abbrev S6592 : Shape := ⟨1, ![6592]⟩
abbrev S128x2048 : Shape := ⟨2, ![128, 2048]⟩
abbrev S128x96 : Shape := ⟨2, ![128, 96]⟩
abbrev S128x256 : Shape := ⟨2, ![128, 256]⟩
abbrev S2048 : Shape := ⟨1, ![2048]⟩
abbrev S96x2048 : Shape := ⟨2, ![96, 2048]⟩
abbrev S_ : Shape := ⟨0, ![]⟩
abbrev S256x2048 : Shape := ⟨2, ![256, 2048]⟩
abbrev S2048x128 : Shape := ⟨2, ![2048, 128]⟩

abbrev nBuf : Space → Nat
  | .hbm => 63
  | .vmem => 0
  | .smem => 0
  | _ => 0

abbrev bufTy : (tb : Table) → Fin (tcTables nBuf tb) → BufTy
  | .hbm, ⟨0, _⟩ => ⟨S8320x6656, .f32⟩
  | .hbm, ⟨1, _⟩ => ⟨S1x128x6592, .f32⟩
  | .hbm, ⟨2, _⟩ => ⟨S1x6592, .f32⟩
  | .hbm, ⟨3, _⟩ => ⟨S1x2048, .f32⟩
  | .hbm, ⟨4, _⟩ => ⟨S1x96x2048, .f32⟩
  | .hbm, ⟨5, _⟩ => ⟨S1x2048, .f32⟩
  | .hbm, ⟨6, _⟩ => ⟨S1x96x2048, .f32⟩
  | .hbm, ⟨7, _⟩ => ⟨S1x256x2048, .f32⟩
  | .hbm, ⟨8, _⟩ => ⟨S1x2048, .f32⟩
  | .hbm, ⟨9, _⟩ => ⟨S1x2048, .f32⟩
  | .hbm, ⟨10, _⟩ => ⟨S1x32x64, .f32⟩
  | .hbm, ⟨11, _⟩ => ⟨S128x6592, .f32⟩
  | .hbm, ⟨12, _⟩ => ⟨S128x6592, .f32⟩
  | .hbm, ⟨13, _⟩ => ⟨S128x6592, .f32⟩
  | .hbm, ⟨14, _⟩ => ⟨S6592, .f32⟩
  | .hbm, ⟨15, _⟩ => ⟨S1x6592, .f32⟩
  | .hbm, ⟨16, _⟩ => ⟨S128x6592, .f32⟩
  | .hbm, ⟨17, _⟩ => ⟨S128x6592, .f32⟩
  | .hbm, ⟨18, _⟩ => ⟨S128x6592, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S128x96, .f32⟩
  | .hbm, ⟨23, _⟩ => ⟨S128x96, .f32⟩
  | .hbm, ⟨24, _⟩ => ⟨S128x256, .f32⟩
  | .hbm, ⟨25, _⟩ => ⟨S2048, .f32⟩
  | .hbm, ⟨26, _⟩ => ⟨S96x2048, .f32⟩
  | .hbm, ⟨27, _⟩ => ⟨S128x2048, .f32⟩
  | .hbm, ⟨28, _⟩ => ⟨S1x2048, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S128x2048, .f32⟩
  | .hbm, ⟨33, _⟩ => ⟨S_, .f32⟩
  | .hbm, ⟨34, _⟩ => ⟨S128x2048, .f32⟩
  | .hbm, ⟨35, _⟩ => ⟨S128x2048, .f32⟩
  | .hbm, ⟨36, _⟩ => ⟨S_, .f32⟩
  | .hbm, ⟨37, _⟩ => ⟨S128x2048, .f32⟩
  | .hbm, ⟨38, _⟩ => ⟨S128x2048, .f32⟩
  | .hbm, ⟨39, _⟩ => ⟨S128x256, .f32⟩
  | .hbm, ⟨40, _⟩ => ⟨S128x256, .f32⟩
  | .hbm, ⟨41, _⟩ => ⟨S_, .f32⟩
  | .hbm, ⟨42, _⟩ => ⟨S128x256, .f32⟩
  | .hbm, ⟨43, _⟩ => ⟨S128x256, .f32⟩
  | .hbm, ⟨44, _⟩ => ⟨S_, .f32⟩
  | .hbm, ⟨45, _⟩ => ⟨S128x256, .f32⟩
  | .hbm, ⟨46, _⟩ => ⟨S128x256, .f32⟩
  | .hbm, ⟨47, _⟩ => ⟨S256x2048, .f32⟩
  | .hbm, ⟨48, _⟩ => ⟨S128x2048, .f32⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S2048, .f32⟩
  | .hbm, ⟨53, _⟩ => ⟨S1x2048, .f32⟩
  | .hbm, ⟨54, _⟩ => ⟨S128x2048, .f32⟩
  | .hbm, ⟨55, _⟩ => ⟨S128x2048, .f32⟩
  | .hbm, ⟨56, _⟩ => ⟨S_, .f32⟩
  | .hbm, ⟨57, _⟩ => ⟨S128x2048, .f32⟩
  | .hbm, ⟨58, _⟩ => ⟨S128x2048, .f32⟩
  | .hbm, ⟨59, _⟩ => ⟨S128x2048, .f32⟩
  | .hbm, ⟨60, _⟩ => ⟨S2048x128, .f32⟩
  | .hbm, ⟨61, _⟩ => ⟨S2048x128, .f32⟩
  | .hbm, ⟨62, _⟩ => ⟨S2048x128, .f32⟩
  | _, _ => ⟨S8320x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.StepValue.lean ====
/- What `wkv_sample_step` computes: for every head and every sequence of the batch, one step of the recurrence on the
   head's state and the state's product with the receptance. -/
module

public import proofs.«01_k».proof.Proof.Gen.StepIdeal.Frame
public import proofs.«01_k».proof.Proof.Gen.StepRefIdeal.Read
public import Idealize.ShloMosaic.Lib.Pipeline.ValueKit
public import Idealize.ShloMosaic.Lib.Pointwise
public import Idealize.ShloMosaic.Lib.Claim
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.StepIdeal.Own

open Cert.StepIdeal Cert.StepIdeal.Gen

variable (m : (ℓ : Loc nD τ sig) → Buf (Elt Ideal) ℓ)

/-- The offsets of trip `k`'s accesses: the state's plane of value row `k`, and row `k` of a vector. -/
theorem off : ∀ k : Fin k0_t1_loop.trips, k.val < 64 ∧ k0_off1 k = ![0, k.val, 0, 0] ∧ k0_off2 k = ![k.val, 0] :=
  (by decide +kernel)

/-- One head's new state, from one head's old state `s`, decay `w`, removal key `z`, replacement key `q`, key `k` and
    value `v`: `s·w + (s z) q + v k`. -/
def stateOf (s : FVec Ideal S1x64x64x128 .f32) (w z q k v : FVec Ideal S64x128 .f32) (i j : Fin 64) (b : Fin 128) : EReal :=
  s (ix4 0 i j b) * w (ix2 j b) + (∑ l : Fin 64, s (ix4 0 i l b) * z (ix2 l b)) * q (ix2 j b) + v (ix2 i b) * k (ix2 j b)

/-- One head's output: the new state read at the receptance `r`. -/
def outOf (s : FVec Ideal S1x64x64x128 .f32) (w z q k r v : FVec Ideal S64x128 .f32) (i : Fin 64) (b : Fin 128) : EReal :=
  ∑ j : Fin 64, stateOf s w z q k v i j b * r (ix2 j b)

/-- An element of the state's plane that trip `n` reads and writes. -/
theorem plane (n : Fin k0_t1_loop.trips) (x0 x1 : Fin 1) (x2 : Fin 64) (x3 : Fin 128) :
    (Rect.unit (s := S1x64x64x128) (k0_off1 n) S1x1x64x128.size (k0_off1_inb n)).emb (ix4 x0 x1 x2 x3) = ix4 0 ⟨n.val, (off n).1⟩ x2 x3 := by
  funext a
  refine Fin.ext ?_
  refine (congrArg (fun f : Fin 4 → ℕ => f a + 1 * (ix4 x0 x1 x2 x3 a).val) (off n).2.1).trans ?_
  match a with
  | ⟨0, _⟩ => show 0 + 1 * x0.val = 0; omega
  | ⟨1, _⟩ => show n.val + 1 * x1.val = n.val; omega
  | ⟨2, _⟩ => show 0 + 1 * x2.val = x2.val; omega
  | ⟨3, _⟩ => show 0 + 1 * x3.val = x3.val; omega

/-- An element of the row that trip `n` reads and writes. -/
theorem row (n : Fin k0_t1_loop.trips) (x0 : Fin 1) (x1 : Fin 128) :
    (Rect.unit (s := S64x128) (k0_off2 n) S1x128.size (k0_off2_inb n)).emb (ix2 x0 x1) = ix2 ⟨n.val, (off n).1⟩ x1 := by
  funext a
  refine Fin.ext ?_
  refine (congrArg (fun f : Fin 2 → ℕ => f a + 1 * (ix2 x0 x1 a).val) (off n).2.2).trans ?_
  match a with
  | ⟨0, _⟩ => show n.val + 1 * x0.val = n.val; omega
  | ⟨1, _⟩ => show 0 + 1 * x1.val = x1.val; omega

/-- A load of a whole vector reads the vector. -/
theorem whole (M : Memref sig .tc .vmem S64x128 .f32) (h : M.IsWhole) (X : FVec Ideal S64x128 .f32) :
    View.readAt (Elt Ideal) M.view (Rect.unit (s := S64x128) ![0, 0] S64x128.size inb_S64x128_S64x128_0_0).toLoadRect (h.unread X) = X := by
  funext x
  refine (h.readAt_unread (Val := Elt Ideal) X _ x).trans (congrArg (show S64x128.Idx → EReal from X) ?_)
  funext a
  refine Fin.ext ?_
  match a with
  | ⟨0, _⟩ => show 0 + 1 * (x 0).val = (x 0).val; omega
  | ⟨1, _⟩ => show 0 + 1 * (x 1).val = (x 1).val; omega

/-- Trip `n`'s load of the state. -/
theorem readPlane (M : Memref sig .tc .vmem S1x64x64x128 .f32) (h : M.IsWhole) (X : FVec Ideal S1x64x64x128 .f32) (n : Fin k0_t1_loop.trips) :
    View.readAt (Elt Ideal) M.view (Rect.unit (s := S1x64x64x128) (k0_off1 n) S1x1x64x128.size (k0_off1_inb n)).toLoadRect (h.unread X)
      = fun x => X (ix4 0 ⟨n.val, (off n).1⟩ (x 2) (x 3)) := by
  funext x
  refine (h.readAt_unread (Val := Elt Ideal) X _ x).trans (congrArg (show S1x64x64x128.Idx → EReal from X) ?_)
  have e := plane n (x 0) (x 1) (x 2) (x 3)
  rw [← eq_ix4 x] at e
  exact e

/-- Trip `n`'s load of the value row. -/
theorem readRow (M : Memref sig .tc .vmem S64x128 .f32) (h : M.IsWhole) (X : FVec Ideal S64x128 .f32) (n : Fin k0_t1_loop.trips) :
    View.readAt (Elt Ideal) M.view (Rect.unit (s := S64x128) (k0_off2 n) S1x128.size (k0_off2_inb n)).toLoadRect (h.unread X)
      = fun x => X (ix2 ⟨n.val, (off n).1⟩ (x 1)) := by
  funext x
  refine (h.readAt_unread (Val := Elt Ideal) X _ x).trans (congrArg (show S64x128.Idx → EReal from X) ?_)
  have e := row n (x 0) (x 1)
  rw [← eq_ix2 x] at e
  exact e

/-- The new state as a block. -/
def stateFn (s : FVec Ideal S1x64x64x128 .f32) (w z q k v : FVec Ideal S64x128 .f32) : FVec Ideal S1x64x64x128 .f32 :=
  fun y => stateOf s w z q k v (y 1) (y 2) (y 3)

/-- The output as a block. -/
def outFn (s : FVec Ideal S1x64x64x128 .f32) (w z q k r v : FVec Ideal S64x128 .f32) : FVec Ideal S64x128 .f32 :=
  fun y => outOf s w z q k r v (y 0) (y 1)

section Trips

variable (c : Dev nD) (i : grid0.Coords) (a1 : Memref sig .tc .vmem S1x64x64x128 .f32) (h1 : a1.IsWhole) (a2 : Memref sig .tc .vmem S64x128 .f32) (h2 : a2.IsWhole)
  (a3 : Memref sig .tc .vmem S64x128 .f32) (h3 : a3.IsWhole) (a4 : Memref sig .tc .vmem S64x128 .f32) (h4 : a4.IsWhole) (a5 : Memref sig .tc .vmem S64x128 .f32) (h5 : a5.IsWhole)
  (a6 : Memref sig .tc .vmem S64x128 .f32) (h6 : a6.IsWhole) (a7 : Memref sig .tc .vmem S64x128 .f32) (h7 : a7.IsWhole) (a8 : Memref sig .tc .vmem S1x64x64x128 .f32) (h8 : a8.IsWhole)
  (a9 : Memref sig .tc .vmem S64x128 .f32) (h9 : a9.IsWhole)
  (s : FVec Ideal S1x64x64x128 .f32) (w z q k r v : FVec Ideal S64x128 .f32)

/-- The pieces the trips before `n` write. -/
abbrev pieces (n : ℕ) := pb_k0_t1 (F := Ideal) Variants.none c none i a1 h1 a2 h2 a3 h3 a4 h4 a5 h5 a6 h6 a7 h7 a8 h8 a9 h9
  (h1.unread s) (h2.unread w) (h3.unread z) (h4.unread q) (h5.unread k) (h6.unread r) (h7.unread v) n

/-- The pieces trip `n` writes. -/
abbrev piece (n : Fin k0_t1_loop.trips) := tripL_k0_t1 (F := Ideal) Variants.none c none i a1 h1 a2 h2 a3 h3 a4 h4 a5 h5 a6 h6 a7 h7 a8 h8 a9 h9
  (h1.unread s) (h2.unread w) (h3.unread z) (h4.unread q) (h5.unread k) (h6.unread r) (h7.unread v) n

/-- What trip `n` stores into the state: the new state there. -/
theorem piece_state (n : Fin k0_t1_loop.trips) (p) (hp : p ∈ (piece c i a1 h1 a2 h2 a3 h3 a4 h4 a5 h5 a6 h6 a7 h7 a8 h8 a9 h9 s w z q k r v n).1) (x : p.1.shape.Idx) :
    p.2 x = stateFn s w z q k v (p.1.emb x) := by
  unfold piece tripL_k0_t1 trip_k0_t1 at hp
  dsimp only at hp
  obtain rfl := List.mem_singleton.mp hp
  clear hp
  change S1x1x64x128.Idx at x
  idx_vars x
  refine Eq.trans ?_ (congrArg (stateFn s w z q k v) (plane n x0 x1 x2 x3)).symm
  erw [whole, whole, whole, whole, readPlane, readRow]
  unfold stateFn stateOf
  pointwise [k0_pay2, k0_pay1]

/-- What trip `n` stores into the output: the output's row there. -/
theorem piece_out (n : Fin k0_t1_loop.trips) (p) (hp : p ∈ (piece c i a1 h1 a2 h2 a3 h3 a4 h4 a5 h5 a6 h6 a7 h7 a8 h8 a9 h9 s w z q k r v n).2) (x : p.1.shape.Idx) :
    p.2 x = outFn s w z q k r v (p.1.emb x) := by
  unfold piece tripL_k0_t1 trip_k0_t1 at hp
  dsimp only at hp
  obtain rfl := List.mem_singleton.mp hp
  clear hp
  change S1x128.Idx at x
  idx_vars x
  refine Eq.trans ?_ (congrArg (outFn s w z q k r v) (row n x0 x1)).symm
  erw [whole, whole, whole, whole, whole, readPlane, readRow]
  unfold outFn outOf stateOf
  pointwise [k0_pay3, k0_pay1]

/-- So every piece the trips before `n` write holds the new state, or the output, where it stands. -/
theorem pieces_spec : ∀ n : ℕ, n ≤ k0_t1_loop.trips →
    (∀ p ∈ (pieces c i a1 h1 a2 h2 a3 h3 a4 h4 a5 h5 a6 h6 a7 h7 a8 h8 a9 h9 s w z q k r v n).1, ∀ x : p.1.shape.Idx,
      p.2 x = stateFn s w z q k v (p.1.emb x))
    ∧ (∀ p ∈ (pieces c i a1 h1 a2 h2 a3 h3 a4 h4 a5 h5 a6 h6 a7 h7 a8 h8 a9 h9 s w z q k r v n).2, ∀ x : p.1.shape.Idx,
      p.2 x = outFn s w z q k r v (p.1.emb x))
  | 0, _ => ⟨fun p hp => absurd hp (by unfold pieces; rw [pb_k0_t1.eq_1]; exact List.not_mem_nil),
      fun p hp => absurd hp (by unfold pieces; rw [pb_k0_t1.eq_1]; exact List.not_mem_nil)⟩
  | n + 1, hn => by
    obtain ⟨e1, e2⟩ := pieces_spec n (Nat.le_of_succ_le hn)
    unfold pieces
    rw [show n + 1 = (⟨n, hn⟩ : Fin k0_t1_loop.trips).val + 1 from rfl, pb_k0_t1_succ]
    constructor
    · intro p hp
      rcases List.mem_append.mp hp with h | h
      · exact piece_state c i a1 h1 a2 h2 a3 h3 a4 h4 a5 h5 a6 h6 a7 h7 a8 h8 a9 h9 s w z q k r v ⟨n, hn⟩ p h
      · exact e1 p h
    · intro p hp
      rcases List.mem_append.mp hp with h | h
      · exact piece_out c i a1 h1 a2 h2 a3 h3 a4 h4 a5 h5 a6 h6 a7 h7 a8 h8 a9 h9 s w z q k r v ⟨n, hn⟩ p h
      · exact e2 p h

/-- What a grid point leaves in the state's staging buffer. -/
theorem out_state (y : S1x64x64x128.Idx) : out0_A_7 (F := Ideal) c i a1 h1 a2 h2 a3 h3 a4 h4 a5 h5 a6 h6 a7 h7 a8 h8 a9 h9 s w z q k r v y
    = stateFn s w z q k v y := by
  unfold out0_A_7
  exact View.read_writes_apply_of_pieces _ _ (stateFn s w z q k v) _
    (pieces_spec c i a1 h1 a2 h2 a3 h3 a4 h4 a5 h5 a6 h6 a7 h7 a8 h8 a9 h9 s w z q k r v _ le_rfl).1 y (cover0_A_7 (F := Ideal) c i a1 h1 a2 h2 a3 h3 a4 h4 a5 h5 a6 h6 a7 h7 a8 h8 a9 h9 s w z q k r v y)

/-- What a grid point leaves in the output's staging buffer. -/
theorem out_out (y : S64x128.Idx) : out0_A_8 (F := Ideal) c i a1 h1 a2 h2 a3 h3 a4 h4 a5 h5 a6 h6 a7 h7 a8 h8 a9 h9 s w z q k r v y
    = outFn s w z q k r v y := by
  unfold out0_A_8
  exact View.read_writes_apply_of_pieces _ _ (outFn s w z q k r v) _
    (pieces_spec c i a1 h1 a2 h2 a3 h3 a4 h4 a5 h5 a6 h6 a7 h7 a8 h8 a9 h9 s w z q k r v _ le_rfl).2 y (cover0_A_8 (F := Ideal) c i a1 h1 a2 h2 a3 h3 a4 h4 a5 h5 a6 h6 a7 h7 a8 h8 a9 h9 s w z q k r v y)

end Trips

theorem idx : ∀ t : Fin cfg0.N, win0_0.index t = ![t.val, 0, 0, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0, 0, 0] ∧ win0_8.index t = ![t.val, 0] ∧ t.val < 32 :=
  (by decide +kernel : ∀ t : Fin grid0.N, _)

section Blocks

variable (c : Dev nD) (t : Fin cfg0.N)

/-- The grid point as a head. -/
abbrev hd : Fin 32 := ⟨t.val, (idx t).2.2.2.2.2.2.2.2.2⟩

/-- An element of the head's rows in a flattened vector. -/
theorem emb2 (j : Fin 64) (b : Fin 128) : (win0_2.blk t).view.emb (ix2 j b)
    = (ix2 ⟨(hd t).val * 64 + j.val, by omega⟩ b : S2048x128.Idx) := by
  blk_ext [idx t]

theorem emb3 (j : Fin 64) (b : Fin 128) : (win0_3.blk t).view.emb (ix2 j b)
    = (ix2 ⟨(hd t).val * 64 + j.val, by omega⟩ b : S2048x128.Idx) := by
  blk_ext [idx t]

/-- A vector flattened over heads and channels and transposed, read at a head's channel. -/
theorem flat (X : FVec Ideal S128x1x32x64 .f32) (h : Fin 32) (j : Fin 64) (b : Fin 128) :
    transpose S2048x128 [1, 0] (shapeCast S128x2048 X (by decide)) transposes_S128x2048_S2048x128_1_0 (ix2 ⟨h.val * 64 + j.val, by omega⟩ b)
      = X (ix4 b 0 h j) := by
  pointwise []

theorem V6 : V m c main_v6 = transpose S2048x128 [1, 0] (shapeCast S128x2048 (negf (show FVec Ideal S128x1x32x64 .f32 from m ((c : Thread nD τ).loc main_arg5))) (by decide)) transposes_S128x2048_S2048x128_1_0 := by
  unfold V V0; rw [List.flatten_cons, List.flatten_nil, List.append_nil]; after_results <;> rfl

theorem V9 : V m c main_v9 = transpose S2048x128 [1, 0] (shapeCast S128x2048 (mulf (show FVec Ideal S128x1x32x64 .f32 from m ((c : Thread nD τ).loc main_arg5)) (show FVec Ideal S128x1x32x64 .f32 from m ((c : Thread nD τ).loc main_arg6))) (by decide)) transposes_S128x2048_S2048x128_1_0 := by
  unfold V V0; rw [List.flatten_cons, List.flatten_nil, List.append_nil]; after_results <;> rfl

theorem blk2 (j : Fin 64) (b : Fin 128) : iblk m c 2 t (ix2 j b) = (- (show FVec Ideal S128x1x32x64 .f32 from m ((c : Thread nD τ).loc main_arg5)) (ix4 b 0 (hd t) j) : EReal) := by
  refine (congrArg (V m c main_v6) (emb2 t j b)).trans ?_
  rw [V6]
  exact flat _ _ _ _

theorem blk3 (j : Fin 64) (b : Fin 128) : iblk m c 3 t (ix2 j b) = ((show FVec Ideal S128x1x32x64 .f32 from m ((c : Thread nD τ).loc main_arg5)) (ix4 b 0 (hd t) j)
    * (show FVec Ideal S128x1x32x64 .f32 from m ((c : Thread nD τ).loc main_arg6)) (ix4 b 0 (hd t) j) : EReal) := by
  refine (congrArg (V m c main_v9) (emb3 t j b)).trans ?_
  rw [V9]
  exact flat _ _ _ _

theorem V1 : V m c main_v1 = transpose S32x64x64x128 [1, 2, 3, 0] (shapeCast S128x32x64x64 (show FVec Ideal S1x128x32x64x64 .f32 from m ((c : Thread nD τ).loc main_arg0)) (by decide)) transposes_S128x32x64x64_S32x64x64x128_1_2_3_0 := by
  unfold V V0; rw [List.flatten_cons, List.flatten_nil, List.append_nil]; after_results <;> rfl

/-- The states moved to heads first, read at an element. -/
theorem flat0 (X : FVec Ideal S1x128x32x64x64 .f32) (h : Fin 32) (i j : Fin 64) (b : Fin 128) :
    transpose S32x64x64x128 [1, 2, 3, 0] (shapeCast S128x32x64x64 X (by decide)) transposes_S128x32x64x64_S32x64x64x128_1_2_3_0 (ix4 h i j b)
      = X (ix5 0 b h i j) := by
  pointwise []

theorem emb0 (i j : Fin 64) (b : Fin 128) : (win0_0.blk t).view.emb (ix4 0 i j b) = (ix4 (hd t) i j b : S32x64x64x128.Idx) := by
  blk_ext [idx t]

theorem blk0 (i j : Fin 64) (b : Fin 128) : iblk m c 0 t (ix4 0 i j b) = m ((c : Thread nD τ).loc main_arg0) (ix5 0 b (hd t) i j) := by
  refine (congrArg (V m c main_v1) (emb0 t i j b)).trans ?_
  rw [V1]
  exact flat0 _ _ _ _ _

theorem emb1w (j : Fin 64) (b : Fin 128) : (win0_1.blk t).view.emb (ix2 j b)
    = (ix2 ⟨(hd t).val * 64 + j.val, by omega⟩ b : S2048x128.Idx) := by
  blk_ext [idx t]

theorem V3 : V m c main_v3 = transpose S2048x128 [1, 0] (shapeCast S128x2048 (show FVec Ideal S128x1x32x64 .f32 from m ((c : Thread nD τ).loc main_arg2)) (by decide)) transposes_S128x2048_S2048x128_1_0 := by
  unfold V V0; rw [List.flatten_cons, List.flatten_nil, List.append_nil]; after_results <;> rfl

theorem blk1 (j : Fin 64) (b : Fin 128) : iblk m c 1 t (ix2 j b) = m ((c : Thread nD τ).loc main_arg2) (ix4 b 0 (hd t) j) := by
  refine (congrArg (V m c main_v3) (emb1w t j b)).trans ?_
  rw [V3]
  exact flat _ _ _ _

theorem emb4w (j : Fin 64) (b : Fin 128) : (win0_4.blk t).view.emb (ix2 j b)
    = (ix2 ⟨(hd t).val * 64 + j.val, by omega⟩ b : S2048x128.Idx) := by
  blk_ext [idx t]

theorem V11 : V m c main_v11 = transpose S2048x128 [1, 0] (shapeCast S128x2048 (show FVec Ideal S128x1x32x64 .f32 from m ((c : Thread nD τ).loc main_arg3)) (by decide)) transposes_S128x2048_S2048x128_1_0 := by
  unfold V V0; rw [List.flatten_cons, List.flatten_nil, List.append_nil]; after_results <;> rfl

theorem blk4 (j : Fin 64) (b : Fin 128) : iblk m c 4 t (ix2 j b) = m ((c : Thread nD τ).loc main_arg3) (ix4 b 0 (hd t) j) := by
  refine (congrArg (V m c main_v11) (emb4w t j b)).trans ?_
  rw [V11]
  exact flat _ _ _ _

theorem emb5w (j : Fin 64) (b : Fin 128) : (win0_5.blk t).view.emb (ix2 j b)
    = (ix2 ⟨(hd t).val * 64 + j.val, by omega⟩ b : S2048x128.Idx) := by
  blk_ext [idx t]

theorem V13 : V m c main_v13 = transpose S2048x128 [1, 0] (shapeCast S128x2048 (show FVec Ideal S128x1x32x64 .f32 from m ((c : Thread nD τ).loc main_arg1)) (by decide)) transposes_S128x2048_S2048x128_1_0 := by
  unfold V V0; rw [List.flatten_cons, List.flatten_nil, List.append_nil]; after_results <;> rfl

theorem blk5 (j : Fin 64) (b : Fin 128) : iblk m c 5 t (ix2 j b) = m ((c : Thread nD τ).loc main_arg1) (ix4 b 0 (hd t) j) := by
  refine (congrArg (V m c main_v13) (emb5w t j b)).trans ?_
  rw [V13]
  exact flat _ _ _ _

theorem emb6w (j : Fin 64) (b : Fin 128) : (win0_6.blk t).view.emb (ix2 j b)
    = (ix2 ⟨(hd t).val * 64 + j.val, by omega⟩ b : S2048x128.Idx) := by
  blk_ext [idx t]

theorem V15 : V m c main_v15 = transpose S2048x128 [1, 0] (shapeCast S128x2048 (show FVec Ideal S128x1x32x64 .f32 from m ((c : Thread nD τ).loc main_arg4)) (by decide)) transposes_S128x2048_S2048x128_1_0 := by
  unfold V V0; rw [List.flatten_cons, List.flatten_nil, List.append_nil]; after_results <;> rfl

theorem blk6 (j : Fin 64) (b : Fin 128) : iblk m c 6 t (ix2 j b) = m ((c : Thread nD τ).loc main_arg4) (ix4 b 0 (hd t) j) := by
  refine (congrArg (V m c main_v15) (emb6w t j b)).trans ?_
  rw [V15]
  exact flat _ _ _ _

/-- The reference's new state. -/
abbrev REFS := Cert.StepRefIdeal.Read.val_main_v24 (F := Ideal) (m ((c : Thread nD τ).loc main_arg0)) (m ((c : Thread nD τ).loc main_arg2))
  (m ((c : Thread nD τ).loc main_arg3)) (m ((c : Thread nD τ).loc main_arg4)) (m ((c : Thread nD τ).loc main_arg5)) (m ((c : Thread nD τ).loc main_arg6))

/-- The same in the order of axes in which the call returns it: heads first, the batch last. -/
abbrev REF7 : FVec Ideal S32x64x64x128 .f32 := transpose S32x64x64x128 [1, 2, 3, 0] (REFS m c) transposes_S128x32x64x64_S32x64x64x128_1_2_3_0

/-- The reference's output. -/
abbrev REF8 := Cert.StepRefIdeal.Read.val_main_v28 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

open Cert.StepRefIdeal.Read in
/-- The new state of head `t` is the reference's. -/
theorem point_state (i j : Fin 64) (b : Fin 128) :
    stateOf (iblk m c 0 t) (iblk m c 1 t) (iblk m c 2 t) (iblk m c 3 t) (iblk m c 4 t) (iblk m c 6 t) i j b = REF7 m c (ix4 (hd t) i j b) := by
  unfold stateOf
  simp only [blk0, blk1, blk2, blk3, blk4, blk6]
  unfold REF7 REFS val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v6 val_main_v5
    val_main_v4 val_main_v3 val_main_v2 val_main_v0
  pointwise []
  rfl

open Cert.StepRefIdeal.Read in
/-- The output of head `t` is the reference's. -/
theorem point_out (i : Fin 64) (b : Fin 128) :
    outOf (iblk m c 0 t) (iblk m c 1 t) (iblk m c 2 t) (iblk m c 3 t) (iblk m c 4 t) (iblk m c 5 t) (iblk m c 6 t) i b
      = REF8 m c (ix2 ⟨(hd t).val * 64 + i.val, by omega⟩ b) := by
  unfold outOf
  simp only [point_state]
  simp only [blk5]
  unfold REF8 REF7 REFS val_main_v28 val_main_v27 val_main_v25 val_main_v1
  pointwise []
  rfl

/-- The first result array after the run. -/
theorem final_state : (dats m 0 c).arrAt 7 (cfgs 0).N = REF7 m c := by
  refine (dats m 0 c).arrAt_eq_of_covers 7 _ (by decide +kernel) fun t _ y => ?_
  blk_simp
  change S1x64x64x128.Idx at y
  idx_vars y
  have e : ((cfg0.win 7).blk t).view.emb (ix4 y0 y1 y2 y3) = ix4 (hd t) y1 y2 y3 := by
    blk_ext [idx t]
  refine Eq.trans ?_ (congrArg (REF7 m c) e).symm
  refine Eq.trans ?_ (point_state m c t y1 y2 y3)
  exact out_state _ _ _ _ _ _ _ _ _ _ _ _ _ _ _ _ _ _ _ _ _ _ _ _ _ _ _ (ix4 y0 y1 y2 y3)

/-- The second result array after the run. -/
theorem final_out : (dats m 0 c).arrAt 8 (cfgs 0).N = REF8 m c := by
  refine (dats m 0 c).arrAt_eq_of_covers 8 _ (by decide +kernel) fun t _ y => ?_
  blk_simp
  change S64x128.Idx at y
  idx_vars y
  have e : ((cfg0.win 8).blk t).view.emb (ix2 y0 y1) = (ix2 ⟨(hd t).val * 64 + y0.val, by omega⟩ y1 : S2048x128.Idx) := by
    blk_ext [idx t]
  refine Eq.trans ?_ (congrArg (REF8 m c) e).symm
  refine Eq.trans ?_ (point_out m c t y0 y1)
  exact out_out _ _ _ _ _ _ _ _ _ _ _ _ _ _ _ _ _ _ _ _ _ _ _ _ _ _ _ (ix2 y0 y1)

/-- The new states as the operations after the call find them. -/
theorem entry : Pipeline.withArrays (cfgs 0).spec c (V0 m c) (fun w => (dats m 0 c).arrAt w (cfgs 0).N) (Proc.devRef .tc main_v16_0)
    = REF7 m c :=
  (Pipeline.withArrays_arr (cfgs 0).spec (by decide) c (V0 m c) _ 7).trans (final_state m c)

theorem after_state : Pipeline.afterTail₀ cfgs (dats m) 0 (V0 m) [hostOps1] c main_v18
    = broadcastInDim S1x128x32x64x64 ![1, 2, 3, 4] bcast_S128x32x64x64_S1x128x32x64x64_1_2_3_4 (transpose S128x32x64x64 [3, 0, 1, 2] (REF7 m c) transposes_S32x64x64x128_S128x32x64x64_3_0_1_2) := by
  rw [← entry m c]
  unfold Pipeline.afterTail₀
  after_results
  rfl

theorem state_eq : broadcastInDim S1x128x32x64x64 ![1, 2, 3, 4] bcast_S128x32x64x64_S1x128x32x64x64_1_2_3_4 (transpose S128x32x64x64 [3, 0, 1, 2] (REF7 m c) transposes_S32x64x64x128_S128x32x64x64_3_0_1_2)
    = Cert.StepRefIdeal.Read.val_main_v26 (F := Ideal) (m ((c : Thread nD τ).loc main_arg0)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold REF7 REFS Cert.StepRefIdeal.Read.val_main_v26
  generalize Cert.StepRefIdeal.Read.val_main_v24 (F := Ideal) _ _ _ _ _ _ = P
  funext y
  idx_vars y
  pointwise []

end Blocks

/-- The run leaves the two results, and the arguments as they were. -/
theorem run_blocks (ρ : Dev nD → PrngReg) : θ_run defs (onTc (τ := τ) (main (F := Ideal))) ⟨m, fun _ => 0, ρ⟩ (fun r => ∀ c : Dev nD,
      (r.2.mem ((c.tc : Thread nD τ).loc main_v18) = Cert.StepRefIdeal.Read.val_main_v26 (F := Ideal) (m ((c : Thread nD τ).loc main_arg0)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_v16_1) = REF8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨((h.1 c).2 main_v18 (Pipeline.mem_restRefs_of main_v18 (by decide) (by decide))).trans ((after_state m c).trans (state_eq m c)),
      ((h.1 c).1 8).trans (final_out m c)⟩, h.2 c⟩)
    (θ_run_and (run_main m ρ) (unchanged m ρ))

end Cert.StepIdeal.Own

end
-- ==== Proof.HeadValue.lean ====
/- What `in_proj_head` computes: every element of its result array is the inner product of a row of the normalized
   activations with a column of the input projection's weights, and the two shift results are rows of it. -/
module

public import proofs.«01_k».proof.Proof.Gen.HeadIdeal.Frame
public import proofs.«01_k».proof.Proof.Gen.HeadRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadIdeal.Own

open Cert.HeadIdeal Cert.HeadIdeal.Gen

variable (m : (ℓ : Loc nD τ sig) → Buf (Elt Ideal) ℓ)

/-- The reference's result as a function of the kernel's arguments. -/
abbrev REF (h : FVec Ideal S8320x4096 .bf16) (w : FVec Ideal S1x4096x16832 .f32) : FVec Ideal S8320x6656 .f32 :=
  Cert.HeadRefIdeal.Read.val_main_v11 (F := Ideal) h w

/-- Where each window stands at grid point `t`: 26 column tiles to a row tile; the weights' window moves by elements. -/
theorem idx : ∀ t : Fin cfg0.N, win0_0.index t = ![t.val / 26, 0] ∧ win0_1.index t = ![256 * (t.val % 26), 0]
    ∧ win0_2.index t = ![t.val / 26, t.val % 26] ∧ t.val / 26 < 5 :=
  (by decide +kernel : ∀ t : Fin grid0.N, _)

/-- An index of the weights' block in the transposed weights: the block begins at the element its index map names. -/
theorem emb1 (t : Fin cfg0.N) (y : S256x4096.Idx) (a : Fin 2) :
    (((View.whole main_v1).slice (win0_1.rect t)).emb y a : ℕ) = win0_1.index t a + 1 * (y a).val := rfl

/-- The transposed weights that the call takes, at an element. -/
theorem V1 (c : Dev nD) (j : Fin 16832) (k : Fin 4096) : V m c main_v1 (ix2 j k : S16832x4096.Idx)
    = m ((c : Thread nD τ).loc main_arg1) (ix3 0 k j : S1x4096x16832.Idx) := by
  have e : V m c main_v1 = transpose S16832x4096 [1, 0] (shapeCast S4096x16832 (show FVec Ideal S1x4096x16832 .f32 from m ((c : Thread nD τ).loc main_arg1))
      shapeCasts_S1x4096x16832_S4096x16832) transposes_S4096x16832_S16832x4096_1_0 := by
    unfold V V0
    rw [List.flatten_cons, List.flatten_nil, List.append_nil]
    after_results <;> rfl
  rw [e]
  pointwise []

/-- The stored block at an index is the reference there. -/
theorem point (c : Dev nD) (t : Fin cfg0.N) (y : S1664x256.Idx) : k0_pay1 (iblk m c 0 t) (iblk m c 1 t) y
    = REF (m ((c : Thread nD τ).loc main_arg0)) (m ((c : Thread nD τ).loc main_arg1)) (((cfg0.win 2).blk t).view.emb y) := by
  idx_vars y
  unfold REF Cert.HeadRefIdeal.Read.val_main_v11 Cert.HeadRefIdeal.Read.val_main_v2 Cert.HeadRefIdeal.Read.val_main_v0 Cert.HeadRefIdeal.Read.val_main_v1
  pointwise [k0_pay1]
  blk_point [iblk, V, idx t]
  refine Eq.trans (congrArg (V m c main_v1) (?_ : _ = (ix2 ⟨256 * (t.val % 26) + y1.val, by omega⟩ x : S16832x4096.Idx))) ((V1 m c _ _).trans ?_)
  · funext a
    refine Fin.ext ((emb1 t (ix2 y1 x) a).trans ?_)
    rw [(idx t).2.1]
    match a with
    | ⟨0, _⟩ => show 256 * (t.val % 26) + 1 * y1.val = 256 * (t.val % 26) + y1.val; omega
    | ⟨1, _⟩ => show 0 + 1 * x.val = x.val; omega
  · congr 1
    refine congrArg (ix3 0 x) (Fin.ext ?_)
    dsimp only
    omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The last row of each prompt, cut out of the projected rows. -/
def lastRows (p : FVec Ideal S8320x6656 .f32) : FVec Ideal S1x4x6592 .f32 :=
  broadcastInDim S1x4x6592 ![1, 2] bcast_S4x6592_S1x4x6592_1_2 (concatenate S4x6592 0
    [⟨S1x6592, broadcastInDim S1x6592 ![1] bcast_S6592_S1x6592_1 (shapeCast S6592 (extractStridedSlice S1x6592 ![2047, 0] p slices_S8320x6656_S1x6592_2047_0) shapeCasts_S1x6592_S6592)⟩,
     ⟨S1x6592, broadcastInDim S1x6592 ![1] bcast_S6592_S1x6592_1 (shapeCast S6592 (extractStridedSlice S1x6592 ![4095, 0] p slices_S8320x6656_S1x6592_4095_0) shapeCasts_S1x6592_S6592)⟩,
     ⟨S1x6592, broadcastInDim S1x6592 ![1] bcast_S6592_S1x6592_1 (shapeCast S6592 (extractStridedSlice S1x6592 ![6143, 0] p slices_S8320x6656_S1x6592_6143_0) shapeCasts_S1x6592_S6592)⟩,
     ⟨S1x6592, broadcastInDim S1x6592 ![1] bcast_S6592_S1x6592_1 (shapeCast S6592 (extractStridedSlice S1x6592 ![8191, 0] p slices_S8320x6656_S1x6592_8191_0) shapeCasts_S1x6592_S6592)⟩]
    concatenates_S1x6592_S1x6592_S1x6592_S1x6592_S4x6592_d0)

/-- The sample's rows, cut out of the projected rows. -/
def sampleRows (p : FVec Ideal S8320x6656 .f32) : FVec Ideal S1x128x6592 .f32 :=
  broadcastInDim S1x128x6592 ![1, 2] bcast_S128x6592_S1x128x6592_1_2 (extractStridedSlice S128x6592 ![8192, 0] p slices_S8320x6656_S128x6592_8192_0)

/-- The projected rows as the operations after the call find them. -/
theorem entry (c : Dev nD) : Pipeline.withArrays (cfgs 0).spec c (V0 m c) (fun w => (dats m 0 c).arrAt w (cfgs 0).N) (Proc.devRef .tc main_v2)
    = REF (m ((c : Thread nD τ).loc main_arg0)) (m ((c : Thread nD τ).loc main_arg1)) :=
  (Pipeline.withArrays_arr (cfgs 0).spec (by decide) c (V0 m c) _ 2).trans (final m c)

theorem after_prompt (c : Dev nD) : Pipeline.afterTail₀ cfgs (dats m) 0 (V0 m) [hostOps1] c main_v17
    = lastRows (REF (m ((c : Thread nD τ).loc main_arg0)) (m ((c : Thread nD τ).loc main_arg1))) := by
  rw [← entry m c]
  unfold Pipeline.afterTail₀
  after_results
  rfl

theorem after_sample (c : Dev nD) : Pipeline.afterTail₀ cfgs (dats m) 0 (V0 m) [hostOps1] c main_v18
    = sampleRows (REF (m ((c : Thread nD τ).loc main_arg0)) (m ((c : Thread nD τ).loc main_arg1))) := by
  rw [← entry m c]
  unfold Pipeline.afterTail₀
  after_results
  rfl

theorem prompt_eq (h : FVec Ideal S8320x4096 .bf16) (w : FVec Ideal S1x4096x16832 .f32) :
    lastRows (REF h w) = Cert.HeadRefIdeal.Read.val_main_v12 (F := Ideal) h w := by
  unfold REF Cert.HeadRefIdeal.Read.val_main_v12 Cert.HeadRefIdeal.Read.val_main_v7 Cert.HeadRefIdeal.Read.val_main_v6 Cert.HeadRefIdeal.Read.val_main_v5 Cert.HeadRefIdeal.Read.val_main_v4 Cert.HeadRefIdeal.Read.val_main_v3 Cert.HeadRefIdeal.Read.val_main_v11
  generalize Cert.HeadRefIdeal.Read.val_main_v2 (F := Ideal) h w = P
  funext y
  idx_vars y
  pointwise [lastRows]
  obtain h | h | h | h : y1 = 0 ∨ y1 = 1 ∨ y1 = 2 ∨ y1 = 3 := by omega
  all_goals subst h; rfl

theorem sample_eq (h : FVec Ideal S8320x4096 .bf16) (w : FVec Ideal S1x4096x16832 .f32) :
    sampleRows (REF h w) = Cert.HeadRefIdeal.Read.val_main_v13 (F := Ideal) h w := by
  unfold REF Cert.HeadRefIdeal.Read.val_main_v13 Cert.HeadRefIdeal.Read.val_main_v10 Cert.HeadRefIdeal.Read.val_main_v9 Cert.HeadRefIdeal.Read.val_main_v8 Cert.HeadRefIdeal.Read.val_main_v3 Cert.HeadRefIdeal.Read.val_main_v11
  generalize Cert.HeadRefIdeal.Read.val_main_v2 (F := Ideal) h w = P
  funext y
  idx_vars y
  pointwise [sampleRows]

/-- The run leaves the three results, and the arguments as they were. -/
theorem run_blocks (ρ : Dev nD → PrngReg) : θ_run defs (onTc (τ := τ) (main (F := Ideal))) ⟨m, fun _ => 0, ρ⟩ (fun r => ∀ c : Dev nD,
      (r.2.mem ((c.tc : Thread nD τ).loc main_v2) = REF (m ((c : Thread nD τ).loc main_arg0)) (m ((c : Thread nD τ).loc main_arg1))
      ∧ r.2.mem ((c.tc : Thread nD τ).loc main_v17) = Cert.HeadRefIdeal.Read.val_main_v12 (F := Ideal) (m ((c : Thread nD τ).loc main_arg0)) (m ((c : Thread nD τ).loc main_arg1))
      ∧ r.2.mem ((c.tc : Thread nD τ).loc main_v18) = Cert.HeadRefIdeal.Read.val_main_v13 (F := Ideal) (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨⟨((h.1 c).1 2).trans (final m c),
      ((h.1 c).2 main_v17 (Pipeline.mem_restRefs_of main_v17 (by decide) (by decide))).trans ((after_prompt m c).trans (prompt_eq _ _)),
      ((h.1 c).2 main_v18 (Pipeline.mem_restRefs_of main_v18 (by decide) (by decide))).trans ((after_sample m c).trans (sample_eq _ _))⟩, h.2 c⟩)
    (θ_run_and (run_main m ρ) (unchanged m ρ))

end Cert.HeadIdeal.Own

end
-- ==== Proof.TailValue.lean ====
/- What `in_proj_tail` computes: every element of its result array is the inner product of a row of the normalized
   activations with a column of the input projection's weights, and the two pooling results hold rows of it. -/
module

public import proofs.«01_k».proof.Proof.Gen.TailIdeal.Frame
public import proofs.«01_k».proof.Proof.Gen.TailRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TailIdeal.Own

open Cert.TailIdeal Cert.TailIdeal.Gen

variable (m : (ℓ : Loc nD τ sig) → Buf (Elt Ideal) ℓ)

/-- The reference's result as a function of the kernel's arguments. -/
abbrev REF (h : FVec Ideal S8320x4096 .bf16) (w : FVec Ideal S1x4096x16832 .f32) : FVec Ideal S8320x10240 .f32 :=
  Cert.TailRefIdeal.Read.val_main_v12 (F := Ideal) h w

/-- Where each window stands at grid point `t`: 40 column tiles to a row tile; the weights' window moves by elements. -/
theorem idx : ∀ t : Fin cfg0.N, win0_0.index t = ![t.val / 40, 0] ∧ win0_1.index t = ![6592 + 256 * (t.val % 40), 0]
    ∧ win0_2.index t = ![t.val / 40, t.val % 40] ∧ t.val / 40 < 5 :=
  (by decide +kernel : ∀ t : Fin grid0.N, _)

/-- An index of the weights' block in the transposed weights: the block begins at the element its index map names. -/
theorem emb1 (t : Fin cfg0.N) (y : S256x4096.Idx) (a : Fin 2) :
    (((View.whole main_v1).slice (win0_1.rect t)).emb y a : ℕ) = win0_1.index t a + 1 * (y a).val := rfl

/-- The transposed weights that the call takes, at an element. -/
theorem V1 (c : Dev nD) (j : Fin 16832) (k : Fin 4096) : V m c main_v1 (ix2 j k : S16832x4096.Idx)
    = m ((c : Thread nD τ).loc main_arg1) (ix3 0 k j : S1x4096x16832.Idx) := by
  have e : V m c main_v1 = transpose S16832x4096 [1, 0] (shapeCast S4096x16832 (show FVec Ideal S1x4096x16832 .f32 from m ((c : Thread nD τ).loc main_arg1))
      shapeCasts_S1x4096x16832_S4096x16832) transposes_S4096x16832_S16832x4096_1_0 := by
    unfold V V0
    rw [List.flatten_cons, List.flatten_nil, List.append_nil]
    after_results <;> rfl
  rw [e]
  pointwise []

/-- The stored block at an index is the reference there. -/
theorem point (c : Dev nD) (t : Fin cfg0.N) (y : S1664x256.Idx) : k0_pay1 (iblk m c 0 t) (iblk m c 1 t) y
    = REF (m ((c : Thread nD τ).loc main_arg0)) (m ((c : Thread nD τ).loc main_arg1)) (((cfg0.win 2).blk t).view.emb y) := by
  idx_vars y
  unfold REF Cert.TailRefIdeal.Read.val_main_v12 Cert.TailRefIdeal.Read.val_main_v2 Cert.TailRefIdeal.Read.val_main_v0 Cert.TailRefIdeal.Read.val_main_v1
  pointwise [k0_pay1]
  blk_point [iblk, V, idx t]
  refine Eq.trans (congrArg (V m c main_v1) (?_ : _ = (ix2 ⟨6592 + 256 * (t.val % 40) + y1.val, by omega⟩ x : S16832x4096.Idx))) ((V1 m c _ _).trans ?_)
  · funext a
    refine Fin.ext ((emb1 t (ix2 y1 x) a).trans ?_)
    rw [(idx t).2.1]
    match a with
    | ⟨0, _⟩ => show 6592 + 256 * (t.val % 40) + 1 * y1.val = 6592 + 256 * (t.val % 40) + y1.val; omega
    | ⟨1, _⟩ => show 0 + 1 * x.val = x.val; omega
  · congr 1
    refine congrArg (ix3 0 x) (Fin.ext ?_)
    dsimp only
    omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The last fifteen rows of each prompt's pooling columns, cut out of the projected rows. -/
def lastRows (p : FVec Ideal S8320x10240 .f32) : FVec Ideal S1x4x15x2048 .f32 :=
  broadcastInDim S1x4x15x2048 ![1, 2, 3] bcast_S4x15x2048_S1x4x15x2048_1_2_3 (concatenate S4x15x2048 0
    [⟨S1x15x2048, broadcastInDim S1x15x2048 ![1, 2] bcast_S15x2048_S1x15x2048_1_2 (extractStridedSlice S15x2048 ![2033, 0] p slices_S8320x10240_S15x2048_2033_0)⟩,
     ⟨S1x15x2048, broadcastInDim S1x15x2048 ![1, 2] bcast_S15x2048_S1x15x2048_1_2 (extractStridedSlice S15x2048 ![4081, 0] p slices_S8320x10240_S15x2048_4081_0)⟩,
     ⟨S1x15x2048, broadcastInDim S1x15x2048 ![1, 2] bcast_S15x2048_S1x15x2048_1_2 (extractStridedSlice S15x2048 ![6129, 0] p slices_S8320x10240_S15x2048_6129_0)⟩,
     ⟨S1x15x2048, broadcastInDim S1x15x2048 ![1, 2] bcast_S15x2048_S1x15x2048_1_2 (extractStridedSlice S15x2048 ![8177, 0] p slices_S8320x10240_S15x2048_8177_0)⟩]
    concatenates_S1x15x2048_S1x15x2048_S1x15x2048_S1x15x2048_S4x15x2048_d0)

/-- The sample's cached rows but the oldest, and the sample's new row after them. -/
def shifted (p : FVec Ideal S8320x10240 .f32) (s : FVec Ideal S1x128x15x2048 .f32) : FVec Ideal S1x128x15x2048 .f32 :=
  broadcastInDim S1x128x15x2048 ![1, 2, 3] bcast_S128x15x2048_S1x128x15x2048_1_2_3 (concatenate S128x15x2048 1
    [⟨S128x14x2048, extractStridedSlice S128x14x2048 ![0, 1, 0] (shapeCast S128x15x2048 s shapeCasts_S1x128x15x2048_S128x15x2048) slices_S128x15x2048_S128x14x2048_0_1_0⟩,
     ⟨S128x1x2048, broadcastInDim S128x1x2048 ![0, 2] bcast_S128x2048_S128x1x2048_0_2 (extractStridedSlice S128x2048 ![8192, 0] p slices_S8320x10240_S128x2048_8192_0)⟩]
    concatenates_S128x14x2048_S128x1x2048_S128x15x2048_d1)

/-- The projected rows as the operations after the call find them. -/
theorem entry (c : Dev nD) : Pipeline.withArrays (cfgs 0).spec c (V0 m c) (fun w => (dats m 0 c).arrAt w (cfgs 0).N) (Proc.devRef .tc main_v2)
    = REF (m ((c : Thread nD τ).loc main_arg0)) (m ((c : Thread nD τ).loc main_arg1)) :=
  (Pipeline.withArrays_arr (cfgs 0).spec (by decide) c (V0 m c) _ 2).trans (final m c)

/-- The sample's cache as they find it. -/
theorem entry_state (c : Dev nD) : Pipeline.withArrays (cfgs 0).spec c (V0 m c) (fun w => (dats m 0 c).arrAt w (cfgs 0).N) (Proc.devRef .tc main_arg2)
    = m ((c : Thread nD τ).loc main_arg2) :=
  (Pipeline.withArrays_of_ne (cfgs 0).spec c (V0 m c) _ main_arg2 (by exact (by decide : ∀ w, Pipeline.arrRef spec0 w ≠ main_arg2))).trans (V_main_arg2 m c)

theorem after_prompt (c : Dev nD) : Pipeline.afterTail₀ cfgs (dats m) 0 (V0 m) [hostOps1] c main_v17
    = lastRows (REF (m ((c : Thread nD τ).loc main_arg0)) (m ((c : Thread nD τ).loc main_arg1))) := by
  rw [← entry m c]
  unfold Pipeline.afterTail₀
  after_results
  rfl

theorem after_sample (c : Dev nD) : Pipeline.afterTail₀ cfgs (dats m) 0 (V0 m) [hostOps1] c main_v18
    = shifted (REF (m ((c : Thread nD τ).loc main_arg0)) (m ((c : Thread nD τ).loc main_arg1))) (m ((c : Thread nD τ).loc main_arg2)) := by
  rw [← entry m c]
  refine Eq.trans ?_ (congrArg (shifted _) (entry_state m c))
  unfold Pipeline.afterTail₀
  after_results
  rfl

theorem prompt_eq (h : FVec Ideal S8320x4096 .bf16) (w : FVec Ideal S1x4096x16832 .f32) :
    lastRows (REF h w) = Cert.TailRefIdeal.Read.val_main_v14 (F := Ideal) h w := by
  unfold REF Cert.TailRefIdeal.Read.val_main_v14 Cert.TailRefIdeal.Read.val_main_v13 Cert.TailRefIdeal.Read.val_main_v7 Cert.TailRefIdeal.Read.val_main_v6 Cert.TailRefIdeal.Read.val_main_v5 Cert.TailRefIdeal.Read.val_main_v3 Cert.TailRefIdeal.Read.val_main_v12
  generalize Cert.TailRefIdeal.Read.val_main_v2 (F := Ideal) h w = P
  funext y
  idx_vars y
  pointwise [lastRows]
  obtain h | h | h | h : y1 = 0 ∨ y1 = 1 ∨ y1 = 2 ∨ y1 = 3 := by omega
  all_goals
    subst h
    rw [dif_neg (show ¬ 2048 + y2.val < 15 by omega)]
    refine congrArg P ?_
    refine congrArg (fun k => ix2 k ⟨6592 + y3.val, by omega⟩) (Fin.ext ?_)
    dsimp only
    simp
    omega

theorem sample_eq (h : FVec Ideal S8320x4096 .bf16) (w : FVec Ideal S1x4096x16832 .f32) (s : FVec Ideal S1x128x15x2048 .f32) :
    shifted (REF h w) s = Cert.TailRefIdeal.Read.val_main_v16 (F := Ideal) h w s := by
  unfold REF Cert.TailRefIdeal.Read.val_main_v16 Cert.TailRefIdeal.Read.val_main_v15 Cert.TailRefIdeal.Read.val_main_v11 Cert.TailRefIdeal.Read.val_main_v10 Cert.TailRefIdeal.Read.val_main_v9 Cert.TailRefIdeal.Read.val_main_v8 Cert.TailRefIdeal.Read.val_main_v3 Cert.TailRefIdeal.Read.val_main_v12
  generalize Cert.TailRefIdeal.Read.val_main_v2 (F := Ideal) h w = P
  funext y
  idx_vars y
  pointwise [shifted]
  by_cases h : y2.val < 14
  · rw [dif_pos h, dif_pos (by omega)]
  · rw [dif_neg h, dif_neg (by omega)]

/-- The run leaves the three results, and the arguments as they were. -/
theorem run_blocks (ρ : Dev nD → PrngReg) : θ_run defs (onTc (τ := τ) (main (F := Ideal))) ⟨m, fun _ => 0, ρ⟩ (fun r => ∀ c : Dev nD,
      (r.2.mem ((c.tc : Thread nD τ).loc main_v2) = REF (m ((c : Thread nD τ).loc main_arg0)) (m ((c : Thread nD τ).loc main_arg1))
      ∧ r.2.mem ((c.tc : Thread nD τ).loc main_v17) = Cert.TailRefIdeal.Read.val_main_v14 (F := Ideal) (m ((c : Thread nD τ).loc main_arg0)) (m ((c : Thread nD τ).loc main_arg1))
      ∧ r.2.mem ((c.tc : Thread nD τ).loc main_v18) = Cert.TailRefIdeal.Read.val_main_v16 (F := Ideal) (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨⟨((h.1 c).1 2).trans (final m c),
      ((h.1 c).2 main_v17 (Pipeline.mem_restRefs_of main_v17 (by decide) (by decide))).trans ((after_prompt m c).trans (prompt_eq _ _)),
      ((h.1 c).2 main_v18 (Pipeline.mem_restRefs_of main_v18 (by decide) (by decide))).trans ((after_sample m c).trans (sample_eq _ _ _))⟩, h.2 c⟩)
    (θ_run_and (run_main m ρ) (unchanged m ρ))

end Cert.TailIdeal.Own

end
-- ==== Proof.RowNorm.lean ====
/- The normalization of a row by its root mean square, which three of the calls compute. -/
module

public import Idealize.ShloMosaic.PureOps.Ideal

@[expose] public section

noncomputable section

open Idealize.ShloMosaic

namespace Cert.RowNorm

/-- Element `d` of the row `x` divided by its root mean square (with the norm's small constant) and scaled by `g`. -/
def normed (x g : Fin 4096 → EReal) (d : Fin 4096) : EReal :=
  x d * Ideal.rsqrt (Ideal.div (∑ k, x k * x k) (Ideal.ofBits FTy.f32 1166016512#32) + Ideal.ofBits FTy.f32 897988541#32) * g d

/-- It depends on the row's elements and the scales only. -/
theorem normed_congr {x x' g g' : Fin 4096 → EReal} (hx : ∀ k, x k = x' k) (hg : ∀ k, g k = g' k) (d : Fin 4096) :
    normed x g d = normed x' g' d := by
  rw [funext hx, funext hg]

end Cert.RowNorm

end
-- ==== Proof.Norm1Value.lean ====
/- What `norm1` computes: every row of the activations, the prompt's and then the sample's, normalized and scaled. -/
module

public import proofs.«01_k».proof.Proof.Gen.Norm1Ideal.Value
public import proofs.«01_k».proof.Proof.Gen.Norm1RefIdeal.Read
public import proofs.«01_k».proof.Proof.RowNorm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm1Ideal.Own

open Cert.Norm1Ideal Cert.Norm1Ideal.Gen

open Cert.RowNorm

variable (m : (ℓ : Loc nD τ sig) → Buf (Elt Ideal) ℓ)

/-- The reference's result as a function of the kernel's arguments. -/
abbrev REF (xp : FVec Ideal S4x2048x4096 .f32) (xs : FVec Ideal S128x1x4096 .f32) (g : FVec Ideal S1x4096 .f32) : FVec Ideal S8320x4096 .bf16 :=
  Cert.Norm1RefIdeal.Read.val_main_v31 (F := Ideal) xp xs g

/-- Where each window stands at grid point `t`: the first 64 points take the prompt's rows, the last one the sample's. -/
theorem idx : ∀ t : Fin cfg0.N, win0_0.index t = ![min t.val 63, 0] ∧ win0_1.index t = ![t.val - 64, 0]
    ∧ win0_2.index t = ![0, 0] ∧ win0_3.index t = ![t.val, 0] ∧ t.val < 65 :=
  (by decide +kernel : ∀ t : Fin grid0.N, _)

/-- The stored block normalizes the rows of the block that was read. -/
theorem pay1_at (x : FVec Ideal S128x4096 .f32) (g : FVec Ideal S1x4096 .f32) (r : Fin 128) (d : Fin 4096) :
    k0_pay1 (F := Ideal) x g (ix2 r d) = normed (fun k => x (ix2 r k)) (fun k => g (ix2 0 k)) d := by
  pointwise [k0_pay1]; rfl

theorem pay2_at (x : FVec Ideal S128x4096 .f32) (g : FVec Ideal S1x4096 .f32) (r : Fin 128) (d : Fin 4096) :
    k0_pay2 (F := Ideal) x g (ix2 r d) = normed (fun k => x (ix2 r k)) (fun k => g (ix2 0 k)) d := by
  pointwise [k0_pay2]; rfl

/-- The reference on a row of the prompt. -/
theorem ref_prompt (xp : FVec Ideal S4x2048x4096 .f32) (xs : FVec Ideal S128x1x4096 .f32) (g : FVec Ideal S1x4096 .f32)
    (R : Fin 8320) (h : R.val < 8192) (d : Fin 4096) :
    REF xp xs g (ix2 R d) = normed (fun k => xp (ix3 ⟨R.val / 2048, by omega⟩ ⟨R.val % 2048, by omega⟩ k)) (fun k => g (ix2 0 k)) d := by
  unfold REF
  pointwise [Cert.Norm1RefIdeal.Read.val_main_v0, Cert.Norm1RefIdeal.Read.val_main_v1, Cert.Norm1RefIdeal.Read.val_main_v2, Cert.Norm1RefIdeal.Read.val_main_v3, Cert.Norm1RefIdeal.Read.val_main_v4, Cert.Norm1RefIdeal.Read.val_main_v5, Cert.Norm1RefIdeal.Read.val_main_v6, Cert.Norm1RefIdeal.Read.val_main_v7, Cert.Norm1RefIdeal.Read.val_main_v8, Cert.Norm1RefIdeal.Read.val_main_v9, Cert.Norm1RefIdeal.Read.val_main_v10, Cert.Norm1RefIdeal.Read.val_main_v11, Cert.Norm1RefIdeal.Read.val_main_v12, Cert.Norm1RefIdeal.Read.val_main_v13, Cert.Norm1RefIdeal.Read.val_main_v14, Cert.Norm1RefIdeal.Read.val_main_v15, Cert.Norm1RefIdeal.Read.val_main_v16, Cert.Norm1RefIdeal.Read.val_main_v17, Cert.Norm1RefIdeal.Read.val_main_v18, Cert.Norm1RefIdeal.Read.val_main_v19, Cert.Norm1RefIdeal.Read.val_main_v20, Cert.Norm1RefIdeal.Read.val_main_v21, Cert.Norm1RefIdeal.Read.val_main_v22, Cert.Norm1RefIdeal.Read.val_main_v23, Cert.Norm1RefIdeal.Read.val_main_v24, Cert.Norm1RefIdeal.Read.val_main_v25, Cert.Norm1RefIdeal.Read.val_main_v26, Cert.Norm1RefIdeal.Read.val_main_v27, Cert.Norm1RefIdeal.Read.val_main_v28, Cert.Norm1RefIdeal.Read.val_main_v29, Cert.Norm1RefIdeal.Read.val_main_v30, Cert.Norm1RefIdeal.Read.val_main_v31, Cert.Norm1RefIdeal.Read.val_main_cst, Cert.Norm1RefIdeal.Read.val_main_cst_0, Cert.Norm1RefIdeal.Read.val_main_cst_1, Cert.Norm1RefIdeal.Read.val_main_cst_2, Cert.Norm1RefIdeal.Read.val_main_cst_3, Cert.Norm1RefIdeal.Read.val_main_cst_4]
  rw [dif_pos h]; rfl

/-- The reference on a row of the sample. -/
theorem ref_sample (xp : FVec Ideal S4x2048x4096 .f32) (xs : FVec Ideal S128x1x4096 .f32) (g : FVec Ideal S1x4096 .f32)
    (R : Fin 8320) (h : ¬ R.val < 8192) (d : Fin 4096) :
    REF xp xs g (ix2 R d) = normed (fun k => xs (ix3 ⟨R.val - 8192, by omega⟩ 0 k)) (fun k => g (ix2 0 k)) d := by
  unfold REF
  pointwise [Cert.Norm1RefIdeal.Read.val_main_v0, Cert.Norm1RefIdeal.Read.val_main_v1, Cert.Norm1RefIdeal.Read.val_main_v2, Cert.Norm1RefIdeal.Read.val_main_v3, Cert.Norm1RefIdeal.Read.val_main_v4, Cert.Norm1RefIdeal.Read.val_main_v5, Cert.Norm1RefIdeal.Read.val_main_v6, Cert.Norm1RefIdeal.Read.val_main_v7, Cert.Norm1RefIdeal.Read.val_main_v8, Cert.Norm1RefIdeal.Read.val_main_v9, Cert.Norm1RefIdeal.Read.val_main_v10, Cert.Norm1RefIdeal.Read.val_main_v11, Cert.Norm1RefIdeal.Read.val_main_v12, Cert.Norm1RefIdeal.Read.val_main_v13, Cert.Norm1RefIdeal.Read.val_main_v14, Cert.Norm1RefIdeal.Read.val_main_v15, Cert.Norm1RefIdeal.Read.val_main_v16, Cert.Norm1RefIdeal.Read.val_main_v17, Cert.Norm1RefIdeal.Read.val_main_v18, Cert.Norm1RefIdeal.Read.val_main_v19, Cert.Norm1RefIdeal.Read.val_main_v20, Cert.Norm1RefIdeal.Read.val_main_v21, Cert.Norm1RefIdeal.Read.val_main_v22, Cert.Norm1RefIdeal.Read.val_main_v23, Cert.Norm1RefIdeal.Read.val_main_v24, Cert.Norm1RefIdeal.Read.val_main_v25, Cert.Norm1RefIdeal.Read.val_main_v26, Cert.Norm1RefIdeal.Read.val_main_v27, Cert.Norm1RefIdeal.Read.val_main_v28, Cert.Norm1RefIdeal.Read.val_main_v29, Cert.Norm1RefIdeal.Read.val_main_v30, Cert.Norm1RefIdeal.Read.val_main_v31, Cert.Norm1RefIdeal.Read.val_main_cst, Cert.Norm1RefIdeal.Read.val_main_cst_0, Cert.Norm1RefIdeal.Read.val_main_cst_1, Cert.Norm1RefIdeal.Read.val_main_cst_2, Cert.Norm1RefIdeal.Read.val_main_cst_3, Cert.Norm1RefIdeal.Read.val_main_cst_4]
  rw [dif_neg h]; rfl

variable (c : Dev nD) (t : Fin cfg0.N)

/-- The rows of the result that point `t` writes. -/
theorem emb3 (ht : t.val < 65) (r : Fin 128) (d : Fin 4096) :
    (win0_3.blk t).view.emb (ix2 r d) = (ix2 ⟨t.val * 128 + r.val, by omega⟩ d : S8320x4096.Idx) := by
  blk_ext [idx t]

theorem emb0 (ht : t.val < 64) (r : Fin 128) (d : Fin 4096) :
    (win0_0.blk t).view.emb (ix2 r d) = (ix2 ⟨t.val * 128 + r.val, by omega⟩ d : S8192x4096.Idx) := by
  blk_ext [idx t]

theorem emb1 (ht : t.val = 64) (r : Fin 128) (d : Fin 4096) :
    (win0_1.blk t).view.emb (ix2 r d) = (ix2 r d : S128x4096.Idx) := by
  blk_ext [idx t]

theorem V0 : V m c main_v0 = shapeCast S8192x4096 (show FVec Ideal S4x2048x4096 .f32 from m ((c : Thread nD τ).loc main_arg0)) shapeCasts_S4x2048x4096_S8192x4096 := by
  unfold V; after_results <;> rfl

theorem V1 : V m c main_v1 = shapeCast S128x4096 (show FVec Ideal S128x1x4096 .f32 from m ((c : Thread nD τ).loc main_arg1)) shapeCasts_S128x1x4096_S128x4096 := by
  unfold V; after_results <;> rfl

/-- The prompt's rows with batch and position in one axis. -/
theorem rows0 (X : FVec Ideal S4x2048x4096 .f32) (R : Fin 8192) (k : Fin 4096) :
    shapeCast S8192x4096 X shapeCasts_S4x2048x4096_S8192x4096 (ix2 R k) = X (ix3 ⟨R.val / 2048, by omega⟩ ⟨R.val % 2048, by omega⟩ k) := by
  pointwise []

theorem rows1 (X : FVec Ideal S128x1x4096 .f32) (R : Fin 128) (k : Fin 4096) :
    shapeCast S128x4096 X shapeCasts_S128x1x4096_S128x4096 (ix2 R k) = X (ix3 R 0 k) := by
  pointwise []

theorem blk0 (ht : t.val < 64) (r : Fin 128) (k : Fin 4096) : iblk m c 0 t (ix2 r k)
    = (show FVec Ideal S4x2048x4096 .f32 from m ((c : Thread nD τ).loc main_arg0)) (ix3 ⟨(t.val * 128 + r.val) / 2048, by omega⟩ ⟨(t.val * 128 + r.val) % 2048, by omega⟩ k) := by
  refine (congrArg (V m c main_v0) (emb0 t ht r k)).trans ?_
  rw [V0]
  exact rows0 _ _ _

theorem blk1 (ht : t.val = 64) (r : Fin 128) (k : Fin 4096) : iblk m c 1 t (ix2 r k)
    = (show FVec Ideal S128x1x4096 .f32 from m ((c : Thread nD τ).loc main_arg1)) (ix3 r 0 k) := by
  refine (congrArg (V m c main_v1) (emb1 t ht r k)).trans ?_
  rw [V1]
  exact rows1 _ _ _

theorem blk2 (k : Fin 4096) : iblk m c 2 t (ix2 0 k) = (show FVec Ideal S1x4096 .f32 from m ((c : Thread nD τ).loc main_arg2)) (ix2 0 k) := by
  blk_point [iblk, V, idx t]

/-- What a point of the prompt stores, at an index, is the reference there. -/
theorem point_prompt (ht : t.val < 64) (y : S128x4096.Idx) : k0_pay1 (iblk m c 0 t) (iblk m c 2 t) y
    = REF (m ((c : Thread nD τ).loc main_arg0)) (m ((c : Thread nD τ).loc main_arg1)) (m ((c : Thread nD τ).loc main_arg2)) (((cfg0.win 3).blk t).view.emb y) := by
  idx_vars y
  refine (pay1_at _ _ y0 y1).trans ?_
  refine Eq.trans ?_ (congrArg (REF _ _ _) (emb3 t (by omega) y0 y1)).symm
  rw [ref_prompt _ _ _ _ (by show t.val * 128 + y0.val < 8192; omega)]
  exact normed_congr (fun k => blk0 m c t ht y0 k) (fun k => blk2 m c t k) y1

/-- What the point of the sample stores, at an index, is the reference there. -/
theorem point_sample (ht : t.val = 64) (y : S128x4096.Idx) : k0_pay2 (iblk m c 1 t) (iblk m c 2 t) y
    = REF (m ((c : Thread nD τ).loc main_arg0)) (m ((c : Thread nD τ).loc main_arg1)) (m ((c : Thread nD τ).loc main_arg2)) (((cfg0.win 3).blk t).view.emb y) := by
  idx_vars y
  refine (pay2_at _ _ y0 y1).trans ?_
  refine Eq.trans ?_ (congrArg (REF _ _ _) (emb3 t (by omega) y0 y1)).symm
  rw [ref_sample _ _ _ _ (by show ¬ t.val * 128 + y0.val < 8192; omega)]
  refine normed_congr (fun k => (blk1 m c t ht y0 k).trans ?_) (fun k => blk2 m c t k) y1
  exact congrArg (fun q => (show FVec Ideal S128x1x4096 .f32 from m ((c : Thread nD τ).loc main_arg1)) (ix3 q 0 k)) (Fin.ext (by show y0.val = t.val * 128 + y0.val - 8192; omega))

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have hb := (idx t).2.2.2.2
  blk_simp
  rw [after0_3]
  by_cases ht : t.val < 64
  · rw [outsAt0_A m c t ht (by omega)]; frame_out
    exact point_prompt m c t ht y
  · rw [outsAt0_B m c t ht (by omega)]; frame_out
    exact point_sample m c t (by omega) y

end Cert.Norm1Ideal.Own

end
-- ==== Proof.MergeFrame.lean ====
module

public import proofs.«01_k».proof.Proof.Gen.MergeIdeal.Launch
public import proofs.«01_k».proof.Proof.Gen.MergeIdeal.Skeleton
public import proofs.«01_k».proof.Proof.Gen.MergeIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.ValueKit

@[expose] public section

set_option maxRecDepth 16384

/-! # The run of the gated merge of the two branches

The body run once for each of its two cases (a row tile of prompt rows; the last row tile, whose rows are the last
prompt rows and the sample rows), the proof data of the pipeline, and from them the frame and the run's final arrays, over
any value domain. The prompt rows of the branches end inside the last row tile, so those windows' last blocks are cut: the buffers past the cut are read by no store. -/

noncomputable section

namespace Cert.MergeIdeal.Own

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What a core's buffer holds when the region is entered. -/
abbrev V (c : Dev nD) (b : Ref sig .tc) : Buf (Elt F) ((c : Thread nD τ).loc b) :=
  StableHlo.after hostOps0 (fun b => m (c, b)) b

/-- The reshapes allocate nothing. -/
theorem reshapes_fresh : (hostOps0 : List (HloOp τ sig (Elt F))).Forall fun op => op.fresh = ∅ := by
  simp only [List.Forall]; repeat' constructor

set_option maxHeartbeats 800000 in
/-- The program is its reshapes, then the region. -/
theorem enters (𝒱 : Variants) : Pipeline.HMain (Ix := Unit) (Name := ℕ) (U := UR sig nD τ) (Lvl := ℕ)
    cfgs 0 defs₀ 𝒱 m (main (F := F)) (V m) :=
  Pipeline.hmain_prefix cfgs 0 defs₀ 𝒱 m main hostOps0 hostOps0_sub reshapes_fresh main_chain

/-- Argument 0 is as launched when the region is entered. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- Argument 1 is as launched when the region is entered. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- Argument 2 is as launched when the region is entered. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- Argument 3 is as launched when the region is entered. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- Argument 4 is as launched when the region is entered. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- Argument 5 is as launched when the region is entered. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- Argument 6 is as launched when the region is entered. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- Window `w`'s block of its array at point `t`: the part of it the array has, for a window whose last block is cut. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first conditional is taken at the row tiles of prompt rows. -/
theorem cond_low : ∀ t : Fin cfg0.N, k0_cond1 (grid0.coords t) = 1#1 ↔ t.val < 64 :=
  (by decide +kernel : ∀ t : Fin grid0.N, k0_cond1 (grid0.coords t) = 1#1 ↔ t.val < 64)

/-- The second conditional is taken at the last row tile. -/
theorem cond_high : ∀ t : Fin cfg0.N, k0_cond2 (grid0.coords t) = 1#1 ↔ ¬ t.val < 64 :=
  (by decide +kernel : ∀ t : Fin grid0.N, k0_cond2 (grid0.coords t) = 1#1 ↔ ¬ t.val < 64)

/-- The output is stored at every point. -/
theorem live_out : ∀ t : Fin cfg0.N, cfg0.idle 8 (grid0.coords t) = false := by decide +kernel

/-- The block at a row tile of prompt rows: the gated sum of the two products, rounded. -/
def lowBlock (x0 : Vec F S1664x2048 .bf16) (x1 : Vec F S128x2048 .bf16) (x2 : Vec F S1664x2048 .bf16) (x3 : Vec F S128x2048 .bf16)
    (x4 x5 : Vec F S2048x256 .f32) (x6 x7 : Vec F S1664x256 .f32) : Vec F S1664x256 .bf16 :=
  k0_pay3 x4 x5 x0 x2 x6 x7

/-- The two stores of the last row tile, the later first: sample rows, then prompt rows. -/
def highPieces (x0 : Vec F S1664x2048 .bf16) (x1 : Vec F S128x2048 .bf16) (x2 : Vec F S1664x2048 .bf16) (x3 : Vec F S128x2048 .bf16)
    (x4 x5 : Vec F S2048x256 .f32) (x6 x7 : Vec F S1664x256 .f32) : List (View.Piece (Elt F) S1664x256 .bf16) :=
  [⟨Rect.unit (s := S1664x256) ![1536, 0] S128x256.size inb_S1664x256_S128x256_1536_0, k0_pay4 (k0_pay6 (k0_pay1 x4) x1) (k0_pay7 (k0_pay2 x5) x3) (k0_pay8 (View.ld x6 (Rect.unit (s := S1664x256) ![1536, 0] S128x256.size inb_S1664x256_S128x256_1536_0))) (View.ld x7 (Rect.unit (s := S1664x256) ![1536, 0] S128x256.size inb_S1664x256_S128x256_1536_0))⟩,
   ⟨Rect.unit (s := S1664x256) ![0, 0] S1536x256.size inb_S1664x256_S1536x256_0_0, k0_pay5 (k0_pay1 x4) (k0_pay2 x5) (View.ld x0 (Rect.unit (s := S1664x2048) ![0, 0] S1536x2048.size inb_S1664x2048_S1536x2048_0_0)) (View.ld x2 (Rect.unit (s := S1664x2048) ![0, 0] S1536x2048.size inb_S1664x2048_S1536x2048_0_0)) (View.ld x6 (Rect.unit (s := S1664x256) ![0, 0] S1536x256.size inb_S1664x256_S1536x256_0_0)) (View.ld x7 (Rect.unit (s := S1664x256) ![0, 0] S1536x256.size inb_S1664x256_S1536x256_0_0))⟩]

set_option maxHeartbeats 1000000 in
/-- The body at a row tile of prompt rows: the whole block is stored at once. -/
theorem body_low (c : Dev nD) (i : grid0.Coords) (arg2 : Memref sig .tc .vmem S1664x2048 .bf16) (harg2 : arg2.IsWhole) (arg3 : Memref sig .tc .vmem S128x2048 .bf16) (harg3 : arg3.IsWhole) (arg4 : Memref sig .tc .vmem S1664x2048 .bf16) (harg4 : arg4.IsWhole) (arg5 : Memref sig .tc .vmem S128x2048 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S1664x256 .f32) (harg8 : arg8.IsWhole) (arg9 : Memref sig .tc .vmem S1664x256 .f32) (harg9 : arg9.IsWhole) (arg10 : Memref sig .tc .vmem S1664x256 .bf16) (harg10 : arg10.IsWhole)
    (h1 : k0_cond1 i = 1#1) (h2 : ¬ k0_cond2 i = 1#1) (x0 : Vec F S1664x2048 .bf16) (x1 : Vec F S128x2048 .bf16) (x2 : Vec F S1664x2048 .bf16) (x3 : Vec F S128x2048 .bf16) (x4 : Vec F S2048x256 .f32) (x5 : Vec F S2048x256 .f32) (x6 : Vec F S1664x256 .f32) (x7 : Vec F S1664x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (lowBlock x0 x1 x2 x3 x4 x5 x6 x7)) -∗ K ⟨⟩))
    ⊢ wp frame (wpE (defs₀ (F := F)) Variants.none c none) E (cc0_merge i arg2 harg2 arg3 harg3 arg4 harg4 arg5 harg5 arg6 harg6 arg7 harg7 arg8 harg8 arg9 harg9 arg10 harg10) K := by
  simp only [cc0_merge_eq_skeleton]; unfold cc0_merge_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact H8
  ipureintro
  frame_out
  exact (View.read_writes_eq_canon _ _ _ (fun y => View.cover_of_tiledL _ S1664x256.size (by sl_kernel_rfl) y)).trans
    (View.canon_cons_unit_lit' (S := S1664x256) _ _ _ (by decide))

set_option maxHeartbeats 1000000 in
/-- The body at the last row tile: its prompt rows are stored, then its sample rows. -/
theorem body_high (c : Dev nD) (i : grid0.Coords) (arg2 : Memref sig .tc .vmem S1664x2048 .bf16) (harg2 : arg2.IsWhole) (arg3 : Memref sig .tc .vmem S128x2048 .bf16) (harg3 : arg3.IsWhole) (arg4 : Memref sig .tc .vmem S1664x2048 .bf16) (harg4 : arg4.IsWhole) (arg5 : Memref sig .tc .vmem S128x2048 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S1664x256 .f32) (harg8 : arg8.IsWhole) (arg9 : Memref sig .tc .vmem S1664x256 .f32) (harg9 : arg9.IsWhole) (arg10 : Memref sig .tc .vmem S1664x256 .bf16) (harg10 : arg10.IsWhole)
    (h1 : ¬ k0_cond1 i = 1#1) (h2 : k0_cond2 i = 1#1) (x0 : Vec F S1664x2048 .bf16) (x1 : Vec F S128x2048 .bf16) (x2 : Vec F S1664x2048 .bf16) (x3 : Vec F S128x2048 .bf16) (x4 : Vec F S2048x256 .f32) (x5 : Vec F S2048x256 .f32) (x6 : Vec F S1664x256 .f32) (x7 : Vec F S1664x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (View.canon (highPieces x0 x1 x2 x3 x4 x5 x6 x7))) -∗ K ⟨⟩))
    ⊢ wp frame (wpE (defs₀ (F := F)) Variants.none c none) E (cc0_merge i arg2 harg2 arg3 harg3 arg4 harg4 arg5 harg5 arg6 harg6 arg7 harg7 arg8 harg8 arg9 harg9 arg10 harg10) K := by
  simp only [cc0_merge_eq_skeleton]; unfold cc0_merge_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact H8
  ipureintro
  frame_out
  exact View.read_writes_eq_canon _ _ _ (fun y => View.cover_of_tiledBy (highPieces x0 x1 x2 x3 x4 x5 x6 x7) ![128, 256] (by sl_kernel_rfl) y)

/-- Window 0's buffer at point `t`: its block of the array, and a fixed filler past the array's end. -/
def X0 (c : Dev nD) (t : Fin cfg0.N) : Vec F S1664x2048 .bf16 :=
  (cfg0.win 0).fill (grid0.coords t) (fun _ => (FloatOps.ofBits .bf16 0#16 : F .bf16)) (iblk m c 0 t)

/-- Window 2's buffer at point `t`: its block of the array, and a fixed filler past the array's end. -/
def X2 (c : Dev nD) (t : Fin cfg0.N) : Vec F S1664x2048 .bf16 :=
  (cfg0.win 2).fill (grid0.coords t) (fun _ => (FloatOps.ofBits .bf16 0#16 : F .bf16)) (iblk m c 2 t)

/-- What the body leaves in the output's buffer at point `t`. -/
def outAt (c : Dev nD) (t : Fin cfg0.N) : Vec F S1664x256 .bf16 :=
  if t.val < 64 then lowBlock (X0 m c t) (iblk m c 1 t) (X2 m c t) (iblk m c 3 t) (iblk m c 4 t) (iblk m c 5 t) (iblk m c 6 t) (iblk m c 7 t) else View.canon (highPieces (X0 m c t) (iblk m c 1 t) (X2 m c t) (iblk m c 3 t) (iblk m c 4 t) (iblk m c 5 t) (iblk m c 6 t) (iblk m c 7 t))

/-- The pipeline's proof data: the arrays as the region finds them, each input's buffer at its block after the body, the
    output's at `outAt`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => iblk m c 1 t
    | ⟨2, _⟩ => X2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

/-- The proof data's arrays are what the region finds. -/
theorem dats_A (c : Dev nD) (w : Fin cfg0.W) : (dats m 0 c).A w = V m c (Pipeline.arrRef spec0 w) := by
  dsimp only [dats]

/-- Window 0's contents after the body. -/
theorem after_0 (c : Dev nD) (t : Fin cfg0.N) : (dats m 0 c).after 0 t = X0 m c t := by dsimp only [dats]
/-- Window 1's contents after the body. -/
theorem after_1 (c : Dev nD) (t : Fin cfg0.N) : (dats m 0 c).after 1 t = iblk m c 1 t := by dsimp only [dats]
/-- Window 2's contents after the body. -/
theorem after_2 (c : Dev nD) (t : Fin cfg0.N) : (dats m 0 c).after 2 t = X2 m c t := by dsimp only [dats]
/-- Window 3's contents after the body. -/
theorem after_3 (c : Dev nD) (t : Fin cfg0.N) : (dats m 0 c).after 3 t = iblk m c 3 t := by dsimp only [dats]
/-- Window 4's contents after the body. -/
theorem after_4 (c : Dev nD) (t : Fin cfg0.N) : (dats m 0 c).after 4 t = iblk m c 4 t := by dsimp only [dats]
/-- Window 5's contents after the body. -/
theorem after_5 (c : Dev nD) (t : Fin cfg0.N) : (dats m 0 c).after 5 t = iblk m c 5 t := by dsimp only [dats]
/-- Window 6's contents after the body. -/
theorem after_6 (c : Dev nD) (t : Fin cfg0.N) : (dats m 0 c).after 6 t = iblk m c 6 t := by dsimp only [dats]
/-- Window 7's contents after the body. -/
theorem after_7 (c : Dev nD) (t : Fin cfg0.N) : (dats m 0 c).after 7 t = iblk m c 7 t := by dsimp only [dats]
/-- The output's contents after the body. -/
theorem after_8 (c : Dev nD) (t : Fin cfg0.N) : (dats m 0 c).after 8 t = outAt m c t := by dsimp only [dats]

/-- Window 0's buffer holds its block at every point, on the part the array has. -/
theorem before_0 (c : Dev nD) (t : Fin cfg0.N) (d) :
    (dats m 0 c).before 0 t d = (cfg0.win 0).fill (grid0.coords t) d (iblk m c 0 t) :=
  ((dats m 0 c).before_in_eq_fetched 0 rfl (fun _ => rfl)
    (fun t t' h => funext fun a => congrArg (fun n => Pipeline.Clip.of n ((cfg0.win 0).size a) (S8192x2048.size a)) (congrFun h a))
    (fun t => by rw [after_0]; unfold X0; rw [Window.cut_fill]; unfold Dat.blockOf iblk; rw [dats_A]; try rfl) t d).trans
    (by unfold Dat.fetched Dat.blockOf iblk; rw [dats_A]; try rfl)

/-- Window 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [dats_A]; try rfl) t d).trans
    (by unfold Dat.fetched Dat.blockOf iblk; rw [dats_A]; try rfl)

/-- Window 2's buffer holds its block at every point, on the part the array has. -/
theorem before_2 (c : Dev nD) (t : Fin cfg0.N) (d) :
    (dats m 0 c).before 2 t d = (cfg0.win 2).fill (grid0.coords t) d (iblk m c 2 t) :=
  ((dats m 0 c).before_in_eq_fetched 2 rfl (fun _ => rfl)
    (fun t t' h => funext fun a => congrArg (fun n => Pipeline.Clip.of n ((cfg0.win 2).size a) (S8192x2048.size a)) (congrFun h a))
    (fun t => by rw [after_2]; unfold X2; rw [Window.cut_fill]; unfold Dat.blockOf iblk; rw [dats_A]; try rfl) t d).trans
    (by unfold Dat.fetched Dat.blockOf iblk; rw [dats_A]; try rfl)

/-- Window 3's buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [dats_A]; try rfl) t d).trans
    (by unfold Dat.fetched Dat.blockOf iblk; rw [dats_A]; try rfl)

/-- Window 4's buffer holds its block at every point. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [dats_A]; try rfl) t d).trans
    (by unfold Dat.fetched Dat.blockOf iblk; rw [dats_A]; try rfl)

/-- Window 5's buffer holds its block at every point. -/
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [dats_A]; try rfl) t d).trans
    (by unfold Dat.fetched Dat.blockOf iblk; rw [dats_A]; try rfl)

/-- Window 6's buffer holds its block at every point. -/
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [dats_A]; try rfl) t d).trans
    (by unfold Dat.fetched Dat.blockOf iblk; rw [dats_A]; try rfl)

/-- Window 7's buffer holds its block at every point. -/
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [dats_A]; try rfl) t d).trans
    (by unfold Dat.fetched Dat.blockOf iblk; rw [dats_A]; try rfl)

/-- No row of the first branch's prompt rows is cut at the tiles of prompt rows, and none of the first 1536 at any tile. -/
theorem rows_moved_0 : ∀ t : Fin cfg0.N, 1536 ≤ (cfg0.win 0).xsize (grid0.coords t) 0
    ∧ (t.val < 64 → (cfg0.win 0).xsize (grid0.coords t) 0 = 1664) ∧ (cfg0.win 0).xsize (grid0.coords t) 1 = 2048 := by
  decide +kernel

/-- A position of the first branch's prompt rows moved by the fetch holds the same whatever the buffer held before. -/
theorem fill_at_0 (c : Dev nD) (t : Fin cfg0.N) (d) (j : S1664x2048.Idx) (h0 : (j 0).val < (cfg0.win 0).xsize (grid0.coords t) 0) :
    (cfg0.win 0).fill (grid0.coords t) d (iblk m c 0 t) j = X0 m c t j := by
  have hm : (cfg0.win 0).moved (grid0.coords t) j = true := ((cfg0.win 0).moved_iff _ _).2 (fun a => by
    match a with
    | ⟨0, _⟩ => exact h0
    | ⟨1, _⟩ => exact lt_of_lt_of_eq (j 1).isLt (rows_moved_0 t).2.2.symm)
  unfold X0 Window.fill
  rw [dif_pos hm, dif_pos hm]

/-- So at a tile of prompt rows the whole buffer. -/
theorem fill_low_0 (c : Dev nD) (t : Fin cfg0.N) (h : t.val < 64) (d) :
    (cfg0.win 0).fill (grid0.coords t) d (iblk m c 0 t) = X0 m c t :=
  funext fun j => fill_at_0 m c t d j (lt_of_lt_of_eq (j 0).isLt ((rows_moved_0 t).2.1 h).symm)

/-- And at any tile the first 1536 rows. -/
theorem fill_top_0 (c : Dev nD) (t : Fin cfg0.N) (d) :
    View.ld (Val := Elt F) (e' := .bf16) ((cfg0.win 0).fill (grid0.coords t) d (iblk m c 0 t)) (Rect.unit (s := S1664x2048) ![0, 0] S1536x2048.size inb_S1664x2048_S1536x2048_0_0)
      = View.ld (X0 m c t) (Rect.unit (s := S1664x2048) ![0, 0] S1536x2048.size inb_S1664x2048_S1536x2048_0_0) :=
  funext fun y => fill_at_0 m c t d ((Rect.unit (s := S1664x2048) ![0, 0] S1536x2048.size inb_S1664x2048_S1536x2048_0_0).idx y) (lt_of_lt_of_le (by
    have hy : (y 0).val < 1536 := (y 0).isLt
    show 0 + 1 * (y 0).val < 1536
    omega) (rows_moved_0 t).1)

/-- No row of the second branch's prompt rows is cut at the tiles of prompt rows, and none of the first 1536 at any tile. -/
theorem rows_moved_2 : ∀ t : Fin cfg0.N, 1536 ≤ (cfg0.win 2).xsize (grid0.coords t) 0
    ∧ (t.val < 64 → (cfg0.win 2).xsize (grid0.coords t) 0 = 1664) ∧ (cfg0.win 2).xsize (grid0.coords t) 1 = 2048 := by
  decide +kernel

/-- A position of the second branch's prompt rows moved by the fetch holds the same whatever the buffer held before. -/
theorem fill_at_2 (c : Dev nD) (t : Fin cfg0.N) (d) (j : S1664x2048.Idx) (h0 : (j 0).val < (cfg0.win 2).xsize (grid0.coords t) 0) :
    (cfg0.win 2).fill (grid0.coords t) d (iblk m c 2 t) j = X2 m c t j := by
  have hm : (cfg0.win 2).moved (grid0.coords t) j = true := ((cfg0.win 2).moved_iff _ _).2 (fun a => by
    match a with
    | ⟨0, _⟩ => exact h0
    | ⟨1, _⟩ => exact lt_of_lt_of_eq (j 1).isLt (rows_moved_2 t).2.2.symm)
  unfold X2 Window.fill
  rw [dif_pos hm, dif_pos hm]

/-- So at a tile of prompt rows the whole buffer. -/
theorem fill_low_2 (c : Dev nD) (t : Fin cfg0.N) (h : t.val < 64) (d) :
    (cfg0.win 2).fill (grid0.coords t) d (iblk m c 2 t) = X2 m c t :=
  funext fun j => fill_at_2 m c t d j (lt_of_lt_of_eq (j 0).isLt ((rows_moved_2 t).2.1 h).symm)

/-- And at any tile the first 1536 rows. -/
theorem fill_top_2 (c : Dev nD) (t : Fin cfg0.N) (d) :
    View.ld (Val := Elt F) (e' := .bf16) ((cfg0.win 2).fill (grid0.coords t) d (iblk m c 2 t)) (Rect.unit (s := S1664x2048) ![0, 0] S1536x2048.size inb_S1664x2048_S1536x2048_0_0)
      = View.ld (X2 m c t) (Rect.unit (s := S1664x2048) ![0, 0] S1536x2048.size inb_S1664x2048_S1536x2048_0_0) :=
  funext fun y => fill_at_2 m c t d ((Rect.unit (s := S1664x2048) ![0, 0] S1536x2048.size inb_S1664x2048_S1536x2048_0_0).idx y) (lt_of_lt_of_le (by
    have hy : (y 0).val < 1536 := (y 0).isLt
    show 0 + 1 * (y 0).val < 1536
    omega) (rows_moved_2 t).1)

/-- At a tile of prompt rows the body's block does not depend on the buffers' earlier contents. -/
theorem low_fill (c : Dev nD) (t : Fin cfg0.N) (h : t.val < 64) (d0) (d2) :
    lowBlock (X0 m c t) (iblk m c 1 t) (X2 m c t) (iblk m c 3 t) (iblk m c 4 t) (iblk m c 5 t) (iblk m c 6 t) (iblk m c 7 t)
      = lowBlock ((cfg0.win 0).fill (grid0.coords t) d0 (iblk m c 0 t)) (iblk m c 1 t) ((cfg0.win 2).fill (grid0.coords t) d2 (iblk m c 2 t)) (iblk m c 3 t) (iblk m c 4 t) (iblk m c 5 t) (iblk m c 6 t) (iblk m c 7 t) := by
  rw [fill_low_0 m c t h, fill_low_2 m c t h]

/-- Nor do the stores of the last row tile. -/
theorem high_fill (c : Dev nD) (t : Fin cfg0.N) (d0) (d2) :
    highPieces (X0 m c t) (iblk m c 1 t) (X2 m c t) (iblk m c 3 t) (iblk m c 4 t) (iblk m c 5 t) (iblk m c 6 t) (iblk m c 7 t)
      = highPieces ((cfg0.win 0).fill (grid0.coords t) d0 (iblk m c 0 t)) (iblk m c 1 t) ((cfg0.win 2).fill (grid0.coords t) d2 (iblk m c 2 t)) (iblk m c 3 t) (iblk m c 4 t) (iblk m c 5 t) (iblk m c 6 t) (iblk m c 7 t) := by
  unfold highPieces
  rw [← fill_top_0 m c t d0, ← fill_top_2 m c t d2]; try rfl

/-- After the body window 0's buffer holds its block on the part the array has. -/
theorem leaves_0 (c : Dev nD) (t : Fin cfg0.N) : (dats m 0 c).leaves 0 t
    = iprop(∃ d, owns (c : Thread nD τ) (win0_0.stage (cfg0.slots t 0)) fullShare ((cfg0.win 0).fill (grid0.coords t) d (iblk m c 0 t))) := by
  have h : (cfg0.win 0).cut (grid0.coords t) ((dats m 0 c).after 0 t) = iblk m c 0 t := by
    rw [after_0]; exact (cfg0.win 0).cut_fill _ _ _
  rw [← h]; try rfl

/-- After the body window 1's buffer holds its block. -/
theorem leaves_1 (c : Dev nD) (t : Fin cfg0.N) : (dats m 0 c).leaves 1 t
    = owns (c : Thread nD τ) (win0_1.stage (cfg0.slots t 1)) fullShare (iblk m c 1 t) := by
  rw [← after_1]; try rfl

/-- After the body window 2's buffer holds its block on the part the array has. -/
theorem leaves_2 (c : Dev nD) (t : Fin cfg0.N) : (dats m 0 c).leaves 2 t
    = iprop(∃ d, owns (c : Thread nD τ) (win0_2.stage (cfg0.slots t 2)) fullShare ((cfg0.win 2).fill (grid0.coords t) d (iblk m c 2 t))) := by
  have h : (cfg0.win 2).cut (grid0.coords t) ((dats m 0 c).after 2 t) = iblk m c 2 t := by
    rw [after_2]; exact (cfg0.win 2).cut_fill _ _ _
  rw [← h]; try rfl

/-- After the body window 3's buffer holds its block. -/
theorem leaves_3 (c : Dev nD) (t : Fin cfg0.N) : (dats m 0 c).leaves 3 t
    = owns (c : Thread nD τ) (win0_3.stage (cfg0.slots t 3)) fullShare (iblk m c 3 t) := by
  rw [← after_3]; try rfl

/-- After the body window 4's buffer holds its block. -/
theorem leaves_4 (c : Dev nD) (t : Fin cfg0.N) : (dats m 0 c).leaves 4 t
    = owns (c : Thread nD τ) (win0_4.stage (cfg0.slots t 4)) fullShare (iblk m c 4 t) := by
  rw [← after_4]; try rfl

/-- After the body window 5's buffer holds its block. -/
theorem leaves_5 (c : Dev nD) (t : Fin cfg0.N) : (dats m 0 c).leaves 5 t
    = owns (c : Thread nD τ) (win0_5.stage (cfg0.slots t 5)) fullShare (iblk m c 5 t) := by
  rw [← after_5]; try rfl

/-- After the body window 6's buffer holds its block. -/
theorem leaves_6 (c : Dev nD) (t : Fin cfg0.N) : (dats m 0 c).leaves 6 t
    = owns (c : Thread nD τ) (win0_6.stage (cfg0.slots t 6)) fullShare (iblk m c 6 t) := by
  rw [← after_6]; try rfl

/-- After the body window 7's buffer holds its block. -/
theorem leaves_7 (c : Dev nD) (t : Fin cfg0.N) : (dats m 0 c).leaves 7 t
    = owns (c : Thread nD τ) (win0_7.stage (cfg0.slots t 7)) fullShare (iblk m c 7 t) := by
  rw [← after_7]; try rfl

/-- After the body the output's buffer holds `outAt`. -/
theorem leaves_8 (c : Dev nD) (t : Fin cfg0.N) : (dats m 0 c).leaves 8 t
    = owns (c : Thread nD τ) (win0_8.stage (cfg0.slots t 8)) fullShare (outAt m c t) := by
  rw [← after_8]; unfold Dat.leaves; rw [live_out t]; try rfl

/-- The body at any point, its windows one by one. -/
theorem body_point (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
    ⊢ wp frame (wpE (defs₀ (F := F)) Variants.none c none) Set.univ (bodyAt0 t) (fun _ => iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t)) := by
  unfold bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8]
  by_cases h : t.val < 64
  · rw [outAt, if_pos h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_low c (grid0.coords t) _ _ _ _ _ _ _ _ _ _ _ _ _ _ _ _ _ _ ((cond_low t).mpr h) (fun h2 => (cond_high t).mp h2 h) ((cfg0.win 0).fill (grid0.coords t) d0 (iblk m c 0 t)) (iblk m c 1 t) ((cfg0.win 2).fill (grid0.coords t) d2 (iblk m c 2 t)) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexists d0; iexact H0
    isplitl [H1]; · iexact H1
    isplitl [H2]; · iexists d2; iexact H2
    isplitl [H3]; · iexact H3
    isplitl [H4]; · iexact H4
    isplitl [H5]; · iexact H5
    isplitl [H6]; · iexact H6
    isplitl [H7]; · iexact H7
    rw [low_fill m c t h d0 d2]; iexact H8
  · rw [outAt, if_neg h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_high c (grid0.coords t) _ _ _ _ _ _ _ _ _ _ _ _ _ _ _ _ _ _ (fun h1 => h ((cond_low t).mp h1)) ((cond_high t).mpr h) ((cfg0.win 0).fill (grid0.coords t) d0 (iblk m c 0 t)) (iblk m c 1 t) ((cfg0.win 2).fill (grid0.coords t) d2 (iblk m c 2 t)) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexists d0; iexact H0
    isplitl [H1]; · iexact H1
    isplitl [H2]; · iexists d2; iexact H2
    isplitl [H3]; · iexact H3
    isplitl [H4]; · iexact H4
    isplitl [H5]; · iexact H5
    isplitl [H6]; · iexact H6
    isplitl [H7]; · iexact H7
    rw [high_fill m c t d0 d2]; iexact H8

/-- The body table at a point's slots is the body there. -/
theorem body_row (t : Fin cfg0.N) : defs₀ (F := F) .tc cfg0.body (cfg0.bodyArgs t (cfg0.slots t)) = bodyAt0 t := by
  unfold defs₀; rw [Defs.onTc_tc]

/-- The body obligation of the pipeline. -/
theorem obligation (c : Dev nD) : BodyObligationLoose (dats (F := F) m 0 c) (defs₀ (F := F)) Variants.none () Set.univ := fun t => by
  rw [bigSep_W0, bigSep_W0, body_row]
  exact triple_restated (body_point m c t) rfl .rfl fun _ => .rfl

set_option backward.isDefEq.respectTransparency.types false in
/-- Every fair run of the program ends with the arrays at what the proof data compute and every counter at zero. -/
theorem runs : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => obligation m c) (hq := fun _ _ _ => rfl)
    (howed := fun _ _ => rfl) (V := V m) (hmain := enters m Variants.none) (hA := dats_A m) (hΦ := fun _ _ => rfl)

/-- The run's final memory: the output array at the proof data's write-backs, the arguments unchanged. -/
theorem run_blocks : θ_run defs (onTc (τ := τ) (main (F := F))) ⟨m, fun _ => 0, ρ⟩ (fun r => ∀ c : Dev nD,
      r.2.mem ((c.tc : Thread nD τ).loc main_v2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 8,
    ((h.1 c).1 0).trans (((dats m 0 c).arrAt_in 0 rfl _).trans ((dats_A m c 0).trans (V_arg0 m c))),
    ((h.1 c).1 1).trans (((dats m 0 c).arrAt_in 1 rfl _).trans ((dats_A m c 1).trans (V_arg1 m c))),
    ((h.1 c).1 2).trans (((dats m 0 c).arrAt_in 2 rfl _).trans ((dats_A m c 2).trans (V_arg2 m c))),
    ((h.1 c).1 3).trans (((dats m 0 c).arrAt_in 3 rfl _).trans ((dats_A m c 3).trans (V_arg3 m c))),
    ((h.1 c).2 main_arg4 (Pipeline.mem_restRefs_of main_arg4 (by decide) (by decide))).trans (V_arg4 m c),
    ((h.1 c).2 main_arg5 (Pipeline.mem_restRefs_of main_arg5 (by decide) (by decide))).trans (V_arg5 m c),
    ((h.1 c).1 6).trans (((dats m 0 c).arrAt_in 6 rfl _).trans ((dats_A m c 6).trans (V_arg6 m c)))⟩) (runs m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 0).trans (((dats m 0 c).arrAt_in 0 rfl _).trans ((dats_A m c 0).trans (V_arg0 m c))),
    ((h.1 c).1 1).trans (((dats m 0 c).arrAt_in 1 rfl _).trans ((dats_A m c 1).trans (V_arg1 m c))),
    ((h.1 c).1 2).trans (((dats m 0 c).arrAt_in 2 rfl _).trans ((dats_A m c 2).trans (V_arg2 m c))),
    ((h.1 c).1 3).trans (((dats m 0 c).arrAt_in 3 rfl _).trans ((dats_A m c 3).trans (V_arg3 m c))),
    ((h.1 c).2 main_arg4 (Pipeline.mem_restRefs_of main_arg4 (by decide) (by decide))).trans (V_arg4 m c),
    ((h.1 c).2 main_arg5 (Pipeline.mem_restRefs_of main_arg5 (by decide) (by decide))).trans (V_arg5 m c),
    ((h.1 c).1 6).trans (((dats m 0 c).arrAt_in 6 rfl _).trans ((dats_A m c 6).trans (V_arg6 m c)))⟩, h.2⟩) (runs m ρ)

end Cert.MergeIdeal.Own

end
-- ==== Proof.Gate.lean ====
/- The sigmoid gate as the kernel writes it, by a hyperbolic tangent, and as the problem does. -/
module

public import Idealize.ShloMosaic.PureOps.Ideal
public import Idealize.ShloMosaic.PureOps.Ideal.Laws

@[expose] public section

noncomputable section

open Idealize.ShloMosaic

namespace Cert.Gate

/-- One half, read off its bits. -/
theorem half_bits : Ideal.ofBits .f32 1056964608#32 = (((1 : ℝ) / 2 : ℝ) : EReal) := by
  simp [Ideal.ofBits, Ideal.ieee, -EReal.coe_mul]; norm_num

/-- At a real number: half the tangent of the half, shifted by one half, is the sigmoid. -/
theorem real_gate (x : ℝ) : (1 / 2 : ℝ) * Real.tanh (1 / 2 * x) + 1 / 2 = (1 + Real.exp (-x))⁻¹ := by
  rw [Real.tanh_eq_sinh_div_cosh, Real.sinh_eq, Real.cosh_eq]
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  have p := Real.exp_pos (1 / 2 * x)
  have q := Real.exp_pos (-(1 / 2 * x))
  rw [h]
  generalize Real.exp (1 / 2 * x) = a at *
  generalize Real.exp (-(1 / 2 * x)) = b at *
  have : (1 + b * b) ≠ 0 := by positivity
  field_simp
  nlinarith

/-- The kernel's gate is the problem's at every extended real: at the infinities both are 0 and 1. -/
theorem gate_eq (x : EReal) : Ideal.ofBits .f32 1056964608#32 * Ideal.tanh (Ideal.ofBits .f32 1056964608#32 * x)
    + Ideal.ofBits .f32 1056964608#32 = Ideal.div 1 (1 + Ideal.exp (-x)) := by
  show _ = Ideal.logistic x
  rw [half_bits]
  have hp : (0 : ℝ) < 1 / 2 := by norm_num
  induction x using EReal.rec with
  | bot =>
    rw [EReal.coe_mul_bot_of_pos hp, Ideal.tanh_bot, Ideal.logistic_bot, ← EReal.coe_one, ← EReal.coe_neg, ← EReal.coe_mul, ← EReal.coe_add, ← EReal.coe_zero]
    norm_num
  | top =>
    rw [EReal.coe_mul_top_of_pos hp, Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, real_gate]

end Cert.Gate

end
-- ==== Proof.MergeValue.lean ====
/- What the merge computes: every row of the two branches, each through its weights and its sigmoid gate, summed and rounded. -/
module

public import proofs.«01_k».proof.Proof.MergeFrame
public import proofs.«01_k».proof.Proof.Gate
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Own

open Cert.MergeIdeal Cert.MergeIdeal.Gen

variable (m : (ℓ : Loc nD τ sig) → Buf (Elt Ideal) ℓ)

open Cert.Gate

/-- The reference's result as a function of the kernel's arguments. -/
abbrev REF (yap : FVec Ideal S8192x2048 .bf16) (yas : FVec Ideal S128x2048 .bf16) (ybp : FVec Ideal S8192x2048 .bf16) (ybs : FVec Ideal S128x2048 .bf16)
    (wa wb : FVec Ideal S1x2048x4096 .f32) (p : FVec Ideal S8320x10240 .f32) : FVec Ideal S8320x4096 .bf16 :=
  Cert.MergeRefIdeal.Read.val_main_v25 (F := Ideal) yap yas ybp ybs wa wb p

/-- Where each window stands at grid point `t`: 16 column tiles to a row tile, the gates' columns after the pooled ones. -/
theorem idx : ∀ t : Fin cfg0.N, win0_0.index t = ![min (t.val / 16) 4, 0] ∧ win0_1.index t = ![0, 0]
    ∧ win0_2.index t = ![min (t.val / 16) 4, 0] ∧ win0_3.index t = ![0, 0] ∧ win0_4.index t = ![0, t.val % 16] ∧ win0_5.index t = ![0, t.val % 16]
    ∧ win0_6.index t = ![t.val / 16, 8 + t.val % 16] ∧ win0_7.index t = ![t.val / 16, 24 + t.val % 16] ∧ win0_8.index t = ![t.val / 16, t.val % 16] ∧ t.val / 16 < 5 :=
  (by decide +kernel : ∀ t : Fin grid0.N, _)

/-- The sigmoid of one gate times a row of the first branch through its weights, plus the same of the second branch. -/
abbrev gated (ga gb : EReal) (ya wa yb wb : Fin 2048 → EReal) : EReal :=
  Ideal.div 1 (1 + Ideal.exp (-ga)) * ∑ k, ya k * wa k + Ideal.div 1 (1 + Ideal.exp (-gb)) * ∑ k, yb k * wb k

theorem gated_congr {ga ga' gb gb' : EReal} {ya ya' wa wa' yb yb' wb wb' : Fin 2048 → EReal} (h1 : ga = ga') (h2 : gb = gb')
    (h3 : ∀ k, ya k = ya' k) (h4 : ∀ k, wa k = wa' k) (h5 : ∀ k, yb k = yb' k) (h6 : ∀ k, wb k = wb' k) :
    gated ga gb ya wa yb wb = gated ga' gb' ya' wa' yb' wb' := by
  rw [h1, h2, funext h3, funext h4, funext h5, funext h6]

theorem pay3_at (wa wb : FVec Ideal S2048x256 .f32) (ya yb : FVec Ideal S1664x2048 .bf16) (ga gb : FVec Ideal S1664x256 .f32) (r : Fin 1664) (d : Fin 256) :
    k0_pay3 (F := Ideal) wa wb ya yb ga gb (ix2 r d) = gated (ga (ix2 r d)) (gb (ix2 r d))
      (fun k => ya (ix2 r k)) (fun k => wa (ix2 k d)) (fun k => yb (ix2 r k)) (fun k => wb (ix2 k d)) := by
  pointwise [k0_pay3, k0_pay1, k0_pay2]
  rw [gate_eq, gate_eq]; try rfl

theorem pay5_at (wa wb : FVec Ideal S2048x256 .f32) (ya yb : FVec Ideal S1536x2048 .bf16) (ga gb : FVec Ideal S1536x256 .f32) (r : Fin 1536) (d : Fin 256) :
    k0_pay5 (F := Ideal) (k0_pay1 wa) (k0_pay2 wb) ya yb ga gb (ix2 r d) = gated (ga (ix2 r d)) (gb (ix2 r d))
      (fun k => ya (ix2 r k)) (fun k => wa (ix2 k d)) (fun k => yb (ix2 r k)) (fun k => wb (ix2 k d)) := by
  pointwise [k0_pay5, k0_pay1, k0_pay2]
  rw [gate_eq, gate_eq]; try rfl

theorem pay4_at (wa wb : FVec Ideal S2048x256 .f32) (ya yb : FVec Ideal S128x2048 .bf16) (ga gb : FVec Ideal S128x256 .f32) (r : Fin 128) (d : Fin 256) :
    k0_pay4 (F := Ideal) (k0_pay6 (k0_pay1 wa) ya) (k0_pay7 (k0_pay2 wb) yb) (k0_pay8 ga) gb (ix2 r d) = gated (ga (ix2 r d)) (gb (ix2 r d))
      (fun k => ya (ix2 r k)) (fun k => wa (ix2 k d)) (fun k => yb (ix2 r k)) (fun k => wb (ix2 k d)) := by
  pointwise [k0_pay4, k0_pay6, k0_pay7, k0_pay8, k0_pay1, k0_pay2]
  rw [gate_eq, gate_eq]; try rfl

/-- The reference on a prompt row. -/
theorem ref_prompt
    (yap : FVec Ideal S8192x2048 .bf16) (yas : FVec Ideal S128x2048 .bf16) (ybp : FVec Ideal S8192x2048 .bf16) (ybs : FVec Ideal S128x2048 .bf16)
    (wa wb : FVec Ideal S1x2048x4096 .f32) (p : FVec Ideal S8320x10240 .f32)
    (R : Fin 8320) (h : R.val < 8192) (d : Fin 4096) :
    REF yap yas ybp ybs wa wb p (ix2 R d) = gated (p (ix2 R ⟨2048 + d.val, by omega⟩)) (p (ix2 R ⟨6144 + d.val, by omega⟩))
      (fun k => yap (ix2 ⟨R.val, h⟩ k)) (fun k => wa (ix3 0 k d)) (fun k => ybp (ix2 ⟨R.val, h⟩ k)) (fun k => wb (ix3 0 k d)) := by
  unfold REF
  pointwise [Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_cst, Cert.MergeRefIdeal.Read.val_main_cst_0, Cert.MergeRefIdeal.Read.val_main_cst_1, Cert.MergeRefIdeal.Read.val_main_cst_2]
  simp only [dif_pos h]; try rfl

/-- The reference on a sample row. -/
theorem ref_sample
    (yap : FVec Ideal S8192x2048 .bf16) (yas : FVec Ideal S128x2048 .bf16) (ybp : FVec Ideal S8192x2048 .bf16) (ybs : FVec Ideal S128x2048 .bf16)
    (wa wb : FVec Ideal S1x2048x4096 .f32) (p : FVec Ideal S8320x10240 .f32)
    (R : Fin 8320) (h : ¬ R.val < 8192) (d : Fin 4096) :
    REF yap yas ybp ybs wa wb p (ix2 R d) = gated (p (ix2 R ⟨2048 + d.val, by omega⟩)) (p (ix2 R ⟨6144 + d.val, by omega⟩))
      (fun k => yas (ix2 ⟨R.val - 8192, by omega⟩ k)) (fun k => wa (ix3 0 k d)) (fun k => ybs (ix2 ⟨R.val - 8192, by omega⟩ k)) (fun k => wb (ix3 0 k d)) := by
  unfold REF
  pointwise [Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_cst, Cert.MergeRefIdeal.Read.val_main_cst_0, Cert.MergeRefIdeal.Read.val_main_cst_1, Cert.MergeRefIdeal.Read.val_main_cst_2]
  simp only [dif_neg h]; try rfl

variable (c : Dev nD) (t : Fin cfg0.N)

/-- The part of the result that point `t` writes. -/
theorem emb8 (ht : t.val / 16 < 5) (r : Fin 1664) (d : Fin 256) :
    (win0_8.blk t).view.emb (ix2 r d) = (ix2 ⟨t.val / 16 * 1664 + r.val, by omega⟩ ⟨t.val % 16 * 256 + d.val, by omega⟩ : S8320x4096.Idx) := by
  blk_ext [idx t]

theorem V0 : V m c main_v0 = shapeCast S2048x4096 (show FVec Ideal S1x2048x4096 .f32 from m ((c : Thread nD τ).loc main_arg4)) shapeCasts_S1x2048x4096_S2048x4096 := by
  unfold V; after_results <;> rfl

theorem V1 : V m c main_v1 = shapeCast S2048x4096 (show FVec Ideal S1x2048x4096 .f32 from m ((c : Thread nD τ).loc main_arg5)) shapeCasts_S1x2048x4096_S2048x4096 := by
  unfold V; after_results <;> rfl

theorem cols (X : FVec Ideal S1x2048x4096 .f32) (k : Fin 2048) (d : Fin 4096) :
    shapeCast S2048x4096 X shapeCasts_S1x2048x4096_S2048x4096 (ix2 k d) = X (ix3 0 k d) := by
  pointwise []

theorem emb4 (k : Fin 2048) (d : Fin 256) :
    (win0_4.blk t).view.emb (ix2 k d) = (ix2 k ⟨t.val % 16 * 256 + d.val, by omega⟩ : S2048x4096.Idx) := by
  blk_ext [idx t]

theorem emb5 (k : Fin 2048) (d : Fin 256) :
    (win0_5.blk t).view.emb (ix2 k d) = (ix2 k ⟨t.val % 16 * 256 + d.val, by omega⟩ : S2048x4096.Idx) := by
  blk_ext [idx t]

theorem blk4 (k : Fin 2048) (d : Fin 256) : iblk m c 4 t (ix2 k d)
    = (show FVec Ideal S1x2048x4096 .f32 from m ((c : Thread nD τ).loc main_arg4)) (ix3 0 k ⟨t.val % 16 * 256 + d.val, by omega⟩) := by
  refine (congrArg (V m c main_v0) (emb4 t k d)).trans ?_
  rw [V0]
  exact cols _ _ _

theorem blk5 (k : Fin 2048) (d : Fin 256) : iblk m c 5 t (ix2 k d)
    = (show FVec Ideal S1x2048x4096 .f32 from m ((c : Thread nD τ).loc main_arg5)) (ix3 0 k ⟨t.val % 16 * 256 + d.val, by omega⟩) := by
  refine (congrArg (V m c main_v1) (emb5 t k d)).trans ?_
  rw [V1]
  exact cols _ _ _

theorem blk1 (r : Fin 128) (k : Fin 2048) : iblk m c 1 t (ix2 r k) = (show FVec Ideal S128x2048 .bf16 from m ((c : Thread nD τ).loc main_arg1)) (ix2 r k) := by
  blk_point [iblk, V, idx t]

theorem blk3 (r : Fin 128) (k : Fin 2048) : iblk m c 3 t (ix2 r k) = (show FVec Ideal S128x2048 .bf16 from m ((c : Thread nD τ).loc main_arg3)) (ix2 r k) := by
  blk_point [iblk, V, idx t]

theorem blk6 (ht : t.val / 16 < 5) (r : Fin 1664) (d : Fin 256) : iblk m c 6 t (ix2 r d)
    = (show FVec Ideal S8320x10240 .f32 from m ((c : Thread nD τ).loc main_arg6)) (ix2 ⟨t.val / 16 * 1664 + r.val, by omega⟩ ⟨2048 + (t.val % 16 * 256 + d.val), by omega⟩) := by
  blk_point [iblk, V, idx t]

theorem blk7 (ht : t.val / 16 < 5) (r : Fin 1664) (d : Fin 256) : iblk m c 7 t (ix2 r d)
    = (show FVec Ideal S8320x10240 .f32 from m ((c : Thread nD τ).loc main_arg6)) (ix2 ⟨t.val / 16 * 1664 + r.val, by omega⟩ ⟨6144 + (t.val % 16 * 256 + d.val), by omega⟩) := by
  blk_point [iblk, V, idx t]

/-- The first branch: the buffer at a row the array has. -/
theorem blk0 (r : Fin 1664) (q : Fin 2048) (hr : t.val / 16 * 1664 + r.val < 8192) : X0 m c t (ix2 r q)
    = (show FVec Ideal S8192x2048 .bf16 from m ((c : Thread nD τ).loc main_arg0)) (ix2 ⟨t.val / 16 * 1664 + r.val, hr⟩ q) := by
  have h0 : r.val < (cfg0.win 0).xsize (grid0.coords t) 0 := by
    by_cases ht : t.val < 64
    · rw [(rows_moved_0 t).2.1 ht]; exact r.isLt
    · have := (rows_moved_0 t).1
      have := (idx t).2.2.2.2.2.2.2.2.2
      omega
  have hm : (cfg0.win 0).moved (grid0.coords t) (ix2 r q) = true := ((cfg0.win 0).moved_iff _ _).2 (fun a => by
    match a with
    | ⟨0, _⟩ => exact h0
    | ⟨1, _⟩ => exact lt_of_lt_of_eq q.isLt (rows_moved_0 t).2.2.symm)
  unfold X0 Pipeline.Window.fill
  rw [dif_pos hm]
  refine (congrArg (V m c main_arg0) (?_ : _ = (ix2 ⟨t.val / 16 * 1664 + r.val, hr⟩ q : S8192x2048.Idx))).trans ?_
  · blk_ext [idx t]
  · exact congrFun (V_arg0 m c) _

/-- The second branch: the buffer at a row the array has. -/
theorem blk2 (r : Fin 1664) (q : Fin 2048) (hr : t.val / 16 * 1664 + r.val < 8192) : X2 m c t (ix2 r q)
    = (show FVec Ideal S8192x2048 .bf16 from m ((c : Thread nD τ).loc main_arg2)) (ix2 ⟨t.val / 16 * 1664 + r.val, hr⟩ q) := by
  have h0 : r.val < (cfg0.win 2).xsize (grid0.coords t) 0 := by
    by_cases ht : t.val < 64
    · rw [(rows_moved_2 t).2.1 ht]; exact r.isLt
    · have := (rows_moved_2 t).1
      have := (idx t).2.2.2.2.2.2.2.2.2
      omega
  have hm : (cfg0.win 2).moved (grid0.coords t) (ix2 r q) = true := ((cfg0.win 2).moved_iff _ _).2 (fun a => by
    match a with
    | ⟨0, _⟩ => exact h0
    | ⟨1, _⟩ => exact lt_of_lt_of_eq q.isLt (rows_moved_2 t).2.2.symm)
  unfold X2 Pipeline.Window.fill
  rw [dif_pos hm]
  refine (congrArg (V m c main_arg2) (?_ : _ = (ix2 ⟨t.val / 16 * 1664 + r.val, hr⟩ q : S8192x2048.Idx))).trans ?_
  · blk_ext [idx t]
  · exact congrFun (V_arg2 m c) _

/-- What a point of a prompt row tile stores is the reference there. -/
theorem point_low (ht : t.val < 64) (y : S1664x256.Idx) :
    lowBlock (X0 m c t) (iblk m c 1 t) (X2 m c t) (iblk m c 3 t) (iblk m c 4 t) (iblk m c 5 t) (iblk m c 6 t) (iblk m c 7 t) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  have hb := (idx t).2.2.2.2.2.2.2.2.2
  idx_vars y
  refine (pay3_at _ _ _ _ _ _ y0 y1).trans ?_
  refine Eq.trans ?_ (congrArg (REF _ _ _ _ _ _ _) (emb8 t hb y0 y1)).symm
  rw [ref_prompt _ _ _ _ _ _ _ _ (by show t.val / 16 * 1664 + y0.val < 8192; omega)]
  exact gated_congr (blk6 m c t hb y0 y1) (blk7 m c t hb y0 y1) (fun k => blk0 m c t y0 k (by omega)) (fun k => blk4 m c t k y1)
    (fun k => blk2 m c t y0 k (by omega)) (fun k => blk5 m c t k y1)

/-- What the two stores at the last row tile leave is the reference there. -/
theorem point_high (ht : ¬ t.val < 64) (y : S1664x256.Idx) :
    View.canon (Val := Elt Ideal) (highPieces (X0 m c t) (iblk m c 1 t) (X2 m c t) (iblk m c 3 t) (iblk m c 4 t) (iblk m c 5 t) (iblk m c 6 t) (iblk m c 7 t)) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  have hb := (idx t).2.2.2.2.2.2.2.2.2
  have ht4 : t.val / 16 = 4 := by omega
  idx_vars y
  refine Eq.trans ?_ (congrArg (REF _ _ _ _ _ _ _) (emb8 t hb y0 y1)).symm
  unfold highPieces
  by_cases hy : y0.val < 1536
  · rw [View.canon_cons_of_not_mem _ _ (by
      intro hmem
      have := (Rect.mem_set_unit (inb := inb_S1664x256_S128x256_1536_0).mp hmem) 0
      have h1 : 1536 ≤ y0.val := this.1
      omega)]
    have e : (ix2 y0 y1 : S1664x256.Idx) = (Rect.unit (s := S1664x256) ![0, 0] S1536x256.size inb_S1664x256_S1536x256_0_0).emb (ix2 ⟨y0.val, hy⟩ y1) := by
      funext a; match a with
      | ⟨0, _⟩ => exact Fin.ext (by show y0.val = 0 + 1 * y0.val; omega)
      | ⟨1, _⟩ => exact Fin.ext (by show y1.val = 0 + 1 * y1.val; omega)
    have ek : ∀ k : Fin 2048, (ix2 y0 k : S1664x2048.Idx) = (Rect.unit (s := S1664x2048) ![0, 0] S1536x2048.size inb_S1664x2048_S1536x2048_0_0).idx (ix2 ⟨y0.val, hy⟩ k) := by
      intro k; funext a; match a with
      | ⟨0, _⟩ => exact Fin.ext (by show y0.val = 0 + 1 * y0.val; omega)
      | ⟨1, _⟩ => exact Fin.ext (by show k.val = 0 + 1 * k.val; omega)
    rw [e, View.canon_cons_emb]
    refine (pay5_at _ _ _ _ _ _ ⟨y0.val, hy⟩ y1).trans ?_
    rw [ref_prompt _ _ _ _ _ _ _ _ (by show t.val / 16 * 1664 + y0.val < 8192; omega)]
    exact gated_congr ((congrArg (iblk m c 6 t) e.symm).trans (blk6 m c t hb y0 y1)) ((congrArg (iblk m c 7 t) e.symm).trans (blk7 m c t hb y0 y1))
      (fun k => (congrArg (X0 m c t) (ek k).symm).trans (blk0 m c t y0 k (by omega))) (fun k => blk4 m c t k y1)
      (fun k => (congrArg (X2 m c t) (ek k).symm).trans (blk2 m c t y0 k (by omega))) (fun k => blk5 m c t k y1)
  · have e : (ix2 y0 y1 : S1664x256.Idx) = (Rect.unit (s := S1664x256) ![1536, 0] S128x256.size inb_S1664x256_S128x256_1536_0).emb (ix2 ⟨y0.val - 1536, by omega⟩ y1) := by
      funext a; match a with
      | ⟨0, _⟩ => exact Fin.ext (by show y0.val = 1536 + 1 * (y0.val - 1536); omega)
      | ⟨1, _⟩ => exact Fin.ext (by show y1.val = 0 + 1 * y1.val; omega)
    rw [e, View.canon_cons_emb]
    refine (pay4_at _ _ _ _ _ _ ⟨y0.val - 1536, by omega⟩ y1).trans ?_
    rw [ref_sample _ _ _ _ _ _ _ _ (by show ¬ t.val / 16 * 1664 + y0.val < 8192; omega)]
    have er : (⟨y0.val - 1536, by omega⟩ : Fin 128) = ⟨t.val / 16 * 1664 + y0.val - 8192, by omega⟩ := Fin.ext (by show y0.val - 1536 = t.val / 16 * 1664 + y0.val - 8192; omega)
    refine gated_congr ((congrArg (iblk m c 6 t) e.symm).trans (blk6 m c t hb y0 y1)) ((congrArg (iblk m c 7 t) e.symm).trans (blk7 m c t hb y0 y1))
      (fun k => (blk1 m c t ⟨y0.val - 1536, by omega⟩ k).trans ?_) (fun k => blk4 m c t k y1)
      (fun k => (blk3 m c t ⟨y0.val - 1536, by omega⟩ k).trans ?_) (fun k => blk5 m c t k y1)
    · exact congrArg (fun q => (show FVec Ideal S128x2048 .bf16 from m ((c : Thread nD τ).loc main_arg1)) (ix2 q k)) er
    · exact congrArg (fun q => (show FVec Ideal S128x2048 .bf16 from m ((c : Thread nD τ).loc main_arg3)) (ix2 q k)) er

/-- The result array after the run. -/
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after_8]
  unfold outAt
  by_cases ht : t.val < 64
  · rw [if_pos ht]
    exact point_low m c t ht y
  · rw [if_neg ht]
    exact point_high m c t ht y

end Cert.MergeIdeal.Own

end
-- ==== Proof.OutProjFrame.lean ====
module

public import proofs.«01_k».proof.Proof.Gen.OutProjIdeal.Launch
public import proofs.«01_k».proof.Proof.Gen.OutProjIdeal.Skeleton
public import proofs.«01_k».proof.Proof.Gen.OutProjIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.ValueKit

@[expose] public section

set_option maxRecDepth 16384

/-! # The run of the output projection with its residual

The body run once for each of its two cases (a row tile of prompt rows; the last row tile, whose rows are the last
prompt rows and the sample rows), the proof data of the pipeline, and from them the frame and the run's final arrays, over
any value domain. The residual's prompt rows end inside the last row tile, so that window's last block is cut: the buffer past the cut is read by no store. -/

noncomputable section

namespace Cert.OutProjIdeal.Own

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What a core's buffer holds when the region is entered. -/
abbrev V (c : Dev nD) (b : Ref sig .tc) : Buf (Elt F) ((c : Thread nD τ).loc b) :=
  StableHlo.after hostOps0 (fun b => m (c, b)) b

/-- The reshapes allocate nothing. -/
theorem reshapes_fresh : (hostOps0 : List (HloOp τ sig (Elt F))).Forall fun op => op.fresh = ∅ := by
  simp only [List.Forall]; repeat' constructor

set_option maxHeartbeats 800000 in
/-- The program is its reshapes, then the region. -/
theorem enters (𝒱 : Variants) : Pipeline.HMain (Ix := Unit) (Name := ℕ) (U := UR sig nD τ) (Lvl := ℕ)
    cfgs 0 defs₀ 𝒱 m (main (F := F)) (V m) :=
  Pipeline.hmain_prefix cfgs 0 defs₀ 𝒱 m main hostOps0 hostOps0_sub reshapes_fresh main_chain

/-- Argument 0 is as launched when the region is entered. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- Argument 1 is as launched when the region is entered. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- Argument 2 is as launched when the region is entered. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- Argument 3 is as launched when the region is entered. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- Window `w`'s block of its array at point `t`: the part of it the array has, for a window whose last block is cut. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first conditional is taken at the row tiles of prompt rows. -/
theorem cond_low : ∀ t : Fin cfg0.N, k0_cond1 (grid0.coords t) = 1#1 ↔ t.val < 64 :=
  (by decide +kernel : ∀ t : Fin grid0.N, k0_cond1 (grid0.coords t) = 1#1 ↔ t.val < 64)

/-- The second conditional is taken at the last row tile. -/
theorem cond_high : ∀ t : Fin cfg0.N, k0_cond2 (grid0.coords t) = 1#1 ↔ ¬ t.val < 64 :=
  (by decide +kernel : ∀ t : Fin grid0.N, k0_cond2 (grid0.coords t) = 1#1 ↔ ¬ t.val < 64)

/-- The output is stored at every point. -/
theorem live_out : ∀ t : Fin cfg0.N, cfg0.idle 4 (grid0.coords t) = false := by decide +kernel

/-- The block at a row tile of prompt rows: residual plus product. -/
def lowBlock (x0 : Vec F S1664x4096 .bf16) (x1 : Vec F S4096x256 .f32) (x2 : Vec F S1664x256 .f32) (_x3 : Vec F S128x256 .f32) :
    Vec F S1664x256 .f32 :=
  k0_pay2 x0 x1 x2

/-- The two stores of the last row tile, the later first: sample rows, then prompt rows. -/
def highPieces (x0 : Vec F S1664x4096 .bf16) (x1 : Vec F S4096x256 .f32) (x2 : Vec F S1664x256 .f32) (x3 : Vec F S128x256 .f32) :
    List (View.Piece (Elt F) S1664x256 .f32) :=
  [⟨Rect.unit (s := S1664x256) ![1536, 0] S128x256.size inb_S1664x256_S128x256_1536_0, k0_pay4 x0 x1 x3⟩,
   ⟨Rect.unit (s := S1664x256) ![0, 0] S1536x256.size inb_S1664x256_S1536x256_0_0, k0_pay3 x0 x1 (View.ld x2 (Rect.unit (s := S1664x256) ![0, 0] S1536x256.size inb_S1664x256_S1536x256_0_0))⟩]

set_option maxHeartbeats 1000000 in
/-- The body at a row tile of prompt rows: the whole block is stored at once. -/
theorem body_low (c : Dev nD) (i : grid0.Coords) (arg2 : Memref sig .tc .vmem S1664x4096 .bf16) (harg2 : arg2.IsWhole) (arg3 : Memref sig .tc .vmem S4096x256 .f32) (harg3 : arg3.IsWhole) (arg4 : Memref sig .tc .vmem S1664x256 .f32) (harg4 : arg4.IsWhole) (arg5 : Memref sig .tc .vmem S128x256 .f32) (harg5 : arg5.IsWhole) (arg6 : Memref sig .tc .vmem S1664x256 .f32) (harg6 : arg6.IsWhole)
    (h1 : k0_cond1 i = 1#1) (h2 : ¬ k0_cond2 i = 1#1) (x0 : Vec F S1664x4096 .bf16) (x1 : Vec F S4096x256 .f32) (x2 : Vec F S1664x256 .f32) (x3 : Vec F S128x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (lowBlock x0 x1 x2 x3)) -∗ K ⟨⟩))
    ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  frame_out
  exact (View.read_writes_eq_canon _ _ _ (fun y => View.cover_of_tiledL _ S1664x256.size (by sl_kernel_rfl) y)).trans
    (View.canon_cons_unit_lit' (S := S1664x256) _ _ _ (by decide))

set_option maxHeartbeats 1000000 in
/-- The body at the last row tile: its prompt rows are stored, then its sample rows. -/
theorem body_high (c : Dev nD) (i : grid0.Coords) (arg2 : Memref sig .tc .vmem S1664x4096 .bf16) (harg2 : arg2.IsWhole) (arg3 : Memref sig .tc .vmem S4096x256 .f32) (harg3 : arg3.IsWhole) (arg4 : Memref sig .tc .vmem S1664x256 .f32) (harg4 : arg4.IsWhole) (arg5 : Memref sig .tc .vmem S128x256 .f32) (harg5 : arg5.IsWhole) (arg6 : Memref sig .tc .vmem S1664x256 .f32) (harg6 : arg6.IsWhole)
    (h1 : ¬ k0_cond1 i = 1#1) (h2 : k0_cond2 i = 1#1) (x0 : Vec F S1664x4096 .bf16) (x1 : Vec F S4096x256 .f32) (x2 : Vec F S1664x256 .f32) (x3 : Vec F S128x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (View.canon (highPieces x0 x1 x2 x3))) -∗ K ⟨⟩))
    ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  frame_out
  exact View.read_writes_eq_canon _ _ _ (fun y => View.cover_of_tiledBy (highPieces x0 x1 x2 x3) ![128, 256] (by sl_kernel_rfl) y)

/-- Window 2's buffer at point `t`: its block of the array, and a fixed filler past the array's end. -/
def X2 (c : Dev nD) (t : Fin cfg0.N) : Vec F S1664x256 .f32 :=
  (cfg0.win 2).fill (grid0.coords t) (fun _ => (FloatOps.ofBits .f32 0#32 : F .f32)) (iblk m c 2 t)

/-- What the body leaves in the output's buffer at point `t`. -/
def outAt (c : Dev nD) (t : Fin cfg0.N) : Vec F S1664x256 .f32 :=
  if t.val < 64 then lowBlock (iblk m c 0 t) (iblk m c 1 t) (X2 m c t) (iblk m c 3 t) else View.canon (highPieces (iblk m c 0 t) (iblk m c 1 t) (X2 m c t) (iblk m c 3 t))

/-- The pipeline's proof data: the arrays as the region finds them, each input's buffer at its block after the body, the
    output's at `outAt`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X2 m c t
    | ⟨3, _⟩ => iblk m c 3 t
    | ⟨4, _⟩ => outAt m c t
  Φ _ := Pipeline.ΦA spec0 c
  q w := fullShare
  owed _ := 0

/-- The proof data's arrays are what the region finds. -/
theorem dats_A (c : Dev nD) (w : Fin cfg0.W) : (dats m 0 c).A w = V m c (Pipeline.arrRef spec0 w) := by
  dsimp only [dats]

/-- Window 0's contents after the body. -/
theorem after_0 (c : Dev nD) (t : Fin cfg0.N) : (dats m 0 c).after 0 t = iblk m c 0 t := by dsimp only [dats]
/-- Window 1's contents after the body. -/
theorem after_1 (c : Dev nD) (t : Fin cfg0.N) : (dats m 0 c).after 1 t = iblk m c 1 t := by dsimp only [dats]
/-- Window 2's contents after the body. -/
theorem after_2 (c : Dev nD) (t : Fin cfg0.N) : (dats m 0 c).after 2 t = X2 m c t := by dsimp only [dats]
/-- Window 3's contents after the body. -/
theorem after_3 (c : Dev nD) (t : Fin cfg0.N) : (dats m 0 c).after 3 t = iblk m c 3 t := by dsimp only [dats]
/-- The output's contents after the body. -/
theorem after_4 (c : Dev nD) (t : Fin cfg0.N) : (dats m 0 c).after 4 t = outAt m c t := by dsimp only [dats]

/-- Window 0's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [dats_A]; try rfl) t d).trans
    (by unfold Dat.fetched Dat.blockOf iblk; rw [dats_A]; try rfl)

/-- Window 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [dats_A]; try rfl) t d).trans
    (by unfold Dat.fetched Dat.blockOf iblk; rw [dats_A]; try rfl)

/-- Window 2's buffer holds its block at every point, on the part the array has. -/
theorem before_2 (c : Dev nD) (t : Fin cfg0.N) (d) :
    (dats m 0 c).before 2 t d = (cfg0.win 2).fill (grid0.coords t) d (iblk m c 2 t) :=
  ((dats m 0 c).before_in_eq_fetched 2 rfl (fun _ => rfl)
    (fun t t' h => funext fun a => congrArg (fun n => Pipeline.Clip.of n ((cfg0.win 2).size a) (S8192x4096.size a)) (congrFun h a))
    (fun t => by rw [after_2]; unfold X2; rw [Window.cut_fill]; unfold Dat.blockOf iblk; rw [dats_A]; try rfl) t d).trans
    (by unfold Dat.fetched Dat.blockOf iblk; rw [dats_A]; try rfl)

/-- Window 3's buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [dats_A]; try rfl) t d).trans
    (by unfold Dat.fetched Dat.blockOf iblk; rw [dats_A]; try rfl)

/-- No row of the prompt's residual is cut at the tiles of prompt rows, and none of the first 1536 at any tile. -/
theorem rows_moved : ∀ t : Fin cfg0.N, 1536 ≤ (cfg0.win 2).xsize (grid0.coords t) 0
    ∧ (t.val < 64 → (cfg0.win 2).xsize (grid0.coords t) 0 = 1664) ∧ (cfg0.win 2).xsize (grid0.coords t) 1 = 256 := by
  decide +kernel

/-- A position moved by the fetch holds the same whatever the buffer held before. -/
theorem fill_at (c : Dev nD) (t : Fin cfg0.N) (d) (j : S1664x256.Idx) (h0 : (j 0).val < (cfg0.win 2).xsize (grid0.coords t) 0) :
    (cfg0.win 2).fill (grid0.coords t) d (iblk m c 2 t) j = X2 m c t j := by
  have hm : (cfg0.win 2).moved (grid0.coords t) j = true := ((cfg0.win 2).moved_iff _ _).2 (fun a => by
    match a with
    | ⟨0, _⟩ => exact h0
    | ⟨1, _⟩ => exact lt_of_lt_of_eq (j 1).isLt (rows_moved t).2.2.symm)
  unfold X2 Window.fill
  rw [dif_pos hm, dif_pos hm]

/-- At a tile of prompt rows the body's block does not depend on the buffer's earlier contents. -/
theorem low_fill (c : Dev nD) (t : Fin cfg0.N) (h : t.val < 64) (d) :
    lowBlock (iblk m c 0 t) (iblk m c 1 t) (X2 m c t) (iblk m c 3 t)
      = lowBlock (iblk m c 0 t) (iblk m c 1 t) ((cfg0.win 2).fill (grid0.coords t) d (iblk m c 2 t)) (iblk m c 3 t) :=
  congrArg (fun x => lowBlock (iblk m c 0 t) (iblk m c 1 t) x (iblk m c 3 t))
    (funext fun j => (fill_at m c t d j (lt_of_lt_of_eq (j 0).isLt ((rows_moved t).2.1 h).symm)).symm)

/-- Nor do the stores of the last row tile. -/
theorem high_fill (c : Dev nD) (t : Fin cfg0.N) (d) :
    highPieces (iblk m c 0 t) (iblk m c 1 t) (X2 m c t) (iblk m c 3 t)
      = highPieces (iblk m c 0 t) (iblk m c 1 t) ((cfg0.win 2).fill (grid0.coords t) d (iblk m c 2 t)) (iblk m c 3 t) := by
  have e : View.ld (X2 m c t) (Rect.unit (s := S1664x256) ![0, 0] S1536x256.size inb_S1664x256_S1536x256_0_0)
      = View.ld (Val := Elt F) (e' := .f32) ((cfg0.win 2).fill (grid0.coords t) d (iblk m c 2 t)) (Rect.unit (s := S1664x256) ![0, 0] S1536x256.size inb_S1664x256_S1536x256_0_0) :=
    funext fun y => (fill_at m c t d ((Rect.unit (s := S1664x256) ![0, 0] S1536x256.size inb_S1664x256_S1536x256_0_0).idx y) (lt_of_lt_of_le (by
      have hy : (y 0).val < 1536 := (y 0).isLt
      show 0 + 1 * (y 0).val < 1536
      omega) (rows_moved t).1)).symm
  unfold highPieces
  rw [e]; try rfl

/-- After the body window 0's buffer holds its block. -/
theorem leaves_0 (c : Dev nD) (t : Fin cfg0.N) : (dats m 0 c).leaves 0 t
    = owns (c : Thread nD τ) (win0_0.stage (cfg0.slots t 0)) fullShare (iblk m c 0 t) := by
  rw [← after_0]; try rfl

/-- After the body window 1's buffer holds its block. -/
theorem leaves_1 (c : Dev nD) (t : Fin cfg0.N) : (dats m 0 c).leaves 1 t
    = owns (c : Thread nD τ) (win0_1.stage (cfg0.slots t 1)) fullShare (iblk m c 1 t) := by
  rw [← after_1]; try rfl

/-- After the body window 2's buffer holds its block on the part the array has. -/
theorem leaves_2 (c : Dev nD) (t : Fin cfg0.N) : (dats m 0 c).leaves 2 t
    = iprop(∃ d, owns (c : Thread nD τ) (win0_2.stage (cfg0.slots t 2)) fullShare ((cfg0.win 2).fill (grid0.coords t) d (iblk m c 2 t))) := by
  have h : (cfg0.win 2).cut (grid0.coords t) ((dats m 0 c).after 2 t) = iblk m c 2 t := by
    rw [after_2]; exact (cfg0.win 2).cut_fill _ _ _
  rw [← h]; try rfl

/-- After the body window 3's buffer holds its block. -/
theorem leaves_3 (c : Dev nD) (t : Fin cfg0.N) : (dats m 0 c).leaves 3 t
    = owns (c : Thread nD τ) (win0_3.stage (cfg0.slots t 3)) fullShare (iblk m c 3 t) := by
  rw [← after_3]; try rfl

/-- After the body the output's buffer holds `outAt`. -/
theorem leaves_4 (c : Dev nD) (t : Fin cfg0.N) : (dats m 0 c).leaves 4 t
    = owns (c : Thread nD τ) (win0_4.stage (cfg0.slots t 4)) fullShare (outAt m c t) := by
  rw [← after_4]; unfold Dat.leaves; rw [live_out t]; try rfl

/-- The body at any point, its windows one by one. -/
theorem body_point (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
    ⊢ wp frame (wpE (defs₀ (F := F)) Variants.none c none) Set.univ (bodyAt0 t) (fun _ => iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t)) := by
  unfold bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4]
  by_cases h : t.val < 64
  · rw [outAt, if_pos h]
    iintro ⟨HΦ, Ho, ⟨%d0, H0⟩, ⟨%d1, H1⟩, ⟨%d2, H2⟩, ⟨%d3, H3⟩, ⟨%d4, H4⟩⟩
    iapply (body_low c (grid0.coords t) _ _ _ _ _ _ _ _ _ _ ((cond_low t).mpr h) (fun h2 => (cond_high t).mp h2 h) (iblk m c 0 t) (iblk m c 1 t) ((cfg0.win 2).fill (grid0.coords t) d2 (iblk m c 2 t)) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexists d2; iexact H2
    isplitl [H3]; · iexact H3
    rw [low_fill m c t h d2]; iexact H4
  · rw [outAt, if_neg h]
    iintro ⟨HΦ, Ho, ⟨%d0, H0⟩, ⟨%d1, H1⟩, ⟨%d2, H2⟩, ⟨%d3, H3⟩, ⟨%d4, H4⟩⟩
    iapply (body_high c (grid0.coords t) _ _ _ _ _ _ _ _ _ _ (fun h1 => h ((cond_low t).mp h1)) ((cond_high t).mpr h) (iblk m c 0 t) (iblk m c 1 t) ((cfg0.win 2).fill (grid0.coords t) d2 (iblk m c 2 t)) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexists d2; iexact H2
    isplitl [H3]; · iexact H3
    rw [high_fill m c t d2]; iexact H4

/-- The body table at a point's slots is the body there. -/
theorem body_row (t : Fin cfg0.N) : defs₀ (F := F) .tc cfg0.body (cfg0.bodyArgs t (cfg0.slots t)) = bodyAt0 t := by
  unfold defs₀; rw [Defs.onTc_tc]

/-- The body obligation of the pipeline. -/
theorem obligation (c : Dev nD) : BodyObligationLoose (dats (F := F) m 0 c) (defs₀ (F := F)) Variants.none () Set.univ := fun t => by
  rw [bigSep_W0, bigSep_W0, body_row]
  exact triple_restated (body_point m c t) rfl .rfl fun _ => .rfl

set_option backward.isDefEq.respectTransparency.types false in
/-- Every fair run of the program ends with the arrays at what the proof data compute and every counter at zero. -/
theorem runs : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => obligation m c) (hshare := fun c => (dats m 0 c).share_full fun _ => rfl)
    (howed := fun _ _ => rfl) (V := V m) (hmain := enters m Variants.none) (hA := dats_A m) (hΦ := fun _ _ => rfl)

/-- The run's final memory: the output array at the proof data's write-backs, the arguments unchanged. -/
theorem run_blocks : θ_run defs (onTc (τ := τ) (main (F := F))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4,
    ((h.1 c).1 0).trans (((dats m 0 c).arrAt_in 0 rfl _).trans ((dats_A m c 0).trans (V_arg0 m c))),
    ((h.1 c).2 main_arg1 (Pipeline.mem_restRefs_of main_arg1 (by decide) (by decide))).trans (V_arg1 m c),
    ((h.1 c).2 main_arg2 (Pipeline.mem_restRefs_of main_arg2 (by decide) (by decide))).trans (V_arg2 m c),
    ((h.1 c).2 main_arg3 (Pipeline.mem_restRefs_of main_arg3 (by decide) (by decide))).trans (V_arg3 m c)⟩) (runs m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (((dats m 0 c).arrAt_in 0 rfl _).trans ((dats_A m c 0).trans (V_arg0 m c))),
    ((h.1 c).2 main_arg1 (Pipeline.mem_restRefs_of main_arg1 (by decide) (by decide))).trans (V_arg1 m c),
    ((h.1 c).2 main_arg2 (Pipeline.mem_restRefs_of main_arg2 (by decide) (by decide))).trans (V_arg2 m c),
    ((h.1 c).2 main_arg3 (Pipeline.mem_restRefs_of main_arg3 (by decide) (by decide))).trans (V_arg3 m c)⟩, h.2⟩) (runs m ρ)

end Cert.OutProjIdeal.Own

end
-- ==== Proof.OutProjValue.lean ====
/- What the output projection computes: every row of the merged branches times the weights, added to the residual row. -/
module

public import proofs.«01_k».proof.Proof.OutProjFrame
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Own

open Cert.OutProjIdeal Cert.OutProjIdeal.Gen

variable (m : (ℓ : Loc nD τ sig) → Buf (Elt Ideal) ℓ)

/-- The reference's result as a function of the kernel's arguments. -/
abbrev REF (x : FVec Ideal S8320x4096 .bf16) (w : FVec Ideal S1x4096x4096 .f32) (xp : FVec Ideal S4x2048x4096 .f32) (xs : FVec Ideal S128x1x4096 .f32) : FVec Ideal S8320x4096 .f32 :=
  Cert.OutProjRefIdeal.Read.val_main_v6 (F := Ideal) x w xp xs

/-- Where each window stands at grid point `t`: 16 column tiles to a row tile. -/
theorem idx : ∀ t : Fin cfg0.N, win0_0.index t = ![t.val / 16, 0] ∧ win0_1.index t = ![0, t.val % 16]
    ∧ win0_2.index t = ![t.val / 16, t.val % 16] ∧ win0_3.index t = ![0, t.val % 16] ∧ win0_4.index t = ![t.val / 16, t.val % 16] ∧ t.val / 16 < 5 :=
  (by decide +kernel : ∀ t : Fin grid0.N, _)

/-- A residual entry plus a row times a column. -/
abbrev added (v : EReal) (row col : Fin 4096 → EReal) : EReal := v + ∑ k, row k * col k

theorem added_congr {v v' : EReal} {a a' b b' : Fin 4096 → EReal} (hv : v = v') (ha : ∀ k, a k = a' k) (hb : ∀ k, b k = b' k) :
    added v a b = added v' a' b' := by
  rw [hv, funext ha, funext hb]

theorem pay2_at (x : FVec Ideal S1664x4096 .bf16) (w : FVec Ideal S4096x256 .f32) (v : FVec Ideal S1664x256 .f32) (r : Fin 1664) (d : Fin 256) :
    k0_pay2 (F := Ideal) x w v (ix2 r d) = added (v (ix2 r d)) (fun k => x (ix2 r k)) (fun k => w (ix2 k d)) := by
  pointwise [k0_pay2, k0_pay1]; try rfl

theorem pay3_at (x : FVec Ideal S1664x4096 .bf16) (w : FVec Ideal S4096x256 .f32) (v : FVec Ideal S1536x256 .f32) (r : Fin 1536) (d : Fin 256) :
    k0_pay3 (F := Ideal) x w v (ix2 r d) = added (v (ix2 r d)) (fun k => x (ix2 (⟨r.val, by omega⟩ : Fin 1664) k)) (fun k => w (ix2 k d)) := by
  pointwise [k0_pay3, k0_pay1]; try rfl

theorem pay4_at (x : FVec Ideal S1664x4096 .bf16) (w : FVec Ideal S4096x256 .f32) (v : FVec Ideal S128x256 .f32) (r : Fin 128) (d : Fin 256) :
    k0_pay4 (F := Ideal) x w v (ix2 r d) = added (v (ix2 r d)) (fun k => x (ix2 (⟨1536 + r.val, by omega⟩ : Fin 1664) k)) (fun k => w (ix2 k d)) := by
  pointwise [k0_pay4, k0_pay1]; try rfl

/-- The reference on a prompt row. -/
theorem ref_prompt (x : FVec Ideal S8320x4096 .bf16) (w : FVec Ideal S1x4096x4096 .f32) (xp : FVec Ideal S4x2048x4096 .f32) (xs : FVec Ideal S128x1x4096 .f32)
    (R : Fin 8320) (h : R.val < 8192) (d : Fin 4096) :
    REF x w xp xs (ix2 R d) = added (xp (ix3 ⟨R.val / 2048, by omega⟩ ⟨R.val % 2048, by omega⟩ d)) (fun k => x (ix2 R k)) (fun k => w (ix3 0 k d)) := by
  unfold REF
  pointwise [Cert.OutProjRefIdeal.Read.val_main_v0, Cert.OutProjRefIdeal.Read.val_main_v1, Cert.OutProjRefIdeal.Read.val_main_v2, Cert.OutProjRefIdeal.Read.val_main_v3, Cert.OutProjRefIdeal.Read.val_main_v4, Cert.OutProjRefIdeal.Read.val_main_v5, Cert.OutProjRefIdeal.Read.val_main_v6]
  rw [dif_pos h]; try rfl

/-- The reference on a sample row. -/
theorem ref_sample (x : FVec Ideal S8320x4096 .bf16) (w : FVec Ideal S1x4096x4096 .f32) (xp : FVec Ideal S4x2048x4096 .f32) (xs : FVec Ideal S128x1x4096 .f32)
    (R : Fin 8320) (h : ¬ R.val < 8192) (d : Fin 4096) :
    REF x w xp xs (ix2 R d) = added (xs (ix3 ⟨R.val - 8192, by omega⟩ 0 d)) (fun k => x (ix2 R k)) (fun k => w (ix3 0 k d)) := by
  unfold REF
  pointwise [Cert.OutProjRefIdeal.Read.val_main_v0, Cert.OutProjRefIdeal.Read.val_main_v1, Cert.OutProjRefIdeal.Read.val_main_v2, Cert.OutProjRefIdeal.Read.val_main_v3, Cert.OutProjRefIdeal.Read.val_main_v4, Cert.OutProjRefIdeal.Read.val_main_v5, Cert.OutProjRefIdeal.Read.val_main_v6]
  rw [dif_neg h]; try rfl

variable (c : Dev nD) (t : Fin cfg0.N)

/-- The part of the result that point `t` writes. -/
theorem emb4 (ht : t.val / 16 < 5) (r : Fin 1664) (d : Fin 256) :
    (win0_4.blk t).view.emb (ix2 r d) = (ix2 ⟨t.val / 16 * 1664 + r.val, by omega⟩ ⟨t.val % 16 * 256 + d.val, by omega⟩ : S8320x4096.Idx) := by
  blk_ext [idx t]

theorem V0 : V m c main_v0 = shapeCast S4096x4096 (show FVec Ideal S1x4096x4096 .f32 from m ((c : Thread nD τ).loc main_arg1)) shapeCasts_S1x4096x4096_S4096x4096 := by
  unfold V; after_results <;> rfl

theorem V1 : V m c main_v1 = shapeCast S8192x4096 (show FVec Ideal S4x2048x4096 .f32 from m ((c : Thread nD τ).loc main_arg2)) shapeCasts_S4x2048x4096_S8192x4096 := by
  unfold V; after_results <;> rfl

theorem V2 : V m c main_v2 = shapeCast S128x4096 (show FVec Ideal S128x1x4096 .f32 from m ((c : Thread nD τ).loc main_arg3)) shapeCasts_S128x1x4096_S128x4096 := by
  unfold V; after_results <;> rfl

theorem cols (X : FVec Ideal S1x4096x4096 .f32) (k d : Fin 4096) :
    shapeCast S4096x4096 X shapeCasts_S1x4096x4096_S4096x4096 (ix2 k d) = X (ix3 0 k d) := by
  pointwise []

theorem rows1 (X : FVec Ideal S4x2048x4096 .f32) (R : Fin 8192) (k : Fin 4096) :
    shapeCast S8192x4096 X shapeCasts_S4x2048x4096_S8192x4096 (ix2 R k) = X (ix3 ⟨R.val / 2048, by omega⟩ ⟨R.val % 2048, by omega⟩ k) := by
  pointwise []

theorem rows2 (X : FVec Ideal S128x1x4096 .f32) (R : Fin 128) (k : Fin 4096) :
    shapeCast S128x4096 X shapeCasts_S128x1x4096_S128x4096 (ix2 R k) = X (ix3 R 0 k) := by
  pointwise []

theorem emb1 (k : Fin 4096) (d : Fin 256) :
    (win0_1.blk t).view.emb (ix2 k d) = (ix2 k ⟨t.val % 16 * 256 + d.val, by omega⟩ : S4096x4096.Idx) := by
  blk_ext [idx t]

theorem emb3 (r : Fin 128) (d : Fin 256) :
    (win0_3.blk t).view.emb (ix2 r d) = (ix2 r ⟨t.val % 16 * 256 + d.val, by omega⟩ : S128x4096.Idx) := by
  blk_ext [idx t]

theorem blk0 (ht : t.val / 16 < 5) (r : Fin 1664) (k : Fin 4096) : iblk m c 0 t (ix2 r k)
    = (show FVec Ideal S8320x4096 .bf16 from m ((c : Thread nD τ).loc main_arg0)) (ix2 ⟨t.val / 16 * 1664 + r.val, by omega⟩ k) := by
  blk_point [iblk, V, idx t]

theorem blk1 (k : Fin 4096) (d : Fin 256) : iblk m c 1 t (ix2 k d)
    = (show FVec Ideal S1x4096x4096 .f32 from m ((c : Thread nD τ).loc main_arg1)) (ix3 0 k ⟨t.val % 16 * 256 + d.val, by omega⟩) := by
  refine (congrArg (V m c main_v0) (emb1 t k d)).trans ?_
  rw [V0]
  exact cols _ _ _

theorem blk3 (r : Fin 128) (d : Fin 256) : iblk m c 3 t (ix2 r d)
    = (show FVec Ideal S128x1x4096 .f32 from m ((c : Thread nD τ).loc main_arg3)) (ix3 r 0 ⟨t.val % 16 * 256 + d.val, by omega⟩) := by
  refine (congrArg (V m c main_v2) (emb3 t r d)).trans ?_
  rw [V2]
  exact rows2 _ _ _

/-- The residual's buffer at a row the array has. -/
theorem blk2 (r : Fin 1664) (d : Fin 256) (hr : t.val / 16 * 1664 + r.val < 8192) : X2 m c t (ix2 r d)
    = (show FVec Ideal S4x2048x4096 .f32 from m ((c : Thread nD τ).loc main_arg2)) (ix3 ⟨(t.val / 16 * 1664 + r.val) / 2048, by omega⟩ ⟨(t.val / 16 * 1664 + r.val) % 2048, by omega⟩ ⟨t.val % 16 * 256 + d.val, by omega⟩) := by
  have h0 : r.val < (cfg0.win 2).xsize (grid0.coords t) 0 := by
    by_cases ht : t.val < 64
    · rw [(rows_moved t).2.1 ht]; exact r.isLt
    · have := (rows_moved t).1
      have := (idx t).2.2.2.2.2
      omega
  have hm : (cfg0.win 2).moved (grid0.coords t) (ix2 r d) = true := ((cfg0.win 2).moved_iff _ _).2 (fun a => by
    match a with
    | ⟨0, _⟩ => exact h0
    | ⟨1, _⟩ => exact lt_of_lt_of_eq d.isLt (rows_moved t).2.2.symm)
  unfold X2 Pipeline.Window.fill
  rw [dif_pos hm]
  refine (congrArg (V m c main_v1) (?_ : _ = (ix2 ⟨t.val / 16 * 1664 + r.val, hr⟩ ⟨t.val % 16 * 256 + d.val, by omega⟩ : S8192x4096.Idx))).trans ?_
  · blk_ext [idx t]
  · rw [V1]
    exact rows1 _ _ _

/-- What a point of a prompt row tile stores is the reference there. -/
theorem point_low (ht : t.val < 64) (y : S1664x256.Idx) :
    lowBlock (iblk m c 0 t) (iblk m c 1 t) (X2 m c t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  have hb := (idx t).2.2.2.2.2
  idx_vars y
  refine (pay2_at _ _ _ y0 y1).trans ?_
  refine Eq.trans ?_ (congrArg (REF _ _ _ _) (emb4 t hb y0 y1)).symm
  rw [ref_prompt _ _ _ _ _ (by show t.val / 16 * 1664 + y0.val < 8192; omega)]
  exact added_congr (blk2 m c t y0 y1 (by omega)) (fun k => blk0 m c t hb y0 k) (fun k => blk1 m c t k y1)

/-- What the two stores at the last row tile leave is the reference there. -/
theorem point_high (ht : ¬ t.val < 64) (y : S1664x256.Idx) :
    View.canon (Val := Elt Ideal) (highPieces (iblk m c 0 t) (iblk m c 1 t) (X2 m c t) (iblk m c 3 t)) y
    = REF (m ((c : Thread nD τ).loc main_arg0)) (m ((c : Thread nD τ).loc main_arg1)) (m ((c : Thread nD τ).loc main_arg2)) (m ((c : Thread nD τ).loc main_arg3)) (((cfg0.win 4).blk t).view.emb y) := by
  have hb := (idx t).2.2.2.2.2
  have ht4 : t.val / 16 = 4 := by omega
  idx_vars y
  refine Eq.trans ?_ (congrArg (REF _ _ _ _) (emb4 t hb y0 y1)).symm
  unfold highPieces
  by_cases hy : y0.val < 1536
  · rw [View.canon_cons_of_not_mem _ _ (by
      intro hmem
      have := (Rect.mem_set_unit (inb := inb_S1664x256_S128x256_1536_0).mp hmem) 0
      have h1 : 1536 ≤ y0.val := this.1
      omega)]
    have e : (ix2 y0 y1 : S1664x256.Idx) = (Rect.unit (s := S1664x256) ![0, 0] S1536x256.size inb_S1664x256_S1536x256_0_0).emb (ix2 ⟨y0.val, hy⟩ y1) := by
      funext a; match a with
      | ⟨0, _⟩ => exact Fin.ext (by show y0.val = 0 + 1 * y0.val; omega)
      | ⟨1, _⟩ => exact Fin.ext (by show y1.val = 0 + 1 * y1.val; omega)
    rw [e, View.canon_cons_emb]
    refine (pay3_at _ _ _ ⟨y0.val, hy⟩ y1).trans ?_
    rw [ref_prompt _ _ _ _ _ (by show t.val / 16 * 1664 + y0.val < 8192; omega)]
    refine added_congr ((congrArg (X2 m c t) e.symm).trans (blk2 m c t y0 y1 (by omega))) (fun k => blk0 m c t hb y0 k) (fun k => blk1 m c t k y1)
  · have e : (ix2 y0 y1 : S1664x256.Idx) = (Rect.unit (s := S1664x256) ![1536, 0] S128x256.size inb_S1664x256_S128x256_1536_0).emb (ix2 ⟨y0.val - 1536, by omega⟩ y1) := by
      funext a; match a with
      | ⟨0, _⟩ => exact Fin.ext (by show y0.val = 1536 + 1 * (y0.val - 1536); omega)
      | ⟨1, _⟩ => exact Fin.ext (by show y1.val = 0 + 1 * y1.val; omega)
    rw [e, View.canon_cons_emb]
    refine (pay4_at _ _ _ ⟨y0.val - 1536, by omega⟩ y1).trans ?_
    rw [ref_sample _ _ _ _ _ (by show ¬ t.val / 16 * 1664 + y0.val < 8192; omega)]
    refine added_congr ((blk3 m c t ⟨y0.val - 1536, by omega⟩ y1).trans ?_) (fun k => ?_) (fun k => blk1 m c t k y1)
    · exact congrArg (fun q => (show FVec Ideal S128x1x4096 .f32 from m ((c : Thread nD τ).loc main_arg3)) (ix3 q 0 ⟨t.val % 16 * 256 + y1.val, by omega⟩)) (Fin.ext (by show y0.val - 1536 = t.val / 16 * 1664 + y0.val - 8192; omega))
    · refine (blk0 m c t hb ⟨1536 + (y0.val - 1536), by omega⟩ k).trans ?_
      exact congrArg (fun q => (show FVec Ideal S8320x4096 .bf16 from m ((c : Thread nD τ).loc main_arg0)) (ix2 q k)) (Fin.ext (by show t.val / 16 * 1664 + (1536 + (y0.val - 1536)) = t.val / 16 * 1664 + y0.val; omega))

/-- The result array after the run. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after_4]
  unfold outAt
  by_cases ht : t.val < 64
  · rw [if_pos ht]
    exact point_low m c t ht y
  · rw [if_neg ht]
    exact point_high m c t ht y

end Cert.OutProjIdeal.Own

end
-- ==== Proof.CombinePValue.lean ====
/- What `combine` computes on the prompt's rows: the residual plus the two weighted expert rows, normalized and scaled. -/
module

public import proofs.«01_k».proof.Proof.Gen.CombinePIdeal.Value
public import proofs.«01_k».proof.Proof.Gen.CombinePRefIdeal.Read
public import proofs.«01_k».proof.Proof.RowNorm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombinePIdeal.Own

open Cert.CombinePIdeal Cert.CombinePIdeal.Gen

open Cert.RowNorm

variable (m : (ℓ : Loc nD τ sig) → Buf (Elt Ideal) ℓ)

/-- The reference's result as a function of the kernel's arguments. -/
abbrev REF (x : FVec Ideal S8320x4096 .f32) (y : FVec Ideal S16640x4096 .f32) (w : FVec Ideal S8320x128 .f32) (g : FVec Ideal S4096 .f32) : FVec Ideal S8192x4096 .f32 :=
  Cert.CombinePRefIdeal.Read.val_main_v28 (F := Ideal) x y w g

/-- Where each window stands at grid point `t`. -/
theorem idx : ∀ t : Fin cfg0.N, win0_0.index t = ![t.val, 0] ∧ win0_1.index t = ![t.val, 0]
    ∧ win0_2.index t = ![32 + t.val, 0] ∧ win0_3.index t = ![t.val, 0] ∧ win0_4.index t = ![0, 0] ∧ win0_5.index t = ![t.val, 0] ∧ t.val < 32 :=
  (by decide +kernel : ∀ t : Fin grid0.N, _)

/-- The residual row plus its two experts' rows, each by its weight. -/
abbrev mixed (x y z : Fin 4096 → EReal) (a b : EReal) (k : Fin 4096) : EReal := x k + (y k * a + z k * b)

theorem mixed_congr {x x' y y' z z' : Fin 4096 → EReal} {a a' b b' : EReal} (hx : ∀ k, x k = x' k) (hy : ∀ k, y k = y' k)
    (hz : ∀ k, z k = z' k) (ha : a = a') (hb : b = b') (k : Fin 4096) : mixed x y z a b k = mixed x' y' z' a' b' k := by
  rw [funext hx, funext hy, funext hz, ha, hb]

/-- The stored block: each row's mixture, normalized and scaled. -/
theorem pay_at (w : FVec Ideal S256x128 .f32) (x y z : FVec Ideal S256x4096 .f32) (g : FVec Ideal S1x4096 .f32) (r : Fin 256) (d : Fin 4096) :
    k0_pay1 (F := Ideal) w x y z g (ix2 r d)
      = normed (mixed (fun k => x (ix2 r k)) (fun k => y (ix2 r k)) (fun k => z (ix2 r k)) (w (ix2 r 0)) (w (ix2 r 1))) (fun k => g (ix2 0 k)) d := by
  pointwise [k0_pay1]; rfl

/-- The reference, row by row. -/
theorem ref_at (x : FVec Ideal S8320x4096 .f32) (y : FVec Ideal S16640x4096 .f32) (w : FVec Ideal S8320x128 .f32) (g : FVec Ideal S4096 .f32)
    (R : Fin 8192) (d : Fin 4096) :
    REF x y w g (ix2 R d)
      = normed (mixed (fun k => x (ix2 ⟨R.val, by omega⟩ k)) (fun k => y (ix2 ⟨R.val, by omega⟩ k)) (fun k => y (ix2 ⟨8192 + R.val, by omega⟩ k))
          (w (ix2 ⟨R.val, by omega⟩ 0)) (w (ix2 ⟨R.val, by omega⟩ 1))) (fun k => g (ix1 k)) d := by
  unfold REF
  pointwise [Cert.CombinePRefIdeal.Read.val_main_v0, Cert.CombinePRefIdeal.Read.val_main_v1, Cert.CombinePRefIdeal.Read.val_main_v2, Cert.CombinePRefIdeal.Read.val_main_v3, Cert.CombinePRefIdeal.Read.val_main_v4, Cert.CombinePRefIdeal.Read.val_main_v5, Cert.CombinePRefIdeal.Read.val_main_v6, Cert.CombinePRefIdeal.Read.val_main_v7, Cert.CombinePRefIdeal.Read.val_main_v8, Cert.CombinePRefIdeal.Read.val_main_v9, Cert.CombinePRefIdeal.Read.val_main_v10, Cert.CombinePRefIdeal.Read.val_main_v11, Cert.CombinePRefIdeal.Read.val_main_v12, Cert.CombinePRefIdeal.Read.val_main_v13, Cert.CombinePRefIdeal.Read.val_main_v14, Cert.CombinePRefIdeal.Read.val_main_v15, Cert.CombinePRefIdeal.Read.val_main_v16, Cert.CombinePRefIdeal.Read.val_main_v17, Cert.CombinePRefIdeal.Read.val_main_v18, Cert.CombinePRefIdeal.Read.val_main_v19, Cert.CombinePRefIdeal.Read.val_main_v20, Cert.CombinePRefIdeal.Read.val_main_v21, Cert.CombinePRefIdeal.Read.val_main_v22, Cert.CombinePRefIdeal.Read.val_main_v23, Cert.CombinePRefIdeal.Read.val_main_v24, Cert.CombinePRefIdeal.Read.val_main_v25, Cert.CombinePRefIdeal.Read.val_main_v26, Cert.CombinePRefIdeal.Read.val_main_v27, Cert.CombinePRefIdeal.Read.val_main_v28, Cert.CombinePRefIdeal.Read.val_main_cst, Cert.CombinePRefIdeal.Read.val_main_cst_0, Cert.CombinePRefIdeal.Read.val_main_cst_1]
  rfl

variable (c : Dev nD) (t : Fin cfg0.N)

/-- The rows of the result that point `t` writes. -/
theorem emb5 (ht : t.val < 32) (r : Fin 256) (d : Fin 4096) :
    (win0_5.blk t).view.emb (ix2 r d) = (ix2 ⟨t.val * 256 + r.val, by omega⟩ d : S8192x4096.Idx) := by
  blk_ext [idx t]

theorem V0 : V m c main_v0 = shapeCast S1x4096 (show FVec Ideal S4096 .f32 from m ((c : Thread nD τ).loc main_arg3)) shapeCasts_S4096_S1x4096 := by
  unfold V; after_results <;> rfl

theorem emb4 (k : Fin 4096) : (win0_4.blk t).view.emb (ix2 0 k) = (ix2 0 k : S1x4096.Idx) := by
  blk_ext [idx t]

theorem row4 (G : FVec Ideal S4096 .f32) (k : Fin 4096) : shapeCast S1x4096 G shapeCasts_S4096_S1x4096 (ix2 0 k) = G (ix1 k) := by
  pointwise []

theorem blk4 (k : Fin 4096) : iblk m c 4 t (ix2 0 k) = (show FVec Ideal S4096 .f32 from m ((c : Thread nD τ).loc main_arg3)) (ix1 k) := by
  refine (congrArg (V m c main_v0) (emb4 t k)).trans ?_
  rw [V0]
  exact row4 _ _

theorem blk1 (ht : t.val < 32) (r : Fin 256) (k : Fin 4096) : iblk m c 1 t (ix2 r k) = (show FVec Ideal S16640x4096 .f32 from m ((c : Thread nD τ).loc main_arg1)) (ix2 ⟨t.val * 256 + r.val, by omega⟩ k) := by
  blk_point [iblk, V, idx t]

theorem blk2 (ht : t.val < 32) (r : Fin 256) (k : Fin 4096) : iblk m c 2 t (ix2 r k) = (show FVec Ideal S16640x4096 .f32 from m ((c : Thread nD τ).loc main_arg1)) (ix2 ⟨8192 + (t.val * 256 + r.val), by omega⟩ k) := by
  blk_point [iblk, V, idx t]

/-- Window 0 is never cut: what its buffer holds is the array's rows. -/
theorem whole0 (ht : t.val < 32) (r : Fin 256) (k : Fin 4096) : X0_0 m c t (ix2 r k) = (show FVec Ideal S8320x4096 .f32 from m ((c : Thread nD τ).loc main_arg0)) (ix2 ⟨t.val * 256 + r.val, by omega⟩ k) := by
  unfold X0_0
  refine (dif_pos (moved0_0 t (ix2 r k))).trans ?_
  refine Eq.trans (b := V m c main_arg0 (ix2 ⟨t.val * 256 + r.val, by omega⟩ k : S8320x4096.Idx)) (congrArg (V m c main_arg0) ?_) (congrFun (V_main_arg0 m c) _)
  blk_ext [idx t]

/-- Window 3 is never cut: what its buffer holds is the array's rows. -/
theorem whole3 (ht : t.val < 32) (r : Fin 256) (k : Fin 128) : X0_3 m c t (ix2 r k) = (show FVec Ideal S8320x128 .f32 from m ((c : Thread nD τ).loc main_arg2)) (ix2 ⟨t.val * 256 + r.val, by omega⟩ k) := by
  unfold X0_3
  refine (dif_pos (moved0_3 t (ix2 r k))).trans ?_
  refine Eq.trans (b := V m c main_arg2 (ix2 ⟨t.val * 256 + r.val, by omega⟩ k : S8320x128.Idx)) (congrArg (V m c main_arg2) ?_) (congrFun (V_main_arg2 m c) _)
  blk_ext [idx t]

/-- What a point stores, at an index, is the reference there. -/
theorem point (ht : t.val < 32) (y : S256x4096.Idx) : k0_pay1 (X0_3 m c t) (X0_0 m c t) (iblk m c 1 t) (iblk m c 2 t) (iblk m c 4 t) y
    = REF (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  refine (pay_at _ _ _ _ _ y0 y1).trans ?_
  refine Eq.trans ?_ (congrArg (REF _ _ _ _) (emb5 t ht y0 y1)).symm
  rw [ref_at]
  exact normed_congr (mixed_congr (fun k => whole0 m c t ht y0 k) (fun k => blk1 m c t ht y0 k) (fun k => blk2 m c t ht y0 k)
    (whole3 m c t ht y0 0) (whole3 m c t ht y0 1)) (fun k => blk4 m c t k) y1

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have hb := idx t
  blk_simp
  rw [after0_5]; unfold outsAt0; frame_out
  exact point m c t (by omega) y

end Cert.CombinePIdeal.Own

end
-- ==== Proof.CombineSValue.lean ====
/- What `combine` computes on the sample's rows: the residual plus the two weighted expert rows, normalized and scaled. -/
module

public import proofs.«01_k».proof.Proof.Gen.CombineSIdeal.Value
public import proofs.«01_k».proof.Proof.Gen.CombineSRefIdeal.Read
public import proofs.«01_k».proof.Proof.RowNorm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineSIdeal.Own

open Cert.CombineSIdeal Cert.CombineSIdeal.Gen

open Cert.RowNorm

variable (m : (ℓ : Loc nD τ sig) → Buf (Elt Ideal) ℓ)

/-- The reference's result as a function of the kernel's arguments. -/
abbrev REF (x : FVec Ideal S8320x4096 .f32) (y : FVec Ideal S16640x4096 .f32) (w : FVec Ideal S8320x128 .f32) (g : FVec Ideal S4096 .f32) : FVec Ideal S128x4096 .f32 :=
  Cert.CombineSRefIdeal.Read.val_main_v28 (F := Ideal) x y w g

/-- Where each window stands at grid point `t`. -/
theorem idx : ∀ t : Fin cfg0.N, win0_0.index t = ![64, 0] ∧ win0_1.index t = ![128, 0]
    ∧ win0_2.index t = ![129, 0] ∧ win0_3.index t = ![64, 0] ∧ win0_4.index t = ![0, 0] ∧ win0_5.index t = ![0, 0] :=
  (by decide +kernel : ∀ t : Fin grid0.N, _)

/-- The residual row plus its two experts' rows, each by its weight. -/
abbrev mixed (x y z : Fin 4096 → EReal) (a b : EReal) (k : Fin 4096) : EReal := x k + (y k * a + z k * b)

theorem mixed_congr {x x' y y' z z' : Fin 4096 → EReal} {a a' b b' : EReal} (hx : ∀ k, x k = x' k) (hy : ∀ k, y k = y' k)
    (hz : ∀ k, z k = z' k) (ha : a = a') (hb : b = b') (k : Fin 4096) : mixed x y z a b k = mixed x' y' z' a' b' k := by
  rw [funext hx, funext hy, funext hz, ha, hb]

/-- The stored block: each row's mixture, normalized and scaled. -/
theorem pay_at (w : FVec Ideal S128x128 .f32) (x y z : FVec Ideal S128x4096 .f32) (g : FVec Ideal S1x4096 .f32) (r : Fin 128) (d : Fin 4096) :
    k0_pay1 (F := Ideal) w x y z g (ix2 r d)
      = normed (mixed (fun k => x (ix2 r k)) (fun k => y (ix2 r k)) (fun k => z (ix2 r k)) (w (ix2 r 0)) (w (ix2 r 1))) (fun k => g (ix2 0 k)) d := by
  pointwise [k0_pay1]; rfl

/-- The reference, row by row. -/
theorem ref_at (x : FVec Ideal S8320x4096 .f32) (y : FVec Ideal S16640x4096 .f32) (w : FVec Ideal S8320x128 .f32) (g : FVec Ideal S4096 .f32)
    (R : Fin 128) (d : Fin 4096) :
    REF x y w g (ix2 R d)
      = normed (mixed (fun k => x (ix2 ⟨8192 + R.val, by omega⟩ k)) (fun k => y (ix2 ⟨16384 + R.val, by omega⟩ k)) (fun k => y (ix2 ⟨16384 + (128 + R.val), by omega⟩ k))
          (w (ix2 ⟨8192 + R.val, by omega⟩ 0)) (w (ix2 ⟨8192 + R.val, by omega⟩ 1))) (fun k => g (ix1 k)) d := by
  unfold REF
  pointwise [Cert.CombineSRefIdeal.Read.val_main_v0, Cert.CombineSRefIdeal.Read.val_main_v1, Cert.CombineSRefIdeal.Read.val_main_v2, Cert.CombineSRefIdeal.Read.val_main_v3, Cert.CombineSRefIdeal.Read.val_main_v4, Cert.CombineSRefIdeal.Read.val_main_v5, Cert.CombineSRefIdeal.Read.val_main_v6, Cert.CombineSRefIdeal.Read.val_main_v7, Cert.CombineSRefIdeal.Read.val_main_v8, Cert.CombineSRefIdeal.Read.val_main_v9, Cert.CombineSRefIdeal.Read.val_main_v10, Cert.CombineSRefIdeal.Read.val_main_v11, Cert.CombineSRefIdeal.Read.val_main_v12, Cert.CombineSRefIdeal.Read.val_main_v13, Cert.CombineSRefIdeal.Read.val_main_v14, Cert.CombineSRefIdeal.Read.val_main_v15, Cert.CombineSRefIdeal.Read.val_main_v16, Cert.CombineSRefIdeal.Read.val_main_v17, Cert.CombineSRefIdeal.Read.val_main_v18, Cert.CombineSRefIdeal.Read.val_main_v19, Cert.CombineSRefIdeal.Read.val_main_v20, Cert.CombineSRefIdeal.Read.val_main_v21, Cert.CombineSRefIdeal.Read.val_main_v22, Cert.CombineSRefIdeal.Read.val_main_v23, Cert.CombineSRefIdeal.Read.val_main_v24, Cert.CombineSRefIdeal.Read.val_main_v25, Cert.CombineSRefIdeal.Read.val_main_v26, Cert.CombineSRefIdeal.Read.val_main_v27, Cert.CombineSRefIdeal.Read.val_main_v28, Cert.CombineSRefIdeal.Read.val_main_cst, Cert.CombineSRefIdeal.Read.val_main_cst_0, Cert.CombineSRefIdeal.Read.val_main_cst_1]
  rfl

variable (c : Dev nD) (t : Fin cfg0.N)

/-- The rows of the result that point `t` writes. -/
theorem emb5 (r : Fin 128) (d : Fin 4096) :
    (win0_5.blk t).view.emb (ix2 r d) = (ix2 r d : S128x4096.Idx) := by
  blk_ext [idx t]

theorem V0 : V m c main_v0 = shapeCast S1x4096 (show FVec Ideal S4096 .f32 from m ((c : Thread nD τ).loc main_arg3)) shapeCasts_S4096_S1x4096 := by
  unfold V; after_results <;> rfl

theorem emb4 (k : Fin 4096) : (win0_4.blk t).view.emb (ix2 0 k) = (ix2 0 k : S1x4096.Idx) := by
  blk_ext [idx t]

theorem row4 (G : FVec Ideal S4096 .f32) (k : Fin 4096) : shapeCast S1x4096 G shapeCasts_S4096_S1x4096 (ix2 0 k) = G (ix1 k) := by
  pointwise []

theorem blk4 (k : Fin 4096) : iblk m c 4 t (ix2 0 k) = (show FVec Ideal S4096 .f32 from m ((c : Thread nD τ).loc main_arg3)) (ix1 k) := by
  refine (congrArg (V m c main_v0) (emb4 t k)).trans ?_
  rw [V0]
  exact row4 _ _

theorem blk1 (r : Fin 128) (k : Fin 4096) : iblk m c 1 t (ix2 r k) = (show FVec Ideal S16640x4096 .f32 from m ((c : Thread nD τ).loc main_arg1)) (ix2 ⟨16384 + r.val, by omega⟩ k) := by
  blk_point [iblk, V, idx t]

theorem blk2 (r : Fin 128) (k : Fin 4096) : iblk m c 2 t (ix2 r k) = (show FVec Ideal S16640x4096 .f32 from m ((c : Thread nD τ).loc main_arg1)) (ix2 ⟨16384 + (128 + r.val), by omega⟩ k) := by
  blk_point [iblk, V, idx t]

theorem whole0 (r : Fin 128) (k : Fin 4096) : iblk m c 0 t (ix2 r k) = (show FVec Ideal S8320x4096 .f32 from m ((c : Thread nD τ).loc main_arg0)) (ix2 ⟨8192 + r.val, by omega⟩ k) := by
  blk_point [iblk, V, idx t]

theorem whole3 (r : Fin 128) (k : Fin 128) : iblk m c 3 t (ix2 r k) = (show FVec Ideal S8320x128 .f32 from m ((c : Thread nD τ).loc main_arg2)) (ix2 ⟨8192 + r.val, by omega⟩ k) := by
  blk_point [iblk, V, idx t]

/-- What a point stores, at an index, is the reference there. -/
theorem point (y : S128x4096.Idx) : k0_pay1 (iblk m c 3 t) (iblk m c 0 t) (iblk m c 1 t) (iblk m c 2 t) (iblk m c 4 t) y
    = REF (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  refine (pay_at _ _ _ _ _ y0 y1).trans ?_
  refine Eq.trans ?_ (congrArg (REF _ _ _ _) (emb5 t y0 y1)).symm
  rw [ref_at]
  exact normed_congr (mixed_congr (fun k => whole0 m c t y0 k) (fun k => blk1 m c t y0 k) (fun k => blk2 m c t y0 k)
    (whole3 m c t y0 0) (whole3 m c t y0 1)) (fun k => blk4 m c t k) y1

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have hb := idx t
  blk_simp
  rw [after0_5]; frame_out
  exact point m c t y

end Cert.CombineSIdeal.Own

end
-- ==== Proof.PoolSum.lean ====
/- A running sum over one axis, and the difference of two of them as the sum of a window. -/
module

public import Idealize.ShloMosaic.Lib.StableHlo
public import Idealize.ShloMosaic.PureOps.Ideal
public import Idealize.ShloMosaic.Lib.Pointwise
public import Mathlib.Data.EReal.Operations

@[expose] public section

set_option maxRecDepth 16384

noncomputable section

open Idealize.ShloMosaic

namespace Cert.PoolSum

/-- A fold of additions is the sum of its terms. -/
theorem foldl_sum {n : Nat} (g : Fin n → EReal) (v : EReal) : (List.finRange n).foldl (fun r i => r + g i) v = v + ∑ i, g i := by
  rw [← List.sum_ofFn, List.ofFn_eq_map]
  induction List.finRange n generalizing v with
  | nil => simp
  | cons a l ih => rw [List.foldl_cons, ih, List.map_cons, List.sum_cons, add_assoc]

/-- The terms of a window of `L` positions that ends at `j`, the positions before the first being empty. -/
theorem window_sum (f : Nat → EReal) (L j : Nat) (hj : j < L) :
    ∑ n : Fin L, (if L - 1 ≤ j + n.val then f (j + n.val - (L - 1)) else 0) = ∑ i ∈ Finset.range (j + 1), f i := by
  rw [Fin.sum_univ_eq_sum_range (fun n => if L - 1 ≤ j + n then f (j + n - (L - 1)) else 0) L]
  have e : L = (L - 1 - j) + (j + 1) := by omega
  rw [show Finset.range L = Finset.range ((L - 1 - j) + (j + 1)) from congrArg _ e, Finset.sum_range_add]
  rw [Finset.sum_eq_zero (fun n hn => if_neg (by have := Finset.mem_range.mp hn; omega)), zero_add]
  refine Finset.sum_congr rfl fun n hn => ?_
  rw [if_pos (by omega)]
  exact congrArg f (by omega)

/-- A sum of finite numbers is finite. -/
theorem sum_real (f : Nat → EReal) (n : Nat) (h : ∀ i < n, ∃ r : ℝ, f i = (r : EReal)) :
    ∃ r : ℝ, ∑ i ∈ Finset.range n, f i = (r : EReal) := by
  induction n with
  | zero => exact ⟨0, by simp⟩
  | succ n ih =>
    obtain ⟨r, hr⟩ := ih fun i hi => h i (by omega)
    obtain ⟨q, hq⟩ := h n (by omega)
    exact ⟨r + q, by rw [Finset.sum_range_succ, hr, hq, EReal.coe_add]⟩

/-- The difference of two running sums is the sum of the terms between them, the earlier ones being finite. -/
theorem sum_sub (f : Nat → EReal) (a d : Nat) (h : ∀ i < a, ∃ r : ℝ, f i = (r : EReal)) :
    (∑ i ∈ Finset.range (a + d), f i) - ∑ i ∈ Finset.range a, f i = ∑ i ∈ Finset.range d, f (i + a) := by
  rw [Finset.sum_range_add, Finset.sum_congr rfl fun i _ => congrArg f (Nat.add_comm a i)]
  obtain ⟨r, hr⟩ := sum_real f a h
  rw [hr, add_comm]
  exact EReal.add_sub_cancel_right

/-- A number whose absolute value is below infinity is finite. -/
theorem real_of_abs_lt {x : EReal} (h : max x (-x) < ⊤) : ∃ r : ℝ, x = (r : EReal) := by
  induction x using EReal.rec with
  | bot => exact absurd h (by simp)
  | coe r => exact ⟨r, rfl⟩
  | top => exact absurd h (by simp)

/-- The running sum along the middle axis, as it prints: a window of the whole extent, padded low by one less. -/
theorem cumsum_mid {A L M C : Nat} (hL : M + 1 = L) (x : (⟨3, ![A, L, C]⟩ : Shape).Idx → EReal) (f : Nat → EReal)
    (h : (⟨3, ![A, L, C]⟩ : Shape).ReduceWindows (![1, L, 1] : Fin 3 → Nat) ![1, 1, 1] ![0, M, 0] ![0, 0, 0] ⟨3, ![A, L, C]⟩)
    (a : Fin A) (j : Fin L) (c : Fin C) (hx : ∀ i : Fin L, x (ix3 a i c) = f i.val) :
    Ideal.hostReduceWindowAdd (![1, L, 1] : Fin 3 → Nat) ![1, 1, 1] ![0, M, 0] ![0, 0, 0] h x 0 (ix3 a j c) = ∑ i ∈ Finset.range (j.val + 1), f i := by
  subst hL
  have hn : (⟨3, ![1, M + 1, 1]⟩ : Shape).numel = M + 1 := by simp [Shape.numel, Fin.prod_univ_three]
  have hp : ∀ n : Fin (⟨3, ![1, M + 1, 1]⟩ : Shape).numel, ((⟨3, ![1, M + 1, 1]⟩ : Shape).rowMajor.symm n 0).val = 0
      ∧ ((⟨3, ![1, M + 1, 1]⟩ : Shape).rowMajor.symm n 1).val = n.val ∧ ((⟨3, ![1, M + 1, 1]⟩ : Shape).rowMajor.symm n 2).val = 0 := fun n => by
    have e := congrArg Fin.val ((⟨3, ![1, M + 1, 1]⟩ : Shape).rowMajor.apply_symm_apply n)
    rw [Shape.rowMajor_val_three] at e
    have e0 : ((⟨3, ![1, M + 1, 1]⟩ : Shape).rowMajor.symm n 0).val < 1 := ((⟨3, ![1, M + 1, 1]⟩ : Shape).rowMajor.symm n 0).isLt
    have e2 : ((⟨3, ![1, M + 1, 1]⟩ : Shape).rowMajor.symm n 2).val < 1 := ((⟨3, ![1, M + 1, 1]⟩ : Shape).rowMajor.symm n 2).isLt
    change (((⟨3, ![1, M + 1, 1]⟩ : Shape).rowMajor.symm n 0).val * (M + 1) + ((⟨3, ![1, M + 1, 1]⟩ : Shape).rowMajor.symm n 1).val) * 1
      + ((⟨3, ![1, M + 1, 1]⟩ : Shape).rowMajor.symm n 2).val = n.val at e
    have e0' : ((⟨3, ![1, M + 1, 1]⟩ : Shape).rowMajor.symm n 0).val = 0 := by omega
    rw [e0'] at e ⊢
    exact ⟨rfl, by omega, by omega⟩
  have hj := j.isLt
  have ha := a.isLt
  have hc := c.isLt
  unfold Ideal.hostReduceWindowAdd Host.reduceWindow
  dsimp only
  rw [foldl_sum, zero_add, ← window_sum f (M + 1) j.val hj]
  refine Fintype.sum_equiv (finCongr hn) _ _ fun n => ?_
  obtain ⟨h0, h1, h2⟩ := hp n
  have hnlt : n.val < M + 1 := n.isLt.trans_eq hn
  show _ = if M ≤ j.val + n.val then f (j.val + n.val - M) else 0
  split
  · next hin =>
    have k1 := hin 1
    change M ≤ j.val * 1 + ((⟨3, ![1, M + 1, 1]⟩ : Shape).rowMajor.symm n 1).val
      ∧ j.val * 1 + ((⟨3, ![1, M + 1, 1]⟩ : Shape).rowMajor.symm n 1).val - M < M + 1 at k1
    rw [h1] at k1
    rw [if_pos (by omega)]
    refine (congrArg x (funext fun q => Fin.ext ?_)).trans (hx ⟨j.val + n.val - M, by omega⟩)
    match q with
    | ⟨0, _⟩ =>
      show a.val * 1 + ((⟨3, ![1, M + 1, 1]⟩ : Shape).rowMajor.symm n 0).val - 0 = a.val
      rw [h0]; omega
    | ⟨1, _⟩ =>
      show j.val * 1 + ((⟨3, ![1, M + 1, 1]⟩ : Shape).rowMajor.symm n 1).val - M = j.val + n.val - M
      rw [h1, Nat.mul_one]
    | ⟨2, _⟩ =>
      show c.val * 1 + ((⟨3, ![1, M + 1, 1]⟩ : Shape).rowMajor.symm n 2).val - 0 = c.val
      rw [h2]; omega
  · next hin =>
    rw [if_neg fun hle => hin fun q => by
      match q with
      | ⟨0, _⟩ =>
        show 0 ≤ a.val * 1 + ((⟨3, ![1, M + 1, 1]⟩ : Shape).rowMajor.symm n 0).val ∧ a.val * 1 + ((⟨3, ![1, M + 1, 1]⟩ : Shape).rowMajor.symm n 0).val - 0 < A
        rw [h0]; omega
      | ⟨1, _⟩ =>
        show M ≤ j.val * 1 + ((⟨3, ![1, M + 1, 1]⟩ : Shape).rowMajor.symm n 1).val ∧ j.val * 1 + ((⟨3, ![1, M + 1, 1]⟩ : Shape).rowMajor.symm n 1).val - M < M + 1
        rw [h1]; omega
      | ⟨2, _⟩ =>
        show 0 ≤ c.val * 1 + ((⟨3, ![1, M + 1, 1]⟩ : Shape).rowMajor.symm n 2).val ∧ c.val * 1 + ((⟨3, ![1, M + 1, 1]⟩ : Shape).rowMajor.symm n 2).val - 0 < C
        rw [h2]; omega]

end Cert.PoolSum

end
-- ==== Proof.PoolPValue.lean ====
/- What `pool_prompt` computes: at every position of a prompt, each column's mean over the last positions less the
   column itself, by the matrix of its group, scaled. -/
module

public import proofs.«01_k».proof.Proof.Gen.PoolPIdeal.Value
public import proofs.«01_k».proof.Proof.Gen.PoolPRefIdeal.Read
public import proofs.«01_k».proof.Proof.PoolSum
public import proofs.«01_k».proof.Pre_finite_pool_prompt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolPIdeal.Own

open Cert.PoolPIdeal Cert.PoolPIdeal.Gen

open Cert.PoolSum

/-- A column of a prompt with fifteen zeros before it. -/
def entries (p : FVec Ideal S8320x10240 .f32) (n : Fin 4) (q : Fin 2048) (i : Nat) : EReal :=
  if h : 15 ≤ i ∧ i < 2063 then p (ix2 ⟨n.val * 2048 + (i - 15), by omega⟩ ⟨q.val, by omega⟩) else 0

theorem entries_at (p : FVec Ideal S8320x10240 .f32) (n : Fin 4) (q : Fin 2048) (T : Nat) (hT : T < 2048) :
    entries p n q (15 + T) = p (ix2 ⟨n.val * 2048 + T, by omega⟩ ⟨q.val, by omega⟩) := by
  unfold entries
  rw [dif_pos (by omega)]
  exact congrArg (fun a => p (ix2 a _)) (Fin.ext (show n.val * 2048 + (15 + T - 15) = n.val * 2048 + T by omega))

open Cert.PoolPRefIdeal.Read in
/-- The reference's running sums. -/
theorem sums_at (p : FVec Ideal S8320x10240 .f32) (n : Fin 4) (j : Fin 2064) (q : Fin 2048) :
    val_main_v8 (F := Ideal) p (ix3 n j q) = ∑ i ∈ Finset.range j.val, entries p n q i := by
  have e : ∀ i : Fin 2063, val_main_v5 (F := Ideal) p (ix3 n i q) = entries p n q i.val := fun i => by
    have hi := i.isLt
    have hn := n.isLt
    have hq := q.isLt
    pointwise [val_main_v5, val_main_v2, val_main_v1, val_main_v0, val_main_cst]
    unfold entries
    by_cases h : i.val < 15
    · rw [dif_pos h, dif_neg (by omega)]
    · rw [dif_neg h, dif_pos (by omega)]
  have hj := j.isLt
  pointwise [val_main_v8, val_main_v6, val_main_cst_0]
  by_cases h : j.val < 1
  · rw [dif_pos h, show j.val = 0 by omega, Finset.sum_range_zero]
  · rw [dif_neg h]
    unfold val_main_v7
    generalize val_main_v5 (F := Ideal) p = X at e
    have hz : val_main_call0_call0_v0 (F := Ideal) = fun _ => 0 := by
      funext z; pointwise [val_main_call0_call0_v0, val_main_call0_call0_cst]
    rw [hz]
    have e2 := cumsum_mid (A := 4) (L := 2063) (M := 2062) (C := 2048) rfl X (entries p n q) Cert.PoolPRefIdeal.Gen.reduceWindows_S4x2063x2048_S4x2063x2048_w1s1p0_0_w2063s1p2062_0_w1s1p0_0 n ⟨j.val - 1, by omega⟩ q e
    rw [show (⟨j.val - 1, by omega⟩ : Fin 2063).val + 1 = j.val by show j.val - 1 + 1 = j.val; omega] at e2
    unfold Host.reduceWindowAdd
    exact e2

/-- How many positions a window of `w` has at position `T`: the smaller of `T + 1` and `w`, as a number. -/
abbrev count (T : Nat) (w : BitVec 32) : EReal :=
  FloatOps.sitofp (F := Ideal) FTy.f32 (IntOp.minsi (IntOp.addi (IntOp.addi 0#32 (BitVec.ofNat 32 T)) 1#32) w)

/-- The difference of two of the running sums: the entries between them, the earlier ones being finite. -/
theorem window_at (p : FVec Ideal S8320x10240 .f32) (n : Fin 4) (q q' : Fin 2048) (a d b : Nat) (hd : a + d = b)
    (hq : q.val = q'.val) (hs : ∀ q i, ∃ r : ℝ, entries p n q i = (r : EReal)) :
    (∑ i ∈ Finset.range b, entries p n q i) - ∑ i ∈ Finset.range a, entries p n q i = ∑ i ∈ Finset.range d, entries p n q' (i + a) := by
  obtain rfl : q = q' := Fin.ext hq
  rw [← sum_sub (entries p n q) a d fun i hi => hs q i, hd]

open Cert.PoolPRefIdeal.Read in
/-- The reference's mean over a window of 2. -/
theorem mean2 (p : FVec Ideal S8320x10240 .f32) (n : Fin 4) (T : Fin 2048) (k : Fin 512)
    (hs : ∀ q i, ∃ r : ℝ, entries p n q i = (r : EReal)) :
    val_main_v57 (F := Ideal) p (ix3 n T ⟨k.val, by omega⟩)
      = Ideal.div (∑ i ∈ Finset.range 2, entries p n ⟨k.val, by omega⟩ (i + (14 + T.val))) (count T.val 2#32) := by
  have hk := k.isLt
  have hT := T.isLt
  pointwise [val_main_v57, val_main_v23, val_main_v34, val_main_v45, val_main_v56, val_main_v9, val_main_v12, val_main_v11, val_main_v10, val_main_c, val_main_v21, val_main_v20, val_main_v13, val_main_v22, val_main_v19, val_main_v18, val_main_v17, val_main_v15, val_main_v14, val_main_c_1, val_main_v16, val_main_c_2]
  rw [sums_at, sums_at]
  exact congrArg (Ideal.div · _) (window_at p n _ _ (14 + T.val) 2 (16 + T.val) (by omega) (by show k.val = k.val; omega) hs)

open Cert.PoolPRefIdeal.Read in
/-- The reference's mean over a window of 4. -/
theorem mean4 (p : FVec Ideal S8320x10240 .f32) (n : Fin 4) (T : Fin 2048) (k : Fin 512)
    (hs : ∀ q i, ∃ r : ℝ, entries p n q i = (r : EReal)) :
    val_main_v57 (F := Ideal) p (ix3 n T ⟨512 + k.val, by omega⟩)
      = Ideal.div (∑ i ∈ Finset.range 4, entries p n ⟨512 + k.val, by omega⟩ (i + (12 + T.val))) (count T.val 4#32) := by
  have hk := k.isLt
  have hT := T.isLt
  pointwise [val_main_v57, val_main_v23, val_main_v34, val_main_v45, val_main_v56, val_main_v9, val_main_v12, val_main_v11, val_main_v10, val_main_c, val_main_v32, val_main_v31, val_main_v24, val_main_v33, val_main_v30, val_main_v29, val_main_v28, val_main_v26, val_main_v25, val_main_c_3, val_main_v27, val_main_c_4]
  rw [sums_at, sums_at]
  exact congrArg (Ideal.div · _) (window_at p n _ _ (12 + T.val) 4 (16 + T.val) (by omega) (by show 512 + k.val = 512 + k.val; omega) hs)

open Cert.PoolPRefIdeal.Read in
/-- The reference's mean over a window of 8. -/
theorem mean8 (p : FVec Ideal S8320x10240 .f32) (n : Fin 4) (T : Fin 2048) (k : Fin 512)
    (hs : ∀ q i, ∃ r : ℝ, entries p n q i = (r : EReal)) :
    val_main_v57 (F := Ideal) p (ix3 n T ⟨1024 + k.val, by omega⟩)
      = Ideal.div (∑ i ∈ Finset.range 8, entries p n ⟨1024 + k.val, by omega⟩ (i + (8 + T.val))) (count T.val 8#32) := by
  have hk := k.isLt
  have hT := T.isLt
  pointwise [val_main_v57, val_main_v23, val_main_v34, val_main_v45, val_main_v56, val_main_v9, val_main_v12, val_main_v11, val_main_v10, val_main_c, val_main_v43, val_main_v42, val_main_v35, val_main_v44, val_main_v41, val_main_v40, val_main_v39, val_main_v37, val_main_v36, val_main_c_5, val_main_v38, val_main_c_6]
  rw [dif_neg (by omega), dif_neg (by omega), dif_pos (by omega), sums_at, sums_at]
  exact congrArg (Ideal.div · _) (window_at p n _ _ (8 + T.val) 8 (16 + T.val) (by omega) (by show 1024 + (1024 + k.val - 512 - 512) = 1024 + k.val; omega) hs)

open Cert.PoolPRefIdeal.Read in
/-- The reference's mean over a window of 16. -/
theorem mean16 (p : FVec Ideal S8320x10240 .f32) (n : Fin 4) (T : Fin 2048) (k : Fin 512)
    (hs : ∀ q i, ∃ r : ℝ, entries p n q i = (r : EReal)) :
    val_main_v57 (F := Ideal) p (ix3 n T ⟨1536 + k.val, by omega⟩)
      = Ideal.div (∑ i ∈ Finset.range 16, entries p n ⟨1536 + k.val, by omega⟩ (i + T.val)) (count T.val 16#32) := by
  have hk := k.isLt
  have hT := T.isLt
  pointwise [val_main_v57, val_main_v23, val_main_v34, val_main_v45, val_main_v56, val_main_v9, val_main_v12, val_main_v11, val_main_v10, val_main_c, val_main_v54, val_main_v53, val_main_v46, val_main_v55, val_main_v52, val_main_v51, val_main_v50, val_main_v48, val_main_v47, val_main_c_7, val_main_v49, val_main_c_8]
  rw [dif_neg (by omega), dif_neg (by omega), dif_neg (by omega), sums_at, sums_at]
  exact congrArg (Ideal.div · _) (window_at p n _ _ T.val 16 (16 + T.val) (by omega) (by show 1536 + (1536 + k.val - 512 - 512 - 512) = 1536 + k.val; omega) hs)

/-- The mean of `w` entries from `a` on, of `c` positions, less the last one. -/
abbrev pooled (e : Nat → EReal) (w a : Nat) (c l : EReal) : EReal := Ideal.div (∑ i ∈ Finset.range w, e (i + a)) c - l

open Cert.PoolPRefIdeal.Read in
/-- The reference: the pooled columns of a group by that group's matrix, scaled. -/
theorem ref_at (p : FVec Ideal S8320x10240 .f32) (w : FVec Ideal S1x4x512x512 .f32) (g : FVec Ideal S1x2048 .f32) (R : Fin 8192) (q : Fin 2048) :
    val_main_v68 (F := Ideal) p w g (ix2 R q)
      = (∑ k : Fin 512, w (ix4 0 ⟨q.val / 512, by omega⟩ k ⟨q.val % 512, by omega⟩)
          * (val_main_v57 (F := Ideal) p (ix3 ⟨R.val / 2048, by omega⟩ ⟨R.val % 2048, by omega⟩ ⟨q.val / 512 * 512 + k.val, by omega⟩)
              - entries p ⟨R.val / 2048, by omega⟩ ⟨q.val / 512 * 512 + k.val, by omega⟩ (15 + R.val % 2048))) * g (ix2 0 q) := by
  pointwise [val_main_v68, val_main_v67, val_main_v66, val_main_v65, val_main_v64, val_main_v63, val_main_v62, val_main_v61, val_main_v60, val_main_v59, val_main_v58, val_main_v5, val_main_v1, val_main_v0, val_main_v3, val_main_v4]
  refine congrArg (· * g (ix2 0 q)) (Finset.sum_congr rfl fun k _ => congrArg (w _ * ·) (congrArg (_ - ·) ?_))
  have hR := R.isLt
  refine Eq.trans ?_ (entries_at p _ _ (R.val % 2048) (by omega)).symm
  exact congrArg (fun a => p (ix2 a _)) (Fin.ext (show R.val = R.val / 2048 * 2048 + R.val % 2048 by omega))
/-- The group of width 2 of the reference. -/
theorem ref2 (p : FVec Ideal S8320x10240 .f32) (w : FVec Ideal S1x4x512x512 .f32) (g : FVec Ideal S1x2048 .f32) (n : Fin 4) (T : Fin 2048) (d : Fin 512)
    (hs : ∀ q i, ∃ r : ℝ, entries p n q i = (r : EReal)) (R : Fin 8192) (hR : R.val = n.val * 2048 + T.val) (q : Fin 2048) (hq : q.val = 0 + d.val) :
    Cert.PoolPRefIdeal.Read.val_main_v68 (F := Ideal) p w g (ix2 R q)
      = (∑ k : Fin 512, w (ix4 0 0 k d) * pooled (entries p n ⟨0 + k.val, by omega⟩) 2 (14 + T.val) (count T.val 2#32) (entries p n ⟨0 + k.val, by omega⟩ (15 + T.val))) * g (ix2 0 q) := by
  rw [ref_at]
  have hT := T.isLt
  have en : ∀ h, (⟨R.val / 2048, h⟩ : Fin 4) = n := fun _ => Fin.ext (show R.val / 2048 = n.val by omega)
  have eT : ∀ h, (⟨R.val % 2048, h⟩ : Fin 2048) = T := fun _ => Fin.ext (show R.val % 2048 = T.val by omega)
  have eR : R.val % 2048 = T.val := by omega
  refine congrArg (· * g (ix2 0 q)) (Finset.sum_congr rfl fun k _ => ?_)
  have e : ∀ h, (⟨q.val / 512 * 512 + k.val, h⟩ : Fin 2048) = ⟨0 + k.val, by omega⟩ := fun _ => Fin.ext (show q.val / 512 * 512 + k.val = 0 + k.val by omega)
  have e1 : ∀ h, (⟨q.val / 512, h⟩ : Fin 4) = 0 := fun _ => Fin.ext (show q.val / 512 = 0 by omega)
  have e2 : ∀ h, (⟨q.val % 512, h⟩ : Fin 512) = d := fun _ => Fin.ext (show q.val % 512 = d.val by omega)
  rw [e, en, eT, eR, e1, e2]
  refine congrArg (w _ * ·) (congrArg (· - _) (Eq.trans (congrArg (fun z => Cert.PoolPRefIdeal.Read.val_main_v57 (F := Ideal) p (ix3 n T z)) (Fin.ext (show 0 + k.val = k.val by omega))) ((mean2 p n T k hs).trans ?_)))
  exact congrArg (Ideal.div · _) (Finset.sum_congr rfl fun i _ => congrArg (fun z => entries p n z (i + (14 + T.val))) (Fin.ext (show k.val = 0 + k.val by omega)))

/-- The group of width 4 of the reference. -/
theorem ref4 (p : FVec Ideal S8320x10240 .f32) (w : FVec Ideal S1x4x512x512 .f32) (g : FVec Ideal S1x2048 .f32) (n : Fin 4) (T : Fin 2048) (d : Fin 512)
    (hs : ∀ q i, ∃ r : ℝ, entries p n q i = (r : EReal)) (R : Fin 8192) (hR : R.val = n.val * 2048 + T.val) (q : Fin 2048) (hq : q.val = 512 + d.val) :
    Cert.PoolPRefIdeal.Read.val_main_v68 (F := Ideal) p w g (ix2 R q)
      = (∑ k : Fin 512, w (ix4 0 1 k d) * pooled (entries p n ⟨512 + k.val, by omega⟩) 4 (12 + T.val) (count T.val 4#32) (entries p n ⟨512 + k.val, by omega⟩ (15 + T.val))) * g (ix2 0 q) := by
  rw [ref_at]
  have hT := T.isLt
  have en : ∀ h, (⟨R.val / 2048, h⟩ : Fin 4) = n := fun _ => Fin.ext (show R.val / 2048 = n.val by omega)
  have eT : ∀ h, (⟨R.val % 2048, h⟩ : Fin 2048) = T := fun _ => Fin.ext (show R.val % 2048 = T.val by omega)
  have eR : R.val % 2048 = T.val := by omega
  refine congrArg (· * g (ix2 0 q)) (Finset.sum_congr rfl fun k _ => ?_)
  have e : ∀ h, (⟨q.val / 512 * 512 + k.val, h⟩ : Fin 2048) = ⟨512 + k.val, by omega⟩ := fun _ => Fin.ext (show q.val / 512 * 512 + k.val = 512 + k.val by omega)
  have e1 : ∀ h, (⟨q.val / 512, h⟩ : Fin 4) = 1 := fun _ => Fin.ext (show q.val / 512 = 1 by omega)
  have e2 : ∀ h, (⟨q.val % 512, h⟩ : Fin 512) = d := fun _ => Fin.ext (show q.val % 512 = d.val by omega)
  rw [e, en, eT, eR, e1, e2]
  refine congrArg (w _ * ·) (congrArg (· - _) (Eq.trans (congrArg (fun z => Cert.PoolPRefIdeal.Read.val_main_v57 (F := Ideal) p (ix3 n T z)) (Fin.ext (show 512 + k.val = 512 + k.val by omega))) ((mean4 p n T k hs).trans ?_)))
  exact congrArg (Ideal.div · _) (Finset.sum_congr rfl fun i _ => congrArg (fun z => entries p n z (i + (12 + T.val))) (Fin.ext (show 512 + k.val = 512 + k.val by omega)))

/-- The group of width 8 of the reference. -/
theorem ref8 (p : FVec Ideal S8320x10240 .f32) (w : FVec Ideal S1x4x512x512 .f32) (g : FVec Ideal S1x2048 .f32) (n : Fin 4) (T : Fin 2048) (d : Fin 512)
    (hs : ∀ q i, ∃ r : ℝ, entries p n q i = (r : EReal)) (R : Fin 8192) (hR : R.val = n.val * 2048 + T.val) (q : Fin 2048) (hq : q.val = 1024 + d.val) :
    Cert.PoolPRefIdeal.Read.val_main_v68 (F := Ideal) p w g (ix2 R q)
      = (∑ k : Fin 512, w (ix4 0 2 k d) * pooled (entries p n ⟨1024 + k.val, by omega⟩) 8 (8 + T.val) (count T.val 8#32) (entries p n ⟨1024 + k.val, by omega⟩ (15 + T.val))) * g (ix2 0 q) := by
  rw [ref_at]
  have hT := T.isLt
  have en : ∀ h, (⟨R.val / 2048, h⟩ : Fin 4) = n := fun _ => Fin.ext (show R.val / 2048 = n.val by omega)
  have eT : ∀ h, (⟨R.val % 2048, h⟩ : Fin 2048) = T := fun _ => Fin.ext (show R.val % 2048 = T.val by omega)
  have eR : R.val % 2048 = T.val := by omega
  refine congrArg (· * g (ix2 0 q)) (Finset.sum_congr rfl fun k _ => ?_)
  have e : ∀ h, (⟨q.val / 512 * 512 + k.val, h⟩ : Fin 2048) = ⟨1024 + k.val, by omega⟩ := fun _ => Fin.ext (show q.val / 512 * 512 + k.val = 1024 + k.val by omega)
  have e1 : ∀ h, (⟨q.val / 512, h⟩ : Fin 4) = 2 := fun _ => Fin.ext (show q.val / 512 = 2 by omega)
  have e2 : ∀ h, (⟨q.val % 512, h⟩ : Fin 512) = d := fun _ => Fin.ext (show q.val % 512 = d.val by omega)
  rw [e, en, eT, eR, e1, e2]
  refine congrArg (w _ * ·) (congrArg (· - _) (Eq.trans (congrArg (fun z => Cert.PoolPRefIdeal.Read.val_main_v57 (F := Ideal) p (ix3 n T z)) (Fin.ext (show 1024 + k.val = 1024 + k.val by omega))) ((mean8 p n T k hs).trans ?_)))
  exact congrArg (Ideal.div · _) (Finset.sum_congr rfl fun i _ => congrArg (fun z => entries p n z (i + (8 + T.val))) (Fin.ext (show 1024 + k.val = 1024 + k.val by omega)))

/-- The group of width 16 of the reference. -/
theorem ref16 (p : FVec Ideal S8320x10240 .f32) (w : FVec Ideal S1x4x512x512 .f32) (g : FVec Ideal S1x2048 .f32) (n : Fin 4) (T : Fin 2048) (d : Fin 512)
    (hs : ∀ q i, ∃ r : ℝ, entries p n q i = (r : EReal)) (R : Fin 8192) (hR : R.val = n.val * 2048 + T.val) (q : Fin 2048) (hq : q.val = 1536 + d.val) :
    Cert.PoolPRefIdeal.Read.val_main_v68 (F := Ideal) p w g (ix2 R q)
      = (∑ k : Fin 512, w (ix4 0 3 k d) * pooled (entries p n ⟨1536 + k.val, by omega⟩) 16 T.val (count T.val 16#32) (entries p n ⟨1536 + k.val, by omega⟩ (15 + T.val))) * g (ix2 0 q) := by
  rw [ref_at]
  have hT := T.isLt
  have en : ∀ h, (⟨R.val / 2048, h⟩ : Fin 4) = n := fun _ => Fin.ext (show R.val / 2048 = n.val by omega)
  have eT : ∀ h, (⟨R.val % 2048, h⟩ : Fin 2048) = T := fun _ => Fin.ext (show R.val % 2048 = T.val by omega)
  have eR : R.val % 2048 = T.val := by omega
  refine congrArg (· * g (ix2 0 q)) (Finset.sum_congr rfl fun k _ => ?_)
  have e : ∀ h, (⟨q.val / 512 * 512 + k.val, h⟩ : Fin 2048) = ⟨1536 + k.val, by omega⟩ := fun _ => Fin.ext (show q.val / 512 * 512 + k.val = 1536 + k.val by omega)
  have e1 : ∀ h, (⟨q.val / 512, h⟩ : Fin 4) = 3 := fun _ => Fin.ext (show q.val / 512 = 3 by omega)
  have e2 : ∀ h, (⟨q.val % 512, h⟩ : Fin 512) = d := fun _ => Fin.ext (show q.val % 512 = d.val by omega)
  rw [e, en, eT, eR, e1, e2]
  refine congrArg (w _ * ·) (congrArg (· - _) (Eq.trans (congrArg (fun z => Cert.PoolPRefIdeal.Read.val_main_v57 (F := Ideal) p (ix3 n T z)) (Fin.ext (show 1536 + k.val = 1536 + k.val by omega))) ((mean16 p n T k hs).trans ?_)))
  exact congrArg (Ideal.div · _) (Finset.sum_congr rfl fun i _ => congrArg (fun z => entries p n z (i + T.val)) (Fin.ext (show 1536 + k.val = 1536 + k.val by omega)))

/-- The kernel's order of a window's sum: neighbours, then neighbouring pairs, and so on. -/
theorem order2 (e : Nat → EReal) : (e 1 + e 0) = ∑ i ∈ Finset.range 2, e i := by
  simp only [Finset.sum_range_succ, Finset.sum_range_zero, zero_add]
  ac_rfl

/-- The kernel's order of a window's sum: neighbours, then neighbouring pairs, and so on. -/
theorem order4 (e : Nat → EReal) : ((e 3 + e 2) + (e 1 + e 0)) = ∑ i ∈ Finset.range 4, e i := by
  simp only [Finset.sum_range_succ, Finset.sum_range_zero, zero_add]
  ac_rfl

/-- The kernel's order of a window's sum: neighbours, then neighbouring pairs, and so on. -/
theorem order8 (e : Nat → EReal) : (((e 7 + e 6) + (e 5 + e 4)) + ((e 3 + e 2) + (e 1 + e 0))) = ∑ i ∈ Finset.range 8, e i := by
  simp only [Finset.sum_range_succ, Finset.sum_range_zero, zero_add]
  ac_rfl

/-- The kernel's order of a window's sum: neighbours, then neighbouring pairs, and so on. -/
theorem order16 (e : Nat → EReal) : ((((e 15 + e 14) + (e 13 + e 12)) + ((e 11 + e 10) + (e 9 + e 8))) + (((e 7 + e 6) + (e 5 + e 4)) + ((e 3 + e 2) + (e 1 + e 0)))) = ∑ i ∈ Finset.range 16, e i := by
  simp only [Finset.sum_range_succ, Finset.sum_range_zero, zero_add]
  ac_rfl

/-- A row of the carried rows followed by the block's rows. -/
theorem row_at (e : Nat → EReal) (B : Nat) (z : Fin 16 → EReal) (x : Fin 512 → EReal) (hz : ∀ j : Fin 16, 1 ≤ j.val → z j = e (B + j.val - 1))
    (hx : ∀ r : Fin 512, x r = e (15 + (B + r.val))) (a n : Nat) (ha : a < 528) (h1 : 1 ≤ a) (hn : n + 1 = B + a) :
    (if h : a < 16 then z ⟨a, h⟩ else x ⟨a - 16, by omega⟩) = e n := by
  by_cases h : a < 16
  · rw [dif_pos h, hz ⟨a, h⟩ h1]
    exact congrArg e (show B + a - 1 = n by omega)
  · rw [dif_neg h, hx]
    exact congrArg e (show 15 + (B + (a - 16)) = n by omega)

/-- The kernel's word for a position. -/
theorem position (a r : Nat) : IntOp.addi (Scalar.muli (BitVec.ofNat 32 a) 512#32) (BitVec.ofNat 32 r) = IntOp.addi 0#32 (BitVec.ofNat 32 (a * 512 + r)) := by
  show BitVec.ofNat 32 a * 512#32 + BitVec.ofNat 32 r = 0#32 + BitVec.ofNat 32 (a * 512 + r)
  apply BitVec.eq_of_toNat_eq
  simp only [BitVec.toNat_add, BitVec.toNat_mul, BitVec.toNat_ofNat]
  omega

/-- What is stored for the group of width 2. -/
theorem stored2 (i : grid0.Coords) (x : FVec Ideal S512x2048 .f32) (z : FVec Ideal S16x512 .f32) (v : FVec Ideal S1x512x512 .f32) (f : FVec Ideal S1x512 .f32) (r d : Fin 512)
    (e : Fin 512 → Nat → EReal) (hz : ∀ (k : Fin 512) (j : Fin 16), 1 ≤ j.val → z (ix2 j k) = e k ((i 1).val * 512 + j.val - 1))
    (hx : ∀ (k r : Fin 512), x (ix2 r ⟨k.val, by omega⟩) = e k (15 + ((i 1).val * 512 + r.val))) :
    k0_pay5 (F := Ideal) i x z v f (ix2 r d) = (∑ k : Fin 512, v (ix3 0 k d) * pooled (e k) 2 (14 + ((i 1).val * 512 + r.val)) (count ((i 1).val * 512 + r.val) 2#32) (e k (15 + ((i 1).val * 512 + r.val)))) * f (ix2 0 d) := by
  have hr := r.isLt
  pointwise [k0_pay5, k0_pay4]
  refine congrArg (· * f (ix2 0 d)) (Finset.sum_congr rfl fun k _ => (mul_comm _ _).trans (congrArg (v (ix3 0 k d) * ·) ?_))
  refine congrArg₂ (· - ·) (congrArg₂ Ideal.div (Eq.trans ?_ (order2 (fun i' => e k (i' + (14 + ((i 1).val * 512 + r.val)))))) (by rw [position])) (hx k r)
  exact (congrArg₂ (· + ·) (row_at (e k) _ (fun j => z (ix2 j k)) (fun r => x (ix2 r ⟨k.val, by omega⟩)) (fun j hj => hz k j hj) (fun r => hx k r) _ _ (by omega) (by omega) (by omega)) (row_at (e k) _ (fun j => z (ix2 j k)) (fun r => x (ix2 r ⟨k.val, by omega⟩)) (fun j hj => hz k j hj) (fun r => hx k r) _ _ (by omega) (by omega) (by omega)))

/-- What is stored for the group of width 4. -/
theorem stored4 (i : grid0.Coords) (x : FVec Ideal S512x2048 .f32) (z : FVec Ideal S16x512 .f32) (v : FVec Ideal S1x512x512 .f32) (f : FVec Ideal S1x512 .f32) (r d : Fin 512)
    (e : Fin 512 → Nat → EReal) (hz : ∀ (k : Fin 512) (j : Fin 16), 1 ≤ j.val → z (ix2 j k) = e k ((i 1).val * 512 + j.val - 1))
    (hx : ∀ (k r : Fin 512), x (ix2 r ⟨512 + k.val, by omega⟩) = e k (15 + ((i 1).val * 512 + r.val))) :
    k0_pay9 (F := Ideal) (k0_pay4 i) (k0_pay6 x) (k0_pay7 x z) (k0_pay8 x z) v f (ix2 r d) = (∑ k : Fin 512, v (ix3 0 k d) * pooled (e k) 4 (12 + ((i 1).val * 512 + r.val)) (count ((i 1).val * 512 + r.val) 4#32) (e k (15 + ((i 1).val * 512 + r.val)))) * f (ix2 0 d) := by
  have hr := r.isLt
  pointwise [k0_pay9, k0_pay4, k0_pay6, k0_pay7, k0_pay8]
  refine congrArg (· * f (ix2 0 d)) (Finset.sum_congr rfl fun k _ => (mul_comm _ _).trans (congrArg (v (ix3 0 k d) * ·) ?_))
  refine congrArg₂ (· - ·) (congrArg₂ Ideal.div (Eq.trans ?_ (order4 (fun i' => e k (i' + (12 + ((i 1).val * 512 + r.val)))))) (by rw [position])) (hx k r)
  exact (congrArg₂ (· + ·) (congrArg₂ (· + ·) (row_at (e k) _ (fun j => z (ix2 j k)) (fun r => x (ix2 r ⟨512 + k.val, by omega⟩)) (fun j hj => hz k j hj) (fun r => hx k r) _ _ (by omega) (by omega) (by omega)) (row_at (e k) _ (fun j => z (ix2 j k)) (fun r => x (ix2 r ⟨512 + k.val, by omega⟩)) (fun j hj => hz k j hj) (fun r => hx k r) _ _ (by omega) (by omega) (by omega))) (congrArg₂ (· + ·) (row_at (e k) _ (fun j => z (ix2 j k)) (fun r => x (ix2 r ⟨512 + k.val, by omega⟩)) (fun j hj => hz k j hj) (fun r => hx k r) _ _ (by omega) (by omega) (by omega)) (row_at (e k) _ (fun j => z (ix2 j k)) (fun r => x (ix2 r ⟨512 + k.val, by omega⟩)) (fun j hj => hz k j hj) (fun r => hx k r) _ _ (by omega) (by omega) (by omega))))

/-- What is stored for the group of width 8. -/
theorem stored8 (i : grid0.Coords) (x : FVec Ideal S512x2048 .f32) (z : FVec Ideal S16x512 .f32) (v : FVec Ideal S1x512x512 .f32) (f : FVec Ideal S1x512 .f32) (r d : Fin 512)
    (e : Fin 512 → Nat → EReal) (hz : ∀ (k : Fin 512) (j : Fin 16), 1 ≤ j.val → z (ix2 j k) = e k ((i 1).val * 512 + j.val - 1))
    (hx : ∀ (k r : Fin 512), x (ix2 r ⟨1024 + k.val, by omega⟩) = e k (15 + ((i 1).val * 512 + r.val))) :
    k0_pay11 (F := Ideal) (k0_pay10 x (k0_pay4 i) z) v f (ix2 r d) = (∑ k : Fin 512, v (ix3 0 k d) * pooled (e k) 8 (8 + ((i 1).val * 512 + r.val)) (count ((i 1).val * 512 + r.val) 8#32) (e k (15 + ((i 1).val * 512 + r.val)))) * f (ix2 0 d) := by
  have hr := r.isLt
  pointwise [k0_pay11, k0_pay10, k0_pay4]
  refine congrArg (· * f (ix2 0 d)) (Finset.sum_congr rfl fun k _ => (mul_comm _ _).trans (congrArg (v (ix3 0 k d) * ·) ?_))
  refine congrArg₂ (· - ·) (congrArg₂ Ideal.div (Eq.trans ?_ (order8 (fun i' => e k (i' + (8 + ((i 1).val * 512 + r.val)))))) (by rw [position])) (hx k r)
  exact (congrArg₂ (· + ·) (congrArg₂ (· + ·) (congrArg₂ (· + ·) (row_at (e k) _ (fun j => z (ix2 j k)) (fun r => x (ix2 r ⟨1024 + k.val, by omega⟩)) (fun j hj => hz k j hj) (fun r => hx k r) _ _ (by omega) (by omega) (by omega)) (row_at (e k) _ (fun j => z (ix2 j k)) (fun r => x (ix2 r ⟨1024 + k.val, by omega⟩)) (fun j hj => hz k j hj) (fun r => hx k r) _ _ (by omega) (by omega) (by omega))) (congrArg₂ (· + ·) (row_at (e k) _ (fun j => z (ix2 j k)) (fun r => x (ix2 r ⟨1024 + k.val, by omega⟩)) (fun j hj => hz k j hj) (fun r => hx k r) _ _ (by omega) (by omega) (by omega)) (row_at (e k) _ (fun j => z (ix2 j k)) (fun r => x (ix2 r ⟨1024 + k.val, by omega⟩)) (fun j hj => hz k j hj) (fun r => hx k r) _ _ (by omega) (by omega) (by omega)))) (congrArg₂ (· + ·) (congrArg₂ (· + ·) (row_at (e k) _ (fun j => z (ix2 j k)) (fun r => x (ix2 r ⟨1024 + k.val, by omega⟩)) (fun j hj => hz k j hj) (fun r => hx k r) _ _ (by omega) (by omega) (by omega)) (row_at (e k) _ (fun j => z (ix2 j k)) (fun r => x (ix2 r ⟨1024 + k.val, by omega⟩)) (fun j hj => hz k j hj) (fun r => hx k r) _ _ (by omega) (by omega) (by omega))) (congrArg₂ (· + ·) (row_at (e k) _ (fun j => z (ix2 j k)) (fun r => x (ix2 r ⟨1024 + k.val, by omega⟩)) (fun j hj => hz k j hj) (fun r => hx k r) _ _ (by omega) (by omega) (by omega)) (row_at (e k) _ (fun j => z (ix2 j k)) (fun r => x (ix2 r ⟨1024 + k.val, by omega⟩)) (fun j hj => hz k j hj) (fun r => hx k r) _ _ (by omega) (by omega) (by omega)))))

/-- What is stored for the group of width 16. -/
theorem stored16 (i : grid0.Coords) (x : FVec Ideal S512x2048 .f32) (z : FVec Ideal S16x512 .f32) (v : FVec Ideal S1x512x512 .f32) (f : FVec Ideal S1x512 .f32) (r d : Fin 512)
    (e : Fin 512 → Nat → EReal) (hz : ∀ (k : Fin 512) (j : Fin 16), 1 ≤ j.val → z (ix2 j k) = e k ((i 1).val * 512 + j.val - 1))
    (hx : ∀ (k r : Fin 512), x (ix2 r ⟨1536 + k.val, by omega⟩) = e k (15 + ((i 1).val * 512 + r.val))) :
    k0_pay1 (F := Ideal) (k0_pay12 x (k0_pay4 i) z v) (k0_pay13 f) (ix2 r d) = (∑ k : Fin 512, v (ix3 0 k d) * pooled (e k) 16 ((i 1).val * 512 + r.val) (count ((i 1).val * 512 + r.val) 16#32) (e k (15 + ((i 1).val * 512 + r.val)))) * f (ix2 0 d) := by
  have hr := r.isLt
  pointwise [k0_pay1, k0_pay12, k0_pay4, k0_pay13]
  refine congrArg (· * f (ix2 0 d)) (Finset.sum_congr rfl fun k _ => (mul_comm _ _).trans (congrArg (v (ix3 0 k d) * ·) ?_))
  refine congrArg₂ (· - ·) (congrArg₂ Ideal.div (Eq.trans ?_ (order16 (fun i' => e k (i' + ((i 1).val * 512 + r.val))))) (by rw [position])) (hx k r)
  exact (congrArg₂ (· + ·) (congrArg₂ (· + ·) (congrArg₂ (· + ·) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega))) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega)))) (congrArg₂ (· + ·) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega))) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega))))) (congrArg₂ (· + ·) (congrArg₂ (· + ·) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega))) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega)))) (congrArg₂ (· + ·) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega))) (congrArg₂ (· + ·) (row_at (e k) _ (fun j => z (ix2 j k)) (fun r => x (ix2 r ⟨1536 + k.val, by omega⟩)) (fun j hj => hz k j hj) (fun r => hx k r) _ _ (by omega) (by omega) (by omega)) (row_at (e k) _ (fun j => z (ix2 j k)) (fun r => x (ix2 r ⟨1536 + k.val, by omega⟩)) (fun j hj => hz k j hj) (fun r => hx k r) _ _ (by omega) (by omega) (by omega))))))

variable (m : (ℓ : Loc nD τ sig) → Buf (Elt Ideal) ℓ)
variable (c : Dev nD) (t : Fin cfg0.N)

theorem idx : ∀ t : Fin cfg0.N, win0_0.index t = ![t.val, 0] ∧ win0_1.index t = ![0, 0, 0]
    ∧ win0_2.index t = ![0, 0] ∧ win0_3.index t = ![t.val, 0] ∧ t.val < 16 ∧ (grid0.coords t 1).val = t.val % 4 :=
  (by decide +kernel : ∀ t : Fin grid0.N, _)

theorem emb3 (ht : t.val < 16) (r : Fin 512) (q : Fin 2048) : (win0_3.blk t).view.emb (ix2 r q) = (ix2 ⟨t.val * 512 + r.val, by omega⟩ q : S8192x2048.Idx) := by
  blk_ext [idx t]

theorem emb1 (i : Fin 4) (k d : Fin 512) : (win0_1.blk t).view.emb (ix3 i k d) = (ix3 i k d : S4x512x512.Idx) := by
  blk_ext [idx t]

theorem emb2 (q : Fin 2048) : (win0_2.blk t).view.emb (ix2 0 q) = (ix2 0 q : S1x2048.Idx) := by
  blk_ext [idx t]

theorem V0 : V m c main_v0 = shapeCast S4x512x512 (show FVec Ideal S1x4x512x512 .f32 from m ((c : Thread nD τ).loc main_arg1)) shapeCasts_S1x4x512x512_S4x512x512 := by
  unfold V; after_results <;> rfl

theorem V2 : V m c main_v2 = shapeCast S1x2048 (shapeCast S2048 (show FVec Ideal S1x2048 .f32 from m ((c : Thread nD τ).loc main_arg2)) shapeCasts_S1x2048_S2048) shapeCasts_S2048_S1x2048 := by
  unfold V; after_results <;> rfl

theorem matrices (X : FVec Ideal S1x4x512x512 .f32) (i : Fin 4) (k d : Fin 512) :
    shapeCast S4x512x512 X shapeCasts_S1x4x512x512_S4x512x512 (ix3 i k d) = X (ix4 0 i k d) := by
  pointwise []

theorem scales (X : FVec Ideal S1x2048 .f32) (q : Fin 2048) :
    shapeCast S1x2048 (shapeCast S2048 X shapeCasts_S1x2048_S2048) shapeCasts_S2048_S1x2048 (ix2 0 q) = X (ix2 0 q) := by
  pointwise []

/-- The argument buffers, at their types. -/
abbrev argP : FVec Ideal S8320x10240 .f32 := m ((c : Thread nD τ).loc main_arg0)
abbrev argW : FVec Ideal S1x4x512x512 .f32 := m ((c : Thread nD τ).loc main_arg1)
abbrev argG : FVec Ideal S1x2048 .f32 := m ((c : Thread nD τ).loc main_arg2)

theorem blk0 (ht : t.val < 16) (r : Fin 512) (q : Fin 2048) : X0_0 m c t (ix2 r q)
    = argP m c (ix2 ⟨t.val * 512 + r.val, by omega⟩ ⟨q.val, by omega⟩) := by
  unfold X0_0 Pipeline.Window.fill
  rw [dif_pos (moved0_0 t _)]
  refine (congrArg (V m c main_arg0) ?_).trans (congrFun (V_main_arg0 m c) _)
  blk_ext [idx t]

theorem blk1 (i : Fin 4) (k d : Fin 512) : iblk m c 1 t (ix3 i k d) = argW m c (ix4 0 i k d) := by
  refine (congrArg (V m c main_v0) (emb1 t i k d)).trans ?_
  rw [V0]
  exact matrices _ i k d

theorem blk2 (q : Fin 2048) : iblk m c 2 t (ix2 0 q) = argG m c (ix2 0 q) := by
  refine (congrArg (V m c main_v2) (emb2 t q)).trans ?_
  rw [V2]
  exact scales _ q

/-- What the reference computes from the argument buffers. -/
abbrev REF (p : FVec Ideal S8320x10240 .f32) (w : FVec Ideal S1x4x512x512 .f32) (g : FVec Ideal S1x2048 .f32) : FVec Ideal S8192x2048 .bf16 :=
  Cert.PoolPRefIdeal.Read.val_main_v68 (F := Ideal) p w g

/-- A block's rows are its sequence's entries. -/
theorem block_at (r : Fin 512) (q : Fin 2048) (n : Fin 4) (hn : n.val = t.val / 4) :
    X0_0 m c t (ix2 r q) = entries (argP m c) n q (15 + ((grid0.coords t 1).val * 512 + r.val)) := by
  have hb := idx t
  have ht : t.val < 16 := hb.2.2.2.2.1
  have hc : (grid0.coords t 1).val = t.val % 4 := hb.2.2.2.2.2
  have hr := r.isLt
  rw [blk0 m c t ht r q, hc, entries_at (argP m c) n q (t.val % 4 * 512 + r.val) (by omega)]
  exact congrArg (argP m c) (congrArg (fun z => (ix2 z ⟨q.val, by omega⟩ : S8320x10240.Idx)) (Fin.ext (show t.val * 512 + r.val = n.val * 2048 + (t.val % 4 * 512 + r.val) by omega)))

/-- The carried rows after a block are its last sixteen. -/
theorem carried : (outsAt0 m c t.val t.isLt).2 = k0_pay2 (X0_0 m c t) := by
  by_cases h0 : t.val % 4 = 0
  · rw [outsAt0_A m c t h0]
    frame_out
  · rw [outsAt0_B m c t h0]
    frame_out

theorem last_at (x : FVec Ideal S512x2048 .f32) (j : Fin 16) (q : Fin 2048) : k0_pay2 (F := Ideal) x (ix2 j q) = x (ix2 ⟨496 + j.val, by omega⟩ q) := by
  pointwise [k0_pay2]

/-- Before a sequence's first block the carried rows are zero, as are the entries before its first. -/
theorem before_first (n : Fin 4) (h0 : t.val % 4 = 0) (q : Fin 2048) (j : Fin 16) (hj : 1 ≤ j.val) :
    k0_pay3 (F := Ideal) (ix2 j q) = entries (argP m c) n q ((grid0.coords t 1).val * 512 + j.val - 1) := by
  have hc : (grid0.coords t 1).val = t.val % 4 := (idx t).2.2.2.2.2
  have hj' := j.isLt
  unfold entries
  rw [hc, dif_neg (by omega)]
  pointwise [k0_pay3]

/-- Before any other block they are the last entries of the block before it. -/
theorem before_next (n : Fin 4) (hn : n.val = t.val / 4) (h0 : ¬ t.val % 4 = 0) (h : t.val - 1 < cfg0.N) (q : Fin 2048) (j : Fin 16) (hj : 1 ≤ j.val) :
    (outsAt0 m c (t.val - 1) h).2 (ix2 j q) = entries (argP m c) n q ((grid0.coords t 1).val * 512 + j.val - 1) := by
  have hc : (grid0.coords t 1).val = t.val % 4 := (idx t).2.2.2.2.2
  have hp : (grid0.coords ⟨t.val - 1, h⟩ 1).val = (t.val - 1) % 4 := (idx ⟨t.val - 1, h⟩).2.2.2.2.2
  have hj' := j.isLt
  rw [carried m c ⟨t.val - 1, h⟩, last_at, block_at m c ⟨t.val - 1, h⟩ _ q n (show n.val = (t.val - 1) / 4 by omega), hc, hp]
  exact congrArg (entries (argP m c) n q) (show 15 + ((t.val - 1) % 4 * 512 + (496 + j.val)) = t.val % 4 * 512 + j.val - 1 by omega)

/-- The group of width 2: kernel and reference agree at every row and column of a block. -/
theorem group2 (fs : ∀ n q i, ∃ r : ℝ, entries (argP m c) n q i = (r : EReal)) (ht : t.val < 16) (r d : Fin 512)
    (z : FVec Ideal S16x512 .f32) (v : FVec Ideal S1x512x512 .f32) (f : FVec Ideal S1x512 .f32)
    (hz : ∀ (k : Fin 512) (j : Fin 16), 1 ≤ j.val → z (ix2 j k) = entries (argP m c) ⟨t.val / 4, by omega⟩ ⟨0 + k.val, by omega⟩ ((grid0.coords t 1).val * 512 + j.val - 1))
    (hv : ∀ k : Fin 512, v (ix3 0 k d) = argW m c (ix4 0 0 k d)) (hf : f (ix2 0 d) = argG m c (ix2 0 ⟨0 + d.val, by omega⟩)) :
    k0_pay5 (F := Ideal) (grid0.coords t) (X0_0 m c t) z v f (ix2 r d) = REF (argP m c) (argW m c) (argG m c) (ix2 ⟨t.val * 512 + r.val, by omega⟩ ⟨0 + d.val, by omega⟩) := by
  have hc : (grid0.coords t 1).val = t.val % 4 := (idx t).2.2.2.2.2
  have hr := r.isLt
  refine (stored2 (grid0.coords t) (X0_0 m c t) z v f r d (fun k => entries (argP m c) ⟨t.val / 4, by omega⟩ ⟨0 + k.val, by omega⟩) hz
    (fun k r => (congrArg (fun q => X0_0 m c t (ix2 r q)) (Fin.ext (show k.val = 0 + k.val by omega))).trans (block_at m c t r ⟨0 + k.val, by omega⟩ ⟨t.val / 4, by omega⟩ rfl))).trans ?_
  refine Eq.trans ?_ (ref2 (argP m c) (argW m c) (argG m c) ⟨t.val / 4, by omega⟩ ⟨(grid0.coords t 1).val * 512 + r.val, by omega⟩ d (fs _) ⟨t.val * 512 + r.val, by omega⟩
    (show t.val * 512 + r.val = t.val / 4 * 2048 + ((grid0.coords t 1).val * 512 + r.val) by omega) ⟨0 + d.val, by omega⟩ rfl).symm
  rw [hf]
  exact congrArg (· * argG m c (ix2 0 ⟨0 + d.val, by omega⟩)) (Finset.sum_congr rfl fun k _ => congrArg (· * _) (hv k))

/-- The group of width 4: kernel and reference agree at every row and column of a block. -/
theorem group4 (fs : ∀ n q i, ∃ r : ℝ, entries (argP m c) n q i = (r : EReal)) (ht : t.val < 16) (r d : Fin 512)
    (z : FVec Ideal S16x512 .f32) (v : FVec Ideal S1x512x512 .f32) (f : FVec Ideal S1x512 .f32)
    (hz : ∀ (k : Fin 512) (j : Fin 16), 1 ≤ j.val → z (ix2 j k) = entries (argP m c) ⟨t.val / 4, by omega⟩ ⟨512 + k.val, by omega⟩ ((grid0.coords t 1).val * 512 + j.val - 1))
    (hv : ∀ k : Fin 512, v (ix3 0 k d) = argW m c (ix4 0 1 k d)) (hf : f (ix2 0 d) = argG m c (ix2 0 ⟨512 + d.val, by omega⟩)) :
    k0_pay9 (F := Ideal) (k0_pay4 (grid0.coords t)) (k0_pay6 (X0_0 m c t)) (k0_pay7 (X0_0 m c t) z) (k0_pay8 (X0_0 m c t) z) v f (ix2 r d) = REF (argP m c) (argW m c) (argG m c) (ix2 ⟨t.val * 512 + r.val, by omega⟩ ⟨512 + d.val, by omega⟩) := by
  have hc : (grid0.coords t 1).val = t.val % 4 := (idx t).2.2.2.2.2
  have hr := r.isLt
  refine (stored4 (grid0.coords t) (X0_0 m c t) z v f r d (fun k => entries (argP m c) ⟨t.val / 4, by omega⟩ ⟨512 + k.val, by omega⟩) hz
    (fun k r => (congrArg (fun q => X0_0 m c t (ix2 r q)) (Fin.ext (show 512 + k.val = 512 + k.val by omega))).trans (block_at m c t r ⟨512 + k.val, by omega⟩ ⟨t.val / 4, by omega⟩ rfl))).trans ?_
  refine Eq.trans ?_ (ref4 (argP m c) (argW m c) (argG m c) ⟨t.val / 4, by omega⟩ ⟨(grid0.coords t 1).val * 512 + r.val, by omega⟩ d (fs _) ⟨t.val * 512 + r.val, by omega⟩
    (show t.val * 512 + r.val = t.val / 4 * 2048 + ((grid0.coords t 1).val * 512 + r.val) by omega) ⟨512 + d.val, by omega⟩ rfl).symm
  rw [hf]
  exact congrArg (· * argG m c (ix2 0 ⟨512 + d.val, by omega⟩)) (Finset.sum_congr rfl fun k _ => congrArg (· * _) (hv k))

/-- The group of width 8: kernel and reference agree at every row and column of a block. -/
theorem group8 (fs : ∀ n q i, ∃ r : ℝ, entries (argP m c) n q i = (r : EReal)) (ht : t.val < 16) (r d : Fin 512)
    (z : FVec Ideal S16x512 .f32) (v : FVec Ideal S1x512x512 .f32) (f : FVec Ideal S1x512 .f32)
    (hz : ∀ (k : Fin 512) (j : Fin 16), 1 ≤ j.val → z (ix2 j k) = entries (argP m c) ⟨t.val / 4, by omega⟩ ⟨1024 + k.val, by omega⟩ ((grid0.coords t 1).val * 512 + j.val - 1))
    (hv : ∀ k : Fin 512, v (ix3 0 k d) = argW m c (ix4 0 2 k d)) (hf : f (ix2 0 d) = argG m c (ix2 0 ⟨1024 + d.val, by omega⟩)) :
    k0_pay11 (F := Ideal) (k0_pay10 (X0_0 m c t) (k0_pay4 (grid0.coords t)) z) v f (ix2 r d) = REF (argP m c) (argW m c) (argG m c) (ix2 ⟨t.val * 512 + r.val, by omega⟩ ⟨1024 + d.val, by omega⟩) := by
  have hc : (grid0.coords t 1).val = t.val % 4 := (idx t).2.2.2.2.2
  have hr := r.isLt
  refine (stored8 (grid0.coords t) (X0_0 m c t) z v f r d (fun k => entries (argP m c) ⟨t.val / 4, by omega⟩ ⟨1024 + k.val, by omega⟩) hz
    (fun k r => (congrArg (fun q => X0_0 m c t (ix2 r q)) (Fin.ext (show 1024 + k.val = 1024 + k.val by omega))).trans (block_at m c t r ⟨1024 + k.val, by omega⟩ ⟨t.val / 4, by omega⟩ rfl))).trans ?_
  refine Eq.trans ?_ (ref8 (argP m c) (argW m c) (argG m c) ⟨t.val / 4, by omega⟩ ⟨(grid0.coords t 1).val * 512 + r.val, by omega⟩ d (fs _) ⟨t.val * 512 + r.val, by omega⟩
    (show t.val * 512 + r.val = t.val / 4 * 2048 + ((grid0.coords t 1).val * 512 + r.val) by omega) ⟨1024 + d.val, by omega⟩ rfl).symm
  rw [hf]
  exact congrArg (· * argG m c (ix2 0 ⟨1024 + d.val, by omega⟩)) (Finset.sum_congr rfl fun k _ => congrArg (· * _) (hv k))

/-- The group of width 16: kernel and reference agree at every row and column of a block. -/
theorem group16 (fs : ∀ n q i, ∃ r : ℝ, entries (argP m c) n q i = (r : EReal)) (ht : t.val < 16) (r d : Fin 512)
    (z : FVec Ideal S16x512 .f32) (v : FVec Ideal S1x512x512 .f32) (f : FVec Ideal S1x512 .f32)
    (hz : ∀ (k : Fin 512) (j : Fin 16), 1 ≤ j.val → z (ix2 j k) = entries (argP m c) ⟨t.val / 4, by omega⟩ ⟨1536 + k.val, by omega⟩ ((grid0.coords t 1).val * 512 + j.val - 1))
    (hv : ∀ k : Fin 512, v (ix3 0 k d) = argW m c (ix4 0 3 k d)) (hf : f (ix2 0 d) = argG m c (ix2 0 ⟨1536 + d.val, by omega⟩)) :
    k0_pay1 (F := Ideal) (k0_pay12 (X0_0 m c t) (k0_pay4 (grid0.coords t)) z v) (k0_pay13 f) (ix2 r d) = REF (argP m c) (argW m c) (argG m c) (ix2 ⟨t.val * 512 + r.val, by omega⟩ ⟨1536 + d.val, by omega⟩) := by
  have hc : (grid0.coords t 1).val = t.val % 4 := (idx t).2.2.2.2.2
  have hr := r.isLt
  refine (stored16 (grid0.coords t) (X0_0 m c t) z v f r d (fun k => entries (argP m c) ⟨t.val / 4, by omega⟩ ⟨1536 + k.val, by omega⟩) hz
    (fun k r => (congrArg (fun q => X0_0 m c t (ix2 r q)) (Fin.ext (show 1536 + k.val = 1536 + k.val by omega))).trans (block_at m c t r ⟨1536 + k.val, by omega⟩ ⟨t.val / 4, by omega⟩ rfl))).trans ?_
  refine Eq.trans ?_ (ref16 (argP m c) (argW m c) (argG m c) ⟨t.val / 4, by omega⟩ ⟨(grid0.coords t 1).val * 512 + r.val, by omega⟩ d (fs _) ⟨t.val * 512 + r.val, by omega⟩
    (show t.val * 512 + r.val = t.val / 4 * 2048 + ((grid0.coords t 1).val * 512 + r.val) by omega) ⟨1536 + d.val, by omega⟩ rfl).symm
  rw [hf]
  exact congrArg (· * argG m c (ix2 0 ⟨1536 + d.val, by omega⟩)) (Finset.sum_congr rfl fun k _ => congrArg (· * _) (hv k))

/-- A row and a column of a block's result in the result array. -/
theorem emb_row (ht : t.val < 16) (y : S512x2048.Idx) (r : Fin 512) (q : Fin 2048) (h0 : (y 0).val = r.val) (h1 : (y 1).val = q.val) :
    (win0_3.blk t).view.emb y = (ix2 ⟨t.val * 512 + r.val, by omega⟩ q : S8192x2048.Idx) := by
  have e : y = (ix2 r q : S512x2048.Idx) := by
    funext a
    refine Fin.cases (Fin.ext h0) (fun b => Fin.cases (Fin.ext h1) (fun z => z.elim0) b) a
  exact (congrArg (win0_3.blk t).view.emb e).trans (emb3 t ht r q)

theorem slab (o : Nat) (j : Fin 16) (k : Fin 512) (inb) (h : o + k.val < 2048) : (Rect.unit (s := S16x2048) ![0, o] ![16, 512] inb).idx (ix2 j k) = (ix2 j ⟨o + k.val, h⟩ : S16x2048.Idx) := by
  funext a
  refine Fin.cases (Fin.ext (show 0 + 1 * j.val = j.val by omega)) (Fin.cases (Fin.ext (show o + 1 * k.val = o + k.val by omega)) (fun z => z.elim0)) a

theorem matrix (o : Nat) (k d : Fin 512) (inb) (h : o < 4) : (Rect.unit (s := S4x512x512) ![o, 0, 0] ![1, 512, 512] inb).idx (ix3 0 k d) = (ix3 ⟨o, h⟩ k d : S4x512x512.Idx) := by
  funext a
  refine Fin.cases (Fin.ext (show o + 1 * 0 = o by omega)) (Fin.cases (Fin.ext (show 0 + 1 * k.val = k.val by omega)) (Fin.cases (Fin.ext (show 0 + 1 * d.val = d.val by omega)) (fun z => z.elim0))) a

theorem scale (o : Nat) (d : Fin 512) (inb) (h : o + d.val < 2048) : (Rect.unit (s := S1x2048) ![0, o] ![1, 512] inb).idx (ix2 0 d) = (ix2 0 ⟨o + d.val, h⟩ : S1x2048.Idx) := by
  funext a
  refine Fin.cases (Fin.ext (show 0 + 1 * 0 = 0 by omega)) (Fin.cases (Fin.ext (show o + 1 * d.val = o + d.val by omega)) (fun z => z.elim0)) a

/-- The first block of a sequence: what is stored is the reference's. -/
theorem point_A (fs : ∀ n q i, ∃ r : ℝ, entries (argP m c) n q i = (r : EReal)) (ht : t.val < 16) (h0 : t.val % 4 = 0) (x : S512x2048.Idx) :
    (outsAt0 m c t.val t.isLt).1 x = REF (argP m c) (argW m c) (argG m c) ((win0_3.blk t).view.emb x) := by
  rw [outsAt0_A m c t h0]
  frame_out
  canon_tiles x hh
  case piece0 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨1536 + (x 1).val, by omega⟩ hh0 hh1)).symm
    refine (congrArg _ hx).trans (group16 m c t fs ht ⟨(x 0).val, x0_lt⟩ ⟨(x 1).val, x1_lt⟩ _ _ _ (fun k j hj => ?_) (fun k => ?_) ?_)
    · rw [View.readCov_fill _ _ _ _ _ (fun a => by fin_cases a <;> rfl)]
      exact (congrArg (k0_pay3 (F := Ideal)) (slab 1536 j k _ (by omega))).trans (before_first m c t ⟨t.val / 4, by omega⟩ h0 ⟨1536 + k.val, by omega⟩ j hj)
    · exact (congrArg (iblk m c 1 t) (matrix 3 k ⟨(x 1).val, x1_lt⟩ _ (by omega))).trans (blk1 m c t 3 k ⟨(x 1).val, x1_lt⟩)
    · exact (congrArg (iblk m c 2 t) (scale 1536 ⟨(x 1).val, x1_lt⟩ _ (show 1536 + (x 1).val < 2048 by omega))).trans (blk2 m c t ⟨1536 + (x 1).val, by omega⟩)
  case piece1 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨1024 + (x 1).val, by omega⟩ hh0 hh1)).symm
    refine (congrArg _ hx).trans (group8 m c t fs ht ⟨(x 0).val, x0_lt⟩ ⟨(x 1).val, x1_lt⟩ _ _ _ (fun k j hj => ?_) (fun k => ?_) ?_)
    · rw [View.readCov_fill _ _ _ _ _ (fun a => by fin_cases a <;> rfl)]
      exact (congrArg (k0_pay3 (F := Ideal)) (slab 1024 j k _ (by omega))).trans (before_first m c t ⟨t.val / 4, by omega⟩ h0 ⟨1024 + k.val, by omega⟩ j hj)
    · exact (congrArg (iblk m c 1 t) (matrix 2 k ⟨(x 1).val, x1_lt⟩ _ (by omega))).trans (blk1 m c t 2 k ⟨(x 1).val, x1_lt⟩)
    · exact (congrArg (iblk m c 2 t) (scale 1024 ⟨(x 1).val, x1_lt⟩ _ (show 1024 + (x 1).val < 2048 by omega))).trans (blk2 m c t ⟨1024 + (x 1).val, by omega⟩)
  case piece2 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨512 + (x 1).val, by omega⟩ hh0 hh1)).symm
    refine (congrArg _ hx).trans (group4 m c t fs ht ⟨(x 0).val, x0_lt⟩ ⟨(x 1).val, x1_lt⟩ _ _ _ (fun k j hj => ?_) (fun k => ?_) ?_)
    · rw [View.readCov_fill _ _ _ _ _ (fun a => by fin_cases a <;> rfl)]
      exact (congrArg (k0_pay3 (F := Ideal)) (slab 512 j k _ (by omega))).trans (before_first m c t ⟨t.val / 4, by omega⟩ h0 ⟨512 + k.val, by omega⟩ j hj)
    · exact (congrArg (iblk m c 1 t) (matrix 1 k ⟨(x 1).val, x1_lt⟩ _ (by omega))).trans (blk1 m c t 1 k ⟨(x 1).val, x1_lt⟩)
    · exact (congrArg (iblk m c 2 t) (scale 512 ⟨(x 1).val, x1_lt⟩ _ (show 512 + (x 1).val < 2048 by omega))).trans (blk2 m c t ⟨512 + (x 1).val, by omega⟩)
  case piece3 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨0 + (x 1).val, by omega⟩ hh0 (hh1.trans (Nat.zero_add _).symm))).symm
    refine (congrArg _ hx).trans (group2 m c t fs ht ⟨(x 0).val, x0_lt⟩ ⟨(x 1).val, x1_lt⟩ _ _ _ (fun k j hj => ?_) (fun k => ?_) ?_)
    · rw [View.readCov_fill _ _ _ _ _ (fun a => by fin_cases a <;> rfl)]
      exact (congrArg (k0_pay3 (F := Ideal)) (slab 0 j k _ (by omega))).trans (before_first m c t ⟨t.val / 4, by omega⟩ h0 ⟨0 + k.val, by omega⟩ j hj)
    · exact (congrArg (iblk m c 1 t) (matrix 0 k ⟨(x 1).val, x1_lt⟩ _ (by omega))).trans (blk1 m c t 0 k ⟨(x 1).val, x1_lt⟩)
    · exact (congrArg (iblk m c 2 t) (scale 0 ⟨(x 1).val, x1_lt⟩ _ (show 0 + (x 1).val < 2048 by omega))).trans (blk2 m c t ⟨0 + (x 1).val, by omega⟩)

/-- Every other block: what is stored is the reference's. -/
theorem point_B (fs : ∀ n q i, ∃ r : ℝ, entries (argP m c) n q i = (r : EReal)) (ht : t.val < 16) (h0 : ¬ t.val % 4 = 0) (x : S512x2048.Idx) :
    (outsAt0 m c t.val t.isLt).1 x = REF (argP m c) (argW m c) (argG m c) ((win0_3.blk t).view.emb x) := by
  rw [outsAt0_B m c t h0]
  frame_out
  canon_tiles x hh
  case piece0 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨1536 + (x 1).val, by omega⟩ hh0 hh1)).symm
    refine (congrArg _ hx).trans (group16 m c t fs ht ⟨(x 0).val, x0_lt⟩ ⟨(x 1).val, x1_lt⟩ _ _ _ (fun k j hj => ?_) (fun k => ?_) ?_)
    · rw [read_unread_whole]
      exact (congrArg (outsAt0 m c (t.val - 1) _).2 (slab 1536 j k _ (by omega))).trans (before_next m c t ⟨t.val / 4, by omega⟩ rfl h0 _ ⟨1536 + k.val, by omega⟩ j hj)
    · exact (congrArg (iblk m c 1 t) (matrix 3 k ⟨(x 1).val, x1_lt⟩ _ (by omega))).trans (blk1 m c t 3 k ⟨(x 1).val, x1_lt⟩)
    · exact (congrArg (iblk m c 2 t) (scale 1536 ⟨(x 1).val, x1_lt⟩ _ (show 1536 + (x 1).val < 2048 by omega))).trans (blk2 m c t ⟨1536 + (x 1).val, by omega⟩)
  case piece1 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨1024 + (x 1).val, by omega⟩ hh0 hh1)).symm
    refine (congrArg _ hx).trans (group8 m c t fs ht ⟨(x 0).val, x0_lt⟩ ⟨(x 1).val, x1_lt⟩ _ _ _ (fun k j hj => ?_) (fun k => ?_) ?_)
    · rw [read_unread_whole]
      exact (congrArg (outsAt0 m c (t.val - 1) _).2 (slab 1024 j k _ (by omega))).trans (before_next m c t ⟨t.val / 4, by omega⟩ rfl h0 _ ⟨1024 + k.val, by omega⟩ j hj)
    · exact (congrArg (iblk m c 1 t) (matrix 2 k ⟨(x 1).val, x1_lt⟩ _ (by omega))).trans (blk1 m c t 2 k ⟨(x 1).val, x1_lt⟩)
    · exact (congrArg (iblk m c 2 t) (scale 1024 ⟨(x 1).val, x1_lt⟩ _ (show 1024 + (x 1).val < 2048 by omega))).trans (blk2 m c t ⟨1024 + (x 1).val, by omega⟩)
  case piece2 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨512 + (x 1).val, by omega⟩ hh0 hh1)).symm
    refine (congrArg _ hx).trans (group4 m c t fs ht ⟨(x 0).val, x0_lt⟩ ⟨(x 1).val, x1_lt⟩ _ _ _ (fun k j hj => ?_) (fun k => ?_) ?_)
    · rw [read_unread_whole]
      exact (congrArg (outsAt0 m c (t.val - 1) _).2 (slab 512 j k _ (by omega))).trans (before_next m c t ⟨t.val / 4, by omega⟩ rfl h0 _ ⟨512 + k.val, by omega⟩ j hj)
    · exact (congrArg (iblk m c 1 t) (matrix 1 k ⟨(x 1).val, x1_lt⟩ _ (by omega))).trans (blk1 m c t 1 k ⟨(x 1).val, x1_lt⟩)
    · exact (congrArg (iblk m c 2 t) (scale 512 ⟨(x 1).val, x1_lt⟩ _ (show 512 + (x 1).val < 2048 by omega))).trans (blk2 m c t ⟨512 + (x 1).val, by omega⟩)
  case piece3 =>
    have hx : x = (ix2 ⟨(x 0).val, x0_lt⟩ ⟨(x 1).val, x1_lt⟩ : S512x512.Idx) := by
      funext a
      refine Fin.cases rfl (fun b => Fin.cases rfl (fun z => z.elim0) b) a
    refine Eq.trans ?_ (congrArg (REF _ _ _) (emb_row t ht _ ⟨(x 0).val, x0_lt⟩ ⟨0 + (x 1).val, by omega⟩ hh0 (hh1.trans (Nat.zero_add _).symm))).symm
    refine (congrArg _ hx).trans (group2 m c t fs ht ⟨(x 0).val, x0_lt⟩ ⟨(x 1).val, x1_lt⟩ _ _ _ (fun k j hj => ?_) (fun k => ?_) ?_)
    · rw [read_unread_whole]
      exact (congrArg (outsAt0 m c (t.val - 1) _).2 (slab 0 j k _ (by omega))).trans (before_next m c t ⟨t.val / 4, by omega⟩ rfl h0 _ ⟨0 + k.val, by omega⟩ j hj)
    · exact (congrArg (iblk m c 1 t) (matrix 0 k ⟨(x 1).val, x1_lt⟩ _ (by omega))).trans (blk1 m c t 0 k ⟨(x 1).val, x1_lt⟩)
    · exact (congrArg (iblk m c 2 t) (scale 0 ⟨(x 1).val, x1_lt⟩ _ (show 0 + (x 1).val < 2048 by omega))).trans (blk2 m c t ⟨0 + (x 1).val, by omega⟩)

/-- The entries of finite rows are numbers. -/
theorem finite [Cert.Pre_finite_pool_prompt.Facts] (p : FVec Ideal S8320x10240 .f32) (w : FVec Ideal S1x4x512x512 .f32) (g : FVec Ideal S1x2048 .f32)
    (h : Cert.Pre_finite_pool_prompt.fn (F := Ideal) p w g = fun _ => 1#1) (n : Fin 4) (q : Fin 2048) (i : Nat) :
    ∃ r : ℝ, entries p n q i = (r : EReal) := by
  by_cases hi : 15 ≤ i ∧ i < 2063
  swap
  · exact ⟨0, by unfold entries; rw [dif_neg hi]; rfl⟩
  have hn := n.isLt
  unfold entries
  rw [dif_pos hi]
  apply real_of_abs_lt
  have e : Ideal.ofBits .f32 0x7F800000#32 = (⊤ : EReal) := by simp [Ideal.ofBits, Ideal.ieee]
  have hx : cmpf .olt (Host.absf p) (fun _ => Ideal.ofBits .f32 0x7F800000#32) (ix2 ⟨n.val * 2048 + (i - 15), by omega⟩ ⟨q.val, by omega⟩) = 1#1 := by
    refine Eq.trans ?_ (congrFun h (ix2 ⟨n.val * 2048 + (i - 15), by omega⟩ q))
    pointwise [Cert.Pre_finite_pool_prompt.fn]
  rw [e] at hx
  by_contra hc
  have hz : cmpf .olt (Host.absf p) (fun _ => (⊤ : EReal)) (ix2 ⟨n.val * 2048 + (i - 15), by omega⟩ ⟨q.val, by omega⟩) = 0#1 := by
    show BitVec.ofBool (decide (max (p (ix2 ⟨n.val * 2048 + (i - 15), by omega⟩ ⟨q.val, by omega⟩)) (-p (ix2 ⟨n.val * 2048 + (i - 15), by omega⟩ ⟨q.val, by omega⟩)) < ⊤)) = 0#1
    simp only [decide_eq_false hc]; rfl
  rw [hz] at hx
  exact absurd hx (by decide)

/-- The result array after the run. -/
theorem final (fs : ∀ n q i, ∃ r : ℝ, entries (argP m c) n q i = (r : EReal)) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 16 := (idx t).2.2.2.2.1
  blk_simp
  rw [after0_3]
  by_cases h0 : t.val % 4 = 0
  · exact point_A m c t fs ht h0 y
  · exact point_B m c t fs ht h0 y

end Cert.PoolPIdeal.Own

end
-- ==== Proof.PoolSValue.lean ====
/- What `pool_sample` computes: each column's mean over the new entry and the entries kept before it, less the new
   entry itself, by the matrix of its group, scaled. -/
module

public import proofs.«01_k».proof.Proof.Gen.PoolSIdeal.Value
public import proofs.«01_k».proof.Proof.Gen.PoolSRefIdeal.Read
public import proofs.«01_k».proof.Proof.PoolSum
public import proofs.«01_k».proof.Pre_finite_pool_sample
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolSIdeal.Own

open Cert.PoolSIdeal Cert.PoolSIdeal.Gen

open Cert.PoolSum

/-- The sixteen numbers a pooled column may sum: the fifteen kept ones and the new one. -/
def entries (p : FVec Ideal S8320x10240 .f32) (s : FVec Ideal S1x128x15x2048 .f32) (n : Fin 128) (q : Fin 2048) (i : Nat) : EReal :=
  if h : i < 15 then s (ix4 0 n ⟨i, h⟩ q) else p (ix2 ⟨8192 + n.val, by omega⟩ ⟨q.val, by omega⟩)

open Cert.PoolSRefIdeal.Read in
/-- The reference's running sums. -/
theorem sums_at (p : FVec Ideal S8320x10240 .f32) (s : FVec Ideal S1x128x15x2048 .f32) (n : Fin 128) (j : Fin 17) (q : Fin 2048) :
    val_main_v8 (F := Ideal) p s (ix3 n j q) = ∑ i ∈ Finset.range j.val, entries p s n q i := by
  have e : ∀ i : Fin 16, val_main_v5 (F := Ideal) p s (ix3 n i q) = entries p s n q i.val := fun i => by
    pointwise [val_main_v5, val_main_v2, val_main_v1, val_main_v0]
    rfl
  have hj := j.isLt
  pointwise [val_main_v8, val_main_v6, val_main_cst]
  by_cases h : j.val < 1
  · rw [dif_pos h, show j.val = 0 by omega, Finset.sum_range_zero]
  · rw [dif_neg h]
    unfold val_main_v7
    generalize val_main_v5 (F := Ideal) p s = X at e
    have hz : val_main_call0_call0_v0 (F := Ideal) = fun _ => 0 := by
      funext z; pointwise [val_main_call0_call0_v0, val_main_call0_call0_cst]
    rw [hz]
    refine (cumsum_mid (A := 128) (L := 16) (M := 15) (C := 2048) rfl X (entries p s n q) Cert.PoolSRefIdeal.Gen.reduceWindows_S128x16x2048_S128x16x2048_w1s1p0_0_w16s1p15_0_w1s1p0_0 n ⟨j.val - 1, by omega⟩ q e).trans ?_
    rw [show j.val - 1 + 1 = j.val by omega]

/-- The word that counts the window of 2, as a number. -/
theorem count2 : FloatOps.sitofp (F := Ideal) FTy.f32 (IntOp.minsi (IntOp.addi (IntOp.addi 16384#32 0#32) 1#32) 2#32) = Ideal.ofBits .f32 0x40000000#32 := by
  rw [show IntOp.minsi (IntOp.addi (IntOp.addi 16384#32 0#32) 1#32) 2#32 = 2#32 by decide]
  show ((((2#32 : BitVec 32).toInt : ℝ)) : EReal) = _
  simp [Ideal.ofBits, Ideal.ieee, -EReal.coe_mul]
  norm_num

/-- The word that counts the window of 4, as a number. -/
theorem count4 : FloatOps.sitofp (F := Ideal) FTy.f32 (IntOp.minsi (IntOp.addi (IntOp.addi 16384#32 0#32) 1#32) 4#32) = Ideal.ofBits .f32 0x40800000#32 := by
  rw [show IntOp.minsi (IntOp.addi (IntOp.addi 16384#32 0#32) 1#32) 4#32 = 4#32 by decide]
  show ((((4#32 : BitVec 32).toInt : ℝ)) : EReal) = _
  simp [Ideal.ofBits, Ideal.ieee, -EReal.coe_mul]
  norm_num

/-- The word that counts the window of 8, as a number. -/
theorem count8 : FloatOps.sitofp (F := Ideal) FTy.f32 (IntOp.minsi (IntOp.addi (IntOp.addi 16384#32 0#32) 1#32) 8#32) = Ideal.ofBits .f32 0x41000000#32 := by
  rw [show IntOp.minsi (IntOp.addi (IntOp.addi 16384#32 0#32) 1#32) 8#32 = 8#32 by decide]
  show ((((8#32 : BitVec 32).toInt : ℝ)) : EReal) = _
  simp [Ideal.ofBits, Ideal.ieee, -EReal.coe_mul]
  norm_num

/-- The word that counts the window of 16, as a number. -/
theorem count16 : FloatOps.sitofp (F := Ideal) FTy.f32 (IntOp.minsi (IntOp.addi (IntOp.addi 16384#32 0#32) 1#32) 16#32) = Ideal.ofBits .f32 0x41800000#32 := by
  rw [show IntOp.minsi (IntOp.addi (IntOp.addi 16384#32 0#32) 1#32) 16#32 = 16#32 by decide]
  show ((((16#32 : BitVec 32).toInt : ℝ)) : EReal) = _
  simp [Ideal.ofBits, Ideal.ieee, -EReal.coe_mul]
  norm_num

/-- The difference of two of the running sums: the entries between them, the earlier ones being finite. -/
theorem window_at (p : FVec Ideal S8320x10240 .f32) (s : FVec Ideal S1x128x15x2048 .f32) (n : Fin 128) (q q' : Fin 2048) (a d : Nat) (hd : a + d = 16) (h0 : d ≠ 0)
    (hq : q.val = q'.val) (hs : ∀ q i, i < 15 → ∃ r : ℝ, entries p s n q i = (r : EReal)) :
    (∑ i ∈ Finset.range 16, entries p s n q i) - ∑ i ∈ Finset.range a, entries p s n q i = ∑ i ∈ Finset.range d, entries p s n q' (i + a) := by
  obtain rfl : q = q' := Fin.ext hq
  rw [← sum_sub (entries p s n q) a d fun i hi => hs q i (by omega), hd]

open Cert.PoolSRefIdeal.Read in
/-- The reference's mean over a window of 2. -/
theorem mean2 (p : FVec Ideal S8320x10240 .f32) (s : FVec Ideal S1x128x15x2048 .f32) (n : Fin 128) (k : Fin 512)
    (hs : ∀ q i, i < 15 → ∃ r : ℝ, entries p s n q i = (r : EReal)) :
    val_main_v57 (F := Ideal) p s (ix3 n 0 ⟨k.val, by omega⟩)
      = Ideal.div (∑ i ∈ Finset.range 2, entries p s n ⟨k.val, by omega⟩ (i + 14)) (Ideal.ofBits .f32 0x40000000#32) := by
  have hk := k.isLt
  pointwise [val_main_v57, val_main_v23, val_main_v34, val_main_v45, val_main_v56, val_main_v9, val_main_v12, val_main_v11, val_main_v10, val_main_c, val_main_v21, val_main_v20, val_main_v13, val_main_v22, val_main_v19, val_main_v18, val_main_v17, val_main_v15, val_main_v14, val_main_c_0, val_main_v16, val_main_c_1]
  rw [count2, sums_at, sums_at]
  exact congrArg (Ideal.div · _) (window_at p s n _ _ 14 2 rfl (by decide) (by show k.val = k.val; omega) hs)

open Cert.PoolSRefIdeal.Read in
/-- The reference's mean over a window of 4. -/
theorem mean4 (p : FVec Ideal S8320x10240 .f32) (s : FVec Ideal S1x128x15x2048 .f32) (n : Fin 128) (k : Fin 512)
    (hs : ∀ q i, i < 15 → ∃ r : ℝ, entries p s n q i = (r : EReal)) :
    val_main_v57 (F := Ideal) p s (ix3 n 0 ⟨512 + k.val, by omega⟩)
      = Ideal.div (∑ i ∈ Finset.range 4, entries p s n ⟨512 + k.val, by omega⟩ (i + 12)) (Ideal.ofBits .f32 0x40800000#32) := by
  have hk := k.isLt
  pointwise [val_main_v57, val_main_v23, val_main_v34, val_main_v45, val_main_v56, val_main_v9, val_main_v12, val_main_v11, val_main_v10, val_main_c, val_main_v32, val_main_v31, val_main_v24, val_main_v33, val_main_v30, val_main_v29, val_main_v28, val_main_v26, val_main_v25, val_main_c_2, val_main_v27, val_main_c_3]
  rw [count4, sums_at, sums_at]
  exact congrArg (Ideal.div · _) (window_at p s n _ _ 12 4 rfl (by decide) (by show 512 + k.val = 512 + k.val; omega) hs)

open Cert.PoolSRefIdeal.Read in
/-- The reference's mean over a window of 8. -/
theorem mean8 (p : FVec Ideal S8320x10240 .f32) (s : FVec Ideal S1x128x15x2048 .f32) (n : Fin 128) (k : Fin 512)
    (hs : ∀ q i, i < 15 → ∃ r : ℝ, entries p s n q i = (r : EReal)) :
    val_main_v57 (F := Ideal) p s (ix3 n 0 ⟨1024 + k.val, by omega⟩)
      = Ideal.div (∑ i ∈ Finset.range 8, entries p s n ⟨1024 + k.val, by omega⟩ (i + 8)) (Ideal.ofBits .f32 0x41000000#32) := by
  have hk := k.isLt
  pointwise [val_main_v57, val_main_v23, val_main_v34, val_main_v45, val_main_v56, val_main_v9, val_main_v12, val_main_v11, val_main_v10, val_main_c, val_main_v43, val_main_v42, val_main_v35, val_main_v44, val_main_v41, val_main_v40, val_main_v39, val_main_v37, val_main_v36, val_main_c_4, val_main_v38, val_main_c_5]
  rw [dif_neg (by omega), dif_neg (by omega), dif_pos (by omega), count8, sums_at, sums_at]
  exact congrArg (Ideal.div · _) (window_at p s n _ _ 8 8 rfl (by decide) (by show 1024 + (1024 + k.val - 512 - 512) = 1024 + k.val; omega) hs)

open Cert.PoolSRefIdeal.Read in
/-- The reference's mean over a window of 16. -/
theorem mean16 (p : FVec Ideal S8320x10240 .f32) (s : FVec Ideal S1x128x15x2048 .f32) (n : Fin 128) (k : Fin 512)
    (hs : ∀ q i, i < 15 → ∃ r : ℝ, entries p s n q i = (r : EReal)) :
    val_main_v57 (F := Ideal) p s (ix3 n 0 ⟨1536 + k.val, by omega⟩)
      = Ideal.div (∑ i ∈ Finset.range 16, entries p s n ⟨1536 + k.val, by omega⟩ (i + 0)) (Ideal.ofBits .f32 0x41800000#32) := by
  have hk := k.isLt
  pointwise [val_main_v57, val_main_v23, val_main_v34, val_main_v45, val_main_v56, val_main_v9, val_main_v12, val_main_v11, val_main_v10, val_main_c, val_main_v54, val_main_v53, val_main_v46, val_main_v55, val_main_v52, val_main_v51, val_main_v50, val_main_v48, val_main_v47, val_main_c_6, val_main_v49, val_main_c_7]
  rw [dif_neg (by omega), dif_neg (by omega), dif_neg (by omega), count16, sums_at, sums_at]
  exact congrArg (Ideal.div · _) (window_at p s n _ _ 0 16 rfl (by decide) (by show 1536 + (1536 + k.val - 512 - 512 - 512) = 1536 + k.val; omega) hs)

/-- The mean of the last `w` entries less the last one. -/
abbrev pooled (e : Nat → EReal) (w a : Nat) (c : EReal) : EReal := Ideal.div (∑ i ∈ Finset.range w, e (i + a)) c - e 15

open Cert.PoolSRefIdeal.Read in
/-- The reference: the pooled columns of a group by that group's matrix, scaled. -/
theorem ref_at (p : FVec Ideal S8320x10240 .f32) (s : FVec Ideal S1x128x15x2048 .f32) (w : FVec Ideal S1x4x512x512 .f32) (g : FVec Ideal S1x2048 .f32) (n : Fin 128) (q : Fin 2048) :
    val_main_v68 (F := Ideal) p s w g (ix2 n q)
      = (∑ k : Fin 512, w (ix4 0 ⟨q.val / 512, by omega⟩ k ⟨q.val % 512, by omega⟩)
          * (val_main_v57 (F := Ideal) p s (ix3 n 0 ⟨q.val / 512 * 512 + k.val, by omega⟩) - entries p s n ⟨q.val / 512 * 512 + k.val, by omega⟩ 15)) * g (ix2 0 q) := by
  pointwise [val_main_v68, val_main_v67, val_main_v66, val_main_v65, val_main_v64, val_main_v63, val_main_v62, val_main_v61, val_main_v60, val_main_v59, val_main_v58, val_main_v5, val_main_v1, val_main_v0, val_main_v3, val_main_v4]
  rfl

/-- The group of width 2 of the reference. -/
theorem ref2 (p : FVec Ideal S8320x10240 .f32) (s : FVec Ideal S1x128x15x2048 .f32) (w : FVec Ideal S1x4x512x512 .f32) (g : FVec Ideal S1x2048 .f32) (n : Fin 128) (d : Fin 512)
    (hs : ∀ q i, i < 15 → ∃ r : ℝ, entries p s n q i = (r : EReal)) (q : Fin 2048) (hq : q.val = 0 + d.val) :
    Cert.PoolSRefIdeal.Read.val_main_v68 (F := Ideal) p s w g (ix2 n q)
      = (∑ k : Fin 512, w (ix4 0 0 k d) * pooled (entries p s n ⟨0 + k.val, by omega⟩) 2 14 (Ideal.ofBits .f32 0x40000000#32)) * g (ix2 0 q) := by
  rw [ref_at]
  refine congrArg (· * g (ix2 0 q)) (Finset.sum_congr rfl fun k _ => ?_)
  have e : ∀ h, (⟨q.val / 512 * 512 + k.val, h⟩ : Fin 2048) = ⟨0 + k.val, by omega⟩ := fun _ => Fin.ext (by show q.val / 512 * 512 + k.val = 0 + k.val; omega)
  refine congrArg₂ (· * ·) (congrArg₂ (fun a b => w (ix4 0 a k b)) (Fin.ext (by show q.val / 512 = 0; omega)) (Fin.ext (by show q.val % 512 = d.val; omega))) ?_
  rw [e]
  refine congrArg (· - _) (Eq.trans (congrArg (fun z => Cert.PoolSRefIdeal.Read.val_main_v57 (F := Ideal) p s (ix3 n 0 z)) (Fin.ext (by show 0 + k.val = _; simp))) (mean2 p s n k hs) |>.trans ?_)
  exact congrArg (Ideal.div · _) (Finset.sum_congr rfl fun i _ => congrArg (fun z => entries p s n z (i + 14)) (Fin.ext (by simp)))

/-- The group of width 4 of the reference. -/
theorem ref4 (p : FVec Ideal S8320x10240 .f32) (s : FVec Ideal S1x128x15x2048 .f32) (w : FVec Ideal S1x4x512x512 .f32) (g : FVec Ideal S1x2048 .f32) (n : Fin 128) (d : Fin 512)
    (hs : ∀ q i, i < 15 → ∃ r : ℝ, entries p s n q i = (r : EReal)) (q : Fin 2048) (hq : q.val = 512 + d.val) :
    Cert.PoolSRefIdeal.Read.val_main_v68 (F := Ideal) p s w g (ix2 n q)
      = (∑ k : Fin 512, w (ix4 0 1 k d) * pooled (entries p s n ⟨512 + k.val, by omega⟩) 4 12 (Ideal.ofBits .f32 0x40800000#32)) * g (ix2 0 q) := by
  rw [ref_at]
  refine congrArg (· * g (ix2 0 q)) (Finset.sum_congr rfl fun k _ => ?_)
  have e : ∀ h, (⟨q.val / 512 * 512 + k.val, h⟩ : Fin 2048) = ⟨512 + k.val, by omega⟩ := fun _ => Fin.ext (by show q.val / 512 * 512 + k.val = 512 + k.val; omega)
  refine congrArg₂ (· * ·) (congrArg₂ (fun a b => w (ix4 0 a k b)) (Fin.ext (by show q.val / 512 = 1; omega)) (Fin.ext (by show q.val % 512 = d.val; omega))) ?_
  rw [e]
  refine congrArg (· - _) (Eq.trans (congrArg (fun z => Cert.PoolSRefIdeal.Read.val_main_v57 (F := Ideal) p s (ix3 n 0 z)) (Fin.ext (by show 512 + k.val = _; simp))) (mean4 p s n k hs) |>.trans ?_)
  exact congrArg (Ideal.div · _) (Finset.sum_congr rfl fun i _ => congrArg (fun z => entries p s n z (i + 12)) (Fin.ext (by simp)))

/-- The group of width 8 of the reference. -/
theorem ref8 (p : FVec Ideal S8320x10240 .f32) (s : FVec Ideal S1x128x15x2048 .f32) (w : FVec Ideal S1x4x512x512 .f32) (g : FVec Ideal S1x2048 .f32) (n : Fin 128) (d : Fin 512)
    (hs : ∀ q i, i < 15 → ∃ r : ℝ, entries p s n q i = (r : EReal)) (q : Fin 2048) (hq : q.val = 1024 + d.val) :
    Cert.PoolSRefIdeal.Read.val_main_v68 (F := Ideal) p s w g (ix2 n q)
      = (∑ k : Fin 512, w (ix4 0 2 k d) * pooled (entries p s n ⟨1024 + k.val, by omega⟩) 8 8 (Ideal.ofBits .f32 0x41000000#32)) * g (ix2 0 q) := by
  rw [ref_at]
  refine congrArg (· * g (ix2 0 q)) (Finset.sum_congr rfl fun k _ => ?_)
  have e : ∀ h, (⟨q.val / 512 * 512 + k.val, h⟩ : Fin 2048) = ⟨1024 + k.val, by omega⟩ := fun _ => Fin.ext (by show q.val / 512 * 512 + k.val = 1024 + k.val; omega)
  refine congrArg₂ (· * ·) (congrArg₂ (fun a b => w (ix4 0 a k b)) (Fin.ext (by show q.val / 512 = 2; omega)) (Fin.ext (by show q.val % 512 = d.val; omega))) ?_
  rw [e]
  refine congrArg (· - _) (Eq.trans (congrArg (fun z => Cert.PoolSRefIdeal.Read.val_main_v57 (F := Ideal) p s (ix3 n 0 z)) (Fin.ext (by show 1024 + k.val = _; simp))) (mean8 p s n k hs) |>.trans ?_)
  exact congrArg (Ideal.div · _) (Finset.sum_congr rfl fun i _ => congrArg (fun z => entries p s n z (i + 8)) (Fin.ext (by simp)))

/-- The group of width 16 of the reference. -/
theorem ref16 (p : FVec Ideal S8320x10240 .f32) (s : FVec Ideal S1x128x15x2048 .f32) (w : FVec Ideal S1x4x512x512 .f32) (g : FVec Ideal S1x2048 .f32) (n : Fin 128) (d : Fin 512)
    (hs : ∀ q i, i < 15 → ∃ r : ℝ, entries p s n q i = (r : EReal)) (q : Fin 2048) (hq : q.val = 1536 + d.val) :
    Cert.PoolSRefIdeal.Read.val_main_v68 (F := Ideal) p s w g (ix2 n q)
      = (∑ k : Fin 512, w (ix4 0 3 k d) * pooled (entries p s n ⟨1536 + k.val, by omega⟩) 16 0 (Ideal.ofBits .f32 0x41800000#32)) * g (ix2 0 q) := by
  rw [ref_at]
  refine congrArg (· * g (ix2 0 q)) (Finset.sum_congr rfl fun k _ => ?_)
  have e : ∀ h, (⟨q.val / 512 * 512 + k.val, h⟩ : Fin 2048) = ⟨1536 + k.val, by omega⟩ := fun _ => Fin.ext (by show q.val / 512 * 512 + k.val = 1536 + k.val; omega)
  refine congrArg₂ (· * ·) (congrArg₂ (fun a b => w (ix4 0 a k b)) (Fin.ext (by show q.val / 512 = 3; omega)) (Fin.ext (by show q.val % 512 = d.val; omega))) ?_
  rw [e]
  refine congrArg (· - _) (Eq.trans (congrArg (fun z => Cert.PoolSRefIdeal.Read.val_main_v57 (F := Ideal) p s (ix3 n 0 z)) (Fin.ext (by show 1536 + k.val = _; simp))) (mean16 p s n k hs) |>.trans ?_)
  exact congrArg (Ideal.div · _) (Finset.sum_congr rfl fun i _ => congrArg (fun z => entries p s n z (i + 0)) (Fin.ext (by simp)))

/-- The kernel's order of a window's sum. -/
theorem order2 (e : Nat → EReal) : e 15 + e 14 = ∑ i ∈ Finset.range 2, e (i + 14) := by
  simp only [Finset.sum_range_succ, Finset.sum_range_zero, zero_add, Nat.reduceAdd]
  ac_rfl

/-- The kernel's order of a window's sum. -/
theorem order4 (e : Nat → EReal) : e 15 + e 14 + e 13 + e 12 = ∑ i ∈ Finset.range 4, e (i + 12) := by
  simp only [Finset.sum_range_succ, Finset.sum_range_zero, zero_add, Nat.reduceAdd]
  ac_rfl

/-- The kernel's order of a window's sum. -/
theorem order8 (e : Nat → EReal) : e 15 + e 14 + e 13 + e 12 + e 11 + e 10 + e 9 + e 8 = ∑ i ∈ Finset.range 8, e (i + 8) := by
  simp only [Finset.sum_range_succ, Finset.sum_range_zero, zero_add, Nat.reduceAdd]
  ac_rfl

/-- The kernel's order of a window's sum. -/
theorem order16 (e : Nat → EReal) : e 15 + e 14 + e 13 + e 12 + e 11 + e 10 + e 9 + e 8 + e 7 + e 6 + e 5 + e 4 + e 3 + e 2 + e 1 + e 0 = ∑ i ∈ Finset.range 16, e (i + 0) := by
  simp only [Finset.sum_range_succ, Finset.sum_range_zero, zero_add, Nat.reduceAdd]
  ac_rfl

variable (m : (ℓ : Loc nD τ sig) → Buf (Elt Ideal) ℓ)
variable (c : Dev nD) (t : Fin cfg0.N)

theorem idx : ∀ t : Fin cfg0.N, win0_0.index t = ![64, 0] ∧ win0_1.index t = ![0, 0, 0]
    ∧ win0_2.index t = ![0, 0, 0] ∧ win0_3.index t = ![0, 0] ∧ win0_4.index t = ![0, 0] :=
  (by decide +kernel : ∀ t : Fin grid0.N, _)

/-- What the body stores, at an index, is the reference there. -/
theorem stored (a : FVec Ideal S128x2048 .f32) (b : FVec Ideal S15x128x2048 .f32) (v : FVec Ideal S4x512x512 .f32) (f : FVec Ideal S1x2048 .f32)
    (p : FVec Ideal S8320x10240 .f32) (s : FVec Ideal S1x128x15x2048 .f32) (w : FVec Ideal S1x4x512x512 .f32) (g : FVec Ideal S1x2048 .f32)
    (fa : ∀ n q, a (ix2 n q) = entries p s n q 15) (fb : ∀ (i : Fin 15) n q, b (ix3 i n q) = entries p s n q i.val)
    (fv : ∀ i k d, v (ix3 i k d) = w (ix4 0 i k d)) (ff : ∀ q, f (ix2 0 q) = g (ix2 0 q))
    (fs : ∀ n q i, i < 15 → ∃ r : ℝ, entries p s n q i = (r : EReal)) (y : S128x2048.Idx) :
    out0_4 (F := Ideal) a b v f y = Cert.PoolSRefIdeal.Read.val_main_v68 (F := Ideal) p s w g y := by
  canon_tiles x h
  case piece0 =>
    have hy : y = ix2 (⟨(x 0).val, x0_lt⟩ : Fin 128) (⟨1536 + (x 1).val, by omega⟩ : Fin 2048) := funext fun a => Fin.ext (by
      match a with
      | ⟨0, _⟩ => exact h0
      | ⟨1, _⟩ => exact h1)
    refine Eq.trans ?_ ((congrArg _ hy).trans (ref16 p s w g ⟨(x 0).val, x0_lt⟩ ⟨(x 1).val, x1_lt⟩ (fs _) _ (by simp))).symm
    pointwise [k0_pay1, k0_pay11, k0_pay10, k0_pay9]
    refine congrArg₂ (· * ·) (Finset.sum_congr rfl fun k _ => ?_) (ff _)
    refine (mul_comm _ _).trans (congrArg₂ (· * ·) (fv _ _ _) ?_)
    refine congrArg₂ (· - ·) (congrArg (Ideal.div · _) (Eq.trans ?_ (order16 _))) (fa _ _)
    exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (fa _ _) (fb 14 _ _)) (fb 13 _ _)) (fb 12 _ _)) (fb 11 _ _)) (fb 10 _ _)) (fb 9 _ _)) (fb 8 _ _)) (fb 7 _ _)) (fb 6 _ _)) (fb 5 _ _)) (fb 4 _ _)) (fb 3 _ _)) (fb 2 _ _)) (fb 1 _ _)) (fb 0 _ _)
  case piece1 =>
    have hy : y = ix2 (⟨(x 0).val, x0_lt⟩ : Fin 128) (⟨1024 + (x 1).val, by omega⟩ : Fin 2048) := funext fun a => Fin.ext (by
      match a with
      | ⟨0, _⟩ => exact h0
      | ⟨1, _⟩ => exact h1)
    refine Eq.trans ?_ ((congrArg _ hy).trans (ref8 p s w g ⟨(x 0).val, x0_lt⟩ ⟨(x 1).val, x1_lt⟩ (fs _) _ (by simp))).symm
    pointwise [k0_pay8, k0_pay7, k0_pay6, k0_pay5]
    refine congrArg₂ (· * ·) (Finset.sum_congr rfl fun k _ => ?_) (ff _)
    refine (mul_comm _ _).trans (congrArg₂ (· * ·) (fv _ _ _) ?_)
    refine congrArg₂ (· - ·) (congrArg (Ideal.div · _) (Eq.trans ?_ (order8 _))) (fa _ _)
    exact congrArg₂ (· + ·) (congrArg₂ (· + ·) (congrArg₂ (· + ·) (congrArg₂ (· + ·) (congrArg₂ (· + ·) (congrArg₂ (· + ·) (congrArg₂ (· + ·) (fa _ _) (fb 14 _ _)) (fb 13 _ _)) (fb 12 _ _)) (fb 11 _ _)) (fb 10 _ _)) (fb 9 _ _)) (fb 8 _ _)
  case piece2 =>
    have hy : y = ix2 (⟨(x 0).val, x0_lt⟩ : Fin 128) (⟨512 + (x 1).val, by omega⟩ : Fin 2048) := funext fun a => Fin.ext (by
      match a with
      | ⟨0, _⟩ => exact h0
      | ⟨1, _⟩ => exact h1)
    refine Eq.trans ?_ ((congrArg _ hy).trans (ref4 p s w g ⟨(x 0).val, x0_lt⟩ ⟨(x 1).val, x1_lt⟩ (fs _) _ (by simp))).symm
    pointwise [k0_pay4, k0_pay3]
    refine congrArg₂ (· * ·) (Finset.sum_congr rfl fun k _ => ?_) (ff _)
    refine (mul_comm _ _).trans (congrArg₂ (· * ·) (fv _ _ _) ?_)
    refine congrArg₂ (· - ·) (congrArg (Ideal.div · _) (Eq.trans ?_ (order4 _))) (fa _ _)
    exact congrArg₂ (· + ·) (congrArg₂ (· + ·) (congrArg₂ (· + ·) (fa _ _) (fb 14 _ _)) (fb 13 _ _)) (fb 12 _ _)
  case piece3 =>
    have hy : y = ix2 (⟨(x 0).val, x0_lt⟩ : Fin 128) (⟨(x 1).val, by omega⟩ : Fin 2048) := funext fun a => Fin.ext (by
      match a with
      | ⟨0, _⟩ => exact h0
      | ⟨1, _⟩ => exact h1)
    refine Eq.trans ?_ ((congrArg _ hy).trans (ref2 p s w g ⟨(x 0).val, x0_lt⟩ ⟨(x 1).val, x1_lt⟩ (fs _) _ (by simp))).symm
    pointwise [k0_pay2]
    refine congrArg₂ (· * ·) (Finset.sum_congr rfl fun k _ => ?_) (ff _)
    refine (mul_comm _ _).trans (congrArg₂ (· * ·) (fv _ _ _) ?_)
    refine congrArg₂ (· - ·) (congrArg (Ideal.div · _) (Eq.trans ?_ (order2 _))) (fa _ _)
    exact congrArg₂ (· + ·) (fa _ _) (fb 14 _ _)

/-- The reference's result as a function of the kernel's arguments. -/
abbrev REF (p : FVec Ideal S8320x10240 .f32) (s : FVec Ideal S1x128x15x2048 .f32) (w : FVec Ideal S1x4x512x512 .f32) (g : FVec Ideal S1x2048 .f32) : FVec Ideal S128x2048 .bf16 :=
  Cert.PoolSRefIdeal.Read.val_main_v68 (F := Ideal) p s w g

theorem V1 : V m c main_v1 = transpose S15x128x2048 [1, 0, 2] (shapeCast S128x15x2048 (show FVec Ideal S1x128x15x2048 .f32 from m ((c : Thread nD τ).loc main_arg1)) shapeCasts_S1x128x15x2048_S128x15x2048) transposes_S128x15x2048_S15x128x2048_1_0_2 := by
  unfold V; after_results <;> rfl

theorem V2 : V m c main_v2 = shapeCast S4x512x512 (show FVec Ideal S1x4x512x512 .f32 from m ((c : Thread nD τ).loc main_arg2)) shapeCasts_S1x4x512x512_S4x512x512 := by
  unfold V; after_results <;> rfl

theorem V4 : V m c main_v4 = shapeCast S1x2048 (shapeCast S2048 (show FVec Ideal S1x2048 .f32 from m ((c : Thread nD τ).loc main_arg3)) shapeCasts_S1x2048_S2048) shapeCasts_S2048_S1x2048 := by
  unfold V; after_results <;> rfl

theorem kept (X : FVec Ideal S1x128x15x2048 .f32) (i : Fin 15) (n : Fin 128) (q : Fin 2048) :
    transpose S15x128x2048 [1, 0, 2] (shapeCast S128x15x2048 X shapeCasts_S1x128x15x2048_S128x15x2048) transposes_S128x15x2048_S15x128x2048_1_0_2 (ix3 i n q) = X (ix4 0 n i q) := by
  pointwise []

theorem matrices (X : FVec Ideal S1x4x512x512 .f32) (i : Fin 4) (k d : Fin 512) :
    shapeCast S4x512x512 X shapeCasts_S1x4x512x512_S4x512x512 (ix3 i k d) = X (ix4 0 i k d) := by
  pointwise []

theorem scales (X : FVec Ideal S1x2048 .f32) (q : Fin 2048) :
    shapeCast S1x2048 (shapeCast S2048 X shapeCasts_S1x2048_S2048) shapeCasts_S2048_S1x2048 (ix2 0 q) = X (ix2 0 q) := by
  pointwise []

theorem emb0 (n : Fin 128) (q : Fin 2048) : (win0_0.blk t).view.emb (ix2 n q) = (ix2 ⟨8192 + n.val, by omega⟩ ⟨q.val, by omega⟩ : S8320x10240.Idx) := by
  blk_ext [idx t]

theorem emb1 (i : Fin 15) (n : Fin 128) (q : Fin 2048) : (win0_1.blk t).view.emb (ix3 i n q) = (ix3 i n q : S15x128x2048.Idx) := by
  blk_ext [idx t]

theorem emb2 (i : Fin 4) (k d : Fin 512) : (win0_2.blk t).view.emb (ix3 i k d) = (ix3 i k d : S4x512x512.Idx) := by
  blk_ext [idx t]

theorem emb3 (q : Fin 2048) : (win0_3.blk t).view.emb (ix2 0 q) = (ix2 0 q : S1x2048.Idx) := by
  blk_ext [idx t]

theorem emb4 (y : S128x2048.Idx) : (win0_4.blk t).view.emb y = y := by
  idx_vars y
  blk_ext [idx t]

/-- The argument buffers, at their types. -/
abbrev argP : FVec Ideal S8320x10240 .f32 := m ((c : Thread nD τ).loc main_arg0)
abbrev argS : FVec Ideal S1x128x15x2048 .f32 := m ((c : Thread nD τ).loc main_arg1)
abbrev argW : FVec Ideal S1x4x512x512 .f32 := m ((c : Thread nD τ).loc main_arg2)
abbrev argG : FVec Ideal S1x2048 .f32 := m ((c : Thread nD τ).loc main_arg3)

theorem blk0 (n : Fin 128) (q : Fin 2048) : iblk m c 0 t (ix2 n q) = entries (argP m c) (argS m c) n q 15 := by
  refine (congrArg (V m c main_arg0) (emb0 t n q)).trans ?_
  rw [V_main_arg0]
  rfl

theorem blk1 (i : Fin 15) (n : Fin 128) (q : Fin 2048) : iblk m c 1 t (ix3 i n q) = entries (argP m c) (argS m c) n q i.val := by
  refine (congrArg (V m c main_v1) (emb1 t i n q)).trans ?_
  rw [V1]
  refine (kept _ i n q).trans ?_
  unfold entries
  rw [dif_pos i.isLt]

theorem blk2 (i : Fin 4) (k d : Fin 512) : iblk m c 2 t (ix3 i k d) = argW m c (ix4 0 i k d) := by
  refine (congrArg (V m c main_v2) (emb2 t i k d)).trans ?_
  rw [V2]
  exact matrices _ i k d

theorem blk3 (q : Fin 2048) : iblk m c 3 t (ix2 0 q) = argG m c (ix2 0 q) := by
  refine (congrArg (V m c main_v4) (emb3 t q)).trans ?_
  rw [V4]
  exact scales _ q

/-- The kept entries of finite buffers are numbers. -/
theorem finite [Cert.Pre_finite_pool_sample.Facts] (p : FVec Ideal S8320x10240 .f32) (s : FVec Ideal S1x128x15x2048 .f32) (w : FVec Ideal S1x4x512x512 .f32) (g : FVec Ideal S1x2048 .f32)
    (h : Cert.Pre_finite_pool_sample.fn (F := Ideal) p s w g = fun _ => 1#1) (n : Fin 128) (q : Fin 2048) (i : Nat) (hi : i < 15) :
    ∃ r : ℝ, entries p s n q i = (r : EReal) := by
  unfold entries
  rw [dif_pos hi]
  apply real_of_abs_lt
  have e : Ideal.ofBits .f32 0x7F800000#32 = (⊤ : EReal) := by simp [Ideal.ofBits, Ideal.ieee]
  have hx : cmpf .olt (Host.absf s) (fun _ => Ideal.ofBits .f32 0x7F800000#32) (ix4 0 n ⟨i, hi⟩ q) = 1#1 := congrFun h (ix4 0 n ⟨i, hi⟩ q)
  rw [e] at hx
  by_contra hc
  have hz : cmpf .olt (Host.absf s) (fun _ => (⊤ : EReal)) (ix4 0 n ⟨i, hi⟩ q) = 0#1 := by
    show BitVec.ofBool (decide (max (s (ix4 0 n ⟨i, hi⟩ q)) (-s (ix4 0 n ⟨i, hi⟩ q)) < ⊤)) = 0#1
    simp only [decide_eq_false hc]; rfl
  rw [hz] at hx
  exact absurd hx (by decide)

/-- The result array after the run. -/
theorem final (fs : ∀ n q i, i < 15 → ∃ r : ℝ, entries (argP m c) (argS m c) n q i = (r : EReal)) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have hb := idx t
  blk_simp
  rw [after0_4]
  exact (stored _ _ _ _ (argP m c) (argS m c) (argW m c) (argG m c) (blk0 m c t) (blk1 m c t) (blk2 m c t) (blk3 m c t) fs y).trans (congrArg (REF _ _ _ _) (emb4 t y)).symm

end Cert.PoolSIdeal.Own

end
-- ==== Proof.FinishValue.lean ====
/- What `finish` computes for the sample: the recurrence's output normalized head by head, scaled, shifted, and gated. -/
module

public import proofs.«01_k».proof.Proof.Gen.FinishIdeal.Value
public import proofs.«01_k».proof.Proof.Gen.FinishRefIdeal.Read
public import Idealize.ShloMosaic.Lib.Pipeline.ValueKit
public import Idealize.ShloMosaic.Lib.Pointwise
public import Idealize.ShloMosaic.Lib.Claim
public import proofs.«01_k».proof.Pre_finite_recurrence
public import Mathlib.Tactic.IntervalCases
public import proofs.«01_k».proof.Proof.PoolSum

@[expose] public section

set_option maxRecDepth 16384

noncomputable section

open Idealize.ShloMosaic Idealize.ShloMosaic.TcCoe Idealize.SL.Sem
open Idealize.ShloMosaic.Pipeline (Dat)

namespace Cert.FinishIdeal.Own

open Cert.FinishIdeal Cert.FinishIdeal.Gen Cert.PoolSum

theorem colSlices (i : Fin 16) : S128x2048.Slices ![0, 128 * i.val] S128x128 := by revert i; decide
theorem rowSlices (i : Fin 16) : S2048x128.Slices ![128 * i.val, 0] S128x128 := by revert i; decide

/-- The 16 slabs of 128 columns, one below the other. -/
def folded (x : FVec Ideal S128x2048 .f32) : FVec Ideal S2048x128 .f32 :=
  concatenate S2048x128 0 [⟨S128x128, extractStridedSlice S128x128 ![0, 0] x slices_S128x2048_o0_0_S128x128⟩, ⟨S128x128, extractStridedSlice S128x128 ![0, 128] x slices_S128x2048_o0_128_S128x128⟩, ⟨S128x128, extractStridedSlice S128x128 ![0, 256] x slices_S128x2048_o0_256_S128x128⟩, ⟨S128x128, extractStridedSlice S128x128 ![0, 384] x slices_S128x2048_o0_384_S128x128⟩, ⟨S128x128, extractStridedSlice S128x128 ![0, 512] x slices_S128x2048_o0_512_S128x128⟩, ⟨S128x128, extractStridedSlice S128x128 ![0, 640] x slices_S128x2048_o0_640_S128x128⟩, ⟨S128x128, extractStridedSlice S128x128 ![0, 768] x slices_S128x2048_o0_768_S128x128⟩, ⟨S128x128, extractStridedSlice S128x128 ![0, 896] x slices_S128x2048_o0_896_S128x128⟩, ⟨S128x128, extractStridedSlice S128x128 ![0, 1024] x slices_S128x2048_o0_1024_S128x128⟩, ⟨S128x128, extractStridedSlice S128x128 ![0, 1152] x slices_S128x2048_o0_1152_S128x128⟩, ⟨S128x128, extractStridedSlice S128x128 ![0, 1280] x slices_S128x2048_o0_1280_S128x128⟩, ⟨S128x128, extractStridedSlice S128x128 ![0, 1408] x slices_S128x2048_o0_1408_S128x128⟩, ⟨S128x128, extractStridedSlice S128x128 ![0, 1536] x slices_S128x2048_o0_1536_S128x128⟩, ⟨S128x128, extractStridedSlice S128x128 ![0, 1664] x slices_S128x2048_o0_1664_S128x128⟩, ⟨S128x128, extractStridedSlice S128x128 ![0, 1792] x slices_S128x2048_o0_1792_S128x128⟩, ⟨S128x128, extractStridedSlice S128x128 ![0, 1920] x slices_S128x2048_o0_1920_S128x128⟩] concatenates_S128x128_S128x128_S128x128_S128x128_S128x128_S128x128_S128x128_S128x128_S128x128_S128x128_S128x128_S128x128_S128x128_S128x128_S128x128_S128x128_S2048x128_d0

/-- The 16 slabs of 128 rows, one beside the other. -/
def unfolded (x : FVec Ideal S2048x128 .f32) : FVec Ideal S128x2048 .f32 :=
  concatenate S128x2048 1 [⟨S128x128, extractStridedSlice S128x128 ![0, 0] x slices_S2048x128_o0_0_S128x128⟩, ⟨S128x128, extractStridedSlice S128x128 ![128, 0] x slices_S2048x128_o128_0_S128x128⟩, ⟨S128x128, extractStridedSlice S128x128 ![256, 0] x slices_S2048x128_o256_0_S128x128⟩, ⟨S128x128, extractStridedSlice S128x128 ![384, 0] x slices_S2048x128_o384_0_S128x128⟩, ⟨S128x128, extractStridedSlice S128x128 ![512, 0] x slices_S2048x128_o512_0_S128x128⟩, ⟨S128x128, extractStridedSlice S128x128 ![640, 0] x slices_S2048x128_o640_0_S128x128⟩, ⟨S128x128, extractStridedSlice S128x128 ![768, 0] x slices_S2048x128_o768_0_S128x128⟩, ⟨S128x128, extractStridedSlice S128x128 ![896, 0] x slices_S2048x128_o896_0_S128x128⟩, ⟨S128x128, extractStridedSlice S128x128 ![1024, 0] x slices_S2048x128_o1024_0_S128x128⟩, ⟨S128x128, extractStridedSlice S128x128 ![1152, 0] x slices_S2048x128_o1152_0_S128x128⟩, ⟨S128x128, extractStridedSlice S128x128 ![1280, 0] x slices_S2048x128_o1280_0_S128x128⟩, ⟨S128x128, extractStridedSlice S128x128 ![1408, 0] x slices_S2048x128_o1408_0_S128x128⟩, ⟨S128x128, extractStridedSlice S128x128 ![1536, 0] x slices_S2048x128_o1536_0_S128x128⟩, ⟨S128x128, extractStridedSlice S128x128 ![1664, 0] x slices_S2048x128_o1664_0_S128x128⟩, ⟨S128x128, extractStridedSlice S128x128 ![1792, 0] x slices_S2048x128_o1792_0_S128x128⟩, ⟨S128x128, extractStridedSlice S128x128 ![1920, 0] x slices_S2048x128_o1920_0_S128x128⟩] concatenates_S128x128_S128x128_S128x128_S128x128_S128x128_S128x128_S128x128_S128x128_S128x128_S128x128_S128x128_S128x128_S128x128_S128x128_S128x128_S128x128_S128x2048_d1

/-- A value in two parts, the rounded one and the rest, beside one another. -/
def parts (x : FVec Ideal S2048x128 .f32) : FVec Ideal S2048x256 .bf16 :=
  concatenate S2048x256 1 [⟨S2048x128, truncf .bf16 x bitsLt_bf16_f32⟩, ⟨S2048x128, truncf .bf16 (subf x (extf .f32 (truncf .bf16 x bitsLt_bf16_f32) bitsLt_bf16_f32)) bitsLt_bf16_f32⟩] concatenates_S2048x128_S2048x128_S2048x256_d1

/-- Each head's sum, at each of its lanes, as the kernel takes it: by a product with a matrix of ones and zeros. -/
def headSums (x : FVec Ideal S128x2048 .f32) (b : FVec Ideal S256x128 .bf16) : FVec Ideal S128x2048 .f32 :=
  unfolded (matmul dot_S2048x256_S256x128_S2048x128_1_0_0_1_n_n none (parts (folded x)) b (constant S2048x128 .f32 0x00000000#32))

/-- The normalized heads. -/
def heads (y : FVec Ideal S128x2048 .f32) (b : FVec Ideal S256x128 .bf16) : FVec Ideal S128x2048 .f32 :=
  have c : FVec Ideal S128x2048 .f32 := subf y (mulf (headSums y b) (broadcast S128x2048 (Scalar.ofBits .f32 0x3C800000#32)))
  mulf c (rsqrt (addf (mulf (headSums (mulf c c) b) (broadcast S128x2048 (Scalar.ofBits .f32 0x3C800000#32))) (broadcast S128x2048 (Scalar.ofBits .f32 0x3A27C5AC#32))))

theorem pay20 (v0 : FVec Ideal S2048x128 .f32) (b : FVec Ideal S256x128 .bf16) :
    k0_pay20 (k0_pay2 v0) (k0_pay5 v0 b) (k0_pay6 v0 b) (k0_pay7 v0 b) (k0_pay8 v0 b) (k0_pay9 v0 b) (k0_pay10 v0 b) (k0_pay11 v0 b) (k0_pay12 v0 b) (k0_pay13 v0 b) (k0_pay14 v0 b) (k0_pay15 v0 b) (k0_pay16 v0 b) (k0_pay17 v0 b) (k0_pay18 v0 b) (k0_pay19 v0 b) b
      = heads (k0_pay2 v0) b := rfl

theorem folded_at (x : FVec Ideal S128x2048 .f32) (r : Fin 2048) (l : Fin 128) :
    folded x (ix2 r l) = x (ix2 ⟨r.val % 128, by omega⟩ ⟨r.val / 128 * 128 + l.val, by omega⟩) := by
  have e : folded x = concatenate S2048x128 0 (List.ofFn fun n : Fin 16 => (⟨S128x128, extractStridedSlice S128x128 ![0, 128 * n.val] x (colSlices n)⟩ : (s : Shape) × (s.Idx → EReal))) concatenates_S128x128_S128x128_S128x128_S128x128_S128x128_S128x128_S128x128_S128x128_S128x128_S128x128_S128x128_S128x128_S128x128_S128x128_S128x128_S128x128_S2048x128_d0 := rfl
  rw [e]
  refine (concatenate_ofFn_apply (t := S2048x128) (s₁ := S128x128) 0 (fun n : Fin 16 => extractStridedSlice S128x128 ![0, 128 * n.val] x (colSlices n)) concatenates_S128x128_S128x128_S128x128_S128x128_S128x128_S128x128_S128x128_S128x128_S128x128_S128x128_S128x128_S128x128_S128x128_S128x128_S128x128_S128x128_S2048x128_d0 rfl 128 rfl (ix2 r l) ⟨r.val / 128, by omega⟩ rfl (ix2 ⟨r.val % 128, by omega⟩ l) rfl ?_).trans ?_
  · intro b hb
    match b with
    | ⟨0, _⟩ => exact absurd rfl hb
    | ⟨1, _⟩ => rfl
  · refine congrArg x (funext fun b => Fin.ext ?_)
    match b with
    | ⟨0, _⟩ => show 0 + r.val % 128 = r.val % 128; omega
    | ⟨1, _⟩ => show 128 * (r.val / 128) + l.val = r.val / 128 * 128 + l.val; omega

theorem unfolded_at (x : FVec Ideal S2048x128 .f32) (n : Fin 128) (q : Fin 2048) :
    unfolded x (ix2 n q) = x (ix2 ⟨q.val / 128 * 128 + n.val, by omega⟩ ⟨q.val % 128, by omega⟩) := by
  have e : unfolded x = concatenate S128x2048 1 (List.ofFn fun n : Fin 16 => (⟨S128x128, extractStridedSlice S128x128 ![128 * n.val, 0] x (rowSlices n)⟩ : (s : Shape) × (s.Idx → EReal))) concatenates_S128x128_S128x128_S128x128_S128x128_S128x128_S128x128_S128x128_S128x128_S128x128_S128x128_S128x128_S128x128_S128x128_S128x128_S128x128_S128x128_S128x2048_d1 := rfl
  rw [e]
  refine (concatenate_ofFn_apply (t := S128x2048) (s₁ := S128x128) 1 (fun n : Fin 16 => extractStridedSlice S128x128 ![128 * n.val, 0] x (rowSlices n)) concatenates_S128x128_S128x128_S128x128_S128x128_S128x128_S128x128_S128x128_S128x128_S128x128_S128x128_S128x128_S128x128_S128x128_S128x128_S128x128_S128x128_S128x2048_d1 rfl 128 rfl (ix2 n q) ⟨q.val / 128, by omega⟩ rfl (ix2 n ⟨q.val % 128, by omega⟩) rfl ?_).trans ?_
  · intro b hb
    match b with
    | ⟨0, _⟩ => rfl
    | ⟨1, _⟩ => exact absurd rfl hb
  · refine congrArg x (funext fun b => Fin.ext ?_)
    match b with
    | ⟨0, _⟩ => show 128 * (q.val / 128) + n.val = q.val / 128 * 128 + n.val; omega
    | ⟨1, _⟩ => show 0 + q.val % 128 = q.val % 128; omega

/-- The product of the two parts with a matrix, element by element. -/
theorem parts_at (x : FVec Ideal S2048x128 .f32) (b : FVec Ideal S256x128 .bf16) (r : Fin 2048) (l : Fin 128) :
    matmul dot_S2048x256_S256x128_S2048x128_1_0_0_1_n_n none (parts x) b (constant S2048x128 .f32 0x00000000#32) (ix2 r l)
      = ∑ k : Fin 256, (if h : k.val < 128 then x (ix2 r ⟨k.val, h⟩) else x (ix2 r ⟨k.val - 128, by omega⟩) - x (ix2 r ⟨k.val - 128, by omega⟩)) * b (ix2 k l) := by
  pointwise [parts]

/-- The sum over a head's 64 lanes, from the sum over both parts of the 128 lanes that hold it, the lanes being finite. -/
theorem lanes_sum (f : Nat → EReal) (hf : ∀ k, ∃ r : ℝ, f k = (r : EReal)) (l : Nat) (hl : l < 128) :
    ∑ k : Fin 256, (if k.val < 128 then f k.val else f (k.val - 128) - f (k.val - 128)) * (if k.val % 128 / 64 = l / 64 then 1 else 0)
      = ∑ j ∈ Finset.range 64, f (l / 64 * 64 + j) := by
  rw [Fin.sum_univ_eq_sum_range (fun k => (if k < 128 then f k else f (k - 128) - f (k - 128)) * (if k % 128 / 64 = l / 64 then (1 : EReal) else 0)) 256]
  rw [show Finset.range 256 = Finset.range (128 + 128) from rfl, Finset.sum_range_add]
  rw [Finset.sum_eq_zero (s := Finset.range 128) (f := fun k => (if 128 + k < 128 then f (128 + k) else f (128 + k - 128) - f (128 + k - 128)) * (if (128 + k) % 128 / 64 = l / 64 then (1 : EReal) else 0)) (fun k _ => by
    obtain ⟨r, hr⟩ := hf (128 + k - 128)
    rw [if_neg (by omega), hr, ← EReal.coe_sub, sub_self, EReal.coe_zero, zero_mul]), add_zero]
  rw [show Finset.range 128 = Finset.range (64 + 64) from rfl, Finset.sum_range_add]
  obtain h | h : l / 64 = 0 ∨ l / 64 = 1 := by omega
  · rw [h]
    rw [Finset.sum_eq_zero (s := Finset.range 64) (f := fun k => (if 64 + k < 128 then f (64 + k) else f (64 + k - 128) - f (64 + k - 128)) * (if (64 + k) % 128 / 64 = 0 then (1 : EReal) else 0)) (fun k hk => by
      have := Finset.mem_range.mp hk
      rw [if_neg (show ¬ (64 + k) % 128 / 64 = 0 by omega), mul_zero]), add_zero]
    refine Finset.sum_congr rfl fun k hk => ?_
    have := Finset.mem_range.mp hk
    rw [if_pos (by omega), if_pos (by omega), mul_one]
    exact congrArg f (by omega)
  · rw [h]
    rw [Finset.sum_eq_zero (s := Finset.range 64) (f := fun k => (if k < 128 then f k else f (k - 128) - f (k - 128)) * (if k % 128 / 64 = 1 then (1 : EReal) else 0)) (fun k hk => by
      have := Finset.mem_range.mp hk
      rw [if_neg (show ¬ k % 128 / 64 = 1 by omega), mul_zero]), zero_add]
    refine Finset.sum_congr rfl fun k hk => ?_
    have := Finset.mem_range.mp hk
    rw [if_pos (by omega), if_pos (by omega), mul_one]

/-- The matrix of ones and zeros: one where row and column are lanes of the same head. -/
def IsHeadMatrix (b : FVec Ideal S256x128 .bf16) : Prop :=
  ∀ (k : Fin 256) (l : Fin 128), b (ix2 k l) = if k.val % 128 / 64 = l.val / 64 then (1 : EReal) else 0

/-- Row `n` as a function of all numbers. -/
def row (x : FVec Ideal S128x2048 .f32) (n : Fin 128) (q : Nat) : EReal := if h : q < 2048 then x (ix2 n ⟨q, h⟩) else (((0 : ℝ) : ℝ) : EReal)

/-- The sum over the head that holds lane `q`. -/
def headSum (f : Nat → EReal) (q : Nat) : EReal := ∑ j ∈ Finset.range 64, f (q / 64 * 64 + j)

theorem row_real (x : FVec Ideal S128x2048 .f32) (n : Fin 128) (hx : ∀ q, ∃ r : ℝ, x (ix2 n q) = (r : EReal)) (q : Nat) : ∃ r : ℝ, row x n q = (r : EReal) := by
  unfold row
  split
  · exact hx _
  · exact ⟨0, rfl⟩

theorem headSums_at (x : FVec Ideal S128x2048 .f32) (b : FVec Ideal S256x128 .bf16) (hb : IsHeadMatrix b) (n : Fin 128)
    (hx : ∀ q, ∃ r : ℝ, x (ix2 n q) = (r : EReal)) (q : Fin 2048) : headSums x b (ix2 n q) = headSum (row x n) q.val := by
  refine (unfolded_at _ n q).trans ((parts_at _ b _ _).trans ?_)
  refine Eq.trans (Finset.sum_congr rfl fun k _ => ?_) ((lanes_sum (fun k => row x n (q.val / 128 * 128 + k)) (fun k => row_real x n hx _) (q.val % 128) (by omega)).trans ?_)
  · refine congrArg₂ (· * ·) ?_ (hb _ _)
    split
    · next h =>
      rw [folded_at]
      unfold row
      rw [dif_pos (by omega)]
      exact congrArg₂ (fun i j => x (ix2 i j)) (Fin.ext (by show (q.val / 128 * 128 + n.val) % 128 = n.val; omega)) (Fin.ext (by show (q.val / 128 * 128 + n.val) / 128 * 128 + k.val = q.val / 128 * 128 + k.val; omega))
    · next h =>
      rw [folded_at]
      unfold row
      rw [dif_pos (by omega)]
      have e : x (ix2 ⟨(q.val / 128 * 128 + n.val) % 128, by omega⟩ ⟨(q.val / 128 * 128 + n.val) / 128 * 128 + (k.val - 128), by omega⟩) = x (ix2 n ⟨q.val / 128 * 128 + (k.val - 128), by omega⟩) :=
        congrArg₂ (fun i j => x (ix2 i j)) (Fin.ext (by show (q.val / 128 * 128 + n.val) % 128 = n.val; omega)) (Fin.ext (by show (q.val / 128 * 128 + n.val) / 128 * 128 + (k.val - 128) = q.val / 128 * 128 + (k.val - 128); omega))
      exact congrArg₂ (· - ·) e e
  · exact Finset.sum_congr rfl fun j _ => congrArg (row x n) (by omega)

/-- One over 64 and 64, read off their bits. -/
theorem inv64 : Ideal.ofBits .f32 0x3C800000#32 = (((1 : ℝ) / 64 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

/-- Multiplying by one over 64 divides by 64. -/
theorem mul_inv64 (x : EReal) : x * Ideal.ofBits .f32 0x3C800000#32 = Ideal.div x (Ideal.ofBits .f32 0x42800000#32) := by
  rw [inv64, c64]
  unfold Ideal.div
  rw [if_neg (by norm_num), ← EReal.coe_inv, one_div]

/-- A row of heads normalized: every element less its head's mean, over the root of its head's variance. -/
def headNorm (f : Nat → EReal) (q : Nat) : EReal :=
  (f q - Ideal.div (headSum f q) (Ideal.ofBits .f32 0x42800000#32))
    * Ideal.rsqrt (Ideal.div (headSum (fun k => (f k - Ideal.div (headSum f k) (Ideal.ofBits .f32 0x42800000#32)) * (f k - Ideal.div (headSum f k) (Ideal.ofBits .f32 0x42800000#32))) q) (Ideal.ofBits .f32 0x42800000#32) + Ideal.ofBits .f32 0x3A27C5AC#32)

theorem headSum_congr {f g : Nat → EReal} (h : ∀ k < 2048, f k = g k) (q : Nat) (hq : q < 2048) : headSum f q = headSum g q := by
  refine Finset.sum_congr rfl fun j hj => h _ ?_
  have := Finset.mem_range.mp hj
  omega

theorem heads_at (y : FVec Ideal S128x2048 .f32) (b : FVec Ideal S256x128 .bf16) (hb : IsHeadMatrix b) (n : Fin 128)
    (hy : ∀ q, ∃ r : ℝ, y (ix2 n q) = (r : EReal)) (q : Fin 2048) : heads y b (ix2 n q) = headNorm (row y n) q.val := by
  have e : ∀ k : Fin 2048, subf y (mulf (headSums y b) (broadcast S128x2048 (Scalar.ofBits .f32 0x3C800000#32))) (ix2 n k)
      = row y n k.val - Ideal.div (headSum (row y n) k.val) (Ideal.ofBits .f32 0x42800000#32) := fun k => by
    show y (ix2 n k) - headSums y b (ix2 n k) * Ideal.ofBits .f32 0x3C800000#32 = _
    rw [headSums_at y b hb n hy, mul_inv64]
    unfold row
    rw [dif_pos k.isLt]
  have hr : ∀ k : Fin 2048, ∃ r : ℝ, subf y (mulf (headSums y b) (broadcast S128x2048 (Scalar.ofBits .f32 0x3C800000#32))) (ix2 n k) = (r : EReal) := fun k => by
    rw [e k, ← mul_inv64, inv64]
    obtain ⟨u, hu⟩ := row_real y n hy k.val
    obtain ⟨v, hv⟩ := sum_real (fun j => row y n (k.val / 64 * 64 + j)) 64 fun j _ => row_real y n hy _
    unfold headSum
    rw [hu, hv]
    exact ⟨u - v * (1 / 64), by rw [EReal.coe_sub, EReal.coe_mul]⟩
  unfold heads
  generalize subf y (mulf (headSums y b) (broadcast S128x2048 (Scalar.ofBits .f32 0x3C800000#32))) = c at e hr
  show c (ix2 n q) * Ideal.rsqrt (headSums (mulf c c) b (ix2 n q) * Ideal.ofBits .f32 0x3C800000#32 + Ideal.ofBits .f32 0x3A27C5AC#32) = _
  rw [headSums_at (mulf c c) b hb n (fun k => by obtain ⟨r, h⟩ := hr k; exact ⟨r * r, by show c (ix2 n k) * c (ix2 n k) = _; rw [h, EReal.coe_mul]⟩), mul_inv64, e q]
  unfold headNorm
  refine congrArg (fun z => _ * Ideal.rsqrt (Ideal.div z _ + _)) (headSum_congr (fun k hk => ?_) q.val q.isLt)
  show row (mulf c c) n k = _
  have := e ⟨k, hk⟩
  show (if h : k < 2048 then c (ix2 n ⟨k, h⟩) * c (ix2 n ⟨k, h⟩) else _) = _
  rw [dif_pos hk, this]

/-- The reference's result as a function of the kernel's arguments. -/
abbrev REF (yt : FVec Ideal S2048x128 .f32) (u g : FVec Ideal S128x2048 .f32) (lg lb : FVec Ideal S1x2048 .f32) : FVec Ideal S128x2048 .bf16 :=
  Cert.FinishRefIdeal.Read.val_main_v31 (F := Ideal) yt u g lg lb

/-- The sample's rows of the recurrence's output, which holds them as columns. -/
def ofColumns (yt : FVec Ideal S2048x128 .f32) : FVec Ideal S128x2048 .f32 := fun i => yt (ix2 (i 1) (i 0))

theorem ref_at (yt : FVec Ideal S2048x128 .f32) (u g : FVec Ideal S128x2048 .f32) (lg lb : FVec Ideal S1x2048 .f32) (n : Fin 128) (q : Fin 2048) :
    REF yt u g lg lb (ix2 n q) = (headNorm (row (ofColumns yt) n) q.val * lg (ix2 0 q) + lb (ix2 0 q) + u (ix2 n q)) * g (ix2 n q) := by
  unfold REF
  pointwise [Cert.FinishRefIdeal.Read.val_main_v0, Cert.FinishRefIdeal.Read.val_main_v1, Cert.FinishRefIdeal.Read.val_main_v2, Cert.FinishRefIdeal.Read.val_main_v3, Cert.FinishRefIdeal.Read.val_main_v4, Cert.FinishRefIdeal.Read.val_main_v5, Cert.FinishRefIdeal.Read.val_main_v6, Cert.FinishRefIdeal.Read.val_main_v7, Cert.FinishRefIdeal.Read.val_main_v8, Cert.FinishRefIdeal.Read.val_main_v9, Cert.FinishRefIdeal.Read.val_main_v10, Cert.FinishRefIdeal.Read.val_main_v11, Cert.FinishRefIdeal.Read.val_main_v12, Cert.FinishRefIdeal.Read.val_main_v13, Cert.FinishRefIdeal.Read.val_main_v14, Cert.FinishRefIdeal.Read.val_main_v15, Cert.FinishRefIdeal.Read.val_main_v16, Cert.FinishRefIdeal.Read.val_main_v17, Cert.FinishRefIdeal.Read.val_main_v18, Cert.FinishRefIdeal.Read.val_main_v19, Cert.FinishRefIdeal.Read.val_main_v20, Cert.FinishRefIdeal.Read.val_main_v21, Cert.FinishRefIdeal.Read.val_main_v22, Cert.FinishRefIdeal.Read.val_main_v23, Cert.FinishRefIdeal.Read.val_main_v24, Cert.FinishRefIdeal.Read.val_main_v25, Cert.FinishRefIdeal.Read.val_main_v26, Cert.FinishRefIdeal.Read.val_main_v27, Cert.FinishRefIdeal.Read.val_main_v28, Cert.FinishRefIdeal.Read.val_main_v29, Cert.FinishRefIdeal.Read.val_main_v30, Cert.FinishRefIdeal.Read.val_main_v31, Cert.FinishRefIdeal.Read.val_main_cst, Cert.FinishRefIdeal.Read.val_main_cst_0, Cert.FinishRefIdeal.Read.val_main_cst_1, Cert.FinishRefIdeal.Read.val_main_cst_2, Cert.FinishRefIdeal.Read.val_main_cst_3]
  refine congrArg (fun z => (z * lg (ix2 0 q) + lb (ix2 0 q) + u (ix2 n q)) * g (ix2 n q)) ?_
  have hs : ∀ k, k < 2048 → k / 64 = q.val / 64 → ∑ x : Fin 64, yt (ix2 ⟨q.val / 64 * 64 + x.val, by omega⟩ n) = headSum (row (ofColumns yt) n) k := fun k hk e => by
    unfold headSum
    rw [Finset.sum_range]
    refine Finset.sum_congr rfl fun x _ => ?_
    unfold row
    rw [dif_pos (by omega)]
    exact congrArg (fun z => yt (ix2 z n)) (Fin.ext (by show q.val / 64 * 64 + x.val = k / 64 * 64 + x.val; omega))
  have hr : ∀ k : Fin 2048, yt (ix2 k n) = row (ofColumns yt) n k.val := fun k => by
    unfold row
    rw [dif_pos k.isLt]; rfl
  unfold headNorm
  rw [hs q.val q.isLt rfl, hr q]
  refine congrArg (fun z => (row (ofColumns yt) n q.val - Ideal.div (headSum (row (ofColumns yt) n) q.val) (Ideal.ofBits .f32 0x42800000#32))
    * Ideal.rsqrt (Ideal.div z (Ideal.ofBits .f32 0x42800000#32) + Ideal.ofBits .f32 0x3A27C5AC#32)) ?_
  refine Eq.trans ?_ (Finset.sum_range (fun j => (row (ofColumns yt) n (q.val / 64 * 64 + j) - Ideal.div (headSum (row (ofColumns yt) n) (q.val / 64 * 64 + j)) (Ideal.ofBits .f32 0x42800000#32))
    * (row (ofColumns yt) n (q.val / 64 * 64 + j) - Ideal.div (headSum (row (ofColumns yt) n) (q.val / 64 * 64 + j)) (Ideal.ofBits .f32 0x42800000#32)))).symm
  refine Finset.sum_congr rfl fun x _ => ?_
  rw [hr]
  have e := (hs q.val q.isLt rfl).symm.trans (hs (q.val / 64 * 64 + x.val) (by omega) (by omega))
  rw [e]

/-- What the body stores is the reference. -/
theorem stored (x0 : FVec Ideal S2048x128 .f32) (x1 x2 : FVec Ideal S128x2048 .f32) (x3 x4 : FVec Ideal S1x2048 .f32) (x5 : FVec Ideal S256x128 .bf16)
    (hb : IsHeadMatrix x5) (hx : ∀ q n, ∃ r : ℝ, x0 (ix2 q n) = (r : EReal)) (y : S128x2048.Idx) :
    out0_6 (F := Ideal) x0 x1 x2 x3 x4 x5 y = REF x0 x1 x2 x3 x4 y := by
  idx_vars y
  rw [ref_at]
  frame_out
  rw [pay20]
  have e : k0_pay2 (F := Ideal) x0 = ofColumns x0 := by
    funext i
    idx_vars i
    pointwise [k0_pay2]
    rfl
  rw [← heads_at (ofColumns x0) x5 hb y0 (fun q => hx q y0) y1, e]
  generalize heads (ofColumns x0) x5 = h
  pointwise [k0_pay1, k0_pay3, k0_pay4]

/-- A row of the table does not depend on the higher digits. -/
theorem even_row (i : Nat) : lit0t0_0 i = lit0t0_0 (i % 128) := by
  unfold lit0t0_0
  rw [Nat.mod_mod]

theorem odd_row (i : Nat) : lit0t0_64 i = lit0t0_64 (i % 128) := by
  unfold lit0t0_64
  rw [Nat.mod_mod]

/-- Every row of the table is one of two. -/
theorem rows0 (i : Nat) : lit0t1_0 i = if i / 128 % 128 < 64 then lit0t0_0 i else lit0t0_64 i := by
  unfold lit0t1_0
  have h : i / 128 % 128 < 128 := by omega
  generalize i / 128 % 128 = b at h ⊢
  interval_cases b <;> rfl

theorem rows1 (i : Nat) : lit0t1_1 i = if i / 128 % 128 < 64 then lit0t0_0 i else lit0t0_64 i := by
  unfold lit0t1_1
  have h : i / 128 % 128 < 128 := by omega
  generalize i / 128 % 128 = b at h ⊢
  interval_cases b <;> rfl

/-- The entries of the two rows. -/
theorem even_entries : ∀ l < 128, lit0t0_0 l = if l < 64 then 0x3F80#16 else 0x0000#16 := by decide +kernel

theorem odd_entries : ∀ l < 128, lit0t0_64 l = if l < 64 then 0x0000#16 else 0x3F80#16 := by decide +kernel

theorem rows (i : Nat) (h : i < 32768) : lit0t i = if i / 128 % 128 < 64 then lit0t0_0 i else lit0t0_64 i := by
  have e : lit0t i = if i / 16384 = 0 then lit0t1_0 i else lit0t1_1 i := by
    unfold lit0t
    have h : i / 16384 < 2 := by omega
    generalize i / 16384 = b at h ⊢
    interval_cases b <;> rfl
  rw [e, rows0, rows1, ite_self]

/-- The constant is the matrix of ones and zeros. -/
theorem table (k : Fin 256) (l : Fin 128) : lit0t (k.val * 128 + l.val) = if k.val % 128 / 64 = l.val / 64 then 0x3F80#16 else 0x0000#16 := by
  rw [rows _ (by omega), even_row, odd_row, even_entries _ (by omega), odd_entries _ (by omega)]
  by_cases hk : (k.val * 128 + l.val) / 128 % 128 < 64 <;> by_cases hl : (k.val * 128 + l.val) % 128 < 64
  · rw [if_pos hk, if_pos hl, if_pos (by omega)]
  · rw [if_pos hk, if_neg hl, if_neg (by omega)]
  · rw [if_neg hk, if_pos hl, if_neg (by omega)]
  · rw [if_neg hk, if_neg hl, if_pos (by omega)]

theorem one_bits : Ideal.ofBits .bf16 0x3F80#16 = (1 : EReal) := by
  rw [← EReal.coe_one]; simp [Ideal.ofBits, Ideal.ieee, -EReal.coe_mul, -EReal.coe_one]; norm_num

theorem zero_bits : Ideal.ofBits .bf16 0x0000#16 = (0 : EReal) := by
  simp [Ideal.ofBits, Ideal.ieee, -EReal.coe_mul]

theorem headMatrix : IsHeadMatrix (fun i => Ideal.ofBits .bf16 (lit0 (S256x128.rowMajor i))) := fun k l => by
  have e : (S256x128.rowMajor (ix2 k l)).val = k.val * 128 + l.val := Shape.rowMajor_val_two _
  show Ideal.ofBits .bf16 (lit0t (S256x128.rowMajor (ix2 k l)).val) = _
  rw [e, table]
  split
  · exact one_bits
  · exact zero_bits

variable (m : (ℓ : Loc nD τ sig) → Buf (Elt Ideal) ℓ)
variable (c : Dev nD) (t : Fin cfg0.N)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- Reading a row as a line and the line as a row changes nothing. -/
theorem there_and_back (X : FVec Ideal S1x2048 .f32) : shapeCast S1x2048 (shapeCast S2048 X shapeCasts_S1x2048_S2048) shapeCasts_S2048_S1x2048 = X := by
  funext i
  idx_vars i
  pointwise []

theorem V1 : V m c main_v1 = (show FVec Ideal S1x2048 .f32 from m ((c : Thread nD τ).loc main_arg3)) := by
  unfold V
  after_results
  exact there_and_back _

theorem V3 : V m c main_v3 = (show FVec Ideal S1x2048 .f32 from m ((c : Thread nD τ).loc main_arg4)) := by
  unfold V
  after_results
  exact there_and_back _

theorem Vc : V m c main_cst = (fun i => Ideal.ofBits .bf16 (lit0 (S256x128.rowMajor i)) : FVec Ideal S256x128 .bf16) := by
  unfold V
  after_results
  rfl

/-- Every window is its whole array. -/
theorem emb0 (i : S2048x128.Idx) : ((cfg0.win 0).blk t).view.emb i = i := by
  idx_vars i
  blk_ext [idx t]

theorem emb1 (i : S128x2048.Idx) : ((cfg0.win 1).blk t).view.emb i = i := by
  idx_vars i
  blk_ext [idx t]

theorem emb2 (i : S128x2048.Idx) : ((cfg0.win 2).blk t).view.emb i = i := by
  idx_vars i
  blk_ext [idx t]

theorem emb3 (i : S1x2048.Idx) : ((cfg0.win 3).blk t).view.emb i = i := by
  idx_vars i
  blk_ext [idx t]

theorem emb4 (i : S1x2048.Idx) : ((cfg0.win 4).blk t).view.emb i = i := by
  idx_vars i
  blk_ext [idx t]

theorem emb5 (i : S256x128.Idx) : ((cfg0.win 5).blk t).view.emb i = i := by
  idx_vars i
  blk_ext [idx t]

theorem emb6 (i : S128x2048.Idx) : ((cfg0.win 6).blk t).view.emb i = i := by
  idx_vars i
  blk_ext [idx t]

theorem blk0 : iblk m c 0 t = (show FVec Ideal S2048x128 .f32 from m ((c : Thread nD τ).loc main_arg0)) := funext fun i => congrArg (V m c main_arg0) (emb0 t i)

theorem blk1 : iblk m c 1 t = (show FVec Ideal S128x2048 .f32 from m ((c : Thread nD τ).loc main_arg1)) := funext fun i => congrArg (V m c main_arg1) (emb1 t i)

theorem blk2 : iblk m c 2 t = (show FVec Ideal S128x2048 .f32 from m ((c : Thread nD τ).loc main_arg2)) := funext fun i => congrArg (V m c main_arg2) (emb2 t i)

theorem blk3 : iblk m c 3 t = (show FVec Ideal S1x2048 .f32 from m ((c : Thread nD τ).loc main_arg3)) :=
  (funext fun i => congrArg (V m c main_v1) (emb3 t i)).trans (V1 m c)

theorem blk4 : iblk m c 4 t = (show FVec Ideal S1x2048 .f32 from m ((c : Thread nD τ).loc main_arg4)) :=
  (funext fun i => congrArg (V m c main_v3) (emb4 t i)).trans (V3 m c)

theorem blk5 : iblk m c 5 t = (fun i => Ideal.ofBits .bf16 (lit0 (S256x128.rowMajor i)) : FVec Ideal S256x128 .bf16) :=
  (funext fun i => congrArg (V m c main_cst) (emb5 t i)).trans (Vc m c)

/-- The result array after the run. -/
theorem final (hx : ∀ (q : Fin 2048) (n : Fin 128), ∃ r : ℝ, (show FVec Ideal S2048x128 .f32 from m ((c : Thread nD τ).loc main_arg0)) (ix2 q n) = (r : EReal)) :
    (dats m 0 c).arrAt 6 (cfgs 0).N
      = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, blk0, blk1, blk2, blk3, blk4, blk5]
  exact (stored _ _ _ _ _ _ headMatrix hx y).trans (congrArg (REF _ _ _ _ _) (emb6 t y).symm)

/-- Finite entries are numbers. -/
theorem finite [Cert.Pre_finite_recurrence.Facts] (yt : FVec Ideal S2048x128 .f32) (u g : FVec Ideal S128x2048 .f32) (lg lb : FVec Ideal S1x2048 .f32)
    (h : Cert.Pre_finite_recurrence.fn (F := Ideal) yt u g lg lb = fun _ => 1#1) (q : Fin 2048) (n : Fin 128) : ∃ r : ℝ, yt (ix2 q n) = (r : EReal) := by
  apply real_of_abs_lt
  have e : Ideal.ofBits .f32 0x7F800000#32 = (⊤ : EReal) := by simp [Ideal.ofBits, Ideal.ieee]
  have hx : cmpf .olt (Host.absf yt) (fun _ => Ideal.ofBits .f32 0x7F800000#32) (ix2 q n) = 1#1 := congrFun h (ix2 q n)
  rw [e] at hx
  by_contra hc
  have hz : cmpf .olt (Host.absf yt) (fun _ => (⊤ : EReal)) (ix2 q n) = 0#1 := by
    show BitVec.ofBool (decide (max (yt (ix2 q n)) (-yt (ix2 q n)) < ⊤)) = 0#1
    simp only [decide_eq_false hc]; rfl
  rw [hz] at hx
  exact absurd hx (by decide)

end Cert.FinishIdeal.Own

end
-- ==== Proof.PrepRun.lean ====
/- The run of the body that prepares the sample's step, over any float values. -/
module

public import proofs.«01_k».proof.Proof.Gen.PrepIdeal.Frame.Runs

@[expose] public section

set_option maxRecDepth 16384

noncomputable section

namespace Cert.PrepIdeal.Own

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- What the body stores into each output, with the proof that it runs: from the inputs' blocks and any contents of the outputs' it ends with the inputs' blocks as they were and the stores made. -/
noncomputable def kernelRun0_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) :
    Σ' (L21 : List (View.Piece (Elt F) S2048x128 .f32)), Σ' (L22 : List (View.Piece (Elt F) S2048x128 .f32)), Σ' (L23 : List (View.Piece (Elt F) S2048x128 .f32)), Σ' (L24 : List (View.Piece (Elt F) S2048x128 .f32)), Σ' (L25 : List (View.Piece (Elt F) S2048x128 .f32)), Σ' (L26 : List (View.Piece (Elt F) S2048x128 .f32)), Σ' (L27 : List (View.Piece (Elt F) S128x2048 .f32)), { L28 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_wkv_sample_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, fun E K => ?run⟩
  case run =>
    simp only [cc0_wkv_sample_prep_eq_skeleton]; unfold cc0_wkv_sample_prep_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.PrepIdeal.Own

end
-- ==== Proof.PrepFrame.lean ====
/- The frame of the call that prepares the sample's step: the pipeline's data, and from the body's run the whole run. -/
module

public import proofs.«01_k».proof.Proof.PrepRun
public import Idealize.ShloMosaic.Lib.Claim

@[expose] public section

set_option maxRecDepth 16384

noncomputable section

namespace Cert.PrepIdeal.Own

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The store into the decays covers the whole block. -/
theorem cover0_A_21 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).1 S2048x128.size (by sl_kernel_rfl) y

/-- The block of the decays after the body. -/
def out0_A_21 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S2048x128 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).1)

/-- The store into the negated normalized keys covers the whole block. -/
theorem cover0_A_22 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.1 S2048x128.size (by sl_kernel_rfl) y

/-- The block of the negated normalized keys after the body. -/
def out0_A_22 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S2048x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.1)

/-- The store into the normalized keys times rates covers the whole block. -/
theorem cover0_A_23 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.1 S2048x128.size (by sl_kernel_rfl) y

/-- The block of the normalized keys times rates after the body. -/
def out0_A_23 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S2048x128 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.1)

/-- The store into the keys covers the whole block. -/
theorem cover0_A_24 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.1 S2048x128.size (by sl_kernel_rfl) y

/-- The block of the keys after the body. -/
def out0_A_24 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S2048x128 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.1)

/-- The store into the receptances covers the whole block. -/
theorem cover0_A_25 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.1 S2048x128.size (by sl_kernel_rfl) y

/-- The block of the receptances after the body. -/
def out0_A_25 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S2048x128 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.1)

/-- The store into the values covers the whole block. -/
theorem cover0_A_26 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.1 S2048x128.size (by sl_kernel_rfl) y

/-- The block of the values after the body. -/
def out0_A_26 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S2048x128 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.1)

/-- The store into the bonus covers the whole block. -/
theorem cover0_A_27 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.2.1 S128x2048.size (by sl_kernel_rfl) y

/-- The block of the bonus after the body. -/
def out0_A_27 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S128x2048 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.2.1)

/-- The store into the gates covers the whole block. -/
theorem cover0_A_28 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.2.2.1 S128x2048.size (by sl_kernel_rfl) y

/-- The block of the gates after the body. -/
def out0_A_28 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x512 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S512x2048 .bf16) (harg18 : arg18.IsWhole) (arg19 : Memref sig .tc .vmem S512x2048 .bf16) (harg19 : arg19.IsWhole) (arg20 : Memref sig .tc .vmem S512x2048 .bf16) (harg20 : arg20.IsWhole) (arg21 : Memref sig .tc .vmem S256x128 .bf16) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S128x2048 .f32) (harg28 : arg28.IsWhole) (arg29 : Memref sig .tc .vmem S128x2048 .f32) (harg29 : arg29.IsWhole)
    (x0 : Vec F S128x2048 .f32) (x1 : Vec F S128x2048 .f32) (x2 : Vec F S128x2048 .f32) (x3 : Vec F S128x512 .f32) (x4 : Vec F S128x2048 .f32) (x5 : Vec F S128x2048 .f32) (x6 : Vec F S128x2048 .f32) (x7 : Vec F S128x512 .f32) (x8 : Vec F S1x2048 .f32) (x9 : Vec F S1x2048 .f32) (x10 : Vec F S1x2048 .f32) (x11 : Vec F S1x512 .f32) (x12 : Vec F S1x2048 .f32) (x13 : Vec F S1x2048 .f32) (x14 : Vec F S1x2048 .f32) (x15 : Vec F S1x2048 .f32) (x16 : Vec F S1x2048 .f32) (x17 : Vec F S512x2048 .bf16) (x18 : Vec F S512x2048 .bf16) (x19 : Vec F S512x2048 .bf16) (x20 : Vec F S256x128 .bf16) : Vec F S128x2048 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20).2.2.2.2.2.2.2.1)

/-- All eight output blocks after the body at point `t`. -/
def outsAt0 (c : Dev nD) (t : Fin cfg0.N) : Vec F S2048x128 .f32 × Vec F S2048x128 .f32 × Vec F S2048x128 .f32 × Vec F S2048x128 .f32 × Vec F S2048x128 .f32 × Vec F S2048x128 .f32 × Vec F S128x2048 .f32 × Vec F S128x2048 .f32 :=
  (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))

/-- The data of the pipeline: every window's contents after a point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t).1
    | ⟨22, _⟩ => (outsAt0 m c t).2.1
    | ⟨23, _⟩ => (outsAt0 m c t).2.2.1
    | ⟨24, _⟩ => (outsAt0 m c t).2.2.2.1
    | ⟨25, _⟩ => (outsAt0 m c t).2.2.2.2.1
    | ⟨26, _⟩ => (outsAt0 m c t).2.2.2.2.2.1
    | ⟨27, _⟩ => (outsAt0 m c t).2.2.2.2.2.2.1
    | ⟨28, _⟩ => (outsAt0 m c t).2.2.2.2.2.2.2
    | ⟨_ + 29, h⟩ => absurd h (Nat.not_lt.2 (Nat.le_add_left _ _))
  Φ _ := Pipeline.ΦA spec0 c
  q w := Pipeline.shareOf spec0 w
  owed _ := 0

/-- Every window's array is what its buffer holds when the region is entered. -/
theorem A_eq (c : Dev nD) (w : Fin cfg0.W) : (dats m 0 c).A w = V m c (Pipeline.arrRef spec0 w) := by
  dsimp only [dats]

/-- Window 0 after the body: the block that was fetched. -/
theorem after0_0 (c : Dev nD) (t : Fin cfg0.N) : (dats m 0 c).after 0 t = X0_0 m c t := by dsimp only [dats]
/-- Window 1 after the body: the block that was fetched. -/
theorem after0_1 (c : Dev nD) (t : Fin cfg0.N) : (dats m 0 c).after 1 t = X0_1 m c t := by dsimp only [dats]
/-- Window 2 after the body: the block that was fetched. -/
theorem after0_2 (c : Dev nD) (t : Fin cfg0.N) : (dats m 0 c).after 2 t = X0_2 m c t := by dsimp only [dats]
/-- Window 3 after the body: the block that was fetched. -/
theorem after0_3 (c : Dev nD) (t : Fin cfg0.N) : (dats m 0 c).after 3 t = iblk m c 3 t := by dsimp only [dats]
/-- Window 4 after the body: the block that was fetched. -/
theorem after0_4 (c : Dev nD) (t : Fin cfg0.N) : (dats m 0 c).after 4 t = iblk m c 4 t := by dsimp only [dats]
/-- Window 5 after the body: the block that was fetched. -/
theorem after0_5 (c : Dev nD) (t : Fin cfg0.N) : (dats m 0 c).after 5 t = iblk m c 5 t := by dsimp only [dats]
/-- Window 6 after the body: the block that was fetched. -/
theorem after0_6 (c : Dev nD) (t : Fin cfg0.N) : (dats m 0 c).after 6 t = iblk m c 6 t := by dsimp only [dats]
/-- Window 7 after the body: the block that was fetched. -/
theorem after0_7 (c : Dev nD) (t : Fin cfg0.N) : (dats m 0 c).after 7 t = iblk m c 7 t := by dsimp only [dats]
/-- Window 8 after the body: the block that was fetched. -/
theorem after0_8 (c : Dev nD) (t : Fin cfg0.N) : (dats m 0 c).after 8 t = iblk m c 8 t := by dsimp only [dats]
/-- Window 9 after the body: the block that was fetched. -/
theorem after0_9 (c : Dev nD) (t : Fin cfg0.N) : (dats m 0 c).after 9 t = iblk m c 9 t := by dsimp only [dats]
/-- Window 10 after the body: the block that was fetched. -/
theorem after0_10 (c : Dev nD) (t : Fin cfg0.N) : (dats m 0 c).after 10 t = iblk m c 10 t := by dsimp only [dats]
/-- Window 11 after the body: the block that was fetched. -/
theorem after0_11 (c : Dev nD) (t : Fin cfg0.N) : (dats m 0 c).after 11 t = iblk m c 11 t := by dsimp only [dats]
/-- Window 12 after the body: the block that was fetched. -/
theorem after0_12 (c : Dev nD) (t : Fin cfg0.N) : (dats m 0 c).after 12 t = iblk m c 12 t := by dsimp only [dats]
/-- Window 13 after the body: the block that was fetched. -/
theorem after0_13 (c : Dev nD) (t : Fin cfg0.N) : (dats m 0 c).after 13 t = iblk m c 13 t := by dsimp only [dats]
/-- Window 14 after the body: the block that was fetched. -/
theorem after0_14 (c : Dev nD) (t : Fin cfg0.N) : (dats m 0 c).after 14 t = iblk m c 14 t := by dsimp only [dats]
/-- Window 15 after the body: the block that was fetched. -/
theorem after0_15 (c : Dev nD) (t : Fin cfg0.N) : (dats m 0 c).after 15 t = iblk m c 15 t := by dsimp only [dats]
/-- Window 16 after the body: the block that was fetched. -/
theorem after0_16 (c : Dev nD) (t : Fin cfg0.N) : (dats m 0 c).after 16 t = iblk m c 16 t := by dsimp only [dats]
/-- Window 17 after the body: the block that was fetched. -/
theorem after0_17 (c : Dev nD) (t : Fin cfg0.N) : (dats m 0 c).after 17 t = iblk m c 17 t := by dsimp only [dats]
/-- Window 18 after the body: the block that was fetched. -/
theorem after0_18 (c : Dev nD) (t : Fin cfg0.N) : (dats m 0 c).after 18 t = iblk m c 18 t := by dsimp only [dats]
/-- Window 19 after the body: the block that was fetched. -/
theorem after0_19 (c : Dev nD) (t : Fin cfg0.N) : (dats m 0 c).after 19 t = iblk m c 19 t := by dsimp only [dats]
/-- Window 20 after the body: the block that was fetched. -/
theorem after0_20 (c : Dev nD) (t : Fin cfg0.N) : (dats m 0 c).after 20 t = iblk m c 20 t := by dsimp only [dats]
/-- Window 21 after the body: the decays. -/
theorem after0_21 (c : Dev nD) (t : Fin cfg0.N) : (dats m 0 c).after 21 t = (outsAt0 m c t).1 := by dsimp only [dats]
/-- Window 22 after the body: the negated normalized keys. -/
theorem after0_22 (c : Dev nD) (t : Fin cfg0.N) : (dats m 0 c).after 22 t = (outsAt0 m c t).2.1 := by dsimp only [dats]
/-- Window 23 after the body: the normalized keys times rates. -/
theorem after0_23 (c : Dev nD) (t : Fin cfg0.N) : (dats m 0 c).after 23 t = (outsAt0 m c t).2.2.1 := by dsimp only [dats]
/-- Window 24 after the body: the keys. -/
theorem after0_24 (c : Dev nD) (t : Fin cfg0.N) : (dats m 0 c).after 24 t = (outsAt0 m c t).2.2.2.1 := by dsimp only [dats]
/-- Window 25 after the body: the receptances. -/
theorem after0_25 (c : Dev nD) (t : Fin cfg0.N) : (dats m 0 c).after 25 t = (outsAt0 m c t).2.2.2.2.1 := by dsimp only [dats]
/-- Window 26 after the body: the values. -/
theorem after0_26 (c : Dev nD) (t : Fin cfg0.N) : (dats m 0 c).after 26 t = (outsAt0 m c t).2.2.2.2.2.1 := by dsimp only [dats]
/-- Window 27 after the body: the bonus. -/
theorem after0_27 (c : Dev nD) (t : Fin cfg0.N) : (dats m 0 c).after 27 t = (outsAt0 m c t).2.2.2.2.2.2.1 := by dsimp only [dats]
/-- Window 28 after the body: the gates. -/
theorem after0_28 (c : Dev nD) (t : Fin cfg0.N) : (dats m 0 c).after 28 t = (outsAt0 m c t).2.2.2.2.2.2.2 := by dsimp only [dats]

/-- Window 0 before the body: the block that was fetched. -/
theorem before0_0 (c : Dev nD) (t : Fin cfg0.N) (d) : (dats m 0 c).before 0 t d = X0_0 m c t :=
  before0_0_of m (dats m 0 c) (A_eq m c 0) (after0_0 m c) t d
/-- Window 1 before the body: the block that was fetched. -/
theorem before0_1 (c : Dev nD) (t : Fin cfg0.N) (d) : (dats m 0 c).before 1 t d = X0_1 m c t :=
  before0_1_of m (dats m 0 c) (A_eq m c 1) (after0_1 m c) t d
/-- Window 2 before the body: the block that was fetched. -/
theorem before0_2 (c : Dev nD) (t : Fin cfg0.N) (d) : (dats m 0 c).before 2 t d = X0_2 m c t :=
  before0_2_of m (dats m 0 c) (A_eq m c 2) (after0_2 m c) t d
/-- Window 3 before the body: the block that was fetched. -/
theorem before0_3 (c : Dev nD) (t : Fin cfg0.N) (d) : (dats m 0 c).before 3 t d = iblk m c 3 t :=
  before0_3_of m (dats m 0 c) (A_eq m c 3) (after0_3 m c) t d
/-- Window 4 before the body: the block that was fetched. -/
theorem before0_4 (c : Dev nD) (t : Fin cfg0.N) (d) : (dats m 0 c).before 4 t d = iblk m c 4 t :=
  before0_4_of m (dats m 0 c) (A_eq m c 4) (after0_4 m c) t d
/-- Window 5 before the body: the block that was fetched. -/
theorem before0_5 (c : Dev nD) (t : Fin cfg0.N) (d) : (dats m 0 c).before 5 t d = iblk m c 5 t :=
  before0_5_of m (dats m 0 c) (A_eq m c 5) (after0_5 m c) t d
/-- Window 6 before the body: the block that was fetched. -/
theorem before0_6 (c : Dev nD) (t : Fin cfg0.N) (d) : (dats m 0 c).before 6 t d = iblk m c 6 t :=
  before0_6_of m (dats m 0 c) (A_eq m c 6) (after0_6 m c) t d
/-- Window 7 before the body: the block that was fetched. -/
theorem before0_7 (c : Dev nD) (t : Fin cfg0.N) (d) : (dats m 0 c).before 7 t d = iblk m c 7 t :=
  before0_7_of m (dats m 0 c) (A_eq m c 7) (after0_7 m c) t d
/-- Window 8 before the body: the block that was fetched. -/
theorem before0_8 (c : Dev nD) (t : Fin cfg0.N) (d) : (dats m 0 c).before 8 t d = iblk m c 8 t :=
  before0_8_of m (dats m 0 c) (A_eq m c 8) (after0_8 m c) t d
/-- Window 9 before the body: the block that was fetched. -/
theorem before0_9 (c : Dev nD) (t : Fin cfg0.N) (d) : (dats m 0 c).before 9 t d = iblk m c 9 t :=
  before0_9_of m (dats m 0 c) (A_eq m c 9) (after0_9 m c) t d
/-- Window 10 before the body: the block that was fetched. -/
theorem before0_10 (c : Dev nD) (t : Fin cfg0.N) (d) : (dats m 0 c).before 10 t d = iblk m c 10 t :=
  before0_10_of m (dats m 0 c) (A_eq m c 10) (after0_10 m c) t d
/-- Window 11 before the body: the block that was fetched. -/
theorem before0_11 (c : Dev nD) (t : Fin cfg0.N) (d) : (dats m 0 c).before 11 t d = iblk m c 11 t :=
  before0_11_of m (dats m 0 c) (A_eq m c 11) (after0_11 m c) t d
/-- Window 12 before the body: the block that was fetched. -/
theorem before0_12 (c : Dev nD) (t : Fin cfg0.N) (d) : (dats m 0 c).before 12 t d = iblk m c 12 t :=
  before0_12_of m (dats m 0 c) (A_eq m c 12) (after0_12 m c) t d
/-- Window 13 before the body: the block that was fetched. -/
theorem before0_13 (c : Dev nD) (t : Fin cfg0.N) (d) : (dats m 0 c).before 13 t d = iblk m c 13 t :=
  before0_13_of m (dats m 0 c) (A_eq m c 13) (after0_13 m c) t d
/-- Window 14 before the body: the block that was fetched. -/
theorem before0_14 (c : Dev nD) (t : Fin cfg0.N) (d) : (dats m 0 c).before 14 t d = iblk m c 14 t :=
  before0_14_of m (dats m 0 c) (A_eq m c 14) (after0_14 m c) t d
/-- Window 15 before the body: the block that was fetched. -/
theorem before0_15 (c : Dev nD) (t : Fin cfg0.N) (d) : (dats m 0 c).before 15 t d = iblk m c 15 t :=
  before0_15_of m (dats m 0 c) (A_eq m c 15) (after0_15 m c) t d
/-- Window 16 before the body: the block that was fetched. -/
theorem before0_16 (c : Dev nD) (t : Fin cfg0.N) (d) : (dats m 0 c).before 16 t d = iblk m c 16 t :=
  before0_16_of m (dats m 0 c) (A_eq m c 16) (after0_16 m c) t d
/-- Window 17 before the body: the block that was fetched. -/
theorem before0_17 (c : Dev nD) (t : Fin cfg0.N) (d) : (dats m 0 c).before 17 t d = iblk m c 17 t :=
  before0_17_of m (dats m 0 c) (A_eq m c 17) (after0_17 m c) t d
/-- Window 18 before the body: the block that was fetched. -/
theorem before0_18 (c : Dev nD) (t : Fin cfg0.N) (d) : (dats m 0 c).before 18 t d = iblk m c 18 t :=
  before0_18_of m (dats m 0 c) (A_eq m c 18) (after0_18 m c) t d
/-- Window 19 before the body: the block that was fetched. -/
theorem before0_19 (c : Dev nD) (t : Fin cfg0.N) (d) : (dats m 0 c).before 19 t d = iblk m c 19 t :=
  before0_19_of m (dats m 0 c) (A_eq m c 19) (after0_19 m c) t d
/-- Window 20 before the body: the block that was fetched. -/
theorem before0_20 (c : Dev nD) (t : Fin cfg0.N) (d) : (dats m 0 c).before 20 t d = iblk m c 20 t :=
  before0_20_of m (dats m 0 c) (A_eq m c 20) (after0_20 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 2800000 in
/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  unfold outsAt0
  unfold out0_A_21 out0_A_22 out0_A_23 out0_A_24 out0_A_25 out0_A_26 out0_A_27 out0_A_28; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%e28, H28⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H28
  ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body of the region's only row. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- So the body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
/-- The whole run, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run: the output arrays are the pipeline's, the arguments are unchanged. -/
theorem run_main : θ_run defs (onTc (τ := τ) (main (F := F))) (s₀ m ρ) (Pipeline.FramePost cfgs (dats m) 0 (V m)) :=
  (θ_run defs _ _).mono (fun _ h => h.1) (run_main_quiescent m ρ)

/-- The arguments after the run. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The program ends, with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.PrepIdeal.Own

end
-- ==== Proof.PrepBlocks.lean ====
/- The run of the call that prepares the sample's step, with its results named. -/
module

public import proofs.«01_k».proof.Proof.PrepFrame
public import Idealize.ShloMosaic.Lib.Pipeline.Value

@[expose] public section

noncomputable section

namespace Cert.PrepIdeal.Own

open Cert.PrepIdeal Cert.PrepIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What is written back of the keys. -/
theorem flushed24 (c : Dev nD) (t : Fin cfg0.N) :
    (dats m 0 c).flushed 24 t = (cfg0.win 24).cut (grid0.coords t) ((outsAt0 m c t).2.2.2.1) := by
  show (cfg0.win 24).cut (grid0.coords t) ((dats m 0 c).after 24 t) = _
  rw [after0_24]

/-- What is written back of the keys. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed24, outsAt0]

/-- Distinct points write distinct blocks of the keys. -/
theorem idx_inj24 : ∀ t t' : Fin cfg0.N, win0_24.index t = win0_24.index t' → t = t' :=
  (by decide +kernel : ∀ t t' : Fin grid0.N, win0_24.index t = win0_24.index t' → t = t')

/-- Distinct points' blocks of the keys don't meet. -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- The block of the final keys is what the point wrote. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- What is written back of the receptances. -/
theorem flushed25 (c : Dev nD) (t : Fin cfg0.N) :
    (dats m 0 c).flushed 25 t = (cfg0.win 25).cut (grid0.coords t) ((outsAt0 m c t).2.2.2.2.1) := by
  show (cfg0.win 25).cut (grid0.coords t) ((dats m 0 c).after 25 t) = _
  rw [after0_25]

/-- What is written back of the receptances. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed25, outsAt0]

/-- Distinct points write distinct blocks of the receptances. -/
theorem idx_inj25 : ∀ t t' : Fin cfg0.N, win0_25.index t = win0_25.index t' → t = t' :=
  (by decide +kernel : ∀ t t' : Fin grid0.N, win0_25.index t = win0_25.index t' → t = t')

/-- Distinct points' blocks of the receptances don't meet. -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- The block of the final receptances is what the point wrote. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- What is written back of the values. -/
theorem flushed26 (c : Dev nD) (t : Fin cfg0.N) :
    (dats m 0 c).flushed 26 t = (cfg0.win 26).cut (grid0.coords t) ((outsAt0 m c t).2.2.2.2.2.1) := by
  show (cfg0.win 26).cut (grid0.coords t) ((dats m 0 c).after 26 t) = _
  rw [after0_26]

/-- What is written back of the values. -/
theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed26, outsAt0]

/-- Distinct points write distinct blocks of the values. -/
theorem idx_inj26 : ∀ t t' : Fin cfg0.N, win0_26.index t = win0_26.index t' → t = t' :=
  (by decide +kernel : ∀ t t' : Fin grid0.N, win0_26.index t = win0_26.index t' → t = t')

/-- Distinct points' blocks of the values don't meet. -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- The block of the final values is what the point wrote. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- What is written back of the gates. -/
theorem flushed28 (c : Dev nD) (t : Fin cfg0.N) :
    (dats m 0 c).flushed 28 t = (cfg0.win 28).cut (grid0.coords t) ((outsAt0 m c t).2.2.2.2.2.2.2) := by
  show (cfg0.win 28).cut (grid0.coords t) ((dats m 0 c).after 28 t) = _
  rw [after0_28]

/-- What is written back of the gates. -/
theorem flushed28_A (c : Dev nD) (t : Fin cfg0.N) :
    (dats m 0 c).flushed 28 t = (cfg0.win 28).cut (grid0.coords t) (out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed28, outsAt0]

/-- Distinct points write distinct blocks of the gates. -/
theorem idx_inj28 : ∀ t t' : Fin cfg0.N, win0_28.index t = win0_28.index t' → t = t' :=
  (by decide +kernel : ∀ t t' : Fin grid0.N, win0_28.index t = win0_28.index t' → t = t')

/-- Distinct points' blocks of the gates don't meet. -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- The block of the final gates is what the point wrote. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- The decays after the run. -/
theorem post21 (r : PUnit × MemSt nD τ sig (Elt F)) (h : Pipeline.FramePost cfgs (dats m) 0 (V m) r) (c : Dev nD) :
    r.2.mem ((c : Thread nD τ).loc main_v38_0) = (dats m 0 c).arrAt 21 cfg0.N :=
  (h c).1 21

/-- The negated normalized keys after the run. -/
theorem post22 (r : PUnit × MemSt nD τ sig (Elt F)) (h : Pipeline.FramePost cfgs (dats m) 0 (V m) r) (c : Dev nD) :
    r.2.mem ((c : Thread nD τ).loc main_v38_1) = (dats m 0 c).arrAt 22 cfg0.N :=
  (h c).1 22

/-- The normalized keys times rates after the run. -/
theorem post23 (r : PUnit × MemSt nD τ sig (Elt F)) (h : Pipeline.FramePost cfgs (dats m) 0 (V m) r) (c : Dev nD) :
    r.2.mem ((c : Thread nD τ).loc main_v38_2) = (dats m 0 c).arrAt 23 cfg0.N :=
  (h c).1 23

/-- The keys after the run. -/
theorem post24 (r : PUnit × MemSt nD τ sig (Elt F)) (h : Pipeline.FramePost cfgs (dats m) 0 (V m) r) (c : Dev nD) :
    r.2.mem ((c : Thread nD τ).loc main_v38_3) = (dats m 0 c).arrAt 24 cfg0.N :=
  (h c).1 24

/-- The receptances after the run. -/
theorem post25 (r : PUnit × MemSt nD τ sig (Elt F)) (h : Pipeline.FramePost cfgs (dats m) 0 (V m) r) (c : Dev nD) :
    r.2.mem ((c : Thread nD τ).loc main_v38_4) = (dats m 0 c).arrAt 25 cfg0.N :=
  (h c).1 25

/-- The values after the run. -/
theorem post26 (r : PUnit × MemSt nD τ sig (Elt F)) (h : Pipeline.FramePost cfgs (dats m) 0 (V m) r) (c : Dev nD) :
    r.2.mem ((c : Thread nD τ).loc main_v38_5) = (dats m 0 c).arrAt 26 cfg0.N :=
  (h c).1 26

/-- The bonus after the run. -/
theorem post27 (r : PUnit × MemSt nD τ sig (Elt F)) (h : Pipeline.FramePost cfgs (dats m) 0 (V m) r) (c : Dev nD) :
    r.2.mem ((c : Thread nD τ).loc main_v38_6) = (dats m 0 c).arrAt 27 cfg0.N :=
  (h c).1 27

/-- The gates after the run. -/
theorem post28 (r : PUnit × MemSt nD τ sig (Elt F)) (h : Pipeline.FramePost cfgs (dats m) 0 (V m) r) (c : Dev nD) :
    r.2.mem ((c : Thread nD τ).loc main_v38_7) = (dats m 0 c).arrAt 28 cfg0.N :=
  (h c).1 28

/-- Argument 0 after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- Argument 1 after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument 8 after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument 9 after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- Argument 10 after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The run, with every result array named and every argument unchanged. -/
theorem run_blocks : θ_run defs (onTc (τ := τ) (main (F := F))) ⟨m, fun _ => 0, ρ⟩ fun r => ∀ c : Dev nD,
      r.2.mem ((c : Thread nD τ).loc main_v38_0) = (dats m 0 c).arrAt 21 cfg0.N
      ∧ r.2.mem ((c : Thread nD τ).loc main_v38_1) = (dats m 0 c).arrAt 22 cfg0.N
      ∧ r.2.mem ((c : Thread nD τ).loc main_v38_2) = (dats m 0 c).arrAt 23 cfg0.N
      ∧ r.2.mem ((c : Thread nD τ).loc main_v38_3) = (dats m 0 c).arrAt 24 cfg0.N
      ∧ r.2.mem ((c : Thread nD τ).loc main_v38_4) = (dats m 0 c).arrAt 25 cfg0.N
      ∧ r.2.mem ((c : Thread nD τ).loc main_v38_5) = (dats m 0 c).arrAt 26 cfg0.N
      ∧ r.2.mem ((c : Thread nD τ).loc main_v38_6) = (dats m 0 c).arrAt 27 cfg0.N
      ∧ r.2.mem ((c : Thread nD τ).loc main_v38_7) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post21 m r h c,
      post22 m r h c,
      post23 m r h c,
      post24 m r h c,
      post25 m r h c,
      post26 m r h c,
      post27 m r h c,
      post28 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.PrepIdeal.Own

end
-- ==== Proof.PrepMath.lean ====
/- The rows the call that prepares the sample's step computes: the token shift, the keys, and the low-rank rate and gate. -/
module

public import proofs.«01_k».proof.Proof.Gen.PrepIdeal.Skeleton
public import proofs.«01_k».proof.Proof.Gen.PrepRefIdeal.Read
public import Idealize.ShloMosaic.Lib.Pipeline.ValueKit
public import Idealize.ShloMosaic.Lib.Pointwise
public import proofs.«01_k».proof.Proof.Gate

@[expose] public section

set_option maxRecDepth 16384

noncomputable section

open Idealize.ShloMosaic Idealize.ShloMosaic.TcCoe Idealize.SL.Sem

namespace Cert.PrepIdeal.Own

open Cert.PrepIdeal Cert.PrepIdeal.Gen

/-- The token shift: the row moved towards its predecessor's, column by column. -/
def shift (p s w : EReal) : EReal := p + (s - p) * w

/-- The sigmoid as a quotient. -/
def sigmoid (x : EReal) : EReal := Ideal.div 1 (1 + Ideal.exp (-x))

variable (P : FVec Ideal S8320x6656 .f32) (S : FVec Ideal S1x128x6592 .f32) (M : FVec Ideal S1x6592 .f32)

/-- A shifted element of the sample's rows. -/
def sh (n : Fin 128) (j : Fin 6592) : EReal := shift (P (ix2 ⟨8192 + n.val, by omega⟩ ⟨j.val, by omega⟩)) (S (ix3 0 n j)) (M (ix2 0 j))

theorem ref_shift (n : Fin 128) (j : Fin 6592) : Cert.PrepRefIdeal.Read.val_main_v7 (F := Ideal) P S M (ix2 n j) = sh P S M n j := by
  pointwise [Cert.PrepRefIdeal.Read.val_main_v0, Cert.PrepRefIdeal.Read.val_main_v1, Cert.PrepRefIdeal.Read.val_main_v2, Cert.PrepRefIdeal.Read.val_main_v3, Cert.PrepRefIdeal.Read.val_main_v4, Cert.PrepRefIdeal.Read.val_main_v5, Cert.PrepRefIdeal.Read.val_main_v6, Cert.PrepRefIdeal.Read.val_main_v7]
  rfl

theorem ref_r (q : Fin 2048) (n : Fin 128) : Cert.PrepRefIdeal.Read.val_main_v44 (F := Ideal) P S M (ix2 q n) = sh P S M n ⟨q.val, by omega⟩ := by
  rw [← ref_shift]
  unfold Cert.PrepRefIdeal.Read.val_main_v44 Cert.PrepRefIdeal.Read.val_main_v8
  generalize Cert.PrepRefIdeal.Read.val_main_v7 (F := Ideal) P S M = X
  pointwise []

theorem ref_v (q : Fin 2048) (n : Fin 128) : Cert.PrepRefIdeal.Read.val_main_v45 (F := Ideal) P S M (ix2 q n) = sh P S M n ⟨4096 + q.val, by omega⟩ := by
  rw [← ref_shift]
  unfold Cert.PrepRefIdeal.Read.val_main_v45 Cert.PrepRefIdeal.Read.val_main_v10
  generalize Cert.PrepRefIdeal.Read.val_main_v7 (F := Ideal) P S M = X
  pointwise []

/-- The rate, element by element. -/
def rate (A : FVec Ideal S1x2048 .f32) (I : FVec Ideal S1x96x2048 .f32) (n : Fin 128) (q : Fin 2048) : EReal :=
  sigmoid (A (ix2 0 q) + ∑ k : Fin 96, sh P S M n ⟨6240 + k.val, by omega⟩ * I (ix3 0 k q))

theorem one_bits : Ideal.ofBits .f32 0x3F800000#32 = (1 : EReal) := by
  rw [← EReal.coe_one]; simp [Ideal.ofBits, Ideal.ieee, -EReal.coe_mul, -EReal.coe_one]; norm_num

theorem ref_k (A : FVec Ideal S1x2048 .f32) (I : FVec Ideal S1x96x2048 .f32) (K : FVec Ideal S1x2048 .f32) (q : Fin 2048) (n : Fin 128) :
    Cert.PrepRefIdeal.Read.val_main_v43 (F := Ideal) P S M A I K (ix2 q n)
      = sh P S M n ⟨2048 + q.val, by omega⟩ * (1 + (rate P S M A I n q - 1) * K (ix2 0 q)) := by
  have e : ∀ j, sh P S M n j = Cert.PrepRefIdeal.Read.val_main_v7 (F := Ideal) P S M (ix2 n j) := fun j => (ref_shift P S M n j).symm
  unfold rate sigmoid
  simp only [e]
  rw [← one_bits]
  unfold Cert.PrepRefIdeal.Read.val_main_v43 Cert.PrepRefIdeal.Read.val_main_v42 Cert.PrepRefIdeal.Read.val_main_v41 Cert.PrepRefIdeal.Read.val_main_v39 Cert.PrepRefIdeal.Read.val_main_v35 Cert.PrepRefIdeal.Read.val_main_v25 Cert.PrepRefIdeal.Read.val_main_v23 Cert.PrepRefIdeal.Read.val_main_v21 Cert.PrepRefIdeal.Read.val_main_v20 Cert.PrepRefIdeal.Read.val_main_v19 Cert.PrepRefIdeal.Read.val_main_v16 Cert.PrepRefIdeal.Read.val_main_v12 Cert.PrepRefIdeal.Read.val_main_v9
  generalize Cert.PrepRefIdeal.Read.val_main_v7 (F := Ideal) P S M = X
  pointwise [Cert.PrepRefIdeal.Read.val_main_v14, Cert.PrepRefIdeal.Read.val_main_v15, Cert.PrepRefIdeal.Read.val_main_v17, Cert.PrepRefIdeal.Read.val_main_v18, Cert.PrepRefIdeal.Read.val_main_v22, Cert.PrepRefIdeal.Read.val_main_v24, Cert.PrepRefIdeal.Read.val_main_v34, Cert.PrepRefIdeal.Read.val_main_v36, Cert.PrepRefIdeal.Read.val_main_v37, Cert.PrepRefIdeal.Read.val_main_v38, Cert.PrepRefIdeal.Read.val_main_v40, Cert.PrepRefIdeal.Read.val_main_cst, Cert.PrepRefIdeal.Read.val_main_cst_0, Cert.PrepRefIdeal.Read.val_main_cst_3, Cert.PrepRefIdeal.Read.val_main_cst_4]

theorem ref_g (G : FVec Ideal S1x256x2048 .f32) (n : Fin 128) (q : Fin 2048) :
    Cert.PrepRefIdeal.Read.val_main_v33 (F := Ideal) P S M G (ix2 n q) = ∑ k : Fin 256, sigmoid (sh P S M n ⟨6336 + k.val, by omega⟩) * G (ix3 0 k q) := by
  have e : ∀ j, sh P S M n j = Cert.PrepRefIdeal.Read.val_main_v7 (F := Ideal) P S M (ix2 n j) := fun j => (ref_shift P S M n j).symm
  unfold sigmoid
  simp only [e]
  rw [← one_bits]
  unfold Cert.PrepRefIdeal.Read.val_main_v33 Cert.PrepRefIdeal.Read.val_main_v31 Cert.PrepRefIdeal.Read.val_main_v29 Cert.PrepRefIdeal.Read.val_main_v27 Cert.PrepRefIdeal.Read.val_main_v26 Cert.PrepRefIdeal.Read.val_main_v13
  generalize Cert.PrepRefIdeal.Read.val_main_v7 (F := Ideal) P S M = X
  pointwise [Cert.PrepRefIdeal.Read.val_main_v28, Cert.PrepRefIdeal.Read.val_main_v30, Cert.PrepRefIdeal.Read.val_main_v32, Cert.PrepRefIdeal.Read.val_main_cst_1, Cert.PrepRefIdeal.Read.val_main_cst_2]

/-- What the body computes of the receptances, the keys and the values before the rate. -/
theorem pay_r (p s : FVec Ideal S128x2048 .f32) (w : FVec Ideal S1x2048 .f32) (q : Fin 2048) (n : Fin 128) :
    k0_pay33 (F := Ideal) (k0_pay1 p s w) (ix2 q n) = shift (p (ix2 n q)) (s (ix2 n q)) (w (ix2 0 q)) := by
  pointwise [k0_pay33, k0_pay1]
  rfl

theorem pay_v (p s : FVec Ideal S128x2048 .f32) (w : FVec Ideal S1x2048 .f32) (q : Fin 2048) (n : Fin 128) :
    k0_pay34 (F := Ideal) (k0_pay3 p s w) (ix2 q n) = shift (p (ix2 n q)) (s (ix2 n q)) (w (ix2 0 q)) := by
  pointwise [k0_pay34, k0_pay3]
  rfl

theorem pay_k (p s : FVec Ideal S128x2048 .f32) (w : FVec Ideal S1x2048 .f32) (z sz : FVec Ideal S128x512 .f32) (wz : FVec Ideal S1x512 .f32)
    (a kk : FVec Ideal S1x2048 .f32) (u : FVec Ideal S256x2048 .bf16) (q : Fin 2048) (n : Fin 128) :
    k0_pay32 (F := Ideal) (k0_pay23 (k0_pay2 p s w) (k0_pay8 kk) (k0_pay15 (k0_pay6 a) (k0_pay10 z (k0_pay4 z sz wz) u))) (ix2 q n)
      = shift (p (ix2 n q)) (s (ix2 n q)) (w (ix2 0 q)) * (1 + (sigmoid (a (ix2 0 q) + ∑ k : Fin 256, shift (z (ix2 n ⟨k.val, by omega⟩)) (sz (ix2 n ⟨k.val, by omega⟩)) (wz (ix2 0 ⟨k.val, by omega⟩)) * u (ix2 k q)) - 1) * kk (ix2 0 q)) := by
  unfold sigmoid shift
  rw [← Cert.Gate.gate_eq, ← one_bits]
  pointwise [k0_pay32, k0_pay23, k0_pay2, k0_pay8, k0_pay15, k0_pay6, k0_pay10, k0_pay5, k0_pay4]

theorem pay_g (z sz : FVec Ideal S128x512 .f32) (wz : FVec Ideal S1x512 .f32) (u : FVec Ideal S384x2048 .bf16) (n : Fin 128) (q : Fin 2048) :
    k0_pay11 (F := Ideal) z (k0_pay4 z sz wz) u (ix2 n q)
      = ∑ k : Fin 384, sigmoid (shift (z (ix2 n ⟨128 + k.val, by omega⟩)) (sz (ix2 n ⟨128 + k.val, by omega⟩)) (wz (ix2 0 ⟨128 + k.val, by omega⟩))) * u (ix2 k q) := by
  unfold sigmoid shift
  simp only [← Cert.Gate.gate_eq]
  pointwise [k0_pay11, k0_pay5, k0_pay4]

/-- A sum whose terms vanish outside a stretch of its range is the sum over the stretch. -/
theorem stretch (N a A : Nat) (h : a + A ≤ N) (f : Nat → EReal) (h0 : ∀ k < N, ¬ (a ≤ k ∧ k - a < A) → f k = 0) :
    ∑ k : Fin N, f k.val = ∑ k : Fin A, f (a + k.val) := by
  obtain ⟨b, rfl⟩ := Nat.exists_eq_add_of_le h
  rw [Fin.sum_univ_eq_sum_range f, Fin.sum_univ_eq_sum_range (fun k => f (a + k)), Finset.sum_range_add, Finset.sum_range_add]
  rw [Finset.sum_eq_zero (s := Finset.range a) (fun k hk => h0 k (by have := Finset.mem_range.mp hk; omega) (by have := Finset.mem_range.mp hk; omega)),
    Finset.sum_eq_zero (s := Finset.range b) (f := fun k => f (a + A + k)) (fun k hk => h0 _ (by have := Finset.mem_range.mp hk; omega) (by omega)), zero_add, add_zero]

end Cert.PrepIdeal.Own

end
-- ==== Proof.PrepWindows.lean ====
/- What the call that prepares the sample's step finds in its windows. -/
module

public import proofs.«01_k».proof.Proof.Gen.PrepIdeal.Frame.Runs
public import Idealize.ShloMosaic.Lib.Pipeline.ValueKit
public import Idealize.ShloMosaic.Lib.Pointwise
public import Idealize.ShloMosaic.Lib.KernelVsHost
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.PrepIdeal.Own

open Cert.PrepIdeal Cert.PrepIdeal.Gen

/-- A block of whole rows written at row `o` lands row by row, `o` further down. -/
theorem lands_rows {A : Nat} (d : ScatterDims (Routing.shape2 512 2048) (Routing.shape1 1) (Routing.shape2 A 2048)) (huw : d.updateWindowDims = [0, 1])
    (hiw : d.insertedWindowDims = []) (hsd : d.scatterDimsToOperandDims = [0]) (idx : IVec (Routing.shape1 1) 32) (o : Nat)
    (hidx : (idx (ValueIdx.ix1 0)).toInt = (o : Int)) (j : Fin A) (p : Fin 2048) (r : Fin 512) (q : Fin 2048) :
    d.resultIdx? (ValueIdx.ix2 j p) idx = some (ValueIdx.ix2 r q) ↔ o + j.val = r.val ∧ p = q := by
  have hm : (0 : Fin 2) ∈ d.scatterDimsToOperandDims := by rw [hsd]; exact List.mem_singleton.2 rfl
  have hstart0 : d.start (ValueIdx.ix2 j p) idx 0 = (o : Int) := by
    unfold ScatterDims.start
    rw [dif_pos hm]
    have hsi : d.siIdx (ValueIdx.ix2 j p) ⟨d.scatterDimsToOperandDims.idxOf 0, List.idxOf_lt_length_iff.2 hm⟩ = ValueIdx.ix1 (0 : Fin 1) := by
      funext b'
      match b' with
      | ⟨0, _⟩ => exact Subsingleton.elim (α := Fin 1) _ _
    rw [hsi, hidx]
  have hstart1 : d.start (ValueIdx.ix2 j p) idx 1 = 0 := by
    unfold ScatterDims.start
    rw [dif_neg fun h => by rw [hsd] at h; exact absurd (List.mem_singleton.1 h) (by decide : (1 : Fin 2) ≠ 0)]
  have hwin : d.window (ValueIdx.ix2 j p) 0 = j.val ∧ d.window (ValueIdx.ix2 j p) 1 = p.val := by
    obtain ⟨uw, iw, sd, iv, wf⟩ := d
    dsimp only at huw hiw hsd
    subst huw hiw hsd
    exact ⟨rfl, rfl⟩
  rw [Fin.ext_iff, Routing.resultIdx?_ix2, hstart0, hwin.1, hstart1, hwin.2]
  omega

/-- Rows written into a matrix of zeros at row `o`: those rows there, zero elsewhere. -/
theorem rows_set {A : Nat} (d : ScatterDims (Routing.shape2 512 2048) (Routing.shape1 1) (Routing.shape2 A 2048)) (huw : d.updateWindowDims = [0, 1])
    (hiw : d.insertedWindowDims = []) (hsd : d.scatterDimsToOperandDims = [0]) (idx : IVec (Routing.shape1 1) 32) (o : Nat)
    (hidx : (idx (ValueIdx.ix1 0)).toInt = (o : Int)) (z : (Routing.shape2 512 2048).Idx → EReal) (hz : ∀ i, z i = 0) (u : (Routing.shape2 A 2048).Idx → EReal) (r : Fin 512) (q : Fin 2048) :
    Host.scatter d (fun _ b => b) z idx u (ValueIdx.ix2 r q) = if h : o ≤ r.val ∧ r.val - o < A then u (ValueIdx.ix2 ⟨r.val - o, h.2⟩ q) else 0 := by
  have lands : ∀ k : (Routing.shape2 A 2048).Idx, d.resultIdx? k idx = some (ValueIdx.ix2 r q) → o + (k 0).val = r.val ∧ k 1 = q := fun k hk =>
    (lands_rows d huw hiw hsd idx o hidx (k 0) (k 1) r q).1 ((congrArg (fun t => d.resultIdx? t idx) (ValueIdx.eq_ix2 k).symm).trans hk)
  split
  · next h =>
    refine Routing.scatter_set_hit d z idx u _ _ (fun k hk => ?_) (ValueIdx.ix2 ⟨r.val - o, h.2⟩ q) ((lands_rows d huw hiw hsd idx o hidx _ _ _ _).2 ⟨by show o + (r.val - o) = r.val; omega, rfl⟩)
    have e := lands k hk
    refine (congrArg u (ValueIdx.eq_ix2 k)).trans (congrArg₂ (fun a b => u (ValueIdx.ix2 a b)) (Fin.ext ?_) e.2)
    show (k 0).val = r.val - o
    omega
  · next h =>
    refine (Routing.scatter_set_miss d z idx u _ fun k hk => h ?_).trans (hz _)
    have e := (lands k hk).1
    have := (k 0).isLt
    exact ⟨by omega, by show r.val - o < A; have : (k 0).val < A := (k 0).isLt; omega⟩

variable (m : (ℓ : Loc nD τ sig) → Buf (Elt Ideal) ℓ)
variable (c : Dev nD) (t : Fin cfg0.N)

theorem idx : ∀ t : Fin cfg0.N, win0_0.index t = ![64, 0] ∧ win0_1.index t = ![64, 1] ∧ win0_2.index t = ![64, 2] ∧ win0_3.index t = ![64, 12]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_13.index t = ![0, 0] ∧ win0_15.index t = ![0, 0] ∧ win0_18.index t = ![0, 0] ∧ win0_19.index t = ![0, 0]
    ∧ win0_24.index t = ![0, 0] ∧ win0_25.index t = ![0, 0] ∧ win0_26.index t = ![0, 0] ∧ win0_28.index t = ![0, 0] :=
  (by decide +kernel : ∀ t : Fin grid0.N, _)

/-- The projected rows of the call's eleven arguments, by name. -/
abbrev aP : FVec Ideal S8320x6656 .f32 := m ((c : Thread nD τ).loc main_arg0)
/-- The sample's state of the token shift. -/
abbrev aS : FVec Ideal S1x128x6592 .f32 := m ((c : Thread nD τ).loc main_arg1)
/-- The token shift's weights. -/
abbrev aM : FVec Ideal S1x6592 .f32 := m ((c : Thread nD τ).loc main_arg2)
/-- The rate's bias. -/
abbrev aA : FVec Ideal S1x2048 .f32 := m ((c : Thread nD τ).loc main_arg5)
/-- The rate's weights. -/
abbrev aI : FVec Ideal S1x96x2048 .f32 := m ((c : Thread nD τ).loc main_arg6)
/-- The gate's weights. -/
abbrev aG : FVec Ideal S1x256x2048 .f32 := m ((c : Thread nD τ).loc main_arg7)
/-- The keys' weights. -/
abbrev aK : FVec Ideal S1x2048 .f32 := m ((c : Thread nD τ).loc main_arg9)

/-- The projected rows' receptances. -/
theorem x0 (n : Fin 128) (q : Fin 2048) : X0_0 m c t (ix2 n q) = aP m c (ix2 ⟨8192 + n.val, by omega⟩ ⟨q.val, by omega⟩) := by
  unfold X0_0
  refine (dif_pos (moved0_0 t (ix2 n q))).trans ?_
  refine Eq.trans (b := V m c main_arg0 (ix2 ⟨8192 + n.val, by omega⟩ ⟨q.val, by omega⟩ : S8320x6656.Idx)) (congrArg (V m c main_arg0) ?_) (congrFun (V_main_arg0 m c) _)
  blk_ext [idx t]

/-- The projected rows' keys. -/
theorem x1 (n : Fin 128) (q : Fin 2048) : X0_1 m c t (ix2 n q) = aP m c (ix2 ⟨8192 + n.val, by omega⟩ ⟨2048 + q.val, by omega⟩) := by
  unfold X0_1
  refine (dif_pos (moved0_1 t (ix2 n q))).trans ?_
  refine Eq.trans (b := V m c main_arg0 (ix2 ⟨8192 + n.val, by omega⟩ ⟨2048 + q.val, by omega⟩ : S8320x6656.Idx)) (congrArg (V m c main_arg0) ?_) (congrFun (V_main_arg0 m c) _)
  blk_ext [idx t]

/-- The projected rows' values. -/
theorem x2 (n : Fin 128) (q : Fin 2048) : X0_2 m c t (ix2 n q) = aP m c (ix2 ⟨8192 + n.val, by omega⟩ ⟨4096 + q.val, by omega⟩) := by
  unfold X0_2
  refine (dif_pos (moved0_2 t (ix2 n q))).trans ?_
  refine Eq.trans (b := V m c main_arg0 (ix2 ⟨8192 + n.val, by omega⟩ ⟨4096 + q.val, by omega⟩ : S8320x6656.Idx)) (congrArg (V m c main_arg0) ?_) (congrFun (V_main_arg0 m c) _)
  blk_ext [idx t]

/-- The projected rows' low-rank columns. -/
theorem x3 (n : Fin 128) (k : Fin 512) : iblk m c 3 t (ix2 n k) = aP m c (ix2 ⟨8192 + n.val, by omega⟩ ⟨6144 + k.val, by omega⟩) := by
  refine Eq.trans (b := V m c main_arg0 (ix2 ⟨8192 + n.val, by omega⟩ ⟨6144 + k.val, by omega⟩ : S8320x6656.Idx)) (congrArg (V m c main_arg0) ?_) (congrFun (V_main_arg0 m c) _)
  blk_ext [idx t]

theorem V8 : V m c main_v8 = extractStridedSlice S128x2048 ![0, 0] (shapeCast S128x6592 (aS m c) shapeCasts_S1x128x6592_S128x6592) slices_S128x6592_S128x2048_0_0 := by
  unfold V
  simp only [hostOps0, hostOps0_1, hostOps0_2, hostOps0_3, hostOps0_4, List.flatten_cons, List.flatten_nil, List.append_nil, List.cons_append, List.nil_append]
  after_results <;> rfl

theorem V9 : V m c main_v9 = extractStridedSlice S128x2048 ![0, 2048] (shapeCast S128x6592 (aS m c) shapeCasts_S1x128x6592_S128x6592) slices_S128x6592_S128x2048_0_2048 := by
  unfold V
  simp only [hostOps0, hostOps0_1, hostOps0_2, hostOps0_3, hostOps0_4, List.flatten_cons, List.flatten_nil, List.append_nil, List.cons_append, List.nil_append]
  after_results <;> rfl

theorem V10 : V m c main_v10 = extractStridedSlice S128x2048 ![0, 4096] (shapeCast S128x6592 (aS m c) shapeCasts_S1x128x6592_S128x6592) slices_S128x6592_S128x2048_0_4096 := by
  unfold V
  simp only [hostOps0, hostOps0_1, hostOps0_2, hostOps0_3, hostOps0_4, List.flatten_cons, List.flatten_nil, List.append_nil, List.cons_append, List.nil_append]
  after_results <;> rfl

theorem V2 : V m c main_v2 = extractStridedSlice S1x2048 ![0, 0] (shapeCast S1x6592 (shapeCast S6592 (aM m c) shapeCasts_S1x6592_S6592) shapeCasts_S6592_S1x6592) slices_S1x6592_S1x2048_0_0 := by
  unfold V
  simp only [hostOps0, hostOps0_1, hostOps0_2, hostOps0_3, hostOps0_4, List.flatten_cons, List.flatten_nil, List.append_nil, List.cons_append, List.nil_append]
  after_results <;> rfl

theorem V3 : V m c main_v3 = extractStridedSlice S1x2048 ![0, 2048] (shapeCast S1x6592 (shapeCast S6592 (aM m c) shapeCasts_S1x6592_S6592) shapeCasts_S6592_S1x6592) slices_S1x6592_S1x2048_0_2048 := by
  unfold V
  simp only [hostOps0, hostOps0_1, hostOps0_2, hostOps0_3, hostOps0_4, List.flatten_cons, List.flatten_nil, List.append_nil, List.cons_append, List.nil_append]
  after_results <;> rfl

theorem V4 : V m c main_v4 = extractStridedSlice S1x2048 ![0, 4096] (shapeCast S1x6592 (shapeCast S6592 (aM m c) shapeCasts_S1x6592_S6592) shapeCasts_S6592_S1x6592) slices_S1x6592_S1x2048_0_4096 := by
  unfold V
  simp only [hostOps0, hostOps0_1, hostOps0_2, hostOps0_3, hostOps0_4, List.flatten_cons, List.flatten_nil, List.append_nil, List.cons_append, List.nil_append]
  after_results <;> rfl

theorem V6 : V m c main_v6 = pad S1x512 ![0, 0] ![0, 64] ![0, 0] (extractStridedSlice S1x448 ![0, 6144] (shapeCast S1x6592 (shapeCast S6592 (aM m c) shapeCasts_S1x6592_S6592) shapeCasts_S6592_S1x6592) slices_S1x6592_S1x448_0_6144)
    (sitofp .f32 (constantI S_ 32 0#32)) pads_S1x448_S1x512_000_0640 h_S_ := by
  unfold V
  simp only [hostOps0, hostOps0_1, hostOps0_2, hostOps0_3, hostOps0_4, List.flatten_cons, List.flatten_nil, List.append_nil, List.cons_append, List.nil_append]
  after_results <;> rfl

theorem V12 : V m c main_v12 = pad S128x512 ![0, 0] ![0, 64] ![0, 0] (extractStridedSlice S128x448 ![0, 6144] (shapeCast S128x6592 (aS m c) shapeCasts_S1x128x6592_S128x6592) slices_S128x6592_S128x448_0_6144)
    (sitofp .f32 (constantI S_ 32 0#32)) pads_S128x448_S128x512_000_0640 h_S_ := by
  unfold V
  simp only [hostOps0, hostOps0_1, hostOps0_2, hostOps0_3, hostOps0_4, List.flatten_cons, List.flatten_nil, List.append_nil, List.cons_append, List.nil_append]
  after_results <;> rfl

theorem V22 : V m c main_v22 = truncf .bf16 (Host.scatter scatter_S512x2048_S1_S96x2048_01_n_0_0 (fun _ b => b) (broadcastInDim S512x2048 ![] bcast_S_S512x2048 (constant S_ .f32 0x00000000#32))
    (broadcastInDim S1 ![] bcast_S_S1 (constantI S_ 32 96#32)) (shapeCast S96x2048 (aI m c) shapeCasts_S1x96x2048_S96x2048)) bitsLt_bf16_f32 := by
  unfold V
  simp only [hostOps0, hostOps0_1, hostOps0_2, hostOps0_3, hostOps0_4, List.flatten_cons, List.flatten_nil, List.append_nil, List.cons_append, List.nil_append]
  after_results <;> rfl

theorem V27 : V m c main_v27 = truncf .bf16 (Host.scatter scatter_S512x2048_S1_S256x2048_01_n_0_0 (fun _ b => b) (broadcastInDim S512x2048 ![] bcast_S_S512x2048 (constant S_ .f32 0x00000000#32))
    (broadcastInDim S1 ![] bcast_S_S1 (constantI S_ 32 192#32)) (shapeCast S256x2048 (aG m c) shapeCasts_S1x256x2048_S256x2048)) bitsLt_bf16_f32 := by
  unfold V
  simp only [hostOps0, hostOps0_1, hostOps0_2, hostOps0_3, hostOps0_4, List.flatten_cons, List.flatten_nil, List.append_nil, List.cons_append, List.nil_append]
  after_results <;> rfl

theorem V31 : V m c main_v31 = shapeCast S1x2048 (shapeCast S2048 (aA m c) shapeCasts_S1x2048_S2048) shapeCasts_S2048_S1x2048 := by
  unfold V
  simp only [hostOps0, hostOps0_1, hostOps0_2, hostOps0_3, hostOps0_4, List.flatten_cons, List.flatten_nil, List.append_nil, List.cons_append, List.nil_append]
  after_results <;> rfl

theorem V35 : V m c main_v35 = shapeCast S1x2048 (shapeCast S2048 (aK m c) shapeCasts_S1x2048_S2048) shapeCasts_S2048_S1x2048 := by
  unfold V
  simp only [hostOps0, hostOps0_1, hostOps0_2, hostOps0_3, hostOps0_4, List.flatten_cons, List.flatten_nil, List.append_nil, List.cons_append, List.nil_append]
  after_results <;> rfl

/-- A piece of the shift's state, from column `o` on. -/
theorem state_at (S : FVec Ideal S1x128x6592 .f32) (n : Fin 128) (q : Fin 2048) :
    extractStridedSlice S128x2048 ![0, 0] (shapeCast S128x6592 S shapeCasts_S1x128x6592_S128x6592) slices_S128x6592_S128x2048_0_0 (ix2 n q) = S (ix3 0 n ⟨q.val, by omega⟩)
    ∧ extractStridedSlice S128x2048 ![0, 2048] (shapeCast S128x6592 S shapeCasts_S1x128x6592_S128x6592) slices_S128x6592_S128x2048_0_2048 (ix2 n q) = S (ix3 0 n ⟨2048 + q.val, by omega⟩)
    ∧ extractStridedSlice S128x2048 ![0, 4096] (shapeCast S128x6592 S shapeCasts_S1x128x6592_S128x6592) slices_S128x6592_S128x2048_0_4096 (ix2 n q) = S (ix3 0 n ⟨4096 + q.val, by omega⟩) := by
  refine ⟨?_, ?_, ?_⟩ <;> pointwise []

/-- A piece of the shift's weights. -/
theorem weight_at (M : FVec Ideal S1x6592 .f32) (q : Fin 2048) :
    extractStridedSlice S1x2048 ![0, 0] (shapeCast S1x6592 (shapeCast S6592 M shapeCasts_S1x6592_S6592) shapeCasts_S6592_S1x6592) slices_S1x6592_S1x2048_0_0 (ix2 0 q) = M (ix2 0 ⟨q.val, by omega⟩)
    ∧ extractStridedSlice S1x2048 ![0, 2048] (shapeCast S1x6592 (shapeCast S6592 M shapeCasts_S1x6592_S6592) shapeCasts_S6592_S1x6592) slices_S1x6592_S1x2048_0_2048 (ix2 0 q) = M (ix2 0 ⟨2048 + q.val, by omega⟩)
    ∧ extractStridedSlice S1x2048 ![0, 4096] (shapeCast S1x6592 (shapeCast S6592 M shapeCasts_S1x6592_S6592) shapeCasts_S6592_S1x6592) slices_S1x6592_S1x2048_0_4096 (ix2 0 q) = M (ix2 0 ⟨4096 + q.val, by omega⟩) := by
  refine ⟨?_, ?_, ?_⟩ <;> pointwise []

/-- The low-rank columns of the shift's state and weights. -/
theorem state_low (S : FVec Ideal S1x128x6592 .f32) (n : Fin 128) (k : Fin 448) :
    extractStridedSlice S128x448 ![0, 6144] (shapeCast S128x6592 S shapeCasts_S1x128x6592_S128x6592) slices_S128x6592_S128x448_0_6144 (ix2 n k) = S (ix3 0 n ⟨6144 + k.val, by omega⟩) := by
  pointwise []

theorem weight_low (M : FVec Ideal S1x6592 .f32) (k : Fin 448) :
    extractStridedSlice S1x448 ![0, 6144] (shapeCast S1x6592 (shapeCast S6592 M shapeCasts_S1x6592_S6592) shapeCasts_S6592_S1x6592) slices_S1x6592_S1x448_0_6144 (ix2 0 k) = M (ix2 0 ⟨6144 + k.val, by omega⟩) := by
  pointwise []

theorem row_at (A : FVec Ideal S1x2048 .f32) (q : Fin 2048) : shapeCast S1x2048 (shapeCast S2048 A shapeCasts_S1x2048_S2048) shapeCasts_S2048_S1x2048 (ix2 0 q) = A (ix2 0 q) := by
  pointwise []

theorem mat_i (I : FVec Ideal S1x96x2048 .f32) (k : Fin 96) (q : Fin 2048) : shapeCast S96x2048 I shapeCasts_S1x96x2048_S96x2048 (ix2 k q) = I (ix3 0 k q) := by
  pointwise []

theorem mat_g (G : FVec Ideal S1x256x2048 .f32) (k : Fin 256) (q : Fin 2048) : shapeCast S256x2048 G shapeCasts_S1x256x2048_S256x2048 (ix2 k q) = G (ix3 0 k q) := by
  pointwise []

theorem e4 (i : S128x2048.Idx) : ((cfg0.win 4).blk t).view.emb i = i := by
  idx_vars i
  blk_ext [idx t]
theorem e5 (i : S128x2048.Idx) : ((cfg0.win 5).blk t).view.emb i = i := by
  idx_vars i
  blk_ext [idx t]
theorem e6 (i : S128x2048.Idx) : ((cfg0.win 6).blk t).view.emb i = i := by
  idx_vars i
  blk_ext [idx t]
theorem e7 (i : S128x512.Idx) : ((cfg0.win 7).blk t).view.emb i = i := by
  idx_vars i
  blk_ext [idx t]
theorem e8 (i : S1x2048.Idx) : ((cfg0.win 8).blk t).view.emb i = i := by
  idx_vars i
  blk_ext [idx t]
theorem e9 (i : S1x2048.Idx) : ((cfg0.win 9).blk t).view.emb i = i := by
  idx_vars i
  blk_ext [idx t]
theorem e10 (i : S1x2048.Idx) : ((cfg0.win 10).blk t).view.emb i = i := by
  idx_vars i
  blk_ext [idx t]
theorem e11 (i : S1x512.Idx) : ((cfg0.win 11).blk t).view.emb i = i := by
  idx_vars i
  blk_ext [idx t]
theorem e13 (i : S1x2048.Idx) : ((cfg0.win 13).blk t).view.emb i = i := by
  idx_vars i
  blk_ext [idx t]
theorem e15 (i : S1x2048.Idx) : ((cfg0.win 15).blk t).view.emb i = i := by
  idx_vars i
  blk_ext [idx t]
theorem e18 (i : S512x2048.Idx) : ((cfg0.win 18).blk t).view.emb i = i := by
  idx_vars i
  blk_ext [idx t]
theorem e19 (i : S512x2048.Idx) : ((cfg0.win 19).blk t).view.emb i = i := by
  idx_vars i
  blk_ext [idx t]
theorem e24 (i : S2048x128.Idx) : ((cfg0.win 24).blk t).view.emb i = i := by
  idx_vars i
  blk_ext [idx t]
theorem e25 (i : S2048x128.Idx) : ((cfg0.win 25).blk t).view.emb i = i := by
  idx_vars i
  blk_ext [idx t]
theorem e26 (i : S2048x128.Idx) : ((cfg0.win 26).blk t).view.emb i = i := by
  idx_vars i
  blk_ext [idx t]
theorem e28 (i : S128x2048.Idx) : ((cfg0.win 28).blk t).view.emb i = i := by
  idx_vars i
  blk_ext [idx t]

theorem x4 (n : Fin 128) (q : Fin 2048) : iblk m c 4 t (ix2 n q) = aS m c (ix3 0 n ⟨q.val, by omega⟩) := by
  refine (congrArg (V m c main_v8) (e4 t _)).trans ?_
  rw [V8]; exact (state_at _ n q).1
theorem x5 (n : Fin 128) (q : Fin 2048) : iblk m c 5 t (ix2 n q) = aS m c (ix3 0 n ⟨2048 + q.val, by omega⟩) := by
  refine (congrArg (V m c main_v9) (e5 t _)).trans ?_
  rw [V9]; exact (state_at _ n q).2.1
theorem x6 (n : Fin 128) (q : Fin 2048) : iblk m c 6 t (ix2 n q) = aS m c (ix3 0 n ⟨4096 + q.val, by omega⟩) := by
  refine (congrArg (V m c main_v10) (e6 t _)).trans ?_
  rw [V10]; exact (state_at _ n q).2.2
theorem x8 (q : Fin 2048) : iblk m c 8 t (ix2 0 q) = aM m c (ix2 0 ⟨q.val, by omega⟩) := by
  refine (congrArg (V m c main_v2) (e8 t _)).trans ?_
  rw [V2]; exact (weight_at _ q).1
theorem x9 (q : Fin 2048) : iblk m c 9 t (ix2 0 q) = aM m c (ix2 0 ⟨2048 + q.val, by omega⟩) := by
  refine (congrArg (V m c main_v3) (e9 t _)).trans ?_
  rw [V3]; exact (weight_at _ q).2.1
theorem x10 (q : Fin 2048) : iblk m c 10 t (ix2 0 q) = aM m c (ix2 0 ⟨4096 + q.val, by omega⟩) := by
  refine (congrArg (V m c main_v4) (e10 t _)).trans ?_
  rw [V4]; exact (weight_at _ q).2.2

/-- The padded low-rank columns, where they are not padding. -/
theorem x7 (n : Fin 128) (k : Fin 512) (h : k.val < 448) : iblk m c 7 t (ix2 n k) = aS m c (ix3 0 n ⟨6144 + k.val, by omega⟩) := by
  refine (congrArg (V m c main_v12) (e7 t _)).trans ?_
  rw [V12]
  refine (pad_apply_of_inside _ _ _ _ _ _ _ (ix2 n k : S128x512.Idx) (ix2 n ⟨k.val, h⟩ : S128x448.Idx) fun a => ?_).trans (state_low _ n ⟨k.val, h⟩)
  match a with
  | ⟨0, _⟩ => show n.val = 0 + n.val * (0 + 1); omega
  | ⟨1, _⟩ => show k.val = 0 + k.val * (0 + 1); omega
theorem x11 (k : Fin 512) (h : k.val < 448) : iblk m c 11 t (ix2 0 k) = aM m c (ix2 0 ⟨6144 + k.val, by omega⟩) := by
  refine (congrArg (V m c main_v6) (e11 t _)).trans ?_
  rw [V6]
  refine (pad_apply_of_inside _ _ _ _ _ _ _ (ix2 0 k : S1x512.Idx) (ix2 0 ⟨k.val, h⟩ : S1x448.Idx) fun a => ?_).trans (weight_low _ ⟨k.val, h⟩)
  match a with
  | ⟨0, _⟩ => rfl
  | ⟨1, _⟩ => show k.val = 0 + k.val * (0 + 1); omega

theorem x13 (q : Fin 2048) : iblk m c 13 t (ix2 0 q) = aA m c (ix2 0 q) := by
  refine (congrArg (V m c main_v31) (e13 t _)).trans ?_
  rw [V31]; exact row_at _ q
theorem x15 (q : Fin 2048) : iblk m c 15 t (ix2 0 q) = aK m c (ix2 0 q) := by
  refine (congrArg (V m c main_v35) (e15 t _)).trans ?_
  rw [V35]; exact row_at _ q

theorem zero_bits : Ideal.ofBits .f32 0x00000000#32 = (0 : EReal) := by
  simp [Ideal.ofBits, Ideal.ieee, -EReal.coe_mul]

/-- Rounding keeps the value. -/
theorem rounded_at (x : FVec Ideal S512x2048 .f32) (i : S512x2048.Idx) : truncf .bf16 x bitsLt_bf16_f32 i = x i := rfl

theorem zeros_at (i : S512x2048.Idx) : broadcastInDim S512x2048 ![] bcast_S_S512x2048 (constant (F := Ideal) S_ .f32 0x00000000#32) i = (0 : EReal) := by
  pointwise []

theorem start_bits (b : BitVec 32) (o : Nat) (h : b.toInt = (o : Int)) : (broadcastInDim S1 ![] bcast_S_S1 (constantI S_ 32 b) (ValueIdx.ix1 0)).toInt = (o : Int) := h

/-- The rate's weights as the kernel holds them: from row 96 on, zero elsewhere. -/
theorem x18 (k : Fin 512) (q : Fin 2048) : iblk m c 18 t (ix2 k q) = if h : 96 ≤ k.val ∧ k.val - 96 < 96 then aI m c (ix3 0 ⟨k.val - 96, h.2⟩ q) else (0 : EReal) := by
  refine (congrArg (V m c main_v22) (e18 t _)).trans ?_
  rw [V22]
  refine (rounded_at _ _).trans ?_
  refine (rows_set scatter_S512x2048_S1_S96x2048_01_n_0_0 rfl rfl rfl _ 96 (start_bits 96#32 96 (by decide)) _ zeros_at _ k q).trans ?_
  split
  · exact mat_i _ _ q
  · rfl

/-- The gate's weights as the kernel holds them: from row 192 on, zero elsewhere. -/
theorem x19 (k : Fin 512) (q : Fin 2048) : iblk m c 19 t (ix2 k q) = if h : 192 ≤ k.val ∧ k.val - 192 < 256 then aG m c (ix3 0 ⟨k.val - 192, h.2⟩ q) else (0 : EReal) := by
  refine (congrArg (V m c main_v27) (e19 t _)).trans ?_
  rw [V27]
  refine (rounded_at _ _).trans ?_
  refine (rows_set scatter_S512x2048_S1_S256x2048_01_n_0_0 rfl rfl rfl _ 192 (start_bits 192#32 192 (by decide)) _ zeros_at _ k q).trans ?_
  split
  · exact mat_g _ _ q
  · rfl

end Cert.PrepIdeal.Own

end
-- ==== Proof.PrepValue.lean ====
/- The keys, receptances, values and gates that the call which prepares the sample's step leaves are the reference's. -/
module

public import proofs.«01_k».proof.Proof.PrepBlocks
public import proofs.«01_k».proof.Proof.PrepMath
public import proofs.«01_k».proof.Proof.PrepWindows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Own

open Cert.PrepIdeal Cert.PrepIdeal.Gen

section Rows

variable (P : FVec Ideal S8320x6656 .f32) (S : FVec Ideal S1x128x6592 .f32) (M : FVec Ideal S1x6592 .f32)

/-- The first 256 rows of a matrix of 512. -/
abbrev top (U : FVec Ideal S512x2048 .bf16) : FVec Ideal S256x2048 .bf16 :=
  View.ld (Val := Elt Ideal) (e' := .bf16) U (Rect.unit (s := S512x2048) ![0, 0] ![256, 2048] inb_S512x2048_S256x2048_0_0)

/-- The rows from 128 on. -/
abbrev low (U : FVec Ideal S512x2048 .bf16) : FVec Ideal S384x2048 .bf16 :=
  View.ld (Val := Elt Ideal) (e' := .bf16) U (Rect.unit (s := S512x2048) ![128, 0] ![384, 2048] inb_S512x2048_S384x2048_128_0)

/-- The upper half of the rate's padded weights, read row by row. -/
theorem load_rate (U : FVec Ideal S512x2048 .bf16) (k : Fin 256) (q : Fin 2048) :
    top U (ix2 k q) = U (ix2 ⟨k.val, by omega⟩ q) :=
  congrArg U (by
    blk_ext []
    · first | (show 0 + k.val * 1 = k.val; omega) | (show 0 + 1 * k.val = k.val; omega) | simp [Rect.idx, Rect.unit]
    · first | (show 0 + q.val * 1 = q.val; omega) | (show 0 + 1 * q.val = q.val; omega) | simp [Rect.idx, Rect.unit])

/-- The gate's padded weights from row 128 on. -/
theorem load_gate (U : FVec Ideal S512x2048 .bf16) (k : Fin 384) (q : Fin 2048) :
    low U (ix2 k q) = U (ix2 ⟨128 + k.val, by omega⟩ q) :=
  congrArg U (by
    blk_ext []
    · first | (show 128 + k.val * 1 = 128 + k.val; omega) | (show 128 + 1 * k.val = 128 + k.val; omega) | simp [Rect.idx, Rect.unit]
    · first | (show 0 + q.val * 1 = q.val; omega) | (show 0 + 1 * q.val = q.val; omega) | simp [Rect.idx, Rect.unit])

/-- The keys: of the 256 columns of the low-rank part that the body multiplies, the weights vanish at all but the rate's 96. -/
theorem keys (A : FVec Ideal S1x2048 .f32) (I : FVec Ideal S1x96x2048 .f32) (K : FVec Ideal S1x2048 .f32)
    (p s : FVec Ideal S128x2048 .f32) (w : FVec Ideal S1x2048 .f32) (z sz : FVec Ideal S128x512 .f32) (wz : FVec Ideal S1x512 .f32)
    (a kk : FVec Ideal S1x2048 .f32) (U : FVec Ideal S512x2048 .bf16)
    (hp : ∀ (n : Fin 128) (q : Fin 2048), p (ix2 n q) = P (ix2 ⟨8192 + n.val, by omega⟩ ⟨2048 + q.val, by omega⟩))
    (hs : ∀ (n : Fin 128) (q : Fin 2048), s (ix2 n q) = S (ix3 0 n ⟨2048 + q.val, by omega⟩))
    (hw : ∀ q : Fin 2048, w (ix2 0 q) = M (ix2 0 ⟨2048 + q.val, by omega⟩))
    (hz : ∀ (n : Fin 128) (k : Fin 512), z (ix2 n k) = P (ix2 ⟨8192 + n.val, by omega⟩ ⟨6144 + k.val, by omega⟩))
    (hsz : ∀ (n : Fin 128) (k : Fin 512) (h : k.val < 448), sz (ix2 n k) = S (ix3 0 n ⟨6144 + k.val, by omega⟩))
    (hwz : ∀ (k : Fin 512) (h : k.val < 448), wz (ix2 0 k) = M (ix2 0 ⟨6144 + k.val, by omega⟩))
    (ha : ∀ q : Fin 2048, a (ix2 0 q) = A (ix2 0 q)) (hkk : ∀ q : Fin 2048, kk (ix2 0 q) = K (ix2 0 q))
    (hU : ∀ (k : Fin 512) (q : Fin 2048), U (ix2 k q) = if h : 96 ≤ k.val ∧ k.val - 96 < 96 then I (ix3 0 ⟨k.val - 96, h.2⟩ q) else (0 : EReal))
    (q : Fin 2048) (n : Fin 128) :
    k0_pay32 (F := Ideal) (k0_pay23 (k0_pay2 p s w) (k0_pay8 kk) (k0_pay15 (k0_pay6 a) (k0_pay10 z (k0_pay4 z sz wz)
        (top U)))) (ix2 q n)
      = Cert.PrepRefIdeal.Read.val_main_v43 (F := Ideal) P S M A I K (ix2 q n) := by
  rw [pay_k, ref_k, hp, hs, hw, ha, hkk]
  have e : (∑ k : Fin 256, shift (z (ix2 n ⟨k.val, by omega⟩)) (sz (ix2 n ⟨k.val, by omega⟩)) (wz (ix2 0 ⟨k.val, by omega⟩))
        * top U (ix2 k q))
      = ∑ k : Fin 96, sh P S M n ⟨6240 + k.val, by omega⟩ * I (ix3 0 k q) := by
    refine (Finset.sum_congr rfl fun k _ => ?_).trans ((stretch 256 96 96 (by omega)
      (fun k => if h : 96 ≤ k ∧ k - 96 < 96 then sh P S M n ⟨6144 + k, by omega⟩ * I (ix3 0 ⟨k - 96, h.2⟩ q) else 0)
      (fun k _ h => dif_neg h)).trans (Finset.sum_congr rfl fun k _ => ?_))
    · rw [load_rate, hU]
      by_cases h : 96 ≤ k.val ∧ k.val - 96 < 96
      · rw [dif_pos h, dif_pos h, hz, hsz _ _ (by dsimp only; omega), hwz _ (by dsimp only; omega)]; rfl
      · rw [dif_neg h, dif_neg h, mul_zero]
    · have hk := k.isLt
      rw [dif_pos ⟨by omega, by omega⟩]
      have e1 : (⟨6144 + (96 + k.val), by omega⟩ : Fin 6592) = ⟨6240 + k.val, by omega⟩ := Fin.ext (by dsimp only; omega)
      have e2 : (⟨96 + k.val - 96, by omega⟩ : Fin 96) = k := Fin.ext (by dsimp only; omega)
      rw [e1, e2]
  exact congrArg (fun x => shift _ _ _ * (1 + (sigmoid (A (ix2 0 q) + x) - 1) * K (ix2 0 q))) e

/-- The gates: of the 384 columns that the body multiplies, the weights vanish at all but the gate's 256. -/
theorem gates (G : FVec Ideal S1x256x2048 .f32) (z sz : FVec Ideal S128x512 .f32) (wz : FVec Ideal S1x512 .f32) (U : FVec Ideal S512x2048 .bf16)
    (hz : ∀ (n : Fin 128) (k : Fin 512), z (ix2 n k) = P (ix2 ⟨8192 + n.val, by omega⟩ ⟨6144 + k.val, by omega⟩))
    (hsz : ∀ (n : Fin 128) (k : Fin 512) (h : k.val < 448), sz (ix2 n k) = S (ix3 0 n ⟨6144 + k.val, by omega⟩))
    (hwz : ∀ (k : Fin 512) (h : k.val < 448), wz (ix2 0 k) = M (ix2 0 ⟨6144 + k.val, by omega⟩))
    (hU : ∀ (k : Fin 512) (q : Fin 2048), U (ix2 k q) = if h : 192 ≤ k.val ∧ k.val - 192 < 256 then G (ix3 0 ⟨k.val - 192, h.2⟩ q) else (0 : EReal))
    (n : Fin 128) (q : Fin 2048) :
    k0_pay11 (F := Ideal) z (k0_pay4 z sz wz) (low U) (ix2 n q)
      = Cert.PrepRefIdeal.Read.val_main_v33 (F := Ideal) P S M G (ix2 n q) := by
  rw [pay_g, ref_g]
  refine (Finset.sum_congr rfl fun k _ => ?_).trans ((stretch 384 64 256 (by omega)
    (fun k => if h : 64 ≤ k ∧ k - 64 < 256 then sigmoid (sh P S M n ⟨6272 + k, by omega⟩) * G (ix3 0 ⟨k - 64, h.2⟩ q) else 0)
    (fun k _ h => dif_neg h)).trans (Finset.sum_congr rfl fun k _ => ?_))
  · rw [load_gate, hU]
    by_cases h : 64 ≤ k.val ∧ k.val - 64 < 256
    · have e1 : (⟨6144 + (128 + k.val), by omega⟩ : Fin 6592) = ⟨6272 + k.val, by omega⟩ := Fin.ext (by dsimp only; omega)
      have e2 : (⟨128 + k.val - 192, by omega⟩ : Fin 256) = ⟨k.val - 64, h.2⟩ := Fin.ext (by dsimp only; omega)
      rw [dif_pos (by dsimp only; omega), dif_pos h, hz, hsz _ _ (by dsimp only; omega), hwz _ (by dsimp only; omega), e2, ← e1]; rfl
    · rw [dif_neg (by dsimp only; omega), dif_neg h, mul_zero]
  · have hk := k.isLt
    rw [dif_pos ⟨by omega, by omega⟩]
    have e1 : (⟨6272 + (64 + k.val), by omega⟩ : Fin 6592) = ⟨6336 + k.val, by omega⟩ := Fin.ext (by dsimp only; omega)
    have e2 : (⟨64 + k.val - 64, by omega⟩ : Fin 256) = k := Fin.ext (by dsimp only; omega)
    rw [e1, e2]

end Rows

variable (m : (ℓ : Loc nD τ sig) → Buf (Elt Ideal) ℓ) (c : Dev nD)

/-- The keys the call leaves are the reference's. -/
theorem final24 : (dats m 0 c).arrAt 24 (cfgs 0).N
      = Cert.PrepRefIdeal.Read.val_main_v43 (F := Ideal) (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg9)) := by
  refine (dats m 0 c).arrAt_eq_of_covers 24 _ (by decide +kernel) fun t _ y => ?_
  blk_simp
  rw [after0_24]
  unfold outsAt0
  frame_out
  refine Eq.trans ?_ (congrArg (Cert.PrepRefIdeal.Read.val_main_v43 (F := Ideal) _ _ _ _ _ _) (e24 t y).symm)
  rw [show y = (ix2 (y 0) (y 1) : S2048x128.Idx) from ValueIdx.eq_ix2 y]
  exact keys (aP m c) (aS m c) (aM m c) (aA m c) (aI m c) (aK m c) (X0_1 m c t) (iblk m c 5 t) (iblk m c 9 t) (iblk m c 3 t) (iblk m c 7 t) (iblk m c 11 t)
    (iblk m c 13 t) (iblk m c 15 t) (iblk m c 18 t) (x1 m c t) (x5 m c t) (x9 m c t) (x3 m c t) (x7 m c t) (x11 m c t) (x13 m c t) (x15 m c t) (x18 m c t) _ _

/-- The receptances are the reference's. -/
theorem final25 : (dats m 0 c).arrAt 25 (cfgs 0).N
      = Cert.PrepRefIdeal.Read.val_main_v44 (F := Ideal) (m ((c : Thread nD τ).loc main_arg0)) (m ((c : Thread nD τ).loc main_arg1)) (m ((c : Thread nD τ).loc main_arg2)) := by
  refine (dats m 0 c).arrAt_eq_of_covers 25 _ (by decide +kernel) fun t _ y => ?_
  blk_simp
  rw [after0_25]
  unfold outsAt0
  frame_out
  refine Eq.trans ?_ (congrArg (Cert.PrepRefIdeal.Read.val_main_v44 (F := Ideal) _ _ _) (e25 t y).symm)
  rw [show y = (ix2 (y 0) (y 1) : S2048x128.Idx) from ValueIdx.eq_ix2 y]
  refine (pay_r (X0_0 m c t) (iblk m c 4 t) (iblk m c 8 t) _ _).trans (Eq.trans ?_ (ref_r (aP m c) (aS m c) (aM m c) _ _).symm)
  exact congr (congr (congrArg shift (x0 m c t _ _)) (x4 m c t _ _)) (x8 m c t _)

/-- The values are the reference's. -/
theorem final26 : (dats m 0 c).arrAt 26 (cfgs 0).N
      = Cert.PrepRefIdeal.Read.val_main_v45 (F := Ideal) (m ((c : Thread nD τ).loc main_arg0)) (m ((c : Thread nD τ).loc main_arg1)) (m ((c : Thread nD τ).loc main_arg2)) := by
  refine (dats m 0 c).arrAt_eq_of_covers 26 _ (by decide +kernel) fun t _ y => ?_
  blk_simp
  rw [after0_26]
  unfold outsAt0
  frame_out
  refine Eq.trans ?_ (congrArg (Cert.PrepRefIdeal.Read.val_main_v45 (F := Ideal) _ _ _) (e26 t y).symm)
  rw [show y = (ix2 (y 0) (y 1) : S2048x128.Idx) from ValueIdx.eq_ix2 y]
  refine (pay_v (X0_2 m c t) (iblk m c 6 t) (iblk m c 10 t) _ _).trans (Eq.trans ?_ (ref_v (aP m c) (aS m c) (aM m c) _ _).symm)
  exact congr (congr (congrArg shift (x2 m c t _ _)) (x6 m c t _ _)) (x10 m c t _)

/-- The gates are the reference's. -/
theorem final28 : (dats m 0 c).arrAt 28 (cfgs 0).N
      = Cert.PrepRefIdeal.Read.val_main_v33 (F := Ideal) (m ((c : Thread nD τ).loc main_arg0)) (m ((c : Thread nD τ).loc main_arg1)) (m ((c : Thread nD τ).loc main_arg2))
        (m ((c : Thread nD τ).loc main_arg7)) := by
  refine (dats m 0 c).arrAt_eq_of_covers 28 _ (by decide +kernel) fun t _ y => ?_
  blk_simp
  rw [after0_28]
  unfold outsAt0
  frame_out
  refine Eq.trans ?_ (congrArg (Cert.PrepRefIdeal.Read.val_main_v33 (F := Ideal) _ _ _ _) (e28 t y).symm)
  rw [show y = (ix2 (y 0) (y 1) : S128x2048.Idx) from ValueIdx.eq_ix2 y]
  exact gates (aP m c) (aS m c) (aM m c) (aG m c) (iblk m c 3 t) (iblk m c 7 t) (iblk m c 11 t) (iblk m c 19 t) (x3 m c t) (x7 m c t) (x11 m c t) (x19 m c t) _ _

variable (ρ : Dev nD → PrngReg)

/-- The call ends with these four results the reference's functions of its arguments, and its arguments unchanged. -/
theorem run_values : θ_run defs (onTc (τ := τ) (main (F := Ideal))) ⟨m, fun _ => 0, ρ⟩ fun r => ∀ c : Dev nD,
      r.2.mem ((c : Thread nD τ).loc main_v38_3) = Cert.PrepRefIdeal.Read.val_main_v43 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9))
      ∧ r.2.mem ((c : Thread nD τ).loc main_v38_4) = Cert.PrepRefIdeal.Read.val_main_v44 (F := Ideal) (m ((c : Thread nD τ).loc main_arg0)) (m ((c : Thread nD τ).loc main_arg1)) (m ((c : Thread nD τ).loc main_arg2))
      ∧ r.2.mem ((c : Thread nD τ).loc main_v38_5) = Cert.PrepRefIdeal.Read.val_main_v45 (F := Ideal) (m ((c : Thread nD τ).loc main_arg0)) (m ((c : Thread nD τ).loc main_arg1)) (m ((c : Thread nD τ).loc main_arg2))
      ∧ r.2.mem ((c : Thread nD τ).loc main_v38_7) = Cert.PrepRefIdeal.Read.val_main_v33 (F := Ideal) (m ((c : Thread nD τ).loc main_arg0)) (m ((c : Thread nD τ).loc main_arg1)) (m ((c : Thread nD τ).loc main_arg2)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨-, -, -, h3, h4, h5, -, h7, rest⟩ := h c
    exact ⟨h3.trans (final24 m c), h4.trans (final25 m c), h5.trans (final26 m c), h7.trans (final28 m c), rest⟩) (run_blocks (F := Ideal) m ρ)

end Cert.PrepIdeal.Own

end
-- ==== Proof.lean ====
/- The claims of this certificate, call by call: what the programs leave unchanged (their frames), and that the kernel
   and the reference leave the same result arrays when both are read over the extended reals. The values themselves
   are computed in the modules `…Value` beside this file. -/
module

public import proofs.«01_k».proof.Defs
public import proofs.«01_k».proof.Proof.Gen.Step
public import proofs.«01_k».proof.Proof.Gen.StepIdeal
public import proofs.«01_k».proof.Proof.Gen.StepRefIdeal
public import proofs.«01_k».proof.Proof.Gen.Head
public import proofs.«01_k».proof.Proof.Gen.HeadIdeal
public import proofs.«01_k».proof.Proof.Gen.HeadRefIdeal
public import proofs.«01_k».proof.Proof.Gen.Tail
public import proofs.«01_k».proof.Proof.Gen.TailIdeal
public import proofs.«01_k».proof.Proof.Gen.TailRefIdeal
public import proofs.«01_k».proof.Proof.Gen.Norm1
public import proofs.«01_k».proof.Proof.Gen.Norm1Ideal
public import proofs.«01_k».proof.Proof.Gen.Norm1RefIdeal
public import proofs.«01_k».proof.Proof.Gen.Merge
public import proofs.«01_k».proof.Proof.Gen.MergeIdeal
public import proofs.«01_k».proof.Proof.Gen.MergeRefIdeal
public import proofs.«01_k».proof.Proof.Gen.OutProj
public import proofs.«01_k».proof.Proof.Gen.OutProjIdeal
public import proofs.«01_k».proof.Proof.Gen.OutProjRefIdeal
public import proofs.«01_k».proof.Proof.Gen.CombineP
public import proofs.«01_k».proof.Proof.Gen.CombinePIdeal
public import proofs.«01_k».proof.Proof.Gen.CombinePRefIdeal
public import proofs.«01_k».proof.Proof.Gen.CombineS
public import proofs.«01_k».proof.Proof.Gen.CombineSIdeal
public import proofs.«01_k».proof.Proof.Gen.CombineSRefIdeal
public import proofs.«01_k».proof.Proof.Gen.PoolP
public import proofs.«01_k».proof.Proof.Gen.PoolPIdeal
public import proofs.«01_k».proof.Proof.Gen.PoolPRefIdeal
public import proofs.«01_k».proof.Proof.Gen.PoolS
public import proofs.«01_k».proof.Proof.Gen.PoolSIdeal
public import proofs.«01_k».proof.Proof.Gen.PoolSRefIdeal
public import proofs.«01_k».proof.Proof.Gen.Finish
public import proofs.«01_k».proof.Proof.Gen.FinishIdeal
public import proofs.«01_k».proof.Proof.Gen.FinishRefIdeal
public import proofs.«01_k».proof.Proof.Gen.Prep
public import proofs.«01_k».proof.Proof.Gen.PrepIdeal
public import proofs.«01_k».proof.Proof.Gen.PrepRefIdeal
public import proofs.«01_k».proof.Proof.Gen.Step.Frame
public import proofs.«01_k».proof.Proof.Gen.StepIdeal.Frame
public import proofs.«01_k».proof.Proof.Gen.StepRefIdeal.Run
public import proofs.«01_k».proof.Proof.Gen.StepRefIdeal.Read
public import proofs.«01_k».proof.Proof.Gen.Head.Frame
public import proofs.«01_k».proof.Proof.Gen.HeadIdeal.Frame
public import proofs.«01_k».proof.Proof.Gen.HeadRefIdeal.Run
public import proofs.«01_k».proof.Proof.Gen.HeadRefIdeal.Read
public import proofs.«01_k».proof.Proof.Gen.Tail.Frame
public import proofs.«01_k».proof.Proof.Gen.TailIdeal.Frame
public import proofs.«01_k».proof.Proof.Gen.TailRefIdeal.Run
public import proofs.«01_k».proof.Proof.Gen.TailRefIdeal.Read
public import proofs.«01_k».proof.Proof.Gen.Norm1.Frame
public import proofs.«01_k».proof.Proof.Gen.Norm1Ideal.Frame
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Gen.MergeIdeal.Launch
public import proofs.«01_k».proof.Proof.Gen.MergeIdeal.Skeleton
public import proofs.«01_k».proof.Proof.Gen.MergeIdeal.Points
public import proofs.«01_k».proof.Proof.Gen.MergeRefIdeal.Run
public import proofs.«01_k».proof.Proof.Gen.MergeRefIdeal.Read
public import proofs.«01_k».proof.Proof.Gen.OutProjIdeal.Launch
public import proofs.«01_k».proof.Proof.Gen.OutProjIdeal.Skeleton
public import proofs.«01_k».proof.Proof.Gen.OutProjIdeal.Points
public import proofs.«01_k».proof.Proof.Gen.OutProjRefIdeal.Run
public import proofs.«01_k».proof.Proof.Gen.OutProjRefIdeal.Read
public import proofs.«01_k».proof.Proof.Gen.CombineP.Frame
public import proofs.«01_k».proof.Proof.Gen.CombinePIdeal.Frame
public import proofs.«01_k».proof.Proof.Gen.CombinePIdeal.Value
public import proofs.«01_k».proof.Proof.Gen.CombinePRefIdeal.Run
public import proofs.«01_k».proof.Proof.Gen.CombinePRefIdeal.Read
public import proofs.«01_k».proof.Proof.Gen.CombineS.Frame
public import proofs.«01_k».proof.Proof.Gen.CombineSIdeal.Frame
public import proofs.«01_k».proof.Proof.Gen.CombineSIdeal.Value
public import proofs.«01_k».proof.Proof.Gen.CombineSRefIdeal.Run
public import proofs.«01_k».proof.Proof.Gen.CombineSRefIdeal.Read
public import proofs.«01_k».proof.Proof.Gen.PoolP.Frame
public import proofs.«01_k».proof.Proof.Gen.PoolPIdeal.Frame
public import proofs.«01_k».proof.Proof.Gen.PoolPIdeal.Value
public import proofs.«01_k».proof.Proof.Gen.PoolPRefIdeal.Run
public import proofs.«01_k».proof.Proof.Gen.PoolPRefIdeal.Read
public import proofs.«01_k».proof.Proof.Gen.PoolS.Frame
public import proofs.«01_k».proof.Proof.Gen.PoolSIdeal.Frame
public import proofs.«01_k».proof.Proof.Gen.PoolSIdeal.Value
public import proofs.«01_k».proof.Proof.Gen.PoolSRefIdeal.Run
public import proofs.«01_k».proof.Proof.Gen.PoolSRefIdeal.Read
public import proofs.«01_k».proof.Proof.Gen.Finish.Frame
public import proofs.«01_k».proof.Proof.Gen.FinishIdeal.Frame
public import proofs.«01_k».proof.Proof.Gen.FinishIdeal.Value
public import proofs.«01_k».proof.Proof.Gen.FinishRefIdeal.Run
public import proofs.«01_k».proof.Proof.Gen.FinishRefIdeal.Read
public import proofs.«01_k».proof.Proof.Gen.PrepIdeal.Launch
public import proofs.«01_k».proof.Proof.Gen.PrepIdeal.Skeleton
public import proofs.«01_k».proof.Proof.Gen.PrepIdeal.Points
public import proofs.«01_k».proof.Proof.Gen.PrepRefIdeal.Run
public import proofs.«01_k».proof.Proof.Gen.PrepRefIdeal.Read
public import proofs.«01_k».proof.Proof.StepValue
public import proofs.«01_k».proof.Proof.HeadValue
public import proofs.«01_k».proof.Proof.TailValue
public import proofs.«01_k».proof.Proof.Norm1Value
public import proofs.«01_k».proof.Proof.MergeValue
public import proofs.«01_k».proof.Proof.OutProjValue
public import proofs.«01_k».proof.Proof.CombinePValue
public import proofs.«01_k».proof.Proof.CombineSValue
public import proofs.«01_k».proof.Proof.PoolPValue
public import proofs.«01_k».proof.Proof.PoolSValue
public import proofs.«01_k».proof.Proof.FinishValue
public import proofs.«01_k».proof.Proof.PrepKernelFrame
public import proofs.«01_k».proof.Proof.PrepValue
public import Idealize.ShloMosaic.Adequacy
public import Idealize.ShloMosaic.Init

@[expose] public section

set_option maxRecDepth 16384

noncomputable section

namespace Cert.Proof

open Idealize.ShloMosaic Idealize.SL.Sem

/-! ## The recurrence of the decoding step (`wkv_sample_step`) -/

/-- The kernel program `Step` ends, with its arguments unchanged and its counters at zero. -/
theorem frame_Step : Cert.quiescent_Step := fun m ρ _ => Cert.Step.Gen.frame m ρ

/-- So does its reading over the extended reals. -/
theorem frame_StepIdeal : Cert.quiescent_StepIdeal := fun m ρ _ => Cert.StepIdeal.Gen.frame m ρ

/-- And the reference, whose operations leave their results and change no argument. -/
theorem frame_StepRefIdeal : Cert.quiescent_StepRefIdeal := fun m ρ _ =>
  (θ_run Cert.StepRefIdeal.defs _ _).mono (fun r h => ⟨fun c => (h c).2.2, Idealize.ShloMosaic.sem_eq_zero_of_no_sems (by decide) r.2⟩)
    (Cert.StepRefIdeal.Value.run (F := Ideal) m ρ)

/-- One step of the recurrence on every head and sequence: the new states and the outputs are the reference's. -/
theorem value_Step : Cert.algebraic_StepIdeal_StepRefIdeal := by
  intro m g m' g' hpre hag
  refine ⟨fun c => Cert.StepRefIdeal.Read.val_main_v26 (F := Ideal) (m ((c.tc : Thread Cert.StepIdeal.nD Cert.StepIdeal.τ).loc Cert.StepIdeal.main_arg0)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)), fun c => Cert.StepRefIdeal.Read.val_main_v28 (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)),
    (θ_run Cert.StepIdeal.defs _ _).mono (fun r h c => ⟨(h c).1.1, (h c).1.2, (h c).2⟩) (Cert.StepIdeal.Own.run_blocks m g),
    (θ_run Cert.StepRefIdeal.defs _ _).mono (fun r h c => ⟨((h c).1).trans ((Cert.StepRefIdeal.Read.val_main_v26_eq (F := Ideal) _ _ _ _ _ _).trans (by rw [(hag c).1, (hag c).2.2.1, (hag c).2.2.2.1, (hag c).2.2.2.2.1, (hag c).2.2.2.2.2.1, (hag c).2.2.2.2.2.2])), ((h c).2.1).trans ((Cert.StepRefIdeal.Read.val_main_v28_eq (F := Ideal) _ _ _ _ _ _ _).trans (by rw [(hag c).1, (hag c).2.1, (hag c).2.2.1, (hag c).2.2.2.1, (hag c).2.2.2.2.1, (hag c).2.2.2.2.2.1, (hag c).2.2.2.2.2.2])), (h c).2.2⟩) (Cert.StepRefIdeal.Value.run (F := Ideal) m' g')⟩

/-! ## The first columns of the input projection (`in_proj_head`) -/

/-- The kernel program `Head` ends, with its arguments unchanged and its counters at zero. -/
theorem frame_Head : Cert.quiescent_Head := fun m ρ _ => Cert.Head.Gen.frame m ρ

/-- So does its reading over the extended reals. -/
theorem frame_HeadIdeal : Cert.quiescent_HeadIdeal := fun m ρ _ => Cert.HeadIdeal.Gen.frame m ρ

/-- And the reference, whose operations leave their results and change no argument. -/
theorem frame_HeadRefIdeal : Cert.quiescent_HeadRefIdeal := fun m ρ _ =>
  (θ_run Cert.HeadRefIdeal.defs _ _).mono (fun r h => ⟨fun c => (h c).2.2.2, Idealize.ShloMosaic.sem_eq_zero_of_no_sems (by decide) r.2⟩)
    (Cert.HeadRefIdeal.Value.run (F := Ideal) m ρ)

/-- The columns that the recurrence takes: the product of the normalized activations with the weights; with them the new shift states of the prompts and the samples. -/
theorem value_Head : Cert.algebraic_HeadIdeal_HeadRefIdeal := by
  intro m g m' g' hpre hag
  refine ⟨fun c => Cert.HeadRefIdeal.Read.val_main_v11 (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)), fun c => Cert.HeadRefIdeal.Read.val_main_v12 (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)), fun c => Cert.HeadRefIdeal.Read.val_main_v13 (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)),
    (θ_run Cert.HeadIdeal.defs _ _).mono (fun r h c => ⟨(h c).1.1, (h c).1.2.1, (h c).1.2.2, (h c).2⟩) (Cert.HeadIdeal.Own.run_blocks m g),
    (θ_run Cert.HeadRefIdeal.defs _ _).mono (fun r h c => ⟨((h c).1).trans ((Cert.HeadRefIdeal.Read.val_main_v11_eq (F := Ideal) _ _).trans (by rw [(hag c).1, (hag c).2])), ((h c).2.1).trans ((Cert.HeadRefIdeal.Read.val_main_v12_eq (F := Ideal) _ _).trans (by rw [(hag c).1, (hag c).2])), ((h c).2.2.1).trans ((Cert.HeadRefIdeal.Read.val_main_v13_eq (F := Ideal) _ _).trans (by rw [(hag c).1, (hag c).2])), (h c).2.2.2⟩) (Cert.HeadRefIdeal.Value.run (F := Ideal) m' g')⟩

/-! ## The last columns of the input projection (`in_proj_tail`) -/

/-- The kernel program `Tail` ends, with its arguments unchanged and its counters at zero. -/
theorem frame_Tail : Cert.quiescent_Tail := fun m ρ _ => Cert.Tail.Gen.frame m ρ

/-- So does its reading over the extended reals. -/
theorem frame_TailIdeal : Cert.quiescent_TailIdeal := fun m ρ _ => Cert.TailIdeal.Gen.frame m ρ

/-- And the reference, whose operations leave their results and change no argument. -/
theorem frame_TailRefIdeal : Cert.quiescent_TailRefIdeal := fun m ρ _ =>
  (θ_run Cert.TailRefIdeal.defs _ _).mono (fun r h => ⟨fun c => (h c).2.2.2, Idealize.ShloMosaic.sem_eq_zero_of_no_sems (by decide) r.2⟩)
    (Cert.TailRefIdeal.Value.run (F := Ideal) m ρ)

/-- The columns that the pooling branch and the gates take: the product of the normalized activations with the weights; with them the new pooling states of the prompts and the samples. -/
theorem value_Tail : Cert.algebraic_TailIdeal_TailRefIdeal := by
  intro m g m' g' hpre hag
  refine ⟨fun c => Cert.TailRefIdeal.Read.val_main_v12 (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)), fun c => Cert.TailRefIdeal.Read.val_main_v14 (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)), fun c => Cert.TailRefIdeal.Read.val_main_v16 (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)),
    (θ_run Cert.TailIdeal.defs _ _).mono (fun r h c => ⟨(h c).1.1, (h c).1.2.1, (h c).1.2.2, (h c).2⟩) (Cert.TailIdeal.Own.run_blocks m g),
    (θ_run Cert.TailRefIdeal.defs _ _).mono (fun r h c => ⟨((h c).1).trans ((Cert.TailRefIdeal.Read.val_main_v12_eq (F := Ideal) _ _).trans (by rw [(hag c).1, (hag c).2.1])), ((h c).2.1).trans ((Cert.TailRefIdeal.Read.val_main_v14_eq (F := Ideal) _ _).trans (by rw [(hag c).1, (hag c).2.1])), ((h c).2.2.1).trans ((Cert.TailRefIdeal.Read.val_main_v16_eq (F := Ideal) _ _ _).trans (by rw [(hag c).1, (hag c).2.1, (hag c).2.2])), (h c).2.2.2⟩) (Cert.TailRefIdeal.Value.run (F := Ideal) m' g')⟩

/-! ## The first normalization (`norm1`) -/

/-- The kernel program `Norm1` ends, with its arguments unchanged and its counters at zero. -/
theorem frame_Norm1 : Cert.quiescent_Norm1 := fun m ρ _ => Cert.Norm1.Gen.frame m ρ

/-- So does its reading over the extended reals. -/
theorem frame_Norm1Ideal : Cert.quiescent_Norm1Ideal := fun m ρ _ => Cert.Norm1Ideal.Gen.frame m ρ

/-- And the reference, whose operations leave their results and change no argument. -/
theorem frame_Norm1RefIdeal : Cert.quiescent_Norm1RefIdeal := fun m ρ _ =>
  (θ_run Cert.Norm1RefIdeal.defs _ _).mono (fun r h => ⟨fun c => (h c).2, Idealize.ShloMosaic.sem_eq_zero_of_no_sems (by decide) r.2⟩)
    (Cert.Norm1RefIdeal.Value.run (F := Ideal) m ρ)

/-- Every row of the activations, prompt then sample, normalized by its root mean square and scaled. -/
theorem value_Norm1 : Cert.algebraic_Norm1Ideal_Norm1RefIdeal := by
  intro m g m' g' hpre hag
  refine ⟨fun c => Cert.Norm1RefIdeal.Read.val_main_v31 (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)),
    (θ_run Cert.Norm1Ideal.defs _ _).mono (fun r h c => ⟨(h c).1.trans (Cert.Norm1Ideal.Own.final m c), (h c).2⟩) (Cert.Norm1Ideal.Value.run_blocks (F := Ideal) m g),
    (θ_run Cert.Norm1RefIdeal.defs _ _).mono (fun r h c => ⟨((h c).1).trans ((Cert.Norm1RefIdeal.Read.val_main_v31_eq (F := Ideal) _ _ _).trans (by rw [(hag c).1, (hag c).2.1, (hag c).2.2])), (h c).2⟩) (Cert.Norm1RefIdeal.Value.run (F := Ideal) m' g')⟩

/-! ## The merge of the branches (`merge`) -/

/-- The printed kernel's table of bodies is that of its reading: the two programs have the same text. -/
theorem bodies_Merge [Cert.Merge.Facts] [Cert.MergeIdeal.Facts] : Cert.Merge.defs₀ (F := Bits) = Cert.MergeIdeal.defs₀ (F := Bits) :=
  congrArg Defs.onTc (funext fun l => funext fun a => match l, a with
    | 0, (_, _) => rfl
    | ⟨_ + 1, h⟩, _ => absurd h (Nat.not_lt.2 (Nat.le_add_left _ _)))

/-- So are the two tables with the pipelines. -/
theorem defs_Merge [Cert.Merge.Facts] [Cert.MergeIdeal.Facts] : Cert.Merge.defs (F := Bits) = Cert.MergeIdeal.defs (F := Bits) :=
  congrArg (Pipeline.defs (Cert.MergeIdeal.pcfgs (F := Bits))) bodies_Merge

/-- The kernel program `Merge` ends, with its arguments unchanged and its counters at zero. -/
theorem frame_Merge : Cert.quiescent_Merge := fun m ρ _ => by
  have h := Cert.MergeIdeal.Own.frame (F := Bits) m ρ
  rw [← defs_Merge] at h
  exact h

/-- So does its reading over the extended reals. -/
theorem frame_MergeIdeal : Cert.quiescent_MergeIdeal := fun m ρ _ => Cert.MergeIdeal.Own.frame m ρ

/-- And the reference, whose operations leave their results and change no argument. -/
theorem frame_MergeRefIdeal : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- Each branch through its weights and its sigmoid gate, the two summed, on every row of the prompt and the sample. -/
theorem value_Merge : Cert.algebraic_MergeIdeal_MergeRefIdeal := by
  intro m g m' g' hpre hag
  refine ⟨fun c => Cert.MergeRefIdeal.Read.val_main_v25 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)),
    (θ_run Cert.MergeIdeal.defs _ _).mono (fun r h c => ⟨(h c).1.trans (Cert.MergeIdeal.Own.final m c), (h c).2⟩) (Cert.MergeIdeal.Own.run_blocks (F := Ideal) m g),
    (θ_run Cert.MergeRefIdeal.defs _ _).mono (fun r h c => ⟨((h c).1).trans ((Cert.MergeRefIdeal.Read.val_main_v25_eq (F := Ideal) _ _ _ _ _ _ _).trans (by rw [(hag c).1, (hag c).2.1, (hag c).2.2.1, (hag c).2.2.2.1, (hag c).2.2.2.2.1, (hag c).2.2.2.2.2.1, (hag c).2.2.2.2.2.2])), (h c).2⟩) (Cert.MergeRefIdeal.Value.run (F := Ideal) m' g')⟩

/-! ## The output projection (`out_proj`) -/

/-- The printed kernel's table of bodies is that of its reading: the two programs have the same text. -/
theorem bodies_OutProj [Cert.OutProj.Facts] [Cert.OutProjIdeal.Facts] : Cert.OutProj.defs₀ (F := Bits) = Cert.OutProjIdeal.defs₀ (F := Bits) :=
  congrArg Defs.onTc (funext fun l => funext fun a => match l, a with
    | 0, (_, _) => rfl
    | ⟨_ + 1, h⟩, _ => absurd h (Nat.not_lt.2 (Nat.le_add_left _ _)))

/-- So are the two tables with the pipelines. -/
theorem defs_OutProj [Cert.OutProj.Facts] [Cert.OutProjIdeal.Facts] : Cert.OutProj.defs (F := Bits) = Cert.OutProjIdeal.defs (F := Bits) :=
  congrArg (Pipeline.defs (Cert.OutProjIdeal.pcfgs (F := Bits))) bodies_OutProj

/-- The kernel program `OutProj` ends, with its arguments unchanged and its counters at zero. -/
theorem frame_OutProj : Cert.quiescent_OutProj := fun m ρ _ => by
  have h := Cert.OutProjIdeal.Own.frame (F := Bits) m ρ
  rw [← defs_OutProj] at h
  exact h

/-- So does its reading over the extended reals. -/
theorem frame_OutProjIdeal : Cert.quiescent_OutProjIdeal := fun m ρ _ => Cert.OutProjIdeal.Own.frame m ρ

/-- And the reference, whose operations leave their results and change no argument. -/
theorem frame_OutProjRefIdeal : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The merged branches through the output weights, added to the residual rows of the prompt and the sample. -/
theorem value_OutProj : Cert.algebraic_OutProjIdeal_OutProjRefIdeal := by
  intro m g m' g' hpre hag
  refine ⟨fun c => Cert.OutProjRefIdeal.Read.val_main_v6 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)),
    (θ_run Cert.OutProjIdeal.defs _ _).mono (fun r h c => ⟨(h c).1.trans (Cert.OutProjIdeal.Own.final m c), (h c).2⟩) (Cert.OutProjIdeal.Own.run_blocks (F := Ideal) m g),
    (θ_run Cert.OutProjRefIdeal.defs _ _).mono (fun r h c => ⟨((h c).1).trans ((Cert.OutProjRefIdeal.Read.val_main_v6_eq (F := Ideal) _ _ _ _).trans (by rw [(hag c).1, (hag c).2.1, (hag c).2.2.1, (hag c).2.2.2])), (h c).2⟩) (Cert.OutProjRefIdeal.Value.run (F := Ideal) m' g')⟩

/-! ## The combination of the experts, prompt rows (`combine`) -/

/-- The kernel program `CombineP` ends, with its arguments unchanged and its counters at zero. -/
theorem frame_CombineP : Cert.quiescent_CombineP := fun m ρ _ => Cert.CombineP.Gen.frame m ρ

/-- So does its reading over the extended reals. -/
theorem frame_CombinePIdeal : Cert.quiescent_CombinePIdeal := fun m ρ _ => Cert.CombinePIdeal.Gen.frame m ρ

/-- And the reference, whose operations leave their results and change no argument. -/
theorem frame_CombinePRefIdeal : Cert.quiescent_CombinePRefIdeal := fun m ρ _ =>
  (θ_run Cert.CombinePRefIdeal.defs _ _).mono (fun r h => ⟨fun c => (h c).2, Idealize.ShloMosaic.sem_eq_zero_of_no_sems (by decide) r.2⟩)
    (Cert.CombinePRefIdeal.Value.run (F := Ideal) m ρ)

/-- Each prompt row plus its two experts' rows by their weights, normalized and scaled: the first result. -/
theorem value_CombineP : Cert.algebraic_CombinePIdeal_CombinePRefIdeal := by
  intro m g m' g' hpre hag
  refine ⟨fun c => Cert.CombinePRefIdeal.Read.val_main_v28 (F := Ideal) (m ((c.tc : Thread Cert.CombinePIdeal.nD Cert.CombinePIdeal.τ).loc Cert.CombinePIdeal.main_arg0)) (m ((c.tc : Thread Cert.CombinePIdeal.nD Cert.CombinePIdeal.τ).loc Cert.CombinePIdeal.main_arg1)) (m ((c.tc : Thread Cert.CombinePIdeal.nD Cert.CombinePIdeal.τ).loc Cert.CombinePIdeal.main_arg2)) (m ((c.tc : Thread Cert.CombinePIdeal.nD Cert.CombinePIdeal.τ).loc Cert.CombinePIdeal.main_arg3)),
    (θ_run Cert.CombinePIdeal.defs _ _).mono (fun r h c => ⟨(h c).1.trans (Cert.CombinePIdeal.Own.final m c), (h c).2⟩) (Cert.CombinePIdeal.Value.run_blocks (F := Ideal) m g),
    (θ_run Cert.CombinePRefIdeal.defs _ _).mono (fun r h c => ⟨((h c).1).trans ((Cert.CombinePRefIdeal.Read.val_main_v28_eq (F := Ideal) m' c).trans (by rw [(hag c).1, (hag c).2.1, (hag c).2.2.1, (hag c).2.2.2])), (h c).2⟩) (Cert.CombinePRefIdeal.Value.run (F := Ideal) m' g')⟩

/-! ## The combination of the experts, sample rows (`combine`) -/

/-- The kernel program `CombineS` ends, with its arguments unchanged and its counters at zero. -/
theorem frame_CombineS : Cert.quiescent_CombineS := fun m ρ _ => Cert.CombineS.Gen.frame m ρ

/-- So does its reading over the extended reals. -/
theorem frame_CombineSIdeal : Cert.quiescent_CombineSIdeal := fun m ρ _ => Cert.CombineSIdeal.Gen.frame m ρ

/-- And the reference, whose operations leave their results and change no argument. -/
theorem frame_CombineSRefIdeal : Cert.quiescent_CombineSRefIdeal := fun m ρ _ =>
  (θ_run Cert.CombineSRefIdeal.defs _ _).mono (fun r h => ⟨fun c => (h c).2, Idealize.ShloMosaic.sem_eq_zero_of_no_sems (by decide) r.2⟩)
    (Cert.CombineSRefIdeal.Value.run (F := Ideal) m ρ)

/-- Each sample row plus its two experts' rows by their weights, normalized and scaled: the second result. -/
theorem value_CombineS : Cert.algebraic_CombineSIdeal_CombineSRefIdeal := by
  intro m g m' g' hpre hag
  refine ⟨fun c => Cert.CombineSRefIdeal.Read.val_main_v28 (F := Ideal) (m ((c.tc : Thread Cert.CombineSIdeal.nD Cert.CombineSIdeal.τ).loc Cert.CombineSIdeal.main_arg0)) (m ((c.tc : Thread Cert.CombineSIdeal.nD Cert.CombineSIdeal.τ).loc Cert.CombineSIdeal.main_arg1)) (m ((c.tc : Thread Cert.CombineSIdeal.nD Cert.CombineSIdeal.τ).loc Cert.CombineSIdeal.main_arg2)) (m ((c.tc : Thread Cert.CombineSIdeal.nD Cert.CombineSIdeal.τ).loc Cert.CombineSIdeal.main_arg3)),
    (θ_run Cert.CombineSIdeal.defs _ _).mono (fun r h c => ⟨(h c).1.trans (Cert.CombineSIdeal.Own.final m c), (h c).2⟩) (Cert.CombineSIdeal.Value.run_blocks (F := Ideal) m g),
    (θ_run Cert.CombineSRefIdeal.defs _ _).mono (fun r h c => ⟨((h c).1).trans ((Cert.CombineSRefIdeal.Read.val_main_v28_eq (F := Ideal) m' c).trans (by rw [(hag c).1, (hag c).2.1, (hag c).2.2.1, (hag c).2.2.2])), (h c).2⟩) (Cert.CombineSRefIdeal.Value.run (F := Ideal) m' g')⟩

/-! ## The pooling branch, prompt rows (`pool_prompt`) -/

/-- The kernel program `PoolP` ends, with its arguments unchanged and its counters at zero. -/
theorem frame_PoolP : Cert.quiescent_PoolP := fun m ρ _ => Cert.PoolP.Gen.frame m ρ

/-- So does its reading over the extended reals. -/
theorem frame_PoolPIdeal : Cert.quiescent_PoolPIdeal := fun m ρ _ => Cert.PoolPIdeal.Gen.frame m ρ

/-- In particular from finite arguments. -/
theorem frame_PoolPIdeal_pre [Cert.Pre_finite_pool_prompt.Facts] : Cert.quiescent_PoolPIdeal_pre_finite_pool_prompt := fun m ρ _ => Cert.PoolPIdeal.Gen.frame m ρ

/-- And the reference, whose operations leave their results and change no argument. -/
theorem frame_PoolPRefIdeal : Cert.quiescent_PoolPRefIdeal := fun m ρ _ =>
  (θ_run Cert.PoolPRefIdeal.defs _ _).mono (fun r h => ⟨fun c => (h c).2, Idealize.ShloMosaic.sem_eq_zero_of_no_sems (by decide) r.2⟩)
    (Cert.PoolPRefIdeal.Value.run (F := Ideal) m ρ)

/-- In particular from finite arguments. -/
theorem frame_PoolPRefIdeal_pre [Cert.Pre_finite_pool_prompt.Facts] : Cert.quiescent_PoolPRefIdeal_pre_finite_pool_prompt := fun m ρ _ => frame_PoolPRefIdeal m ρ trivial

/-- Each position's means over its last entries, from finite entries: the kernel adds a window's entries, the reference subtracts running sums. -/
theorem value_PoolP [Cert.Pre_finite_pool_prompt.Facts] : Cert.algebraic_PoolPIdeal_PoolPRefIdeal_pre_finite_pool_prompt := by
  intro m g m' g' hpre hag
  refine ⟨fun c => Cert.PoolPRefIdeal.Read.val_main_v68 (F := Ideal) (m ((c.tc : Thread Cert.PoolPIdeal.nD Cert.PoolPIdeal.τ).loc Cert.PoolPIdeal.main_arg0)) (m ((c.tc : Thread Cert.PoolPIdeal.nD Cert.PoolPIdeal.τ).loc Cert.PoolPIdeal.main_arg1)) (m ((c.tc : Thread Cert.PoolPIdeal.nD Cert.PoolPIdeal.τ).loc Cert.PoolPIdeal.main_arg2)),
    (θ_run Cert.PoolPIdeal.defs _ _).mono (fun r h c => ⟨(h c).1.trans (Cert.PoolPIdeal.Own.final m c (fun n q i => Cert.PoolPIdeal.Own.finite _ _ _ (hpre c) n q i)), (h c).2⟩) (Cert.PoolPIdeal.Value.run_blocks (F := Ideal) m g),
    (θ_run Cert.PoolPRefIdeal.defs _ _).mono (fun r h c => ⟨((h c).1).trans ((Cert.PoolPRefIdeal.Read.val_main_v68_eq (F := Ideal) m' c).trans (by rw [(hag c).1, (hag c).2.1, (hag c).2.2])), (h c).2⟩) (Cert.PoolPRefIdeal.Value.run (F := Ideal) m' g')⟩

/-! ## The pooling branch, sample rows (`pool_sample`) -/

/-- The kernel program `PoolS` ends, with its arguments unchanged and its counters at zero. -/
theorem frame_PoolS : Cert.quiescent_PoolS := fun m ρ _ => Cert.PoolS.Gen.frame m ρ

/-- So does its reading over the extended reals. -/
theorem frame_PoolSIdeal : Cert.quiescent_PoolSIdeal := fun m ρ _ => Cert.PoolSIdeal.Gen.frame m ρ

/-- In particular from finite arguments. -/
theorem frame_PoolSIdeal_pre [Cert.Pre_finite_pool_sample.Facts] : Cert.quiescent_PoolSIdeal_pre_finite_pool_sample := fun m ρ _ => Cert.PoolSIdeal.Gen.frame m ρ

/-- And the reference, whose operations leave their results and change no argument. -/
theorem frame_PoolSRefIdeal : Cert.quiescent_PoolSRefIdeal := fun m ρ _ =>
  (θ_run Cert.PoolSRefIdeal.defs _ _).mono (fun r h => ⟨fun c => (h c).2, Idealize.ShloMosaic.sem_eq_zero_of_no_sems (by decide) r.2⟩)
    (Cert.PoolSRefIdeal.Value.run (F := Ideal) m ρ)

/-- In particular from finite arguments. -/
theorem frame_PoolSRefIdeal_pre [Cert.Pre_finite_pool_sample.Facts] : Cert.quiescent_PoolSRefIdeal_pre_finite_pool_sample := fun m ρ _ => frame_PoolSRefIdeal m ρ trivial

/-- The new entry's means over the entries kept before it, from finite kept entries: the kernel adds a window's entries, the reference subtracts running sums. -/
theorem value_PoolS [Cert.Pre_finite_pool_sample.Facts] : Cert.algebraic_PoolSIdeal_PoolSRefIdeal_pre_finite_pool_sample := by
  intro m g m' g' hpre hag
  refine ⟨fun c => Cert.PoolSRefIdeal.Read.val_main_v68 (F := Ideal) (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1)) (m ((c.tc : Thread Cert.PoolSIdeal.nD Cert.PoolSIdeal.τ).loc Cert.PoolSIdeal.main_arg2)) (m ((c.tc : Thread Cert.PoolSIdeal.nD Cert.PoolSIdeal.τ).loc Cert.PoolSIdeal.main_arg3)),
    (θ_run Cert.PoolSIdeal.defs _ _).mono (fun r h c => ⟨(h c).1.trans (Cert.PoolSIdeal.Own.final m c (fun n q i hi => Cert.PoolSIdeal.Own.finite _ _ _ _ (hpre c) n q i hi)), (h c).2⟩) (Cert.PoolSIdeal.Value.run_blocks (F := Ideal) m g),
    (θ_run Cert.PoolSRefIdeal.defs _ _).mono (fun r h c => ⟨((h c).1).trans ((Cert.PoolSRefIdeal.Read.val_main_v68_eq (F := Ideal) m' c).trans (by rw [(hag c).1, (hag c).2.1, (hag c).2.2.1, (hag c).2.2.2])), (h c).2⟩) (Cert.PoolSRefIdeal.Value.run (F := Ideal) m' g')⟩

/-! ## The sample after the recurrence (`wkv_sample_finish`) -/

/-- The kernel program `Finish` ends, with its arguments unchanged and its counters at zero. -/
theorem frame_Finish : Cert.quiescent_Finish := fun m ρ _ => Cert.Finish.Gen.frame m ρ

/-- So does its reading over the extended reals. -/
theorem frame_FinishIdeal : Cert.quiescent_FinishIdeal := fun m ρ _ => Cert.FinishIdeal.Gen.frame m ρ

/-- In particular from finite arguments. -/
theorem frame_FinishIdeal_pre [Cert.Pre_finite_recurrence.Facts] : Cert.quiescent_FinishIdeal_pre_finite_recurrence := fun m ρ _ => Cert.FinishIdeal.Gen.frame m ρ

/-- And the reference, whose operations leave their results and change no argument. -/
theorem frame_FinishRefIdeal : Cert.quiescent_FinishRefIdeal := fun m ρ _ =>
  (θ_run Cert.FinishRefIdeal.defs _ _).mono (fun r h => ⟨fun c => (h c).2, Idealize.ShloMosaic.sem_eq_zero_of_no_sems (by decide) r.2⟩)
    (Cert.FinishRefIdeal.Value.run (F := Ideal) m ρ)

/-- In particular from finite arguments. -/
theorem frame_FinishRefIdeal_pre [Cert.Pre_finite_recurrence.Facts] : Cert.quiescent_FinishRefIdeal_pre_finite_recurrence := fun m ρ _ => frame_FinishRefIdeal m ρ trivial

/-- The recurrence's output normalized head by head, scaled, shifted, with the bonus added and the gate applied, from finite outputs: the kernel takes a head's sum by a product with a matrix of ones and zeros. -/
theorem value_Finish [Cert.Pre_finite_recurrence.Facts] : Cert.algebraic_FinishIdeal_FinishRefIdeal_pre_finite_recurrence := by
  intro m g m' g' hpre hag
  refine ⟨fun c => Cert.FinishRefIdeal.Read.val_main_v31 (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)),
    (θ_run Cert.FinishIdeal.defs _ _).mono (fun r h c => ⟨(h c).1.trans (Cert.FinishIdeal.Own.final m c (fun q n => Cert.FinishIdeal.Own.finite _ _ _ _ _ (hpre c) q n)), (h c).2⟩) (Cert.FinishIdeal.Value.run_blocks (F := Ideal) m g),
    (θ_run Cert.FinishRefIdeal.defs _ _).mono (fun r h c => ⟨((h c).1).trans ((Cert.FinishRefIdeal.Read.val_main_v31_eq (F := Ideal) _ _ _ _ _).trans (by rw [(hag c).1, (hag c).2.1, (hag c).2.2.1, (hag c).2.2.2.1, (hag c).2.2.2.2])), (h c).2⟩) (Cert.FinishRefIdeal.Value.run (F := Ideal) m' g')⟩

/-! ## The sample before the recurrence (`wkv_sample_prep`) -/

/-- The kernel program `Prep` ends, with its arguments unchanged and its counters at zero. -/
theorem frame_Prep : Cert.quiescent_Prep := fun m ρ _ => Cert.Prep.Own.frame m ρ

/-- So does its reading over the extended reals. -/
theorem frame_PrepIdeal : Cert.quiescent_PrepIdeal := fun m ρ _ => Cert.PrepIdeal.Own.frame m ρ

/-- And the reference, whose operations leave their results and change no argument. -/
theorem frame_PrepRefIdeal : Cert.quiescent_PrepRefIdeal := fun m ρ _ =>
  (θ_run Cert.PrepRefIdeal.defs _ _).mono (fun r h => ⟨fun c => (h c).2.2.2.2, Idealize.ShloMosaic.sem_eq_zero_of_no_sems (by decide) r.2⟩)
    (Cert.PrepRefIdeal.Value.run (F := Ideal) m ρ)

/-- The token shift of the sample's rows, and from it four of the eight results: the keys with the low-rank rate, the receptances, the values, and the low-rank gates. -/
theorem value_Prep : Cert.algebraic_PrepIdeal_PrepRefIdeal := by
  intro m g m' g' hpre hag
  refine ⟨fun c => Cert.PrepRefIdeal.Read.val_main_v43 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg9)), fun c => Cert.PrepRefIdeal.Read.val_main_v44 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)), fun c => Cert.PrepRefIdeal.Read.val_main_v45 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)), fun c => Cert.PrepRefIdeal.Read.val_main_v33 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg7)),
    (θ_run Cert.PrepIdeal.defs _ _).mono (fun r h c => ⟨(h c).1, (h c).2.1, (h c).2.2.1, (h c).2.2.2.1, (h c).2.2.2.2⟩) (Cert.PrepIdeal.Own.run_values m g),
    (θ_run Cert.PrepRefIdeal.defs _ _).mono (fun r h c => ⟨((h c).1).trans ((Cert.PrepRefIdeal.Read.val_main_v43_eq (F := Ideal) _ _ _ _ _ _).trans (by rw [(hag c).1, (hag c).2.1, (hag c).2.2.1, (hag c).2.2.2.2.2.1, (hag c).2.2.2.2.2.2.1, (hag c).2.2.2.2.2.2.2.2.2.1])), ((h c).2.1).trans ((Cert.PrepRefIdeal.Read.val_main_v44_eq (F := Ideal) _ _ _).trans (by rw [(hag c).1, (hag c).2.1, (hag c).2.2.1])), ((h c).2.2.1).trans ((Cert.PrepRefIdeal.Read.val_main_v45_eq (F := Ideal) _ _ _).trans (by rw [(hag c).1, (hag c).2.1, (hag c).2.2.1])), ((h c).2.2.2.1).trans ((Cert.PrepRefIdeal.Read.val_main_v33_eq (F := Ideal) _ _ _ _).trans (by rw [(hag c).1, (hag c).2.1, (hag c).2.2.1, (hag c).2.2.2.2.2.2.2.1])), (h c).2.2.2.2⟩) (Cert.PrepRefIdeal.Value.run (F := Ideal) m' g')⟩

/-! ## What the claims of the pooling and of the sample's head normalization assume -/

/-- The shapes of the condition on the prompts' rows. -/
instance facts_pool_prompt : Cert.Pre_finite_pool_prompt.Facts := ⟨by decide, by decide⟩

/-- The shape of the condition on the samples' kept entries. -/
instance facts_pool_sample : Cert.Pre_finite_pool_sample.Facts := ⟨by decide⟩

/-- The shape of the condition on the recurrence's outputs. -/
instance facts_recurrence : Cert.Pre_finite_recurrence.Facts := ⟨by decide⟩

/-- All of them. -/
theorem claim : Cert.Claim := ⟨Cert.Step.Gen.facts, Cert.StepIdeal.Gen.facts, Cert.StepRefIdeal.Gen.facts, Cert.Head.Gen.facts, Cert.HeadIdeal.Gen.facts, Cert.HeadRefIdeal.Gen.facts, Cert.Tail.Gen.facts, Cert.TailIdeal.Gen.facts, Cert.TailRefIdeal.Gen.facts, Cert.Norm1.Gen.facts, Cert.Norm1Ideal.Gen.facts, Cert.Norm1RefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.CombineP.Gen.facts, Cert.CombinePIdeal.Gen.facts, Cert.CombinePRefIdeal.Gen.facts, Cert.CombineS.Gen.facts, Cert.CombineSIdeal.Gen.facts, Cert.CombineSRefIdeal.Gen.facts, Cert.PoolP.Gen.facts, Cert.PoolPIdeal.Gen.facts, Cert.PoolPRefIdeal.Gen.facts, Cert.PoolS.Gen.facts, Cert.PoolSIdeal.Gen.facts, Cert.PoolSRefIdeal.Gen.facts, Cert.Finish.Gen.facts, Cert.FinishIdeal.Gen.facts, Cert.FinishRefIdeal.Gen.facts, Cert.Prep.Gen.facts, Cert.PrepIdeal.Gen.facts, Cert.PrepRefIdeal.Gen.facts, facts_pool_prompt, facts_pool_sample, facts_recurrence,
  frame_Step, frame_StepIdeal, frame_StepRefIdeal, frame_Head, frame_HeadIdeal, frame_HeadRefIdeal, frame_Tail, frame_TailIdeal, frame_TailRefIdeal, frame_Norm1, frame_Norm1Ideal, frame_Norm1RefIdeal, frame_Merge, frame_MergeIdeal, frame_MergeRefIdeal, frame_OutProj, frame_OutProjIdeal, frame_OutProjRefIdeal, frame_CombineP, frame_CombinePIdeal, frame_CombinePRefIdeal, frame_CombineS, frame_CombineSIdeal, frame_CombineSRefIdeal, frame_PoolP, frame_PoolPIdeal, frame_PoolPIdeal_pre, frame_PoolPRefIdeal, frame_PoolPRefIdeal_pre, frame_PoolS, frame_PoolSIdeal, frame_PoolSIdeal_pre, frame_PoolSRefIdeal, frame_PoolSRefIdeal_pre, frame_Finish, frame_FinishIdeal, frame_FinishIdeal_pre, frame_FinishRefIdeal, frame_FinishRefIdeal_pre, frame_Prep, frame_PrepIdeal, frame_PrepRefIdeal, trivial, value_Step, trivial, value_Head, trivial, value_Tail, trivial, value_Norm1, trivial, value_Merge, trivial, value_OutProj, trivial, value_CombineP, trivial, value_CombineS, trivial, value_PoolP, trivial, value_PoolS, trivial, value_Finish, trivial, value_Prep⟩

end Cert.Proof

end
